-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_MlpP (m : (ℓ : Loc Cert.MlpP.nD Cert.MlpP.τ Cert.MlpP.sig) → Buf (Elt Bits) ℓ) : Prop :=
  True

def Pre_MlpPIdeal (m : (ℓ : Loc Cert.MlpPIdeal.nD Cert.MlpPIdeal.τ Cert.MlpPIdeal.sig) → Buf (Elt Ideal) ℓ) : Prop :=
  True

def Pre_MlpPRefIdeal (m : (ℓ : Loc Cert.MlpPRefIdeal.nD Cert.MlpPRefIdeal.τ Cert.MlpPRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_b [hPre_finite_b : Cert.Pre_finite_b.Facts] (m : (ℓ : Loc Cert.DiffIdeal.nD Cert.DiffIdeal.τ Cert.DiffIdeal.sig) → Buf (Elt Ideal) ℓ) : Prop :=
  ∀ c : Dev Cert.DiffIdeal.nD,
    (Cert.Pre_finite_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_b [hPre_finite_b : Cert.Pre_finite_b.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_b.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2)
      ∧ r.2.mem ((c.tc : Thread Cert.SsmIn.nD Cert.SsmIn.τ).loc Cert.SsmIn.main_arg3) = m ((c.tc : Thread Cert.SsmIn.nD Cert.SsmIn.τ).loc Cert.SsmIn.main_arg3))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
      ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2)
      ∧ r.2.mem ((c.tc : Thread Cert.SsmInRefIdeal.nD Cert.SsmInRefIdeal.τ).loc Cert.SsmInRefIdeal.main_arg3) = m ((c.tc : Thread Cert.SsmInRefIdeal.nD Cert.SsmInRefIdeal.τ).loc Cert.SsmInRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3)
      ∧ r.2.mem ((c.tc : Thread Cert.OutARefIdeal.nD Cert.OutARefIdeal.τ).loc Cert.OutARefIdeal.main_arg4) = m ((c.tc : Thread Cert.OutARefIdeal.nD Cert.OutARefIdeal.τ).loc Cert.OutARefIdeal.main_arg4)
      ∧ r.2.mem ((c.tc : Thread Cert.OutARefIdeal.nD Cert.OutARefIdeal.τ).loc Cert.OutARefIdeal.main_arg5) = m ((c.tc : Thread Cert.OutARefIdeal.nD Cert.OutARefIdeal.τ).loc Cert.OutARefIdeal.main_arg5))
      ∧ r.2.sem = fun _ => 0)

def quiescent_MlpP [hMlpP : Cert.MlpP.Facts] : Prop :=
  ∀ (m : (ℓ : Loc Cert.MlpP.nD Cert.MlpP.τ Cert.MlpP.sig) → Buf (Elt Bits) ℓ) (g : Dev Cert.MlpP.nD → PrngReg), Pre_MlpP m →
    θ_run (Cert.MlpP.defs (F := Bits)) (onTc (τ := Cert.MlpP.τ) (Cert.MlpP.main (F := Bits))) ⟨m, fun _ => 0, g⟩ (fun r => (∀ c : Dev Cert.MlpP.nD,
      r.2.mem ((c.tc : Thread Cert.MlpP.nD Cert.MlpP.τ).loc Cert.MlpP.main_arg0) = m ((c.tc : Thread Cert.MlpP.nD Cert.MlpP.τ).loc Cert.MlpP.main_arg0)
      ∧ r.2.mem ((c.tc : Thread Cert.MlpP.nD Cert.MlpP.τ).loc Cert.MlpP.main_arg1) = m ((c.tc : Thread Cert.MlpP.nD Cert.MlpP.τ).loc Cert.MlpP.main_arg1)
      ∧ r.2.mem ((c.tc : Thread Cert.MlpP.nD Cert.MlpP.τ).loc Cert.MlpP.main_arg2) = m ((c.tc : Thread Cert.MlpP.nD Cert.MlpP.τ).loc Cert.MlpP.main_arg2)
      ∧ r.2.mem ((c.tc : Thread Cert.MlpP.nD Cert.MlpP.τ).loc Cert.MlpP.main_arg3) = m ((c.tc : Thread Cert.MlpP.nD Cert.MlpP.τ).loc Cert.MlpP.main_arg3)
      ∧ r.2.mem ((c.tc : Thread Cert.MlpP.nD Cert.MlpP.τ).loc Cert.MlpP.main_arg4) = m ((c.tc : Thread Cert.MlpP.nD Cert.MlpP.τ).loc Cert.MlpP.main_arg4)
      ∧ r.2.mem ((c.tc : Thread Cert.MlpP.nD Cert.MlpP.τ).loc Cert.MlpP.main_arg5) = m ((c.tc : Thread Cert.MlpP.nD Cert.MlpP.τ).loc Cert.MlpP.main_arg5))
      ∧ r.2.sem = fun _ => 0)

def quiescent_MlpPIdeal [hMlpPIdeal : Cert.MlpPIdeal.Facts] : Prop :=
  ∀ (m : (ℓ : Loc Cert.MlpPIdeal.nD Cert.MlpPIdeal.τ Cert.MlpPIdeal.sig) → Buf (Elt Ideal) ℓ) (g : Dev Cert.MlpPIdeal.nD → PrngReg), Pre_MlpPIdeal m →
    θ_run (Cert.MlpPIdeal.defs (F := Ideal)) (onTc (τ := Cert.MlpPIdeal.τ) (Cert.MlpPIdeal.main (F := Ideal))) ⟨m, fun _ => 0, g⟩ (fun r => (∀ c : Dev Cert.MlpPIdeal.nD,
      r.2.mem ((c.tc : Thread Cert.MlpPIdeal.nD Cert.MlpPIdeal.τ).loc Cert.MlpPIdeal.main_arg0) = m ((c.tc : Thread Cert.MlpPIdeal.nD Cert.MlpPIdeal.τ).loc Cert.MlpPIdeal.main_arg0)
      ∧ r.2.mem ((c.tc : Thread Cert.MlpPIdeal.nD Cert.MlpPIdeal.τ).loc Cert.MlpPIdeal.main_arg1) = m ((c.tc : Thread Cert.MlpPIdeal.nD Cert.MlpPIdeal.τ).loc Cert.MlpPIdeal.main_arg1)
      ∧ r.2.mem ((c.tc : Thread Cert.MlpPIdeal.nD Cert.MlpPIdeal.τ).loc Cert.MlpPIdeal.main_arg2) = m ((c.tc : Thread Cert.MlpPIdeal.nD Cert.MlpPIdeal.τ).loc Cert.MlpPIdeal.main_arg2)
      ∧ r.2.mem ((c.tc : Thread Cert.MlpPIdeal.nD Cert.MlpPIdeal.τ).loc Cert.MlpPIdeal.main_arg3) = m ((c.tc : Thread Cert.MlpPIdeal.nD Cert.MlpPIdeal.τ).loc Cert.MlpPIdeal.main_arg3)
      ∧ r.2.mem ((c.tc : Thread Cert.MlpPIdeal.nD Cert.MlpPIdeal.τ).loc Cert.MlpPIdeal.main_arg4) = m ((c.tc : Thread Cert.MlpPIdeal.nD Cert.MlpPIdeal.τ).loc Cert.MlpPIdeal.main_arg4)
      ∧ r.2.mem ((c.tc : Thread Cert.MlpPIdeal.nD Cert.MlpPIdeal.τ).loc Cert.MlpPIdeal.main_arg5) = m ((c.tc : Thread Cert.MlpPIdeal.nD Cert.MlpPIdeal.τ).loc Cert.MlpPIdeal.main_arg5))
      ∧ r.2.sem = fun _ => 0)

def quiescent_MlpPRefIdeal [hMlpPRefIdeal : Cert.MlpPRefIdeal.Facts] : Prop :=
  ∀ (m : (ℓ : Loc Cert.MlpPRefIdeal.nD Cert.MlpPRefIdeal.τ Cert.MlpPRefIdeal.sig) → Buf (Elt Ideal) ℓ) (g : Dev Cert.MlpPRefIdeal.nD → PrngReg), Pre_MlpPRefIdeal m →
    θ_run (Cert.MlpPRefIdeal.defs (F := Ideal)) (onTc (τ := Cert.MlpPRefIdeal.τ) (Cert.MlpPRefIdeal.main (F := Ideal))) ⟨m, fun _ => 0, g⟩ (fun r => (∀ c : Dev Cert.MlpPRefIdeal.nD,
      r.2.mem ((c.tc : Thread Cert.MlpPRefIdeal.nD Cert.MlpPRefIdeal.τ).loc Cert.MlpPRefIdeal.main_arg0) = m ((c.tc : Thread Cert.MlpPRefIdeal.nD Cert.MlpPRefIdeal.τ).loc Cert.MlpPRefIdeal.main_arg0)
      ∧ r.2.mem ((c.tc : Thread Cert.MlpPRefIdeal.nD Cert.MlpPRefIdeal.τ).loc Cert.MlpPRefIdeal.main_arg1) = m ((c.tc : Thread Cert.MlpPRefIdeal.nD Cert.MlpPRefIdeal.τ).loc Cert.MlpPRefIdeal.main_arg1)
      ∧ r.2.mem ((c.tc : Thread Cert.MlpPRefIdeal.nD Cert.MlpPRefIdeal.τ).loc Cert.MlpPRefIdeal.main_arg2) = m ((c.tc : Thread Cert.MlpPRefIdeal.nD Cert.MlpPRefIdeal.τ).loc Cert.MlpPRefIdeal.main_arg2)
      ∧ r.2.mem ((c.tc : Thread Cert.MlpPRefIdeal.nD Cert.MlpPRefIdeal.τ).loc Cert.MlpPRefIdeal.main_arg3) = m ((c.tc : Thread Cert.MlpPRefIdeal.nD Cert.MlpPRefIdeal.τ).loc Cert.MlpPRefIdeal.main_arg3)
      ∧ r.2.mem ((c.tc : Thread Cert.MlpPRefIdeal.nD Cert.MlpPRefIdeal.τ).loc Cert.MlpPRefIdeal.main_arg4) = m ((c.tc : Thread Cert.MlpPRefIdeal.nD Cert.MlpPRefIdeal.τ).loc Cert.MlpPRefIdeal.main_arg4)
      ∧ r.2.mem ((c.tc : Thread Cert.MlpPRefIdeal.nD Cert.MlpPRefIdeal.τ).loc Cert.MlpPRefIdeal.main_arg5) = m ((c.tc : Thread Cert.MlpPRefIdeal.nD Cert.MlpPRefIdeal.τ).loc Cert.MlpPRefIdeal.main_arg5))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite_b [hDiffIdeal : Cert.DiffIdeal.Facts] [hPre_finite_b : Cert.Pre_finite_b.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_b m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite_b [hDiffRefIdeal : Cert.DiffRefIdeal.Facts] [hPre_finite_b : Cert.Pre_finite_b.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_b m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def preserves_Gqa_GqaIdeal : Prop :=
  True

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v31) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v60) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v81) = v0 c
          ∧ r.2.mem ((c.tc : Thread Cert.QkvRefIdeal.nD Cert.QkvRefIdeal.τ).loc Cert.QkvRefIdeal.main_v82) = v1 c
          ∧ r.2.mem ((c.tc : Thread Cert.QkvRefIdeal.nD Cert.QkvRefIdeal.τ).loc Cert.QkvRefIdeal.main_v83) = v2 c
          ∧ r.2.mem ((c.tc : Thread Cert.QkvRefIdeal.nD Cert.QkvRefIdeal.τ).loc Cert.QkvRefIdeal.main_v84) = v3 c
          ∧ r.2.mem ((c.tc : Thread Cert.QkvRefIdeal.nD Cert.QkvRefIdeal.τ).loc Cert.QkvRefIdeal.main_v85) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)
      ∧ m' ((c.tc : Thread Cert.SsmInRefIdeal.nD Cert.SsmInRefIdeal.τ).loc Cert.SsmInRefIdeal.main_arg3) = m ((c.tc : Thread Cert.SsmInIdeal.nD Cert.SsmInIdeal.τ).loc Cert.SsmInIdeal.main_arg3)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
          ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v31) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2)
          ∧ r.2.mem ((c.tc : Thread Cert.SsmInRefIdeal.nD Cert.SsmInRefIdeal.τ).loc Cert.SsmInRefIdeal.main_arg3) = m' ((c.tc : Thread Cert.SsmInRefIdeal.nD Cert.SsmInRefIdeal.τ).loc Cert.SsmInRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v27) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v27) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)
      ∧ m' ((c.tc : Thread Cert.OutARefIdeal.nD Cert.OutARefIdeal.τ).loc Cert.OutARefIdeal.main_arg4) = m ((c.tc : Thread Cert.OutAIdeal.nD Cert.OutAIdeal.τ).loc Cert.OutAIdeal.main_arg4)
      ∧ m' ((c.tc : Thread Cert.OutARefIdeal.nD Cert.OutARefIdeal.τ).loc Cert.OutARefIdeal.main_arg5) = m ((c.tc : Thread Cert.OutAIdeal.nD Cert.OutAIdeal.τ).loc Cert.OutAIdeal.main_arg5)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v28) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3)
          ∧ r.2.mem ((c.tc : Thread Cert.OutARefIdeal.nD Cert.OutARefIdeal.τ).loc Cert.OutARefIdeal.main_arg4) = m' ((c.tc : Thread Cert.OutARefIdeal.nD Cert.OutARefIdeal.τ).loc Cert.OutARefIdeal.main_arg4)
          ∧ r.2.mem ((c.tc : Thread Cert.OutARefIdeal.nD Cert.OutARefIdeal.τ).loc Cert.OutARefIdeal.main_arg5) = m' ((c.tc : Thread Cert.OutARefIdeal.nD Cert.OutARefIdeal.τ).loc Cert.OutARefIdeal.main_arg5))

def preserves_MlpP_MlpPIdeal : Prop :=
  True

def algebraic_MlpPIdeal_MlpPRefIdeal [hMlpPIdeal : Cert.MlpPIdeal.Facts] [hMlpPRefIdeal : Cert.MlpPRefIdeal.Facts] : Prop :=
  ∀ (m : (ℓ : Loc Cert.MlpPIdeal.nD Cert.MlpPIdeal.τ Cert.MlpPIdeal.sig) → Buf (Elt Ideal) ℓ) (g : Dev Cert.MlpPIdeal.nD → PrngReg)
    (m' : (ℓ : Loc Cert.MlpPRefIdeal.nD Cert.MlpPRefIdeal.τ Cert.MlpPRefIdeal.sig) → Buf (Elt Ideal) ℓ) (g' : Dev Cert.MlpPRefIdeal.nD → PrngReg), Pre_MlpPIdeal m →
    (∀ c : Dev Cert.MlpPIdeal.nD,
      m' ((c.tc : Thread Cert.MlpPRefIdeal.nD Cert.MlpPRefIdeal.τ).loc Cert.MlpPRefIdeal.main_arg0) = m ((c.tc : Thread Cert.MlpPIdeal.nD Cert.MlpPIdeal.τ).loc Cert.MlpPIdeal.main_arg0)
      ∧ m' ((c.tc : Thread Cert.MlpPRefIdeal.nD Cert.MlpPRefIdeal.τ).loc Cert.MlpPRefIdeal.main_arg1) = m ((c.tc : Thread Cert.MlpPIdeal.nD Cert.MlpPIdeal.τ).loc Cert.MlpPIdeal.main_arg1)
      ∧ m' ((c.tc : Thread Cert.MlpPRefIdeal.nD Cert.MlpPRefIdeal.τ).loc Cert.MlpPRefIdeal.main_arg2) = m ((c.tc : Thread Cert.MlpPIdeal.nD Cert.MlpPIdeal.τ).loc Cert.MlpPIdeal.main_arg2)
      ∧ m' ((c.tc : Thread Cert.MlpPRefIdeal.nD Cert.MlpPRefIdeal.τ).loc Cert.MlpPRefIdeal.main_arg3) = m ((c.tc : Thread Cert.MlpPIdeal.nD Cert.MlpPIdeal.τ).loc Cert.MlpPIdeal.main_arg3)
      ∧ m' ((c.tc : Thread Cert.MlpPRefIdeal.nD Cert.MlpPRefIdeal.τ).loc Cert.MlpPRefIdeal.main_arg4) = m ((c.tc : Thread Cert.MlpPIdeal.nD Cert.MlpPIdeal.τ).loc Cert.MlpPIdeal.main_arg4)
      ∧ m' ((c.tc : Thread Cert.MlpPRefIdeal.nD Cert.MlpPRefIdeal.τ).loc Cert.MlpPRefIdeal.main_arg5) = m ((c.tc : Thread Cert.MlpPIdeal.nD Cert.MlpPIdeal.τ).loc Cert.MlpPIdeal.main_arg5)) →
    ∃ (v0 : (c : Dev Cert.MlpPIdeal.nD) → Buf (Elt Ideal) ((c.tc : Thread Cert.MlpPIdeal.nD Cert.MlpPIdeal.τ).loc Cert.MlpPIdeal.main_v0)),
      θ_run (Cert.MlpPIdeal.defs (F := Ideal)) (onTc (τ := Cert.MlpPIdeal.τ) (Cert.MlpPIdeal.main (F := Ideal))) ⟨m, fun _ => 0, g⟩ (fun r => ∀ c : Dev Cert.MlpPIdeal.nD,
          r.2.mem ((c.tc : Thread Cert.MlpPIdeal.nD Cert.MlpPIdeal.τ).loc Cert.MlpPIdeal.main_v0) = v0 c
          ∧ r.2.mem ((c.tc : Thread Cert.MlpPIdeal.nD Cert.MlpPIdeal.τ).loc Cert.MlpPIdeal.main_arg0) = m ((c.tc : Thread Cert.MlpPIdeal.nD Cert.MlpPIdeal.τ).loc Cert.MlpPIdeal.main_arg0)
          ∧ r.2.mem ((c.tc : Thread Cert.MlpPIdeal.nD Cert.MlpPIdeal.τ).loc Cert.MlpPIdeal.main_arg1) = m ((c.tc : Thread Cert.MlpPIdeal.nD Cert.MlpPIdeal.τ).loc Cert.MlpPIdeal.main_arg1)
          ∧ r.2.mem ((c.tc : Thread Cert.MlpPIdeal.nD Cert.MlpPIdeal.τ).loc Cert.MlpPIdeal.main_arg2) = m ((c.tc : Thread Cert.MlpPIdeal.nD Cert.MlpPIdeal.τ).loc Cert.MlpPIdeal.main_arg2)
          ∧ r.2.mem ((c.tc : Thread Cert.MlpPIdeal.nD Cert.MlpPIdeal.τ).loc Cert.MlpPIdeal.main_arg3) = m ((c.tc : Thread Cert.MlpPIdeal.nD Cert.MlpPIdeal.τ).loc Cert.MlpPIdeal.main_arg3)
          ∧ r.2.mem ((c.tc : Thread Cert.MlpPIdeal.nD Cert.MlpPIdeal.τ).loc Cert.MlpPIdeal.main_arg4) = m ((c.tc : Thread Cert.MlpPIdeal.nD Cert.MlpPIdeal.τ).loc Cert.MlpPIdeal.main_arg4)
          ∧ r.2.mem ((c.tc : Thread Cert.MlpPIdeal.nD Cert.MlpPIdeal.τ).loc Cert.MlpPIdeal.main_arg5) = m ((c.tc : Thread Cert.MlpPIdeal.nD Cert.MlpPIdeal.τ).loc Cert.MlpPIdeal.main_arg5))
      ∧ θ_run (Cert.MlpPRefIdeal.defs (F := Ideal)) (onTc (τ := Cert.MlpPRefIdeal.τ) (Cert.MlpPRefIdeal.main (F := Ideal))) ⟨m', fun _ => 0, g'⟩ (fun r => ∀ c : Dev Cert.MlpPRefIdeal.nD,
          r.2.mem ((c.tc : Thread Cert.MlpPRefIdeal.nD Cert.MlpPRefIdeal.τ).loc Cert.MlpPRefIdeal.main_v58) = v0 c
          ∧ r.2.mem ((c.tc : Thread Cert.MlpPRefIdeal.nD Cert.MlpPRefIdeal.τ).loc Cert.MlpPRefIdeal.main_arg0) = m' ((c.tc : Thread Cert.MlpPRefIdeal.nD Cert.MlpPRefIdeal.τ).loc Cert.MlpPRefIdeal.main_arg0)
          ∧ r.2.mem ((c.tc : Thread Cert.MlpPRefIdeal.nD Cert.MlpPRefIdeal.τ).loc Cert.MlpPRefIdeal.main_arg1) = m' ((c.tc : Thread Cert.MlpPRefIdeal.nD Cert.MlpPRefIdeal.τ).loc Cert.MlpPRefIdeal.main_arg1)
          ∧ r.2.mem ((c.tc : Thread Cert.MlpPRefIdeal.nD Cert.MlpPRefIdeal.τ).loc Cert.MlpPRefIdeal.main_arg2) = m' ((c.tc : Thread Cert.MlpPRefIdeal.nD Cert.MlpPRefIdeal.τ).loc Cert.MlpPRefIdeal.main_arg2)
          ∧ r.2.mem ((c.tc : Thread Cert.MlpPRefIdeal.nD Cert.MlpPRefIdeal.τ).loc Cert.MlpPRefIdeal.main_arg3) = m' ((c.tc : Thread Cert.MlpPRefIdeal.nD Cert.MlpPRefIdeal.τ).loc Cert.MlpPRefIdeal.main_arg3)
          ∧ r.2.mem ((c.tc : Thread Cert.MlpPRefIdeal.nD Cert.MlpPRefIdeal.τ).loc Cert.MlpPRefIdeal.main_arg4) = m' ((c.tc : Thread Cert.MlpPRefIdeal.nD Cert.MlpPRefIdeal.τ).loc Cert.MlpPRefIdeal.main_arg4)
          ∧ r.2.mem ((c.tc : Thread Cert.MlpPRefIdeal.nD Cert.MlpPRefIdeal.τ).loc Cert.MlpPRefIdeal.main_arg5) = m' ((c.tc : Thread Cert.MlpPRefIdeal.nD Cert.MlpPRefIdeal.τ).loc Cert.MlpPRefIdeal.main_arg5))

def preserves_Diff_DiffIdeal : Prop :=
  True

def algebraic_DiffIdeal_DiffRefIdeal_pre_finite_b [hDiffIdeal : Cert.DiffIdeal.Facts] [hDiffRefIdeal : Cert.DiffRefIdeal.Facts] [hPre_finite_b : Cert.Pre_finite_b.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_b m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v69) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def Claim : Prop :=
  ∃ (hGqa : Cert.Gqa.Facts) (hGqaIdeal : Cert.GqaIdeal.Facts) (hGqaRefIdeal : Cert.GqaRefIdeal.Facts) (hMlp : Cert.Mlp.Facts) (hMlpIdeal : Cert.MlpIdeal.Facts) (hMlpRefIdeal : Cert.MlpRefIdeal.Facts) (hQkv : Cert.Qkv.Facts) (hQkvIdeal : Cert.QkvIdeal.Facts) (hQkvRefIdeal : Cert.QkvRefIdeal.Facts) (hSsmIn : Cert.SsmIn.Facts) (hSsmInIdeal : Cert.SsmInIdeal.Facts) (hSsmInRefIdeal : Cert.SsmInRefIdeal.Facts) (hGlu : Cert.Glu.Facts) (hGluIdeal : Cert.GluIdeal.Facts) (hGluRefIdeal : Cert.GluRefIdeal.Facts) (hOutC : Cert.OutC.Facts) (hOutCIdeal : Cert.OutCIdeal.Facts) (hOutCRefIdeal : Cert.OutCRefIdeal.Facts) (hOutA : Cert.OutA.Facts) (hOutAIdeal : Cert.OutAIdeal.Facts) (hOutARefIdeal : Cert.OutARefIdeal.Facts) (hMlpP : Cert.MlpP.Facts) (hMlpPIdeal : Cert.MlpPIdeal.Facts) (hMlpPRefIdeal : Cert.MlpPRefIdeal.Facts) (hDiff : Cert.Diff.Facts) (hDiffIdeal : Cert.DiffIdeal.Facts) (hDiffRefIdeal : Cert.DiffRefIdeal.Facts) (hPre_finite_qk : Cert.Pre_finite_qk.Facts) (hPre_finite_b : Cert.Pre_finite_b.Facts),
    quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_Mlp (hMlp := hMlp)
    ∧ quiescent_MlpIdeal (hMlpIdeal := hMlpIdeal)
    ∧ quiescent_MlpRefIdeal (hMlpRefIdeal := hMlpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_Glu (hGlu := hGlu)
    ∧ quiescent_GluIdeal (hGluIdeal := hGluIdeal)
    ∧ quiescent_GluRefIdeal (hGluRefIdeal := hGluRefIdeal)
    ∧ quiescent_OutC (hOutC := hOutC)
    ∧ quiescent_OutCIdeal (hOutCIdeal := hOutCIdeal)
    ∧ quiescent_OutCRefIdeal (hOutCRefIdeal := hOutCRefIdeal)
    ∧ quiescent_OutA (hOutA := hOutA)
    ∧ quiescent_OutAIdeal (hOutAIdeal := hOutAIdeal)
    ∧ quiescent_OutARefIdeal (hOutARefIdeal := hOutARefIdeal)
    ∧ quiescent_MlpP (hMlpP := hMlpP)
    ∧ quiescent_MlpPIdeal (hMlpPIdeal := hMlpPIdeal)
    ∧ quiescent_MlpPRefIdeal (hMlpPRefIdeal := hMlpPRefIdeal)
    ∧ quiescent_Diff (hDiff := hDiff)
    ∧ quiescent_DiffIdeal (hDiffIdeal := hDiffIdeal)
    ∧ quiescent_DiffIdeal_pre_finite_b (hDiffIdeal := hDiffIdeal) (hPre_finite_b := hPre_finite_b)
    ∧ quiescent_DiffRefIdeal (hDiffRefIdeal := hDiffRefIdeal)
    ∧ quiescent_DiffRefIdeal_pre_finite_b (hDiffRefIdeal := hDiffRefIdeal) (hPre_finite_b := hPre_finite_b)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_Mlp_MlpIdeal
    ∧ algebraic_MlpIdeal_MlpRefIdeal (hMlpIdeal := hMlpIdeal) (hMlpRefIdeal := hMlpRefIdeal)
    ∧ preserves_Qkv_QkvIdeal
    ∧ algebraic_QkvIdeal_QkvRefIdeal (hQkvIdeal := hQkvIdeal) (hQkvRefIdeal := hQkvRefIdeal)
    ∧ preserves_SsmIn_SsmInIdeal
    ∧ algebraic_SsmInIdeal_SsmInRefIdeal (hSsmInIdeal := hSsmInIdeal) (hSsmInRefIdeal := hSsmInRefIdeal)
    ∧ preserves_Glu_GluIdeal
    ∧ algebraic_GluIdeal_GluRefIdeal (hGluIdeal := hGluIdeal) (hGluRefIdeal := hGluRefIdeal)
    ∧ preserves_OutC_OutCIdeal
    ∧ algebraic_OutCIdeal_OutCRefIdeal (hOutCIdeal := hOutCIdeal) (hOutCRefIdeal := hOutCRefIdeal)
    ∧ preserves_OutA_OutAIdeal
    ∧ algebraic_OutAIdeal_OutARefIdeal (hOutAIdeal := hOutAIdeal) (hOutARefIdeal := hOutARefIdeal)
    ∧ preserves_MlpP_MlpPIdeal
    ∧ algebraic_MlpPIdeal_MlpPRefIdeal (hMlpPIdeal := hMlpPIdeal) (hMlpPRefIdeal := hMlpPRefIdeal)
    ∧ preserves_Diff_DiffIdeal
    ∧ algebraic_DiffIdeal_DiffRefIdeal_pre_finite_b (hDiffIdeal := hDiffIdeal) (hDiffRefIdeal := hDiffRefIdeal) (hPre_finite_b := hPre_finite_b)
-- ==== Pre_finite_b.lean ====
abbrev S8192x4608 : Shape := ⟨2, ![8192, 4608]⟩
abbrev S512x1024 : Shape := ⟨2, ![512, 1024]⟩
abbrev S4x128 : Shape := ⟨2, ![4, 128]⟩
abbrev S1x256 : Shape := ⟨2, ![1, 256]⟩
abbrev S8192x1024 : Shape := ⟨2, ![8192, 1024]⟩
abbrev S_ : Shape := ⟨0, ![]⟩

class Facts : Prop where
  slices_S8192x4608_S8192x1024_0_3584 : S8192x4608.Slices ![0, 3584] S8192x1024
  bitsLt_bf16_f32 : FTy.bits .bf16 < FTy.bits .f32
  bcast_S_S8192x1024 : S_.BroadcastsInDim S8192x1024 (![] : Fin 0 → Fin S8192x1024.rank)
  bcast_S_S512x1024 : S_.BroadcastsInDim S512x1024 (![] : Fin 0 → Fin S512x1024.rank)
  bcast_S_S4x128 : S_.BroadcastsInDim S4x128 (![] : Fin 0 → Fin S4x128.rank)
  reducesTo_S8192x1024_S_d0_1 : S8192x1024.ReducesTo [0, 1] S_
  h_S_ : 0 < S_.numel
  reducesTo_S512x1024_S_d0_1 : S512x1024.ReducesTo [0, 1] S_
  reducesTo_S4x128_S_d0_1 : S4x128.ReducesTo [0, 1] S_

variable [Facts]

def fn {F : FTy → Type} [FloatOps F] (main_arg0 : FVec F S8192x4608 .bf16) (main_arg1 : FVec F S512x1024 .f32) (main_arg2 : FVec F S512x1024 .f32) (main_arg3 : FVec F S4x128 .f32) (main_arg4 : FVec F S1x256 .f32) : IVec S_ 1 :=
  let main_v0 : FVec F S8192x1024 .bf16 := (extractStridedSlice S8192x1024 ![0, 3584] · slices_S8192x4608_S8192x1024_0_3584) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S512x1024 .f32 := Host.absf main_arg2
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S4x128 .f32 := Host.absf main_arg3
  let main_cst_1 : FVec F S_ .f32 := constant S_ .f32 0x7F800000#32
  let main_v9 : FVec F S4x128 .f32 := broadcastInDim S4x128 ![] bcast_S_S4x128 main_cst_1
  let main_v10 : IVec S4x128 1 := cmpf .olt main_v8 main_v9
  let main_c : IVec S_ 1 := constantI S_ 1 1#1
  let main_v11 : IVec S_ 1 := (fun x v => Host.reduce IntOp.andi x v reducesTo_S8192x1024_S_d0_1 h_S_) main_v4 main_c
  let main_c_2 : IVec S_ 1 := constantI S_ 1 1#1
  let main_v12 : IVec S_ 1 := (fun x v => Host.reduce IntOp.andi x v reducesTo_S512x1024_S_d0_1 h_S_) main_v7 main_c_2
  let main_v13 : IVec S_ 1 := andi main_v11 main_v12
  let main_c_3 : IVec S_ 1 := constantI S_ 1 1#1
  let main_v14 : IVec S_ 1 := (fun x v => Host.reduce IntOp.andi x v reducesTo_S4x128_S_d0_1 h_S_) main_v10 main_c_3
  let main_v15 : IVec S_ 1 := andi main_v13 main_v14
  main_v15
-- ==== Pre_finite_qk.lean ====
abbrev S8192x4608 : Shape := ⟨2, ![8192, 4608]⟩
abbrev S512x256 : Shape := ⟨2, ![512, 256]⟩
abbrev S8192x1280 : Shape := ⟨2, ![8192, 1280]⟩
abbrev S_ : Shape := ⟨0, ![]⟩

class Facts : Prop where
  slices_S8192x4608_S8192x1280_0_0 : S8192x4608.Slices ![0, 0] S8192x1280
  bitsLt_bf16_f32 : FTy.bits .bf16 < FTy.bits .f32
  bcast_S_S8192x1280 : S_.BroadcastsInDim S8192x1280 (![] : Fin 0 → Fin S8192x1280.rank)
  bcast_S_S512x256 : S_.BroadcastsInDim S512x256 (![] : Fin 0 → Fin S512x256.rank)
  reducesTo_S8192x1280_S_d0_1 : S8192x1280.ReducesTo [0, 1] S_
  h_S_ : 0 < S_.numel
  reducesTo_S512x256_S_d0_1 : S512x256.ReducesTo [0, 1] S_

variable [Facts]

def fn {F : FTy → Type} [FloatOps F] (main_arg0 : FVec F S8192x4608 .bf16) (main_arg1 : FVec F S512x256 .f32) (main_arg2 : FVec F S512x256 .f32) : IVec S_ 1 :=
  let main_v0 : FVec F S8192x1280 .bf16 := (extractStridedSlice S8192x1280 ![0, 0] · slices_S8192x4608_S8192x1280_0_0) main_arg0
  let main_v1 : FVec F S8192x1280 .f32 := (extf .f32 · bitsLt_bf16_f32) main_v0
  let main_v2 : FVec F S8192x1280 .f32 := Host.absf main_v1
  let main_cst : FVec F S_ .f32 := constant S_ .f32 0x7F800000#32
  let main_v3 : FVec F S8192x1280 .f32 := broadcastInDim S8192x1280 ![] bcast_S_S8192x1280 main_cst
  let main_v4 : IVec S8192x1280 1 := cmpf .olt main_v2 main_v3
  let main_v5 : FVec F S512x256 .f32 := Host.absf main_arg1
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_c : IVec S_ 1 := constantI S_ 1 1#1
  let main_v8 : IVec S_ 1 := (fun x v => Host.reduce IntOp.andi x v reducesTo_S8192x1280_S_d0_1 h_S_) main_v4 main_c
  let main_c_1 : IVec S_ 1 := constantI S_ 1 1#1
  let main_v9 : IVec S_ 1 := (fun x v => Host.reduce IntOp.andi x v reducesTo_S512x256_S_d0_1 h_S_) main_v7 main_c_1
  let main_v10 : IVec S_ 1 := andi main_v8 main_v9
  main_v10
-- ==== Gqa.lean ====
abbrev S8192x4608 : Shape := ⟨2, ![8192, 4608]⟩
abbrev S512x256 : Shape := ⟨2, ![512, 256]⟩
abbrev S8192x1024 : Shape := ⟨2, ![8192, 1024]⟩
abbrev S512x512 : Shape := ⟨2, ![512, 512]⟩
abbrev S4096x128 : Shape := ⟨2, ![4096, 128]⟩
abbrev S256x128 : Shape := ⟨2, ![256, 128]⟩
abbrev S2048x4352 : Shape := ⟨2, ![2048, 4352]⟩
abbrev S512x128 : Shape := ⟨2, ![512, 128]⟩
abbrev S2048x128 : Shape := ⟨2, ![2048, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 13
  | .smem => 0
  | _ => 0

abbrev bufTy : (tb : Table) → Fin (tcTables nBuf tb) → BufTy
  | .hbm, ⟨0, _⟩ => ⟨S8192x4608, .bf16⟩
  | .hbm, ⟨1, _⟩ => ⟨S512x256, .f32⟩
  | .hbm, ⟨2, _⟩ => ⟨S512x256, .f32⟩
  | .hbm, ⟨3, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S512x512, .bf16⟩
  | .local _ .vmem, ⟨11, _⟩ => ⟨S512x512, .bf16⟩
  | .local _ .vmem, ⟨12, _⟩ => ⟨S2048x4352, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S8192x4608 : Shape := ⟨2, ![8192, 4608]⟩
abbrev S512x256 : Shape := ⟨2, ![512, 256]⟩
abbrev S2x4096x4608 : Shape := ⟨3, ![2, 4096, 4608]⟩
abbrev S2x4096x1024 : Shape := ⟨3, ![2, 4096, 1024]⟩
abbrev S2x4096x2x4x128 : Shape := ⟨5, ![2, 4096, 2, 4, 128]⟩
abbrev S2x4096x256 : Shape := ⟨3, ![2, 4096, 256]⟩
abbrev S2x4096x2x128 : Shape := ⟨4, ![2, 4096, 2, 128]⟩
abbrev S2x256x2x128 : Shape := ⟨4, ![2, 256, 2, 128]⟩
abbrev S2x4352x2x128 : Shape := ⟨4, ![2, 4352, 2, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S512x256, .f32⟩
  | .hbm, ⟨2, _⟩ => ⟨S512x256, .f32⟩
  | .hbm, ⟨3, _⟩ => ⟨S8192x4608, .f32⟩
  | .hbm, ⟨4, _⟩ => ⟨S2x4096x4608, .f32⟩
  | .hbm, ⟨5, _⟩ => ⟨S2x4096x1024, .f32⟩
  | .hbm, ⟨6, _⟩ => ⟨S2x4096x2x4x128, .f32⟩
  | .hbm, ⟨7, _⟩ => ⟨S2x4096x256, .f32⟩
  | .hbm, ⟨8, _⟩ => ⟨S2x4096x2x128, .f32⟩
  | .hbm, ⟨9, _⟩ => ⟨S2x4096x256, .f32⟩
  | .hbm, ⟨10, _⟩ => ⟨S2x4096x2x128, .f32⟩
  | .hbm, ⟨11, _⟩ => ⟨S2x256x2x128, .f32⟩
  | .hbm, ⟨12, _⟩ => ⟨S2x4352x2x128, .f32⟩
  | .hbm, ⟨13, _⟩ => ⟨S2x256x2x128, .f32⟩
  | .hbm, ⟨14, _⟩ => ⟨S2x4352x2x128, .f32⟩
  | .hbm, ⟨15, _⟩ => ⟨S2x2x4352x4096x4, .f32⟩
  | .hbm, ⟨16, _⟩ => ⟨S2x2x4x4096x4352, .f32⟩
  | .hbm, ⟨17, _⟩ => ⟨S_, .f32⟩
  | .hbm, ⟨18, _⟩ => ⟨S_, .f32⟩
  | .hbm, ⟨19, _⟩ => ⟨S2x2x4x4096x4352, .f32⟩
  | .hbm, ⟨20, _⟩ => ⟨S2x2x4x4096x4352, .f32⟩
  | .hbm, ⟨21, _⟩ => ⟨S_, .f32⟩
  | .hbm, ⟨22, _⟩ => ⟨S2x2x4x4096, .f32⟩
  | .hbm, ⟨23, _⟩ => ⟨S_, .f32⟩
  | .hbm, ⟨24, _⟩ => ⟨S2x2x4x4096, .f32⟩
  | .hbm, ⟨25, _⟩ => ⟨S2x2x4x4096, .f32⟩
  | .hbm, ⟨26, _⟩ => ⟨S2x2x4x4096x1, .f32⟩
  | .hbm, ⟨27, _⟩ => ⟨S2x2x4x4096x4352, .f32⟩
  | .hbm, ⟨28, _⟩ => ⟨S2x2x4x4096x4352, .f32⟩
  | .hbm, ⟨29, _⟩ => ⟨S2x2x4x4096x4352, .f32⟩
  | .hbm, ⟨30, _⟩ => ⟨S_, .f32⟩
  | .hbm, ⟨31, _⟩ => ⟨S2x2x4x4096, .f32⟩
  | .hbm, ⟨32, _⟩ => ⟨S2x2x4x4096x1, .f32⟩
  | .hbm, ⟨33, _⟩ => ⟨S2x2x4x4096x4352, .f32⟩
  | .hbm, ⟨34, _⟩ => ⟨S2x2x4x4096x4352, .f32⟩
  | .hbm, ⟨35, _⟩ => ⟨S2x2x128x4x4096, .f32⟩
  | .hbm, ⟨36, _⟩ => ⟨S2x4096x2x4x128, .f32⟩
  | .hbm, ⟨37, _⟩ => ⟨S8192x1024, .f32⟩
  | .hbm, ⟨38, _⟩ => ⟨S8192x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Mlp.lean ====
abbrev S8192x2048 : Shape := ⟨2, ![8192, 2048]⟩
abbrev S1x2048 : Shape := ⟨2, ![1, 2048]⟩
abbrev S48x1x2048 : Shape := ⟨3, ![48, 1, 2048]⟩
abbrev S2x2048x8192 : Shape := ⟨3, ![2, 2048, 8192]⟩
abbrev S2x8192x2048 : Shape := ⟨3, ![2, 8192, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S48x1x2048, .f32⟩
  | .hbm, ⟨4, _⟩ => ⟨S2x2048x8192, .bf16⟩
  | .hbm, ⟨5, _⟩ => ⟨S2x8192x2048, .bf16⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048x512, .bf16⟩
  | .local _ .vmem, ⟨11, _⟩ => ⟨S1x2048x512, .bf16⟩
  | .local _ .vmem, ⟨12, _⟩ => ⟨S1x512x2048, .bf16⟩
  | .local _ .vmem, ⟨13, _⟩ => ⟨S1x512x2048, .bf16⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c4_i32_5 : BitVec 32 := 4#32
  let v19 : BitVec 32 := Scalar.addi v18 c4_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c5_i32 : BitVec 32 := 5#32
  let v19 : BitVec 32 := Scalar.addi v18 c5_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S8192x2048 : Shape := ⟨2, ![8192, 2048]⟩
abbrev S1x2048 : Shape := ⟨2, ![1, 2048]⟩
abbrev S48x1x2048 : Shape := ⟨3, ![48, 1, 2048]⟩
abbrev S2x2048x8192 : Shape := ⟨3, ![2, 2048, 8192]⟩
abbrev S2x8192x2048 : Shape := ⟨3, ![2, 8192, 2048]⟩
abbrev S2x4096x2048 : Shape := ⟨3, ![2, 4096, 2048]⟩
abbrev S8x6x2048 : Shape := ⟨3, ![8, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x4096x8192 : Shape := ⟨3, ![2, 4096, 8192]⟩
abbrev S1x8192x2048 : Shape := ⟨3, ![1, 8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S48x1x2048, .f32⟩
  | .hbm, ⟨4, _⟩ => ⟨S2x2048x8192, .bf16⟩
  | .hbm, ⟨5, _⟩ => ⟨S2x8192x2048, .bf16⟩
  | .hbm, ⟨6, _⟩ => ⟨S2x4096x2048, .f32⟩
  | .hbm, ⟨7, _⟩ => ⟨S8x6x2048, .f32⟩
  | .hbm, ⟨8, _⟩ => ⟨S2x6x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S2x1x2048, .f32⟩
  | .hbm, ⟨16, _⟩ => ⟨S2x2048, .f32⟩
  | .hbm, ⟨17, _⟩ => ⟨S2x1x2048, .f32⟩
  | .hbm, ⟨18, _⟩ => ⟨S2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x1x2048, .f32⟩
  | .hbm, ⟨37, _⟩ => ⟨S2x1x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S1x2048x8192, .bf16⟩
  | .hbm, ⟨43, _⟩ => ⟨S2048x8192, .bf16⟩
  | .hbm, ⟨44, _⟩ => ⟨S2048x8192, .f32⟩
  | .hbm, ⟨45, _⟩ => ⟨S2x4096x8192, .f32⟩
  | .hbm, ⟨46, _⟩ => ⟨S_, .f32⟩
  | .hbm, ⟨47, _⟩ => ⟨S2x4096x8192, .f32⟩
  | .hbm, ⟨48, _⟩ => ⟨S2x4096x8192, .f32⟩
  | .hbm, ⟨49, _⟩ => ⟨S2x4096x8192, .f32⟩
  | .hbm, ⟨50, _⟩ => ⟨S1x8192x2048, .bf16⟩
  | .hbm, ⟨51, _⟩ => ⟨S8192x2048, .bf16⟩
  | .hbm, ⟨52, _⟩ => ⟨S8192x2048, .f32⟩
  | .hbm, ⟨53, _⟩ => ⟨S2x4096x2048, .f32⟩
  | .hbm, ⟨54, _⟩ => ⟨S2048, .f32⟩
  | .hbm, ⟨55, _⟩ => ⟨S2x4096x2048, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S2x4096x1, .f32⟩
  | .hbm, ⟨66, _⟩ => ⟨S2x4096x2048, .f32⟩
  | .hbm, ⟨67, _⟩ => ⟨S2x4096x2048, .f32⟩
  | .hbm, ⟨68, _⟩ => ⟨S1x1x2048, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Qkv.lean ====
abbrev S8192x2048 : Shape := ⟨2, ![8192, 2048]⟩
abbrev S1x2048 : Shape := ⟨2, ![1, 2048]⟩
abbrev S48x1x2048 : Shape := ⟨3, ![48, 1, 2048]⟩
abbrev S2048x4608 : Shape := ⟨2, ![2048, 4608]⟩
abbrev S2x128 : Shape := ⟨2, ![2, 128]⟩
abbrev S8192x4608 : Shape := ⟨2, ![8192, 4608]⟩
abbrev S32x1x256x2x128 : Shape := ⟨5, ![32, 1, 256, 2, 128]⟩
abbrev S32x1x256x4x2x128 : Shape := ⟨6, ![32, 1, 256, 4, 2, 128]⟩
abbrev S32x1x256x4x256 : Shape := ⟨5, ![32, 1, 256, 4, 256]⟩
abbrev S512x2048 : Shape := ⟨2, ![512, 2048]⟩
abbrev S1x1x2048 : Shape := ⟨3, ![1, 1, 2048]⟩
abbrev S512x4608 : Shape := ⟨2, ![512, 4608]⟩
abbrev S2x1x256x2x128 : Shape := ⟨5, ![2, 1, 256, 2, 128]⟩
abbrev S2x1x256x4x2x128 : Shape := ⟨6, ![2, 1, 256, 4, 2, 128]⟩
abbrev S2x1x256x4x256 : Shape := ⟨5, ![2, 1, 256, 4, 256]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x128 : Shape := ⟨2, ![512, 128]⟩
abbrev S1x128 : Shape := ⟨2, ![1, 128]⟩
abbrev S256x128 : Shape := ⟨2, ![256, 128]⟩
abbrev S1x1x256x1x128 : Shape := ⟨5, ![1, 1, 256, 1, 128]⟩
abbrev S1x1x256x1x1x128 : Shape := ⟨6, ![1, 1, 256, 1, 1, 128]⟩
abbrev S256x256 : Shape := ⟨2, ![256, 256]⟩
abbrev S1x1x256x1x256 : Shape := ⟨5, ![1, 1, 256, 1, 256]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S48x1x2048, .f32⟩
  | .hbm, ⟨3, _⟩ => ⟨S2048x4608, .bf16⟩
  | .hbm, ⟨4, _⟩ => ⟨S2x128, .f32⟩
  | .hbm, ⟨5, _⟩ => ⟨S8192x4608, .bf16⟩
  | .hbm, ⟨6, _⟩ => ⟨S32x1x256x2x128, .f32⟩
  | .hbm, ⟨7, _⟩ => ⟨S32x1x256x2x128, .f32⟩
  | .hbm, ⟨8, _⟩ => ⟨S32x1x256x4x2x128, .f32⟩
  | .hbm, ⟨9, _⟩ => ⟨S32x1x256x4x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S2048x4608, .bf16⟩
  | .local _ .vmem, ⟨6, _⟩ => ⟨S2x128, .f32⟩
  | .local _ .vmem, ⟨7, _⟩ => ⟨S512x4608, .bf16⟩
  | .local _ .vmem, ⟨8, _⟩ => ⟨S512x4608, .bf16⟩
  | .local _ .vmem, ⟨9, _⟩ => ⟨S2x1x256x2x128, .f32⟩
  | .local _ .vmem, ⟨10, _⟩ => ⟨S2x1x256x2x128, .f32⟩
  | .local _ .vmem, ⟨11, _⟩ => ⟨S2x1x256x2x128, .f32⟩
  | .local _ .vmem, ⟨12, _⟩ => ⟨S2x1x256x2x128, .f32⟩
  | .local _ .vmem, ⟨13, _⟩ => ⟨S2x1x256x4x2x128, .f32⟩
  | .local _ .vmem, ⟨14, _⟩ => ⟨S2x1x256x4x2x128, .f32⟩
  | .local _ .vmem, ⟨15, _⟩ => ⟨S2x1x256x4x256, .f32⟩
  | .local _ .vmem, ⟨16, _⟩ => ⟨S2x1x256x4x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x256x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x256x4x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x256x4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S8192x2048 : Shape := ⟨2, ![8192, 2048]⟩
abbrev S1x2048 : Shape := ⟨2, ![1, 2048]⟩
abbrev S48x1x2048 : Shape := ⟨3, ![48, 1, 2048]⟩
abbrev S2048x4608 : Shape := ⟨2, ![2048, 4608]⟩
abbrev S2x128 : Shape := ⟨2, ![2, 128]⟩
abbrev S32x256x2048 : Shape := ⟨3, ![32, 256, 2048]⟩
abbrev S1x1x2048 : Shape := ⟨3, ![1, 1, 2048]⟩
abbrev S2048 : Shape := ⟨1, ![2048]⟩
abbrev S_ : Shape := ⟨0, ![]⟩
abbrev S32x256 : Shape := ⟨2, ![32, 256]⟩
abbrev S32x256x1 : Shape := ⟨3, ![32, 256, 1]⟩
abbrev S32x256x4608 : Shape := ⟨3, ![32, 256, 4608]⟩
abbrev S32x256x1024 : Shape := ⟨3, ![32, 256, 1024]⟩
abbrev S32x256x8x128 : Shape := ⟨4, ![32, 256, 8, 128]⟩
abbrev S1x128 : Shape := ⟨2, ![1, 128]⟩
abbrev S128 : Shape := ⟨1, ![128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x4x2x128 : Shape := ⟨5, ![32, 256, 4, 2, 128]⟩
abbrev S32x256x4x256 : Shape := ⟨4, ![32, 256, 4, 256]⟩
abbrev S8192x1024 : Shape := ⟨2, ![8192, 1024]⟩
abbrev S8192x256 : Shape := ⟨2, ![8192, 256]⟩
abbrev S8192x4608 : Shape := ⟨2, ![8192, 4608]⟩
abbrev S32x1x256x2x128 : Shape := ⟨5, ![32, 1, 256, 2, 128]⟩
abbrev S32x1x256x4x2x128 : Shape := ⟨6, ![32, 1, 256, 4, 2, 128]⟩
abbrev S32x1x256x4x256 : Shape := ⟨5, ![32, 1, 256, 4, 256]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S48x1x2048, .f32⟩
  | .hbm, ⟨3, _⟩ => ⟨S2048x4608, .bf16⟩
  | .hbm, ⟨4, _⟩ => ⟨S2x128, .f32⟩
  | .hbm, ⟨5, _⟩ => ⟨S32x256x2048, .f32⟩
  | .hbm, ⟨6, _⟩ => ⟨S1x1x2048, .f32⟩
  | .hbm, ⟨7, _⟩ => ⟨S1x2048, .f32⟩
  | .hbm, ⟨8, _⟩ => ⟨S1x1x2048, .f32⟩
  | .hbm, ⟨9, _⟩ => ⟨S1x2048, .f32⟩
  | .hbm, ⟨10, _⟩ => ⟨S2048, .f32⟩
  | .hbm, ⟨11, _⟩ => ⟨S32x256x2048, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x2048, .f32⟩
  | .hbm, ⟨23, _⟩ => ⟨S32x256x2048, .f32⟩
  | .hbm, ⟨24, _⟩ => ⟨S1x1x2048, .f32⟩
  | .hbm, ⟨25, _⟩ => ⟨S32x256x2048, .f32⟩
  | .hbm, ⟨26, _⟩ => ⟨S32x256x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x1x2048, .f32⟩
  | .hbm, ⟨31, _⟩ => ⟨S32x256x2048, .f32⟩
  | .hbm, ⟨32, _⟩ => ⟨S32x256x2048, .f32⟩
  | .hbm, ⟨33, _⟩ => ⟨S1x1x2048, .f32⟩
  | .hbm, ⟨34, _⟩ => ⟨S32x256x2048, .f32⟩
  | .hbm, ⟨35, _⟩ => ⟨S32x256x2048, .f32⟩
  | .hbm, ⟨36, _⟩ => ⟨S2048x4608, .f32⟩
  | .hbm, ⟨37, _⟩ => ⟨S32x256x4608, .f32⟩
  | .hbm, ⟨38, _⟩ => ⟨S32x256x1024, .f32⟩
  | .hbm, ⟨39, _⟩ => ⟨S32x256x8x128, .f32⟩
  | .hbm, ⟨40, _⟩ => ⟨S1x128, .f32⟩
  | .hbm, ⟨41, _⟩ => ⟨S128, .f32⟩
  | .hbm, ⟨42, _⟩ => ⟨S32x256x8x128, .f32⟩
  | .hbm, ⟨43, _⟩ => ⟨S_, .f32⟩
  | .hbm, ⟨44, _⟩ => ⟨S32x256x8, .f32⟩
  | .hbm, ⟨45, _⟩ => ⟨S32x256x8x1, .f32⟩
  | .hbm, ⟨46, _⟩ => ⟨S_, .f32⟩
  | .hbm, ⟨47, _⟩ => ⟨S32x256x8x1, .f32⟩
  | .hbm, ⟨48, _⟩ => ⟨S32x256x8x1, .f32⟩
  | .hbm, ⟨49, _⟩ => ⟨S_, .f32⟩
  | .hbm, ⟨50, _⟩ => ⟨S32x256x8x1, .f32⟩
  | .hbm, ⟨51, _⟩ => ⟨S32x256x8x1, .f32⟩
  | .hbm, ⟨52, _⟩ => ⟨S32x256x8x1, .f32⟩
  | .hbm, ⟨53, _⟩ => ⟨S32x256x8x128, .f32⟩
  | .hbm, ⟨54, _⟩ => ⟨S32x256x8x128, .f32⟩
  | .hbm, ⟨55, _⟩ => ⟨S1x1x1x128, .f32⟩
  | .hbm, ⟨56, _⟩ => ⟨S32x256x8x128, .f32⟩
  | .hbm, ⟨57, _⟩ => ⟨S32x256x8x128, .f32⟩
  | .hbm, ⟨58, _⟩ => ⟨S32x256x256, .f32⟩
  | .hbm, ⟨59, _⟩ => ⟨S32x256x2x128, .f32⟩
  | .hbm, ⟨60, _⟩ => ⟨S1x128, .f32⟩
  | .hbm, ⟨61, _⟩ => ⟨S128, .f32⟩
  | .hbm, ⟨62, _⟩ => ⟨S32x256x2x128, .f32⟩
  | .hbm, ⟨63, _⟩ => ⟨S_, .f32⟩
  | .hbm, ⟨64, _⟩ => ⟨S32x256x2, .f32⟩
  | .hbm, ⟨65, _⟩ => ⟨S32x256x2x1, .f32⟩
  | .hbm, ⟨66, _⟩ => ⟨S_, .f32⟩
  | .hbm, ⟨67, _⟩ => ⟨S32x256x2x1, .f32⟩
  | .hbm, ⟨68, _⟩ => ⟨S32x256x2x1, .f32⟩
  | .hbm, ⟨69, _⟩ => ⟨S_, .f32⟩
  | .hbm, ⟨70, _⟩ => ⟨S32x256x2x1, .f32⟩
  | .hbm, ⟨71, _⟩ => ⟨S32x256x2x1, .f32⟩
  | .hbm, ⟨72, _⟩ => ⟨S32x256x2x1, .f32⟩
  | .hbm, ⟨73, _⟩ => ⟨S32x256x2x128, .f32⟩
  | .hbm, ⟨74, _⟩ => ⟨S32x256x2x128, .f32⟩
  | .hbm, ⟨75, _⟩ => ⟨S1x1x1x128, .f32⟩
  | .hbm, ⟨76, _⟩ => ⟨S32x256x2x128, .f32⟩
  | .hbm, ⟨77, _⟩ => ⟨S32x256x2x128, .f32⟩
  | .hbm, ⟨78, _⟩ => ⟨S32x256x256, .f32⟩
  | .hbm, ⟨79, _⟩ => ⟨S32x256x2x128, .f32⟩
  | .hbm, ⟨80, _⟩ => ⟨S32x256x1024, .f32⟩
  | .hbm, ⟨81, _⟩ => ⟨S32x256x1024, .f32⟩
  | .hbm, ⟨82, _⟩ => ⟨S32x256x4x2x128, .f32⟩
  | .hbm, ⟨83, _⟩ => ⟨S32x256x1024, .f32⟩
  | .hbm, ⟨84, _⟩ => ⟨S32x256x4x256, .f32⟩
  | .hbm, ⟨85, _⟩ => ⟨S_, .f32⟩
  | .hbm, ⟨86, _⟩ => ⟨S32x256x8x128, .f32⟩
  | .hbm, ⟨87, _⟩ => ⟨S32x256x8x128, .f32⟩
  | .hbm, ⟨88, _⟩ => ⟨S_, .f32⟩
  | .hbm, ⟨89, _⟩ => ⟨S32x256x1024, .f32⟩
  | .hbm, ⟨90, _⟩ => ⟨S32x256x1024, .f32⟩
  | .hbm, ⟨91, _⟩ => ⟨S8192x1024, .f32⟩
  | .hbm, ⟨92, _⟩ => ⟨S8192x256, .f32⟩
  | .hbm, ⟨93, _⟩ => ⟨S8192x256, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x4608, .f32⟩
  | .hbm, ⟨98, _⟩ => ⟨S8192x4608, .bf16⟩
  | .hbm, ⟨99, _⟩ => ⟨S32x1x256x2x128, .f32⟩
  | .hbm, ⟨100, _⟩ => ⟨S32x1x256x2x128, .f32⟩
  | .hbm, ⟨101, _⟩ => ⟨S32x1x256x4x2x128, .f32⟩
  | .hbm, ⟨102, _⟩ => ⟨S32x1x256x4x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_cst_10 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== SsmIn.lean ====
abbrev S8192x2048 : Shape := ⟨2, ![8192, 2048]⟩
abbrev S1x2048 : Shape := ⟨2, ![1, 2048]⟩
abbrev S48x1x2048 : Shape := ⟨3, ![48, 1, 2048]⟩
abbrev S2048x2048 : Shape := ⟨2, ![2048, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S48x1x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SsmInRefIdeal.lean ====
abbrev S8192x2048 : Shape := ⟨2, ![8192, 2048]⟩
abbrev S1x2048 : Shape := ⟨2, ![1, 2048]⟩
abbrev S48x1x2048 : Shape := ⟨3, ![48, 1, 2048]⟩
abbrev S2048x2048 : Shape := ⟨2, ![2048, 2048]⟩
abbrev S2x4096x2048 : Shape := ⟨3, ![2, 4096, 2048]⟩
abbrev S8x6x2048 : Shape := ⟨3, ![8, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S48x1x2048, .f32⟩
  | .hbm, ⟨3, _⟩ => ⟨S2048x2048, .bf16⟩
  | .hbm, ⟨4, _⟩ => ⟨S2x4096x2048, .f32⟩
  | .hbm, ⟨5, _⟩ => ⟨S8x6x2048, .f32⟩
  | .hbm, ⟨6, _⟩ => ⟨S2x6x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2048x2048, .f32⟩
  | .hbm, ⟨38, _⟩ => ⟨S2x4096x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Glu.lean ====
abbrev S8192x2048 : Shape := ⟨2, ![8192, 2048]⟩
abbrev S1x2048 : Shape := ⟨2, ![1, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x2048, .bf16⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S8192x2048 : Shape := ⟨2, ![8192, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x2048, .bf16⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== OutC.lean ====
abbrev S8192x2048 : Shape := ⟨2, ![8192, 2048]⟩
abbrev S2048x2048 : Shape := ⟨2, ![2048, 2048]⟩
abbrev S1x2048 : Shape := ⟨2, ![1, 2048]⟩
abbrev S48x1x2048 : Shape := ⟨3, ![48, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S48x1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutCRefIdeal.lean ====
abbrev S8192x2048 : Shape := ⟨2, ![8192, 2048]⟩
abbrev S2048x2048 : Shape := ⟨2, ![2048, 2048]⟩
abbrev S1x2048 : Shape := ⟨2, ![1, 2048]⟩
abbrev S48x1x2048 : Shape := ⟨3, ![48, 1, 2048]⟩
abbrev S2x4096x2048 : Shape := ⟨3, ![2, 4096, 2048]⟩
abbrev S8x6x2048 : Shape := ⟨3, ![8, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S48x1x2048, .f32⟩
  | .hbm, ⟨5, _⟩ => ⟨S2x4096x2048, .f32⟩
  | .hbm, ⟨6, _⟩ => ⟨S8x6x2048, .f32⟩
  | .hbm, ⟨7, _⟩ => ⟨S2x6x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S8192x2048, .f32⟩
  | .hbm, ⟨12, _⟩ => ⟨S2x4096x2048, .f32⟩
  | .hbm, ⟨13, _⟩ => ⟨S2048x2048, .f32⟩
  | .hbm, ⟨14, _⟩ => ⟨S2x4096x2048, .f32⟩
  | .hbm, ⟨15, _⟩ => ⟨S2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== OutA.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S48x1x2048 : Shape := ⟨3, ![48, 1, 2048]⟩
abbrev S512x1024 : Shape := ⟨2, ![512, 1024]⟩
abbrev S1024x2048 : Shape := ⟨2, ![1024, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S48x1x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c2_i32 : BitVec 32 := 2#32
  let v19 : BitVec 32 := Scalar.addi v18 c2_i32
  let c0_i32_5 : BitVec 32 := 0#32
  let c0_i32_6 : BitVec 32 := 0#32
  let c0_i32_7 : BitVec 32 := 0#32
  ![v19.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutARefIdeal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S48x1x2048 : Shape := ⟨3, ![48, 1, 2048]⟩
abbrev S2x4096x2048 : Shape := ⟨3, ![2, 4096, 2048]⟩
abbrev S8x6x2048 : Shape := ⟨3, ![8, 6, 2048]⟩
abbrev S2x6x2048 : Shape := ⟨3, ![2, 6, 2048]⟩
abbrev S2x1x2048 : Shape := ⟨3, ![2, 1, 2048]⟩
abbrev S2x2048 : Shape := ⟨2, ![2, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S48x1x2048, .f32⟩
  | .hbm, ⟨6, _⟩ => ⟨S2x4096x2048, .f32⟩
  | .hbm, ⟨7, _⟩ => ⟨S8x6x2048, .f32⟩
  | .hbm, ⟨8, _⟩ => ⟨S2x6x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S8192x2048, .bf16⟩
  | .hbm, ⟨13, _⟩ => ⟨S8192x2048, .f32⟩
  | .hbm, ⟨14, _⟩ => ⟨S2x4096x2048, .f32⟩
  | .hbm, ⟨15, _⟩ => ⟨S2048x2048, .f32⟩
  | .hbm, ⟨16, _⟩ => ⟨S2x4096x2048, .f32⟩
  | .hbm, ⟨17, _⟩ => ⟨S2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MlpP.lean ====
abbrev S8192x2048 : Shape := ⟨2, ![8192, 2048]⟩
abbrev S1x2048 : Shape := ⟨2, ![1, 2048]⟩
abbrev S48x1x2048 : Shape := ⟨3, ![48, 1, 2048]⟩
abbrev S2x2048x8192 : Shape := ⟨3, ![2, 2048, 8192]⟩
abbrev S2x8192x2048 : Shape := ⟨3, ![2, 8192, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S48x1x2048, .f32⟩
  | .hbm, ⟨4, _⟩ => ⟨S2x2048x8192, .bf16⟩
  | .hbm, ⟨5, _⟩ => ⟨S2x8192x2048, .bf16⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpPRefIdeal.lean ====
abbrev S8192x2048 : Shape := ⟨2, ![8192, 2048]⟩
abbrev S1x2048 : Shape := ⟨2, ![1, 2048]⟩
abbrev S48x1x2048 : Shape := ⟨3, ![48, 1, 2048]⟩
abbrev S2x2048x8192 : Shape := ⟨3, ![2, 2048, 8192]⟩
abbrev S2x8192x2048 : Shape := ⟨3, ![2, 8192, 2048]⟩
abbrev S32x256x2048 : Shape := ⟨3, ![32, 256, 2048]⟩
abbrev S1x1x2048 : Shape := ⟨3, ![1, 1, 2048]⟩
abbrev S2048 : Shape := ⟨1, ![2048]⟩
abbrev S_ : Shape := ⟨0, ![]⟩
abbrev S32x256 : Shape := ⟨2, ![32, 256]⟩
abbrev S32x256x1 : Shape := ⟨3, ![32, 256, 1]⟩
abbrev S1x2048x8192 : Shape := ⟨3, ![1, 2048, 8192]⟩
abbrev S2048x8192 : Shape := ⟨2, ![2048, 8192]⟩
abbrev S32x256x8192 : Shape := ⟨3, ![32, 256, 8192]⟩
abbrev S1x8192x2048 : Shape := ⟨3, ![1, 8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S48x1x2048, .f32⟩
  | .hbm, ⟨4, _⟩ => ⟨S2x2048x8192, .bf16⟩
  | .hbm, ⟨5, _⟩ => ⟨S2x8192x2048, .bf16⟩
  | .hbm, ⟨6, _⟩ => ⟨S32x256x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S1x2048, .f32⟩
  | .hbm, ⟨13, _⟩ => ⟨S2048, .f32⟩
  | .hbm, ⟨14, _⟩ => ⟨S32x256x2048, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x1, .f32⟩
  | .hbm, ⟨25, _⟩ => ⟨S32x256x2048, .f32⟩
  | .hbm, ⟨26, _⟩ => ⟨S32x256x2048, .f32⟩
  | .hbm, ⟨27, _⟩ => ⟨S1x1x2048, .f32⟩
  | .hbm, ⟨28, _⟩ => ⟨S32x256x2048, .f32⟩
  | .hbm, ⟨29, _⟩ => ⟨S32x256x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x1x2048, .f32⟩
  | .hbm, ⟨34, _⟩ => ⟨S32x256x2048, .f32⟩
  | .hbm, ⟨35, _⟩ => ⟨S32x256x2048, .f32⟩
  | .hbm, ⟨36, _⟩ => ⟨S1x1x2048, .f32⟩
  | .hbm, ⟨37, _⟩ => ⟨S32x256x2048, .f32⟩
  | .hbm, ⟨38, _⟩ => ⟨S32x256x2048, .f32⟩
  | .hbm, ⟨39, _⟩ => ⟨S1x2048x8192, .bf16⟩
  | .hbm, ⟨40, _⟩ => ⟨S2048x8192, .bf16⟩
  | .hbm, ⟨41, _⟩ => ⟨S2048x8192, .f32⟩
  | .hbm, ⟨42, _⟩ => ⟨S32x256x8192, .f32⟩
  | .hbm, ⟨43, _⟩ => ⟨S_, .f32⟩
  | .hbm, ⟨44, _⟩ => ⟨S32x256x8192, .f32⟩
  | .hbm, ⟨45, _⟩ => ⟨S32x256x8192, .f32⟩
  | .hbm, ⟨46, _⟩ => ⟨S32x256x8192, .f32⟩
  | .hbm, ⟨47, _⟩ => ⟨S1x8192x2048, .bf16⟩
  | .hbm, ⟨48, _⟩ => ⟨S8192x2048, .bf16⟩
  | .hbm, ⟨49, _⟩ => ⟨S8192x2048, .f32⟩
  | .hbm, ⟨50, _⟩ => ⟨S32x256x2048, .f32⟩
  | .hbm, ⟨51, _⟩ => ⟨S2048, .f32⟩
  | .hbm, ⟨52, _⟩ => ⟨S32x256x2048, .f32⟩
  | .hbm, ⟨53, _⟩ => ⟨S_, .f32⟩
  | .hbm, ⟨54, _⟩ => ⟨S32x256, .f32⟩
  | .hbm, ⟨55, _⟩ => ⟨S32x256x1, .f32⟩
  | .hbm, ⟨56, _⟩ => ⟨S_, .f32⟩
  | .hbm, ⟨57, _⟩ => ⟨S32x256x1, .f32⟩
  | .hbm, ⟨58, _⟩ => ⟨S32x256x1, .f32⟩
  | .hbm, ⟨59, _⟩ => ⟨S_, .f32⟩
  | .hbm, ⟨60, _⟩ => ⟨S32x256x1, .f32⟩
  | .hbm, ⟨61, _⟩ => ⟨S32x256x1, .f32⟩
  | .hbm, ⟨62, _⟩ => ⟨S32x256x1, .f32⟩
  | .hbm, ⟨63, _⟩ => ⟨S32x256x2048, .f32⟩
  | .hbm, ⟨64, _⟩ => ⟨S32x256x2048, .f32⟩
  | .hbm, ⟨65, _⟩ => ⟨S1x1x2048, .f32⟩
  | .hbm, ⟨66, _⟩ => ⟨S32x256x2048, .f32⟩
  | .hbm, ⟨67, _⟩ => ⟨S32x256x2048, .f32⟩
  | .hbm, ⟨68, _⟩ => ⟨S1x1x2048, .f32⟩
  | .hbm, ⟨69, _⟩ => ⟨S32x256x2048, .f32⟩
  | .hbm, ⟨70, _⟩ => ⟨S32x256x2048, .f32⟩
  | .hbm, ⟨71, _⟩ => ⟨S32x256x2048, .f32⟩
  | .hbm, ⟨72, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Diff.lean ====
abbrev S8192x4608 : Shape := ⟨2, ![8192, 4608]⟩
abbrev S512x1024 : Shape := ⟨2, ![512, 1024]⟩
abbrev S4x128 : Shape := ⟨2, ![4, 128]⟩
abbrev S1x256 : Shape := ⟨2, ![1, 256]⟩
abbrev S8192x1024 : Shape := ⟨2, ![8192, 1024]⟩
abbrev S1024x256 : Shape := ⟨2, ![1024, 256]⟩
abbrev S4096x256 : Shape := ⟨2, ![4096, 256]⟩
abbrev S256x256 : Shape := ⟨2, ![256, 256]⟩
abbrev S1024x4352 : Shape := ⟨2, ![1024, 4352]⟩
abbrev S1x128 : Shape := ⟨2, ![1, 128]⟩
abbrev S1 : Shape := ⟨1, ![1]⟩
abbrev S1x1 : Shape := ⟨2, ![1, 1]⟩
abbrev S1024x128 : Shape := ⟨2, ![1024, 128]⟩
abbrev S128x128 : Shape := ⟨2, ![128, 128]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S512x256 : Shape := ⟨2, ![512, 256]⟩
abbrev S1024 : Shape := ⟨1, ![1024]⟩
abbrev S1024x1 : Shape := ⟨2, ![1024, 1]⟩

abbrev nBuf : Space → Nat
  | .hbm => 6
  | .vmem => 15
  | .smem => 0
  | _ => 0

abbrev bufTy : (tb : Table) → Fin (tcTables nBuf tb) → BufTy
  | .hbm, ⟨0, _⟩ => ⟨S8192x4608, .bf16⟩
  | .hbm, ⟨1, _⟩ => ⟨S512x1024, .f32⟩
  | .hbm, ⟨2, _⟩ => ⟨S512x1024, .f32⟩
  | .hbm, ⟨3, _⟩ => ⟨S4x128, .f32⟩
  | .hbm, ⟨4, _⟩ => ⟨S1x256, .f32⟩
  | .hbm, ⟨5, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S4x128, .f32⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1024x4352, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffRefIdeal.lean ====
abbrev S8192x4608 : Shape := ⟨2, ![8192, 4608]⟩
abbrev S512x1024 : Shape := ⟨2, ![512, 1024]⟩
abbrev S4x128 : Shape := ⟨2, ![4, 128]⟩
abbrev S1x256 : Shape := ⟨2, ![1, 256]⟩
abbrev S2x4096x4608 : Shape := ⟨3, ![2, 4096, 4608]⟩
abbrev S2x4096x1024 : Shape := ⟨3, ![2, 4096, 1024]⟩
abbrev S2x4096x4x2x128 : Shape := ⟨5, ![2, 4096, 4, 2, 128]⟩
abbrev S2x4096x4x256 : Shape := ⟨4, ![2, 4096, 4, 256]⟩
abbrev S2x256x4x2x128 : Shape := ⟨5, ![2, 256, 4, 2, 128]⟩
abbrev S2x4352x4x2x128 : Shape := ⟨5, ![2, 4352, 4, 2, 128]⟩
abbrev S2x256x4x256 : Shape := ⟨4, ![2, 256, 4, 256]⟩
abbrev S2x4352x4x256 : Shape := ⟨4, ![2, 4352, 4, 256]⟩
abbrev S1x128 : Shape := ⟨2, ![1, 128]⟩
abbrev S128 : Shape := ⟨1, ![128]⟩
abbrev S_ : Shape := ⟨0, ![]⟩
abbrev S2x4x2x4096x4352 : Shape := ⟨5, ![2, 4, 2, 4096, 4352]⟩
abbrev S2x4x2x4096 : Shape := ⟨4, ![2, 4, 2, 4096]⟩
abbrev S2x4x2x4096x1 : Shape := ⟨5, ![2, 4, 2, 4096, 1]⟩
abbrev S2x4x1x4096x4352 : Shape := ⟨5, ![2, 4, 1, 4096, 4352]⟩
abbrev S2x4x4096x4352 : Shape := ⟨4, ![2, 4, 4096, 4352]⟩
abbrev S2x4x256x4096 : Shape := ⟨4, ![2, 4, 256, 4096]⟩
abbrev S2x4096x4 : Shape := ⟨3, ![2, 4096, 4]⟩
abbrev S2x4096x4x1 : Shape := ⟨4, ![2, 4096, 4, 1]⟩
abbrev S256 : Shape := ⟨1, ![256]⟩
abbrev S1x1x1x256 : Shape := ⟨4, ![1, 1, 1, 256]⟩
abbrev S8192x1024 : Shape := ⟨2, ![8192, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S512x1024, .f32⟩
  | .hbm, ⟨2, _⟩ => ⟨S512x1024, .f32⟩
  | .hbm, ⟨3, _⟩ => ⟨S4x128, .f32⟩
  | .hbm, ⟨4, _⟩ => ⟨S1x256, .f32⟩
  | .hbm, ⟨5, _⟩ => ⟨S8192x4608, .f32⟩
  | .hbm, ⟨6, _⟩ => ⟨S2x4096x4608, .f32⟩
  | .hbm, ⟨7, _⟩ => ⟨S2x4096x1024, .f32⟩
  | .hbm, ⟨8, _⟩ => ⟨S2x4096x4x2x128, .f32⟩
  | .hbm, ⟨9, _⟩ => ⟨S2x4096x1024, .f32⟩
  | .hbm, ⟨10, _⟩ => ⟨S2x4096x4x2x128, .f32⟩
  | .hbm, ⟨11, _⟩ => ⟨S2x4096x1024, .f32⟩
  | .hbm, ⟨12, _⟩ => ⟨S2x4096x4x256, .f32⟩
  | .hbm, ⟨13, _⟩ => ⟨S2x256x4x2x128, .f32⟩
  | .hbm, ⟨14, _⟩ => ⟨S2x4352x4x2x128, .f32⟩
  | .hbm, ⟨15, _⟩ => ⟨S2x256x4x256, .f32⟩
  | .hbm, ⟨16, _⟩ => ⟨S2x4352x4x256, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x4x2x4096x4352, .f32⟩
  | .hbm, ⟨37, _⟩ => ⟨S_, .f32⟩
  | .hbm, ⟨38, _⟩ => ⟨S_, .f32⟩
  | .hbm, ⟨39, _⟩ => ⟨S2x4x2x4096x4352, .f32⟩
  | .hbm, ⟨40, _⟩ => ⟨S2x4x2x4096x4352, .f32⟩
  | .hbm, ⟨41, _⟩ => ⟨S_, .f32⟩
  | .hbm, ⟨42, _⟩ => ⟨S2x4x2x4096, .f32⟩
  | .hbm, ⟨43, _⟩ => ⟨S_, .f32⟩
  | .hbm, ⟨44, _⟩ => ⟨S2x4x2x4096, .f32⟩
  | .hbm, ⟨45, _⟩ => ⟨S2x4x2x4096, .f32⟩
  | .hbm, ⟨46, _⟩ => ⟨S2x4x2x4096x1, .f32⟩
  | .hbm, ⟨47, _⟩ => ⟨S2x4x2x4096x4352, .f32⟩
  | .hbm, ⟨48, _⟩ => ⟨S2x4x2x4096x4352, .f32⟩
  | .hbm, ⟨49, _⟩ => ⟨S2x4x2x4096x4352, .f32⟩
  | .hbm, ⟨50, _⟩ => ⟨S_, .f32⟩
  | .hbm, ⟨51, _⟩ => ⟨S2x4x2x4096, .f32⟩
  | .hbm, ⟨52, _⟩ => ⟨S2x4x2x4096x1, .f32⟩
  | .hbm, ⟨53, _⟩ => ⟨S2x4x2x4096x4352, .f32⟩
  | .hbm, ⟨54, _⟩ => ⟨S2x4x2x4096x4352, .f32⟩
  | .hbm, ⟨55, _⟩ => ⟨S2x4x1x4096x4352, .f32⟩
  | .hbm, ⟨56, _⟩ => ⟨S2x4x4096x4352, .f32⟩
  | .hbm, ⟨57, _⟩ => ⟨S2x4x1x4096x4352, .f32⟩
  | .hbm, ⟨58, _⟩ => ⟨S2x4x4096x4352, .f32⟩
  | .hbm, ⟨59, _⟩ => ⟨S2x4x4096x4352, .f32⟩
  | .hbm, ⟨60, _⟩ => ⟨S2x4x4096x4352, .f32⟩
  | .hbm, ⟨61, _⟩ => ⟨S2x4x4096x4352, .f32⟩
  | .hbm, ⟨62, _⟩ => ⟨S2x4x256x4096, .f32⟩
  | .hbm, ⟨63, _⟩ => ⟨S2x4096x4x256, .f32⟩
  | .hbm, ⟨64, _⟩ => ⟨S2x4096x4x256, .f32⟩
  | .hbm, ⟨65, _⟩ => ⟨S_, .f32⟩
  | .hbm, ⟨66, _⟩ => ⟨S2x4096x4, .f32⟩
  | .hbm, ⟨67, _⟩ => ⟨S2x4096x4x1, .f32⟩
  | .hbm, ⟨68, _⟩ => ⟨S_, .f32⟩
  | .hbm, ⟨69, _⟩ => ⟨S2x4096x4x1, .f32⟩
  | .hbm, ⟨70, _⟩ => ⟨S2x4096x4x1, .f32⟩
  | .hbm, ⟨71, _⟩ => ⟨S_, .f32⟩
  | .hbm, ⟨72, _⟩ => ⟨S2x4096x4x1, .f32⟩
  | .hbm, ⟨73, _⟩ => ⟨S2x4096x4x1, .f32⟩
  | .hbm, ⟨74, _⟩ => ⟨S2x4096x4x1, .f32⟩
  | .hbm, ⟨75, _⟩ => ⟨S2x4096x4x256, .f32⟩
  | .hbm, ⟨76, _⟩ => ⟨S2x4096x4x256, .f32⟩
  | .hbm, ⟨77, _⟩ => ⟨S256, .f32⟩
  | .hbm, ⟨78, _⟩ => ⟨S1x1x1x256, .f32⟩
  | .hbm, ⟨79, _⟩ => ⟨S2x4096x4x256, .f32⟩
  | .hbm, ⟨80, _⟩ => ⟨S2x4096x4x256, .f32⟩
  | .hbm, ⟨81, _⟩ => ⟨S_, .f32⟩
  | .hbm, ⟨82, _⟩ => ⟨S2x4096x4x256, .f32⟩
  | .hbm, ⟨83, _⟩ => ⟨S2x4096x4x256, .f32⟩
  | .hbm, ⟨84, _⟩ => ⟨S8192x1024, .f32⟩
  | .hbm, ⟨85, _⟩ => ⟨S8192x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.GqaBlock.lean ====
/- What one grid point of the grouped-query attention kernel stores, as a term over the blocks it reads. -/
module

public import proofs.«01_k».proof.Proof.Gen.GqaIdeal.Value
public import Idealize.ShloMosaic.Lib.Pipeline.ReadBack
public import Idealize.ShloMosaic.Lib.Pipeline.ValueKit

@[expose] public section

set_option maxRecDepth 16384

noncomputable section

namespace Cert.GqaIdeal.Block

open Cert.GqaIdeal Cert.GqaIdeal.Gen Idealize.ShloMosaic Idealize.ShloMosaic.TcCoe Idealize.SL.Sem Idealize.ShloMosaic.Tactic

variable {F : FTy → Type} [FloatOps F]

/-- The scores of 256 query rows against 512 keys. -/
def score (q : FVec F S256x128 .bf16) (k : FVec F S512x128 .bf16) : FVec F S256x512 .f32 :=
  matmul dot_S256x128_S512x128_S256x512_1_1_0_0_n_n none q k (constant S256x512 .f32 0x00000000#32)

/-- The scores of 256 query rows against the 256 cached keys. -/
def scoreC (q : FVec F S256x128 .bf16) (k : FVec F S256x128 .f32) : FVec F S256x256 .f32 :=
  matmul dot_S256x128_S256x128_S256x256_1_1_0_0_n_n none q (truncf .bf16 k bitsLt_bf16_f32)
    (constant S256x256 .f32 0x00000000#32)

/-- The four 128-lane tiles of a chunk of 512 columns. -/
def t0 (s : FVec F S256x512 .f32) : FVec F S256x128 .f32 := extractStridedSlice S256x128 ![0, 0] s slices_S256x512_o0_0_S256x128
@[inherit_doc t0]
def t1 (s : FVec F S256x512 .f32) : FVec F S256x128 .f32 := extractStridedSlice S256x128 ![0, 128] s slices_S256x512_o0_128_S256x128
@[inherit_doc t0]
def t2 (s : FVec F S256x512 .f32) : FVec F S256x128 .f32 := extractStridedSlice S256x128 ![0, 256] s slices_S256x512_o0_256_S256x128
@[inherit_doc t0]
def t3 (s : FVec F S256x512 .f32) : FVec F S256x128 .f32 := extractStridedSlice S256x128 ![0, 384] s slices_S256x512_o0_384_S256x128
/-- The two 128-lane tiles of the 256 cached columns. -/
def c0 (s : FVec F S256x256 .f32) : FVec F S256x128 .f32 := extractStridedSlice S256x128 ![0, 0] s slices_S256x256_o0_0_S256x128
@[inherit_doc c0]
def c1 (s : FVec F S256x256 .f32) : FVec F S256x128 .f32 := extractStridedSlice S256x128 ![0, 128] s slices_S256x256_o0_128_S256x128

/-- The lane tiles of one chunk combined by maximum, into what the chunks before left. -/
def max4 (a : FVec F S256x128 .f32) (s : FVec F S256x512 .f32) : FVec F S256x128 .f32 :=
  maximumf (maximumf (maximumf (maximumf a (t0 s)) (t1 s)) (t2 s)) (t3 s)

/-- The lane tiles of one chunk added to what the chunks before left. -/
def add4 (a : FVec F S256x128 .f32) (s : FVec F S256x512 .f32) : FVec F S256x128 .f32 :=
  addf (addf (addf (addf a (t0 s)) (t1 s)) (t2 s)) (t3 s)

/-- The row maxima of the nine chunks of scores, as a column. -/
def rowMax (s0 s1 s2 s3 s4 s5 s6 s7 : FVec F S256x512 .f32) (s8 : FVec F S256x256 .f32) : FVec F S256x1 .f32 :=
  shapeCast S256x1 (multiReduction .maximumf [1] S256
    (maximumf (maximumf (max4 (max4 (max4 (max4 (max4 (max4 (max4
      (maximumf (maximumf (maximumf (t0 s0) (t1 s0)) (t2 s0)) (t3 s0)) s1) s2) s3) s4) s5) s6) s7) (c0 s8)) (c1 s8))
    0xFF800000#32 reduces_S256x128_S256 (.inl rfl) rfl) shapeCasts_S256_S256x1

/-- The weights of one chunk: two to the power of the stored scores minus the row maxima. -/
def weight (mx : FVec F S256x1 .f32) (s : FVec F S256x512 .f32) : FVec F S256x512 .f32 :=
  exp2 (subf (shapeCast S256x512 s shapeCasts_S256x512_S256x512) (broadcastTo S256x512 mx broadcasts_S256x1_S256x512))

/-- The weights of the cached columns. -/
def weightC (mx : FVec F S256x1 .f32) (s : FVec F S256x256 .f32) : FVec F S256x256 .f32 :=
  exp2 (subf (shapeCast S256x256 s shapeCasts_S256x256_S256x256) (broadcastTo S256x256 mx broadcasts_S256x1_S256x256))

/-- One chunk's weights times its values. -/
def pv (p : FVec F S256x512 .f32) (v : FVec F S512x128 .bf16) : FVec F S256x128 .f32 :=
  matmul dot_S256x512_S512x128_S256x128_1_0_0_1_n_n none (truncf .bf16 p bitsLt_bf16_f32) v
    (constant S256x128 .f32 0x00000000#32)

/-- The cached columns' weights times the cached values. -/
def pvC (p : FVec F S256x256 .f32) (v : FVec F S256x128 .f32) : FVec F S256x128 .f32 :=
  matmul dot_S256x256_S256x128_S256x128_1_0_0_1_n_n none (truncf .bf16 p bitsLt_bf16_f32)
    (truncf .bf16 v bitsLt_bf16_f32) (constant S256x128 .f32 0x00000000#32)

/-- Weighted values over the sum of the weights, from the nine chunks' weights and values. -/
def normed (p0 p1 p2 p3 p4 p5 p6 p7 : FVec F S256x512 .f32) (p8 : FVec F S256x256 .f32)
    (v0 v1 v2 v3 v4 v5 v6 v7 : FVec F S512x128 .bf16) (v8 : FVec F S256x128 .f32) : FVec F S256x128 .f32 :=
  divf (addf (addf (addf (addf (addf (addf (addf (addf (pv p0 v0) (pv p1 v1)) (pv p2 v2)) (pv p3 v3)) (pv p4 v4))
      (pv p5 v5)) (pv p6 v6)) (pv p7 v7)) (pvC p8 v8))
    (broadcastTo S256x128 (shapeCast S256x1 (multiReduction .add [1] S256
      (addf (addf (add4 (add4 (add4 (add4 (add4 (add4 (add4
        (addf (addf (addf (t0 p0) (t1 p0)) (t2 p0)) (t3 p0)) p1) p2) p3) p4) p5) p6) p7) (c0 p8)) (c1 p8))
      0x00000000#32 reduces_S256x128_S256 (.inl rfl) rfl) shapeCasts_S256_S256x1) broadcasts_S256x1_S256x128)

/-- The nine chunks' scores turned into weights, under the row maxima `mx`, and applied to the values. -/
def applied (mx : FVec F S256x1 .f32) (s0 s1 s2 s3 s4 s5 s6 s7 : FVec F S256x512 .f32) (s8 : FVec F S256x256 .f32)
    (v0 v1 v2 v3 v4 v5 v6 v7 : FVec F S512x128 .bf16) (v8 : FVec F S256x128 .f32) : FVec F S256x128 .f32 :=
  normed (weight mx s0) (weight mx s1) (weight mx s2) (weight mx s3) (weight mx s4) (weight mx s5) (weight mx s6)
    (weight mx s7) (weightC mx s8) v0 v1 v2 v3 v4 v5 v6 v7 v8

/-- The attention of 256 query rows from their scores. -/
def attended (s0 s1 s2 s3 s4 s5 s6 s7 : FVec F S256x512 .f32) (s8 : FVec F S256x256 .f32)
    (v0 v1 v2 v3 v4 v5 v6 v7 : FVec F S512x128 .bf16) (v8 : FVec F S256x128 .f32) : FVec F S256x128 .f32 :=
  applied (rowMax s0 s1 s2 s3 s4 s5 s6 s7 s8) s0 s1 s2 s3 s4 s5 s6 s7 s8 v0 v1 v2 v3 v4 v5 v6 v7 v8

/-- 512 rows of the keys' or the values' block. -/
def k0 (x : Vec F S4096x128 .bf16) : Vec F S512x128 .bf16 := View.ld x (Rect.unit (s := S4096x128) ![0, 0] S512x128.size inb_S4096x128_S512x128_0_0)
@[inherit_doc k0]
def k1 (x : Vec F S4096x128 .bf16) : Vec F S512x128 .bf16 := View.ld x (Rect.unit (s := S4096x128) ![512, 0] S512x128.size inb_S4096x128_S512x128_512_0)
@[inherit_doc k0]
def k2 (x : Vec F S4096x128 .bf16) : Vec F S512x128 .bf16 := View.ld x (Rect.unit (s := S4096x128) ![1024, 0] S512x128.size inb_S4096x128_S512x128_1024_0)
@[inherit_doc k0]
def k3 (x : Vec F S4096x128 .bf16) : Vec F S512x128 .bf16 := View.ld x (Rect.unit (s := S4096x128) ![1536, 0] S512x128.size inb_S4096x128_S512x128_1536_0)
@[inherit_doc k0]
def k4 (x : Vec F S4096x128 .bf16) : Vec F S512x128 .bf16 := View.ld x (Rect.unit (s := S4096x128) ![2048, 0] S512x128.size inb_S4096x128_S512x128_2048_0)
@[inherit_doc k0]
def k5 (x : Vec F S4096x128 .bf16) : Vec F S512x128 .bf16 := View.ld x (Rect.unit (s := S4096x128) ![2560, 0] S512x128.size inb_S4096x128_S512x128_2560_0)
@[inherit_doc k0]
def k6 (x : Vec F S4096x128 .bf16) : Vec F S512x128 .bf16 := View.ld x (Rect.unit (s := S4096x128) ![3072, 0] S512x128.size inb_S4096x128_S512x128_3072_0)
@[inherit_doc k0]
def k7 (x : Vec F S4096x128 .bf16) : Vec F S512x128 .bf16 := View.ld x (Rect.unit (s := S4096x128) ![3584, 0] S512x128.size inb_S4096x128_S512x128_3584_0)

/-- The attention of 256 query rows over the block's keys and values. -/
def rows (q : FVec F S256x128 .bf16) (x1 x2 : Vec F S4096x128 .bf16) (x3 x4 : Vec F S256x128 .f32) : FVec F S256x128 .f32 :=
  attended (score q (k0 x1)) (score q (k1 x1)) (score q (k2 x1)) (score q (k3 x1)) (score q (k4 x1)) (score q (k5 x1))
    (score q (k6 x1)) (score q (k7 x1)) (scoreC q x3) (k0 x2) (k1 x2) (k2 x2) (k3 x2) (k4 x2) (k5 x2) (k6 x2) (k7 x2) x4

/-- The four query heads of the group, stacked. -/
def stacked (x0 : Vec F S512x512 .bf16) : FVec F S2048x128 .bf16 :=
  concatenate S2048x128 0
    [⟨S512x128, View.ld x0 (Rect.unit (s := S512x512) ![0, 0] S512x128.size inb_S512x512_S512x128_0_0)⟩,
     ⟨S512x128, View.ld x0 (Rect.unit (s := S512x512) ![0, 128] S512x128.size inb_S512x512_S512x128_0_128)⟩,
     ⟨S512x128, View.ld x0 (Rect.unit (s := S512x512) ![0, 256] S512x128.size inb_S512x512_S512x128_0_256)⟩,
     ⟨S512x128, View.ld x0 (Rect.unit (s := S512x512) ![0, 384] S512x128.size inb_S512x512_S512x128_0_384)⟩]
    concatenates_S512x128_S512x128_S512x128_S512x128_S2048x128_d0

/-- Eight row blocks, one after another: the stacked heads. -/
def joined (o0 o1 o2 o3 o4 o5 o6 o7 : FVec F S256x128 .f32) : FVec F S2048x128 .f32 :=
  concatenate S2048x128 0 [⟨S256x128, o0⟩, ⟨S256x128, o1⟩, ⟨S256x128, o2⟩, ⟨S256x128, o3⟩, ⟨S256x128, o4⟩, ⟨S256x128, o5⟩, ⟨S256x128, o6⟩, ⟨S256x128, o7⟩] concatenates_S256x128_S256x128_S256x128_S256x128_S256x128_S256x128_S256x128_S256x128_S2048x128_d0

/-- The stacked heads laid out again side by side. -/
def unstacked (o : FVec F S2048x128 .f32) : FVec F S512x512 .bf16 :=
  truncf .bf16 (concatenate S512x512 1
    [⟨S512x128, extractStridedSlice S512x128 ![0, 0] o slices_S2048x128_o0_0_S512x128⟩,
     ⟨S512x128, extractStridedSlice S512x128 ![512, 0] o slices_S2048x128_o512_0_S512x128⟩,
     ⟨S512x128, extractStridedSlice S512x128 ![1024, 0] o slices_S2048x128_o1024_0_S512x128⟩,
     ⟨S512x128, extractStridedSlice S512x128 ![1536, 0] o slices_S2048x128_o1536_0_S512x128⟩]
    concatenates_S512x128_S512x128_S512x128_S512x128_S512x512_d1) bitsLt_bf16_f32

/-- What one grid point leaves in the output block. -/
def blockOut (x0 : Vec F S512x512 .bf16) (x1 x2 : Vec F S4096x128 .bf16) (x3 x4 : Vec F S256x128 .f32) :
    FVec F S512x512 .bf16 :=
  unstacked (joined
    (rows (extractStridedSlice S256x128 ![0, 0] (stacked x0) slices_S2048x128_o0_0_S256x128) x1 x2 x3 x4)
    (rows (extractStridedSlice S256x128 ![256, 0] (stacked x0) slices_S2048x128_o256_0_S256x128) x1 x2 x3 x4)
    (rows (extractStridedSlice S256x128 ![512, 0] (stacked x0) slices_S2048x128_o512_0_S256x128) x1 x2 x3 x4)
    (rows (extractStridedSlice S256x128 ![768, 0] (stacked x0) slices_S2048x128_o768_0_S256x128) x1 x2 x3 x4)
    (rows (extractStridedSlice S256x128 ![1024, 0] (stacked x0) slices_S2048x128_o1024_0_S256x128) x1 x2 x3 x4)
    (rows (extractStridedSlice S256x128 ![1280, 0] (stacked x0) slices_S2048x128_o1280_0_S256x128) x1 x2 x3 x4)
    (rows (extractStridedSlice S256x128 ![1536, 0] (stacked x0) slices_S2048x128_o1536_0_S256x128) x1 x2 x3 x4)
    (rows (extractStridedSlice S256x128 ![1792, 0] (stacked x0) slices_S2048x128_o1792_0_S256x128) x1 x2 x3 x4))

/-- The run's contents of the output block are `blockOut` of the input blocks. -/
theorem out_eq (c : Dev nD) (i : grid0.Coords) (arg3 : Memref sig .tc .vmem S512x512 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S512x512 .bf16) (harg8 : arg8.IsWhole) (arg9 : Memref sig .tc .vmem S2048x4352 .f32) (harg9 : arg9.IsWhole)
    (x0 : Vec F S512x512 .bf16) (x1 : Vec F S4096x128 .bf16) (x2 : Vec F S4096x128 .bf16) (x3 : Vec F S256x128 .f32) (x4 : Vec F S256x128 .f32) :
    out0_A_5 c i arg3 harg3 arg4 harg4 arg5 harg5 arg6 harg6 arg7 harg7 arg8 harg8 arg9 harg9 x0 x1 x2 x3 x4
      = blockOut x0 x1 x2 x3 x4 := by
  frame_open
  simp (disch := decide) only [↓ View.readCov_skip, ↓ View.readCov_cons_toLoadRect, ↓ View.readCov_fill]
  frame_out
  rfl

end Cert.GqaIdeal.Block
-- ==== Proof.Softmax.lean ====
/- Extended-real facts about weighted averages under a softmax: dividing after the sum is dividing before it, and base
two is base e with the scores scaled by log 2. -/
module

public import Idealize.ShloMosaic.PureOps.Ideal
public import Idealize.ShloMosaic.Lib.Pointwise

@[expose] public section

noncomputable section

namespace Cert.Softmax

open Idealize.ShloMosaic

/-- A real factor distributes over a finite sum of extended reals when it is not negative. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem real_dot {n : ℕ} (f g : Fin n → EReal) (hf : ∀ k, ∃ a : ℝ, f k = a) (hg : ∀ k, ∃ a : ℝ, g k = a) :
    ∃ a : ℝ, ∑ k, f k * g k = a := by
  choose a ha using hf
  choose b hb using hg
  refine ⟨∑ k, a k * b k, ?_⟩
  rw [coe_sum]
  exact Finset.sum_congr rfl fun k _ => by rw [ha, hb, EReal.coe_mul]

/-- Two to the power of the scores less their largest, summed against the values and divided by the sum of the powers, is the
    values averaged under the softmax of the scores times log 2. -/
theorem average {n : ℕ} (hn : 0 < n) (S v : Fin n → EReal) (hS : ∀ κ, ∃ a : ℝ, S κ = a) (c M M' : EReal)
    (hc : c = ((Real.log 2 : ℝ) : EReal))
    (hM : ∀ x, M ≤ x ↔ ∀ κ, S κ ≤ x) (hM' : ∀ x, M' ≤ x ↔ ∀ κ, S κ * c ≤ x) :
    Ideal.div (∑ κ, Ideal.exp2 (S κ - M) * v κ) (∑ κ, Ideal.exp2 (S κ - M))
      = ∑ κ, v κ * Ideal.div (Ideal.exp (S κ * c - M')) (∑ l, Ideal.exp (S l * c - M')) := by
  subst hc
  have hlog : (0 : ℝ) < Real.log 2 := Real.log_pos (by norm_num)
  choose a ha using hS
  haveI : Nonempty (Fin n) := ⟨⟨0, hn⟩⟩
  obtain ⟨κ0, h0⟩ := Finite.exists_max a
  have eM : M = ((a κ0 : ℝ) : EReal) := by
    apply le_antisymm
    · exact (hM _).2 fun κ => by rw [ha]; exact EReal.coe_le_coe_iff.2 (h0 κ)
    · rw [← ha]; exact (hM M).1 le_rfl κ0
  have eM' : M' = ((a κ0 * Real.log 2 : ℝ) : EReal) := by
    apply le_antisymm
    · refine (hM' _).2 fun κ => ?_
      rw [ha, ← EReal.coe_mul]
      exact EReal.coe_le_coe_iff.2 (mul_le_mul_of_nonneg_right (h0 κ) hlog.le)
    · have := (hM' M').1 le_rfl κ0
      rwa [ha, ← EReal.coe_mul] at this
  have e1 : ∀ κ, Ideal.exp2 (S κ - M) = ((Real.rpow 2 (a κ - a κ0) : ℝ) : EReal) := fun κ => by
    rw [ha, eM, ← EReal.coe_sub]; rfl
  have e2 : ∀ κ, Ideal.exp (S κ * ((Real.log 2 : ℝ) : EReal) - M') = ((Real.rpow 2 (a κ - a κ0) : ℝ) : EReal) := fun κ => by
    rw [ha, eM', ← EReal.coe_mul, ← EReal.coe_sub, ← sub_mul]
    show ((Real.exp _ : ℝ) : EReal) = _
    rw [show Real.rpow 2 (a κ - a κ0) = (2 : ℝ) ^ (a κ - a κ0) from rfl, Real.rpow_def_of_pos (by norm_num), mul_comm]
  simp only [e1, e2]
  have hL : 0 < ∑ κ, Real.rpow 2 (a κ - a κ0) :=
    Finset.sum_pos (fun κ _ => Real.rpow_pos_of_pos (by norm_num) _) Finset.univ_nonempty
  rw [← coe_sum, Ideal.div_coe hL.ne', sum_mul_coe _ _ (by positivity)]
  refine Finset.sum_congr rfl fun κ _ => ?_
  rw [Ideal.div_coe hL.ne', mul_comm (_ : EReal) (v κ), mul_assoc]

end Cert.Softmax

end
-- ==== Proof.GqaRows.lean ====
/- The attention of 256 query rows, read element by element: the row maximum, the row sum and the weighted values, chunk by
chunk. -/
module

public import proofs.«01_k».proof.Proof.GqaBlock
public import proofs.«01_k».proof.Proof.Softmax
public import Idealize.ShloMosaic.Lib.Pointwise

@[expose] public section

set_option maxRecDepth 16384

noncomputable section

namespace Cert.GqaIdeal.Block

open Cert.GqaIdeal Cert.GqaIdeal.Gen Idealize.ShloMosaic Idealize.SL.Sem

/-- A statement about each of 512 columns, one 128-lane tile at a time. -/
theorem forall512 (p : Fin 512 → Prop) : (∀ l : Fin 512, p l) ↔
    ∀ l : Fin 128, ((p ⟨l.val, by omega⟩ ∧ p ⟨128 + l.val, by omega⟩) ∧ p ⟨256 + l.val, by omega⟩) ∧ p ⟨384 + l.val, by omega⟩ := by
  constructor
  · intro h l
    exact ⟨⟨⟨h _, h _⟩, h _⟩, h _⟩
  · intro h l
    have hl := l.isLt
    rcases Nat.lt_or_ge l.val 128 with h1 | h1
    · exact (h ⟨l.val, h1⟩).1.1.1
    rcases Nat.lt_or_ge l.val 256 with h2 | h2
    · have := (h ⟨l.val - 128, by omega⟩).1.1.2
      rwa [show (⟨128 + (l.val - 128), _⟩ : Fin 512) = l from Fin.ext (by dsimp only; omega)] at this
    rcases Nat.lt_or_ge l.val 384 with h3 | h3
    · have := (h ⟨l.val - 256, by omega⟩).1.2
      rwa [show (⟨256 + (l.val - 256), _⟩ : Fin 512) = l from Fin.ext (by dsimp only; omega)] at this
    · have := (h ⟨l.val - 384, by omega⟩).2
      rwa [show (⟨384 + (l.val - 384), _⟩ : Fin 512) = l from Fin.ext (by dsimp only; omega)] at this

/-- A statement about each of 256 columns, one 128-lane tile at a time. -/
theorem forall256 (p : Fin 256 → Prop) : (∀ l : Fin 256, p l) ↔
    ∀ l : Fin 128, p ⟨l.val, by omega⟩ ∧ p ⟨128 + l.val, by omega⟩ := by
  constructor
  · intro h l
    exact ⟨h _, h _⟩
  · intro h l
    have hl := l.isLt
    rcases Nat.lt_or_ge l.val 128 with h1 | h1
    · exact (h ⟨l.val, h1⟩).1
    · have := (h ⟨l.val - 128, by omega⟩).2
      rwa [show (⟨128 + (l.val - 128), _⟩ : Fin 256) = l from Fin.ext (by dsimp only; omega)] at this

/-- A sum over 512 columns, one 128-lane tile at a time. -/
theorem sum512 (f : Fin 512 → EReal) : ∑ l : Fin 512, f l =
    ∑ l : Fin 128, (f ⟨l.val, by omega⟩ + f ⟨128 + l.val, by omega⟩ + f ⟨256 + l.val, by omega⟩ + f ⟨384 + l.val, by omega⟩) := by
  simp only [Finset.sum_add_distrib]
  rw [show (∑ l : Fin 512, f l) = ∑ l : Fin (128 + 128 + 128 + 128), f (Fin.cast rfl l) from rfl,
    Fin.sum_univ_add, Fin.sum_univ_add, Fin.sum_univ_add]
  rfl

/-- A sum over 256 columns, one 128-lane tile at a time. -/
theorem sum256 (f : Fin 256 → EReal) : ∑ l : Fin 256, f l =
    ∑ l : Fin 128, (f ⟨l.val, by omega⟩ + f ⟨128 + l.val, by omega⟩) := by
  simp only [Finset.sum_add_distrib]
  rw [show (∑ l : Fin 256, f l) = ∑ l : Fin (128 + 128), f (Fin.cast rfl l) from rfl, Fin.sum_univ_add]
  rfl

/-- The lane maxima after one more chunk are at most `x` when those before and the chunk's scores are. -/
theorem max4_le (a : FVec Ideal S256x128 .f32) (s : FVec Ideal S256x512 .f32) (r : Fin 256) (x : EReal) :
    (∀ l : Fin 128, max4 a s (ix2 r l) ≤ x) ↔ (∀ l : Fin 128, a (ix2 r l) ≤ x) ∧ ∀ l : Fin 512, s (ix2 r l) ≤ x := by
  rw [forall512, ← forall_and]
  refine forall_congr' fun l => ?_
  pointwise [max4, t0, t1, t2, t3]
  simp only [max_le_iff, and_assoc]

/-- The lane sums after one more chunk add up to those before and the chunk's sum. -/
theorem add4_sum (a : FVec Ideal S256x128 .f32) (s : FVec Ideal S256x512 .f32) (r : Fin 256) :
    ∑ l : Fin 128, add4 a s (ix2 r l) = ∑ l : Fin 128, a (ix2 r l) + ∑ l : Fin 512, s (ix2 r l) := by
  rw [sum512, ← Finset.sum_add_distrib]
  refine Finset.sum_congr rfl fun l _ => ?_
  pointwise [add4, t0, t1, t2, t3]
  simp only [add_assoc]

/-- A statement about each of 4352 columns, one chunk at a time. -/
theorem forall4352 (p : Fin 4352 → Prop) : (∀ κ : Fin 4352, p κ) ↔
    (∀ l : Fin 512, p ⟨l.val, by omega⟩) ∧ (∀ l : Fin 512, p ⟨512 + l.val, by omega⟩) ∧ (∀ l : Fin 512, p ⟨1024 + l.val, by omega⟩) ∧ (∀ l : Fin 512, p ⟨1536 + l.val, by omega⟩) ∧ (∀ l : Fin 512, p ⟨2048 + l.val, by omega⟩) ∧ (∀ l : Fin 512, p ⟨2560 + l.val, by omega⟩) ∧ (∀ l : Fin 512, p ⟨3072 + l.val, by omega⟩) ∧ (∀ l : Fin 512, p ⟨3584 + l.val, by omega⟩) ∧ ∀ l : Fin 256, p ⟨4096 + l.val, by omega⟩ := by
  constructor
  · intro h
    exact ⟨fun _ => h _, fun _ => h _, fun _ => h _, fun _ => h _, fun _ => h _, fun _ => h _, fun _ => h _, fun _ => h _, fun _ => h _⟩
  · rintro ⟨h0, h1, h2, h3, h4, h5, h6, h7, h8⟩ κ
    have hκ := κ.isLt
    have step : ∀ (o : ℕ) (n : ℕ) (ho : o + n ≤ 4352), (∀ l : Fin n, p ⟨o + l.val, by omega⟩) → o ≤ κ.val → κ.val < o + n → p κ := by
      intro o n ho h a b
      have := h ⟨κ.val - o, by omega⟩
      rwa [show (⟨o + (κ.val - o), _⟩ : Fin 4352) = κ from Fin.ext (by dsimp only; omega)] at this
    rcases Nat.lt_or_ge κ.val 512 with g | g
    · exact h0 ⟨κ.val, g⟩
    rcases Nat.lt_or_ge κ.val 1024 with g1 | g1
    · exact step 512 512 (by omega) h1 (by omega) (by omega)
    rcases Nat.lt_or_ge κ.val 1536 with g2 | g2
    · exact step 1024 512 (by omega) h2 (by omega) (by omega)
    rcases Nat.lt_or_ge κ.val 2048 with g3 | g3
    · exact step 1536 512 (by omega) h3 (by omega) (by omega)
    rcases Nat.lt_or_ge κ.val 2560 with g4 | g4
    · exact step 2048 512 (by omega) h4 (by omega) (by omega)
    rcases Nat.lt_or_ge κ.val 3072 with g5 | g5
    · exact step 2560 512 (by omega) h5 (by omega) (by omega)
    rcases Nat.lt_or_ge κ.val 3584 with g6 | g6
    · exact step 3072 512 (by omega) h6 (by omega) (by omega)
    rcases Nat.lt_or_ge κ.val 4096 with g7 | g7
    · exact step 3584 512 (by omega) h7 (by omega) (by omega)
    exact step 4096 256 (by omega) h8 (by omega) (by omega)

/-- A sum over 4352 columns, one chunk at a time. -/
theorem sum4352 (f : Fin 4352 → EReal) : ∑ κ : Fin 4352, f κ =
    (∑ l : Fin 512, f ⟨l.val, by omega⟩) + (∑ l : Fin 512, f ⟨512 + l.val, by omega⟩) + (∑ l : Fin 512, f ⟨1024 + l.val, by omega⟩) + (∑ l : Fin 512, f ⟨1536 + l.val, by omega⟩) + (∑ l : Fin 512, f ⟨2048 + l.val, by omega⟩) + (∑ l : Fin 512, f ⟨2560 + l.val, by omega⟩) + (∑ l : Fin 512, f ⟨3072 + l.val, by omega⟩) + (∑ l : Fin 512, f ⟨3584 + l.val, by omega⟩) + ∑ l : Fin 256, f ⟨4096 + l.val, by omega⟩ := by
  rw [show (∑ κ : Fin 4352, f κ) = ∑ κ : Fin (512 + 512 + 512 + 512 + 512 + 512 + 512 + 512 + 256), f (Fin.cast rfl κ) from rfl,
    Fin.sum_univ_add, Fin.sum_univ_add, Fin.sum_univ_add, Fin.sum_univ_add, Fin.sum_univ_add, Fin.sum_univ_add,
    Fin.sum_univ_add, Fin.sum_univ_add]
  rfl

/-- The maximum's starting value is minus infinity. -/
theorem start_eq : Ideal.ofBits .f32 0xFF800000#32 = ⊥ := by
  simp [Ideal.ofBits, Ideal.ieee]

/-- Nine chunks' maxima: the row maximum is at most `x` exactly when every score is. -/
theorem rowMax_le (s0 s1 s2 s3 s4 s5 s6 s7 : FVec Ideal S256x512 .f32) (s8 : FVec Ideal S256x256 .f32) (r : Fin 256) (x : EReal) :
    rowMax s0 s1 s2 s3 s4 s5 s6 s7 s8 (ix2 r 0) ≤ x ↔
      (∀ l : Fin 512, s0 (ix2 r l) ≤ x) ∧ (∀ l : Fin 512, s1 (ix2 r l) ≤ x) ∧ (∀ l : Fin 512, s2 (ix2 r l) ≤ x) ∧ (∀ l : Fin 512, s3 (ix2 r l) ≤ x) ∧ (∀ l : Fin 512, s4 (ix2 r l) ≤ x) ∧ (∀ l : Fin 512, s5 (ix2 r l) ≤ x) ∧ (∀ l : Fin 512, s6 (ix2 r l) ≤ x) ∧ (∀ l : Fin 512, s7 (ix2 r l) ≤ x) ∧ ∀ l : Fin 256, s8 (ix2 r l) ≤ x := by
  have e0 : (∀ l : Fin 128, maximumf (maximumf (maximumf (t0 s0) (t1 s0)) (t2 s0)) (t3 s0) (ix2 r l) ≤ x)
      ↔ ∀ l : Fin 512, s0 (ix2 r l) ≤ x := by
    rw [forall512]
    refine forall_congr' fun l => ?_
    pointwise [t0, t1, t2, t3]
    simp only [max_le_iff, and_assoc]
  unfold rowMax
  generalize hz : maximumf (maximumf (maximumf (t0 s0) (t1 s0)) (t2 s0)) (t3 s0) = z at e0 ⊢
  rw [← e0]
  have e8 : (∀ l : Fin 256, s8 (ix2 r l) ≤ x) ↔ ∀ l : Fin 128, c0 s8 (ix2 r l) ≤ x ∧ c1 s8 (ix2 r l) ≤ x := by
    rw [forall256]
    refine forall_congr' fun l => ?_
    pointwise [c0, c1]
  rw [e8]
  pointwise []
  rw [Finset.fold_max_le]
  simp only [max_le_iff, start_eq]
  simp only [max_le_iff, bot_le, Finset.mem_univ, true_and, forall_const, forall_and, max4_le, and_assoc, true_imp_iff]

/-- One chunk's weights. -/
theorem weight_at (mx : FVec Ideal S256x1 .f32) (s : FVec Ideal S256x512 .f32) (r : Fin 256) (l : Fin 512) :
    weight mx s (ix2 r l) = Ideal.exp2 (s (ix2 r l) - mx (ix2 r 0)) := by
  pointwise [weight]
  rfl

/-- The cached columns' weights. -/
theorem weightC_at (mx : FVec Ideal S256x1 .f32) (s : FVec Ideal S256x256 .f32) (r : Fin 256) (l : Fin 256) :
    weightC mx s (ix2 r l) = Ideal.exp2 (s (ix2 r l) - mx (ix2 r 0)) := by
  pointwise [weightC]
  rfl

/-- One chunk's weighted values. -/
theorem pv_at (p : FVec Ideal S256x512 .f32) (v : FVec Ideal S512x128 .bf16) (r : Fin 256) (d : Fin 128) :
    pv p v (ix2 r d) = ∑ l : Fin 512, p (ix2 r l) * v (ix2 l d) := by
  pointwise [pv]

/-- The cached columns' weighted values. -/
theorem pvC_at (p : FVec Ideal S256x256 .f32) (v : FVec Ideal S256x128 .f32) (r : Fin 256) (d : Fin 128) :
    pvC p v (ix2 r d) = ∑ l : Fin 256, p (ix2 r l) * v (ix2 l d) := by
  pointwise [pvC]

/-- One chunk's scores. -/
theorem score_at (q : FVec Ideal S256x128 .bf16) (k : FVec Ideal S512x128 .bf16) (r : Fin 256) (l : Fin 512) :
    score q k (ix2 r l) = ∑ d : Fin 128, q (ix2 r d) * k (ix2 l d) := by
  pointwise [score]

/-- The cached columns' scores. -/
theorem scoreC_at (q : FVec Ideal S256x128 .bf16) (k : FVec Ideal S256x128 .f32) (r : Fin 256) (l : Fin 256) :
    scoreC q k (ix2 r l) = ∑ d : Fin 128, q (ix2 r d) * k (ix2 l d) := by
  pointwise [scoreC]

/-- The weighted values over the weights' sum, chunk by chunk. -/
theorem normed_at (p0 p1 p2 p3 p4 p5 p6 p7 : FVec Ideal S256x512 .f32) (p8 : FVec Ideal S256x256 .f32)
    (v0 v1 v2 v3 v4 v5 v6 v7 : FVec Ideal S512x128 .bf16) (v8 : FVec Ideal S256x128 .f32) (r : Fin 256) (d : Fin 128) :
    normed p0 p1 p2 p3 p4 p5 p6 p7 p8 v0 v1 v2 v3 v4 v5 v6 v7 v8 (ix2 r d) =
      Ideal.div ((∑ l : Fin 512, p0 (ix2 r l) * v0 (ix2 l d)) + (∑ l : Fin 512, p1 (ix2 r l) * v1 (ix2 l d)) + (∑ l : Fin 512, p2 (ix2 r l) * v2 (ix2 l d)) + (∑ l : Fin 512, p3 (ix2 r l) * v3 (ix2 l d)) + (∑ l : Fin 512, p4 (ix2 r l) * v4 (ix2 l d)) + (∑ l : Fin 512, p5 (ix2 r l) * v5 (ix2 l d)) + (∑ l : Fin 512, p6 (ix2 r l) * v6 (ix2 l d)) + (∑ l : Fin 512, p7 (ix2 r l) * v7 (ix2 l d)) + ∑ l : Fin 256, p8 (ix2 r l) * v8 (ix2 l d))
        ((∑ l : Fin 512, p0 (ix2 r l)) + (∑ l : Fin 512, p1 (ix2 r l)) + (∑ l : Fin 512, p2 (ix2 r l)) + (∑ l : Fin 512, p3 (ix2 r l)) + (∑ l : Fin 512, p4 (ix2 r l)) + (∑ l : Fin 512, p5 (ix2 r l)) + (∑ l : Fin 512, p6 (ix2 r l)) + (∑ l : Fin 512, p7 (ix2 r l)) + ∑ l : Fin 256, p8 (ix2 r l)) := by
  have e0 : ∑ l : Fin 128, addf (addf (addf (t0 p0) (t1 p0)) (t2 p0)) (t3 p0) (ix2 r l) = ∑ l : Fin 512, p0 (ix2 r l) := by
    rw [sum512]
    refine Finset.sum_congr rfl fun l _ => ?_
    pointwise [t0, t1, t2, t3]
  unfold normed
  generalize hz : addf (addf (addf (t0 p0) (t1 p0)) (t2 p0)) (t3 p0) = z at e0 ⊢
  rw [← e0]
  have e8 : ∑ l : Fin 256, p8 (ix2 r l) = ∑ l : Fin 128, c0 p8 (ix2 r l) + ∑ l : Fin 128, c1 p8 (ix2 r l) := by
    rw [sum256, ← Finset.sum_add_distrib]
    refine Finset.sum_congr rfl fun l _ => ?_
    pointwise [c0, c1]
  rw [e8]
  pointwise []
  simp only [Finset.sum_add_distrib, add4_sum, pv_at, pvC_at, add_assoc]

/-- The key (or the value) of column `κ`: the block's 4096 rows, then the 256 cached rows. -/
def colAt (x : Vec Ideal S4096x128 .bf16) (y : Vec Ideal S256x128 .f32) (κ : Fin 4352) (k : Fin 128) : EReal :=
  if h : κ.val < 4096 then x (ix2 ⟨κ.val, h⟩ k) else y (ix2 ⟨κ.val - 4096, by omega⟩ k)

/-- The score of query row `r` against column `κ`. -/
def scoreAt (q : FVec Ideal S256x128 .bf16) (x1 : Vec Ideal S4096x128 .bf16) (x3 : Vec Ideal S256x128 .f32) (r : Fin 256)
    (κ : Fin 4352) : EReal := ∑ k : Fin 128, q (ix2 r k) * colAt x1 x3 κ k

theorem colAt_cached (x : Vec Ideal S4096x128 .bf16) (y : Vec Ideal S256x128 .f32) (l : Fin 256) (k : Fin 128) :
    y (ix2 l k) = colAt x y ⟨4096 + l.val, by omega⟩ k := by
  unfold colAt
  rw [dif_neg (by dsimp only; omega)]
  exact congrArg (fun a => y (ix2 a k)) (Fin.ext (by dsimp only; omega))

/-- Chunk 0 of the block's rows. -/
theorem k0_at (x : Vec Ideal S4096x128 .bf16) (y : Vec Ideal S256x128 .f32) (l : Fin 512) (k : Fin 128) :
    k0 x (ix2 l k) = colAt x y ⟨l.val, by omega⟩ k := by
  unfold colAt
  rw [dif_pos (by dsimp only; omega)]
  pointwise [k0]

/-- Chunk 1 of the block's rows. -/
theorem k1_at (x : Vec Ideal S4096x128 .bf16) (y : Vec Ideal S256x128 .f32) (l : Fin 512) (k : Fin 128) :
    k1 x (ix2 l k) = colAt x y ⟨512 + l.val, by omega⟩ k := by
  unfold colAt
  rw [dif_pos (by dsimp only; omega)]
  pointwise [k1]

/-- Chunk 2 of the block's rows. -/
theorem k2_at (x : Vec Ideal S4096x128 .bf16) (y : Vec Ideal S256x128 .f32) (l : Fin 512) (k : Fin 128) :
    k2 x (ix2 l k) = colAt x y ⟨1024 + l.val, by omega⟩ k := by
  unfold colAt
  rw [dif_pos (by dsimp only; omega)]
  pointwise [k2]

/-- Chunk 3 of the block's rows. -/
theorem k3_at (x : Vec Ideal S4096x128 .bf16) (y : Vec Ideal S256x128 .f32) (l : Fin 512) (k : Fin 128) :
    k3 x (ix2 l k) = colAt x y ⟨1536 + l.val, by omega⟩ k := by
  unfold colAt
  rw [dif_pos (by dsimp only; omega)]
  pointwise [k3]

/-- Chunk 4 of the block's rows. -/
theorem k4_at (x : Vec Ideal S4096x128 .bf16) (y : Vec Ideal S256x128 .f32) (l : Fin 512) (k : Fin 128) :
    k4 x (ix2 l k) = colAt x y ⟨2048 + l.val, by omega⟩ k := by
  unfold colAt
  rw [dif_pos (by dsimp only; omega)]
  pointwise [k4]

/-- Chunk 5 of the block's rows. -/
theorem k5_at (x : Vec Ideal S4096x128 .bf16) (y : Vec Ideal S256x128 .f32) (l : Fin 512) (k : Fin 128) :
    k5 x (ix2 l k) = colAt x y ⟨2560 + l.val, by omega⟩ k := by
  unfold colAt
  rw [dif_pos (by dsimp only; omega)]
  pointwise [k5]

/-- Chunk 6 of the block's rows. -/
theorem k6_at (x : Vec Ideal S4096x128 .bf16) (y : Vec Ideal S256x128 .f32) (l : Fin 512) (k : Fin 128) :
    k6 x (ix2 l k) = colAt x y ⟨3072 + l.val, by omega⟩ k := by
  unfold colAt
  rw [dif_pos (by dsimp only; omega)]
  pointwise [k6]

/-- Chunk 7 of the block's rows. -/
theorem k7_at (x : Vec Ideal S4096x128 .bf16) (y : Vec Ideal S256x128 .f32) (l : Fin 512) (k : Fin 128) :
    k7 x (ix2 l k) = colAt x y ⟨3584 + l.val, by omega⟩ k := by
  unfold colAt
  rw [dif_pos (by dsimp only; omega)]
  pointwise [k7]

/-- The attention of 256 query rows at an element: base-two powers of the scores less the row's largest, summed against the values,
over their sum. -/
theorem rows_at (q : FVec Ideal S256x128 .bf16) (x1 x2 : Vec Ideal S4096x128 .bf16) (x3 x4 : Vec Ideal S256x128 .f32) (r : Fin 256) (d : Fin 128) :
    ∃ M : EReal, (∀ x, M ≤ x ↔ ∀ κ, scoreAt q x1 x3 r κ ≤ x) ∧
      rows q x1 x2 x3 x4 (ix2 r d) = Ideal.div (∑ κ, Ideal.exp2 (scoreAt q x1 x3 r κ - M) * colAt x2 x4 κ d)
        (∑ κ, Ideal.exp2 (scoreAt q x1 x3 r κ - M)) := by
  refine ⟨rowMax (score q (k0 x1)) (score q (k1 x1)) (score q (k2 x1)) (score q (k3 x1)) (score q (k4 x1)) (score q (k5 x1)) (score q (k6 x1)) (score q (k7 x1)) (scoreC q x3) (ix2 r 0), fun x => ?_, ?_⟩
  · rw [rowMax_le, forall4352]
    simp only [score_at, scoreC_at, k0_at _ x3, k1_at _ x3, k2_at _ x3, k3_at _ x3, k4_at _ x3, k5_at _ x3, k6_at _ x3, k7_at _ x3, colAt_cached x1 x3]
    rfl
  · unfold rows attended applied
    rw [normed_at, sum4352, sum4352]
    simp only [weight_at, weightC_at]
    generalize rowMax (score q (k0 x1)) (score q (k1 x1)) (score q (k2 x1)) (score q (k3 x1)) (score q (k4 x1)) (score q (k5 x1)) (score q (k6 x1)) (score q (k7 x1)) (scoreC q x3) (ix2 r 0) = M
    simp only [score_at, scoreC_at, k0_at _ x3, k1_at _ x3, k2_at _ x3, k3_at _ x3, k4_at _ x3, k5_at _ x3, k6_at _ x3, k7_at _ x3, colAt_cached x1 x3]
    simp only [colAt_cached x2 x4]
    rfl

/-- The four heads, stacked: row `512·j + i` is row `i` of head `j`. -/
theorem stacked_at (x0 : Vec Ideal S512x512 .bf16) (i : Fin 2048) (d : Fin 128) :
    stacked x0 (ix2 i d) = x0 (ix2 ⟨i.val % 512, by omega⟩ ⟨128 * (i.val / 512) + d.val, by omega⟩) := by
  have hi := i.isLt
  pointwise [stacked]
  split_ifs <;> exact congrArg₂ (fun a b => x0 (ix2 a b)) (Fin.ext (by dsimp only; omega)) (Fin.ext (by dsimp only; omega))

/-- Eight row blocks, one after another. -/
theorem joined_at (o0 o1 o2 o3 o4 o5 o6 o7 : FVec Ideal S256x128 .f32) (f : ℕ → Fin 128 → EReal)
    (h0 : ∀ (r : Fin 256) d, o0 (ix2 r d) = f (0 + r.val) d) (h1 : ∀ (r : Fin 256) d, o1 (ix2 r d) = f (256 + r.val) d) (h2 : ∀ (r : Fin 256) d, o2 (ix2 r d) = f (512 + r.val) d) (h3 : ∀ (r : Fin 256) d, o3 (ix2 r d) = f (768 + r.val) d) (h4 : ∀ (r : Fin 256) d, o4 (ix2 r d) = f (1024 + r.val) d) (h5 : ∀ (r : Fin 256) d, o5 (ix2 r d) = f (1280 + r.val) d) (h6 : ∀ (r : Fin 256) d, o6 (ix2 r d) = f (1536 + r.val) d) (h7 : ∀ (r : Fin 256) d, o7 (ix2 r d) = f (1792 + r.val) d) (i : Fin 2048) (d : Fin 128) :
    joined o0 o1 o2 o3 o4 o5 o6 o7 (ix2 i d) = f i.val d := by
  have hi := i.isLt
  pointwise [joined]
  simp only [h0, h1, h2, h3, h4, h5, h6, h7]
  split_ifs <;> exact congrArg (fun a => f a d) (by omega)

/-- The four heads side by side again. -/
theorem unstacked_at (o : FVec Ideal S2048x128 .f32) (f : ℕ → Fin 128 → EReal) (h : ∀ (i : Fin 2048) d, o (ix2 i d) = f i.val d) (i j : Fin 512) :
    unstacked o (ix2 i j) = f (512 * (j.val / 128) + i.val) ⟨j.val % 128, by omega⟩ := by
  have hj := j.isLt
  pointwise [unstacked]
  simp only [h]
  split_ifs <;> exact congrArg₂ f (by omega) (Fin.ext (by dsimp only; omega))

end Cert.GqaIdeal.Block

end
-- ==== Proof.GqaSpec.lean ====
/-
  What both programs of the attention call are compared over: one query row's attention, and the keys' (or the values') columns
  as functions of the argument arrays.
-/
module

public import Idealize.ShloMosaic.PureOps
public import Idealize.ShloMosaic.Lib.Pointwise

@[expose] public section

set_option maxRecDepth 16384

noncomputable section

namespace Cert.GqaSpec

open Idealize.ShloMosaic

/-- The columns of keys (or values) of prompt `b` and key head `h`: 4096 rows of the projection, from column `o`, then the 256
cached rows. -/
def col (A : Fin 8192 → Fin 4608 → EReal) (C : Fin 512 → Fin 256 → EReal) (o : ℕ) (ho : o + 256 ≤ 4608) (b h : ℕ) (hb : b < 2) (hh : h < 2)
    (κ : Fin 4352) (k : Fin 128) : EReal :=
  if hκ : κ.val < 4096 then A ⟨4096 * b + κ.val, by omega⟩ ⟨o + 128 * h + k.val, by omega⟩
  else C ⟨256 * b + (κ.val - 4096), by omega⟩ ⟨128 * h + k.val, by omega⟩

/-- One query row's attention with base-two powers: the values' average weighted by two to the scores less the largest. -/
def attn (q : Fin 128 → EReal) (K V : Fin 4352 → Fin 128 → EReal) (d : Fin 128) : EReal :=
  Ideal.div (∑ κ, Ideal.exp2 ((∑ k, q k * K κ k) - Finset.univ.sup fun κ => ∑ k, q k * K κ k) * V κ d)
    (∑ κ, Ideal.exp2 ((∑ k, q k * K κ k) - Finset.univ.sup fun κ => ∑ k, q k * K κ k))

/-- One query row's attention as a softmax: the values weighted by their share of the exponentials of the scores, each score
multiplied by `c`. -/
def softmax (c : EReal) (q : Fin 128 → EReal) (K V : Fin 4352 → Fin 128 → EReal) (d : Fin 128) : EReal :=
  ∑ κ, V κ d * Ideal.div (Ideal.exp ((∑ k, q k * K κ k) * c - Finset.univ.sup fun κ => (∑ k, q k * K κ k) * c))
    (∑ l, Ideal.exp ((∑ k, q k * K l k) * c - Finset.univ.sup fun κ => (∑ k, q k * K κ k) * c))

/-- An element of the attention over the argument arrays. -/
def out (f : (Fin 128 → EReal) → (Fin 4352 → Fin 128 → EReal) → (Fin 4352 → Fin 128 → EReal) → Fin 128 → EReal)
    (A : Fin 8192 → Fin 4608 → EReal) (C D : Fin 512 → Fin 256 → EReal) (i : Fin 8192) (j : Fin 1024) : EReal :=
  f (fun k => A i ⟨128 * (j.val / 128) + k.val, by omega⟩)
    (col A C 1024 (by omega) (i.val / 4096) (j.val / 512) (by omega) (by omega))
    (col A D 1280 (by omega) (i.val / 4096) (j.val / 512) (by omega) (by omega)) ⟨j.val % 128, by omega⟩

end Cert.GqaSpec

end
-- ==== Proof.GqaValue.lean ====
/-
  The array the attention kernel leaves: each grid point's block read element by element, and the blocks put together.
-/
module

public import proofs.«01_k».proof.Proof.Gen.GqaIdeal.Value
public import proofs.«01_k».proof.Proof.GqaRows
public import proofs.«01_k».proof.Proof.GqaSpec
public import Idealize.ShloMosaic.Lib.Pipeline.ValueKit

@[expose] public section

set_option maxRecDepth 16384

noncomputable section

namespace Cert.GqaIdeal.Block

open Cert.GqaIdeal Cert.GqaIdeal.Gen Idealize.ShloMosaic Idealize.ShloMosaic.TcCoe Idealize.SL.Sem Idealize.ShloMosaic.Tactic
open Idealize.ShloMosaic.Pipeline (Dat)
open Cert.GqaSpec

/-- The attention of 256 query rows at an element, as the attention of its row. -/
theorem rows_eq (q : FVec Ideal S256x128 .bf16) (x1 x2 : Vec Ideal S4096x128 .bf16) (x3 x4 : Vec Ideal S256x128 .f32) (r : Fin 256) (d : Fin 128) :
    rows q x1 x2 x3 x4 (ix2 r d) = attn (fun k => q (ix2 r k)) (colAt x1 x3) (colAt x2 x4) d := by
  obtain ⟨M, hM, h⟩ := rows_at q x1 x2 x3 x4 r d
  have e : M = Finset.univ.sup fun κ => scoreAt q x1 x3 r κ :=
    eq_of_forall_ge_iff fun x => by rw [hM, Finset.sup_le_iff]; simp
  rw [h, e]
  rfl

/-- Row `n` of the stacked heads: row `n % 512` of head `n / 512`. -/
def headRow (x0 : Vec Ideal S512x512 .bf16) (x1 x2 : Vec Ideal S4096x128 .bf16) (x3 x4 : Vec Ideal S256x128 .f32) (n : ℕ) (d : Fin 128) : EReal :=
  attn (fun k => x0 (ix2 ⟨n % 512, by omega⟩ ⟨128 * (n / 512 % 4) + k.val, by omega⟩)) (colAt x1 x3) (colAt x2 x4) d

/-- A grid point's block at an element: row `i` of the query head that column `j` is of. -/
theorem blockOut_at (x0 : Vec Ideal S512x512 .bf16) (x1 x2 : Vec Ideal S4096x128 .bf16) (x3 x4 : Vec Ideal S256x128 .f32) (i j : Fin 512) :
    blockOut x0 x1 x2 x3 x4 (ix2 i j) =
      attn (fun k => x0 (ix2 i ⟨128 * (j.val / 128) + k.val, by omega⟩)) (colAt x1 x3) (colAt x2 x4) ⟨j.val % 128, by omega⟩ := by
  unfold blockOut
  rw [unstacked_at _ (headRow x0 x1 x2 x3 x4)]
  · unfold headRow
    congr 1
    funext k
    exact congrArg₂ (fun a b => x0 (ix2 a b)) (Fin.ext (by dsimp only; omega)) (Fin.ext (by dsimp only; omega))
  · refine joined_at _ _ _ _ _ _ _ _ (headRow x0 x1 x2 x3 x4) ?_ ?_ ?_ ?_ ?_ ?_ ?_ ?_ <;> intro r d <;> rw [rows_eq] <;> unfold headRow <;>
      congr 1 <;> funext k <;> pointwise [] <;> rw [stacked_at] <;>
      exact congrArg₂ (fun a b => x0 (ix2 a b)) (Fin.ext (by first | omega | (dsimp only; omega) | dsimp only)) (Fin.ext (by first | omega | (dsimp only; omega) | dsimp only))

/-- The index maps. -/
theorem idx : ∀ t : Fin cfg0.N, win0_0.index t = ![8 * (t.val / 16) + t.val % 8, t.val / 8 % 2] ∧
    win0_1.index t = ![t.val / 16, 8 + t.val / 8 % 2] ∧ win0_2.index t = ![t.val / 16, 10 + t.val / 8 % 2] ∧
    win0_3.index t = ![t.val / 16, t.val / 8 % 2] ∧ win0_4.index t = ![t.val / 16, t.val / 8 % 2] ∧
    win0_5.index t = ![8 * (t.val / 16) + t.val % 8, t.val / 8 % 2] :=
  (by decide +kernel : ∀ t : Fin grid0.N, _)

variable (m : (ℓ : Loc nD τ sig) → Buf (Elt Ideal) ℓ)

/-- The array after the grid, over the argument arrays. -/
def G (c : Dev nD) : S8192x1024.Idx → EReal := fun y =>
  out attn (fun a b => m ((c.tc : Thread nD τ).loc main_arg0) (ix2 a b)) (fun a b => m ((c.tc : Thread nD τ).loc main_arg1) (ix2 a b))
    (fun a b => m ((c.tc : Thread nD τ).loc main_arg2) (ix2 a b)) (y 0) (y 1)

/-- The keys' block and the cached keys' block of a grid point are the columns of its prompt and key head. -/
theorem keys_at (c : Dev nD) (t : Fin cfg0.N) (b h : ℕ) (hb : b < 2) (hh : h < 2) (eb : b = t.val / 16) (eh : h = t.val / 8 % 2) (κ : Fin 4352) (k : Fin 128) :
    colAt (iblk m c 1 t) (iblk m c 3 t) κ k = col (fun a b => m ((c.tc : Thread nD τ).loc main_arg0) (ix2 a b))
      (fun a b => m ((c.tc : Thread nD τ).loc main_arg1) (ix2 a b)) 1024 (by omega) b h hb hh κ k := by
  subst eb; subst eh
  unfold colAt col
  split
  · blk_ext [iblk, V, idx t]
  · blk_ext [iblk, V, idx t]

/-- The values' block and the cached values' block likewise. -/
theorem values_at (c : Dev nD) (t : Fin cfg0.N) (b h : ℕ) (hb : b < 2) (hh : h < 2) (eb : b = t.val / 16) (eh : h = t.val / 8 % 2) (κ : Fin 4352) (k : Fin 128) :
    colAt (iblk m c 2 t) (iblk m c 4 t) κ k = col (fun a b => m ((c.tc : Thread nD τ).loc main_arg0) (ix2 a b))
      (fun a b => m ((c.tc : Thread nD τ).loc main_arg2) (ix2 a b)) 1280 (by omega) b h hb hh κ k := by
  subst eb; subst eh
  unfold colAt col
  split
  · blk_ext [iblk, V, idx t]
  · blk_ext [iblk, V, idx t]

/-- The array after the grid. -/
theorem final (c : Dev nD) : (dats m 0 c).arrAt 5 cfg0.N = G m c := by
  refine (dats m 0 c).arrAt_eq_of_covers 5 _ (by decide +kernel) fun t hf y => ?_
  blk_simp
  rw [after0_5]
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) y = _
  rw [out_eq]
  idx_vars y
  rw [blockOut_at]
  have e0 : (((View.whole main_v0).slice (win0_5.rect t)).emb (ix2 y0 y1) 0 : ℕ) = 512 * (8 * (t.val / 16) + t.val % 8) + y0.val := by
    blk_simp [idx t]
    omega
  have e1 : (((View.whole main_v0).slice (win0_5.rect t)).emb (ix2 y0 y1) 1 : ℕ) = 512 * (t.val / 8 % 2) + y1.val := by
    blk_simp [idx t]
    omega
  have ht : t.val < 32 := t.isLt
  have hK := fun κ k => keys_at m c t (((View.whole main_v0).slice (win0_5.rect t)).emb (ix2 y0 y1) 0 / 4096 : ℕ)
    (((View.whole main_v0).slice (win0_5.rect t)).emb (ix2 y0 y1) 1 / 512 : ℕ) (by omega) (by omega) (by omega) (by omega) κ k
  have hV := fun κ k => values_at m c t (((View.whole main_v0).slice (win0_5.rect t)).emb (ix2 y0 y1) 0 / 4096 : ℕ)
    (((View.whole main_v0).slice (win0_5.rect t)).emb (ix2 y0 y1) 1 / 512 : ℕ) (by omega) (by omega) (by omega) (by omega) κ k
  rw [show colAt (iblk m c 1 t) (iblk m c 3 t) = _ from funext fun κ => funext fun k => hK κ k,
    show colAt (iblk m c 2 t) (iblk m c 4 t) = _ from funext fun κ => funext fun k => hV κ k]
  show _ = out attn _ _ _ _ _
  unfold out
  congr 1
  · funext k
    blk_ext [iblk, V, idx t]
  · refine Fin.ext ?_
    dsimp only
    omega

end Cert.GqaIdeal.Block

end
-- ==== Proof.GqaRefValue.lean ====
/-
  The reference of the attention call, read element by element.
-/
module

public import proofs.«01_k».proof.Proof.Gen.GqaRefIdeal.Run
public import proofs.«01_k».proof.Proof.GqaSpec
public import proofs.«01_k».proof.Proof.GqaRows
public import Idealize.ShloMosaic.Lib.Pipeline.ValueKit

@[expose] public section

set_option maxRecDepth 16384

noncomputable section

namespace Cert.GqaRefIdeal.Spec

open Cert.GqaRefIdeal Cert.GqaRefIdeal.Gen Cert.GqaRefIdeal.Value Idealize.ShloMosaic Idealize.ShloMosaic.TcCoe Idealize.SL.Sem Idealize.ShloMosaic.Tactic
open Cert.GqaSpec

/-- The projection's rows, by prompt. -/
def rows (A0 : FVec Ideal S8192x4608 .bf16) : FVec Ideal S2x4096x4608 .f32 :=
  shapeCast _ (extf .f32 A0 bitsLt_bf16_f32) shapeCasts_S8192x4608_S2x4096x4608

/-- The keys: the projection's columns from 1024, then the cached rows. -/
def keys (A0 : FVec Ideal S8192x4608 .bf16) (A1 : FVec Ideal S512x256 .f32) : FVec Ideal S2x4352x2x128 .f32 :=
  concatenate S2x4352x2x128 1 [⟨S2x4096x2x128, (shapeCast _ (extractStridedSlice S2x4096x256 ![0, 0, 1024] (rows A0) slices_S2x4096x4608_S2x4096x256_0_0_1024) shapeCasts_S2x4096x256_S2x4096x2x128)⟩, ⟨S2x256x2x128, (shapeCast _ A1 shapeCasts_S512x256_S2x256x2x128)⟩] concatenates_S2x4096x2x128_S2x256x2x128_S2x4352x2x128_d1

/-- The values: the projection's columns from 1280, then the cached rows. -/
def values (A0 : FVec Ideal S8192x4608 .bf16) (A2 : FVec Ideal S512x256 .f32) : FVec Ideal S2x4352x2x128 .f32 :=
  concatenate S2x4352x2x128 1 [⟨S2x4096x2x128, (shapeCast _ (extractStridedSlice S2x4096x256 ![0, 0, 1280] (rows A0) slices_S2x4096x4608_S2x4096x256_0_0_1280) shapeCasts_S2x4096x256_S2x4096x2x128)⟩, ⟨S2x256x2x128, (shapeCast _ A2 shapeCasts_S512x256_S2x256x2x128)⟩] concatenates_S2x4096x2x128_S2x256x2x128_S2x4352x2x128_d1

/-- The queries, by prompt, key head and head of the group. -/
def queries (A0 : FVec Ideal S8192x4608 .bf16) : FVec Ideal S2x4096x2x4x128 .f32 :=
  shapeCast _ (extractStridedSlice S2x4096x1024 ![0, 0, 0] (rows A0) slices_S2x4096x4608_S2x4096x1024_0_0_0) shapeCasts_S2x4096x1024_S2x4096x2x4x128

/-- The scores, times the logarithm of two. -/
def scores (K : FVec Ideal S2x4352x2x128 .f32) (Q : FVec Ideal S2x4096x2x4x128 .f32) : FVec Ideal S2x2x4x4096x4352 .f32 :=
  mulf (transpose S2x2x4x4096x4352 [0, 1, 4, 3, 2] (Host.dotGeneral dot_S2x4352x2x128_S2x4096x2x4x128_S2x2x4352x4096x4_3_4_1_13_02_02 none K Q) transposes_S2x2x4352x4096x4_S2x2x4x4096x4352_0_1_4_3_2) (broadcastInDim S2x2x4x4096x4352 ![] bcast_S_S2x2x4x4096x4352 (Host.log (constant S_ .f32 0x40000000#32)))

/-- Each row's largest score. -/
def peak (S : FVec Ideal S2x2x4x4096x4352 .f32) : FVec Ideal S2x2x4x4096 .f32 :=
  maximumf (broadcastInDim S2x2x4x4096 ![] bcast_S_S2x2x4x4096 (constant S_ .f32 0xFF800000#32)) (Host.reduce FloatOps.maximumf S (constant S_ .f32 0xFF800000#32) reducesTo_S2x2x4x4096x4352_S2x2x4x4096_d4 h_S_)

/-- A row's number at each of its columns. -/
def spread (v : FVec Ideal S2x2x4x4096 .f32) : FVec Ideal S2x2x4x4096x4352 .f32 :=
  broadcastInDim S2x2x4x4096x4352 ![0, 1, 2, 3, 4] bcast_S2x2x4x4096x1_S2x2x4x4096x4352_0_1_2_3_4 (broadcastInDim S2x2x4x4096x1 ![0, 1, 2, 3] bcast_S2x2x4x4096_S2x2x4x4096x1_0_1_2_3 v)

/-- The exponentials of the scores less the row's largest. -/
def expo (S : FVec Ideal S2x2x4x4096x4352 .f32) : FVec Ideal S2x2x4x4096x4352 .f32 := Host.exp (subf S (spread (peak S)))

/-- Each row's sum. -/
def total (E : FVec Ideal S2x2x4x4096x4352 .f32) : FVec Ideal S2x2x4x4096 .f32 :=
  Host.reduceAdd E (constant S_ .f32 0x00000000#32) reducesTo_S2x2x4x4096x4352_S2x2x4x4096_d4 h_S_

/-- The weighted values, laid out by row and head. -/
def applied (P : FVec Ideal S2x2x4x4096x4352 .f32) (W : FVec Ideal S2x4352x2x128 .f32) : FVec Ideal S8192x1024 .bf16 :=
  truncf .bf16 (shapeCast _ (transpose S2x4096x2x4x128 [0, 4, 1, 3, 2] (Host.dotGeneral dot_S2x4352x2x128_S2x2x4x4096x4352_S2x2x128x4x4096_1_4_3_23_02_01 none W P) transposes_S2x2x128x4x4096_S2x4096x2x4x128_0_4_1_3_2) shapeCasts_S2x4096x2x4x128_S8192x1024) bitsLt_bf16_f32

variable (m : (ℓ : Loc nD τ sig) → Buf (Elt Ideal) ℓ)

/-- The reference's result in these stages. -/
theorem res_eq (c : Dev nD) : res_main_v31 m c =
    applied (Host.divf (expo (scores (keys (m ((c.tc : Thread nD τ).loc main_arg0)) (m ((c.tc : Thread nD τ).loc main_arg1))) (queries (m ((c.tc : Thread nD τ).loc main_arg0)))))
      (spread (total (expo (scores (keys (m ((c.tc : Thread nD τ).loc main_arg0)) (m ((c.tc : Thread nD τ).loc main_arg1))) (queries (m ((c.tc : Thread nD τ).loc main_arg0))))))))
      (values (m ((c.tc : Thread nD τ).loc main_arg0)) (m ((c.tc : Thread nD τ).loc main_arg2))) := rfl

/-- The keys at an element. -/
theorem keys_at (A0 : FVec Ideal S8192x4608 .bf16) (A1 : FVec Ideal S512x256 .f32) (b : Fin 2) (κ : Fin 4352) (h : Fin 2) (k : Fin 128) :
    keys A0 A1 (ix4 b κ h k) = col (fun a b => A0 (ix2 a b)) (fun a b => A1 (ix2 a b)) 1024 (by omega) b.val h.val b.isLt h.isLt κ k := by
  pointwise [keys, rows]
  unfold col
  split
  · exact congrArg₂ (fun a b => A0 (ix2 a b)) (Fin.ext (by dsimp only; omega)) (Fin.ext (by dsimp only; omega))
  · exact congrArg₂ (fun a b => A1 (ix2 a b)) (Fin.ext (by dsimp only; omega)) (Fin.ext (by dsimp only; omega))

/-- The values at an element. -/
theorem values_at (A0 : FVec Ideal S8192x4608 .bf16) (A2 : FVec Ideal S512x256 .f32) (b : Fin 2) (κ : Fin 4352) (h : Fin 2) (k : Fin 128) :
    values A0 A2 (ix4 b κ h k) = col (fun a b => A0 (ix2 a b)) (fun a b => A2 (ix2 a b)) 1280 (by omega) b.val h.val b.isLt h.isLt κ k := by
  pointwise [values, rows]
  unfold col
  split
  · exact congrArg₂ (fun a b => A0 (ix2 a b)) (Fin.ext (by dsimp only; omega)) (Fin.ext (by dsimp only; omega))
  · exact congrArg₂ (fun a b => A2 (ix2 a b)) (Fin.ext (by dsimp only; omega)) (Fin.ext (by dsimp only; omega))

/-- The queries at an element. -/
theorem queries_at (A0 : FVec Ideal S8192x4608 .bf16) (b : Fin 2) (i : Fin 4096) (h : Fin 2) (g : Fin 4) (k : Fin 128) :
    queries A0 (ix5 b i h g k) = A0 (ix2 ⟨4096 * b.val + i.val, by omega⟩ ⟨512 * h.val + 128 * g.val + k.val, by omega⟩) := by
  pointwise [queries, rows]
  exact congrArg₂ (fun a b => A0 (ix2 a b)) (Fin.ext (by dsimp only; omega)) (Fin.ext (by dsimp only; omega))

/-- The logarithm of the constant two. -/
theorem log_two : Ideal.log (Ideal.ofBits .f32 0x40000000#32) = ((Real.log 2 : ℝ) : EReal) := by
  rw [show Ideal.ofBits .f32 0x40000000#32 = ((2 : ℝ) : EReal) by simp [Ideal.ofBits, Ideal.ieee, -EReal.coe_mul]; norm_num]
  show (if (2 : ℝ) ≤ 0 then (⊥ : EReal) else _) = _
  rw [if_neg (by norm_num)]

/-- The scores at an element. -/
theorem scores_at (K : FVec Ideal S2x4352x2x128 .f32) (Q : FVec Ideal S2x4096x2x4x128 .f32) (b h : Fin 2) (g : Fin 4) (i : Fin 4096) (κ : Fin 4352) :
    scores K Q (ix5 b h g i κ) = (∑ k : Fin 128, Q (ix5 b i h g k) * K (ix4 b κ h k)) * ((Real.log 2 : ℝ) : EReal) := by
  pointwise [scores]
  rw [log_two]
  exact congrArg (· * _) (Finset.sum_congr rfl fun _ _ => mul_comm _ _)

/-- A fold by the maximum is at most `c` exactly when its start and every element are. -/
theorem foldl_max_le {ι : Type} (x : ι → EReal) (c : EReal) : ∀ (l : List ι) (a : EReal),
    l.foldl (fun r i => max r (x i)) a ≤ c ↔ a ≤ c ∧ ∀ i ∈ l, x i ≤ c
  | [], a => by simp
  | i :: l, a => by
    rw [List.foldl_cons, foldl_max_le x c l]
    simp [and_assoc]

/-- A maximum over dropped axes is at most `c` exactly when its start and every element that drops to the position are. -/
theorem reduce_max_le {s t u : Shape} {axes : List (Fin s.rank)} (x : FVec Ideal s .f32) (init : FVec Ideal u .f32) (h : s.ReducesTo axes t)
    (hu : 0 < u.numel) (j : t.Idx) (c : EReal) :
    @LE.le EReal _ (Host.reduce FloatOps.maximumf x init h hu j : Ideal .f32) c ↔
      @LE.le EReal _ (init (Shape.Idx.first hu)) c ∧ ∀ i, h.drop i = j → @LE.le EReal _ (x i) c := by
  rw [Host.reduce_eq_foldl]
  refine (foldl_max_le (fun i => x i) c _ _).trans (and_congr Iff.rfl ⟨fun hl i hi => hl i ?_, fun hl i hi => hl i ?_⟩)
  · rw [List.mem_filter]
    exact ⟨List.mem_map.2 ⟨s.rowMajor i, List.mem_finRange _, Equiv.symm_apply_apply _ _⟩, by simp [hi]⟩
  · rw [List.mem_filter] at hi
    simpa using hi.2

/-- The larger of two vectors at an element. -/
theorem maximumf_at {s : Shape} (x y : FVec Ideal s .f32) (i : s.Idx) : maximumf x y i = @max EReal _ (x i) (y i) := rfl

/-- A constant copied along every axis, at an element. -/
theorem copied_at {s t : Shape} (b : BitVec 32) (d : Fin s.rank → Fin t.rank) (h : s.BroadcastsInDim t d) (i : t.Idx) :
    broadcastInDim t d h (constant (F := Ideal) s .f32 b) i = Ideal.ofBits .f32 b := rfl

/-- Dropping the last axis keeps the other four. -/
theorem drop_eq (i : S2x2x4x4096x4352.Idx) : reducesTo_S2x2x4x4096x4352_S2x2x4x4096_d4.drop i = ix4 (i 0) (i 1) (i 2) (i 3) := by
  funext a
  match a with
  | 0 => exact Fin.ext (Shape.ReducesTo.drop_apply_val_of_eq _ i 0 0)
  | 1 => exact Fin.ext (Shape.ReducesTo.drop_apply_val_of_eq _ i 1 1)
  | 2 => exact Fin.ext (Shape.ReducesTo.drop_apply_val_of_eq _ i 2 2)
  | 3 => exact Fin.ext (Shape.ReducesTo.drop_apply_val_of_eq _ i 3 3)

/-- Each row's largest score. -/
theorem peak_at (S : FVec Ideal S2x2x4x4096x4352 .f32) (b h : Fin 2) (g : Fin 4) (i : Fin 4096) :
    peak S (ix4 b h g i) = Finset.univ.sup fun κ : Fin 4352 => S (ix5 b h g i κ) := by
  unfold peak
  generalize hz : Host.reduce FloatOps.maximumf S (constant S_ .f32 0xFF800000#32) reducesTo_S2x2x4x4096x4352_S2x2x4x4096_d4 h_S_ = z
  rw [maximumf_at, copied_at, Cert.GqaIdeal.Block.start_eq]
  refine eq_of_forall_ge_iff fun c => ?_
  rw [Finset.sup_le_iff, max_le_iff, ← hz]
  refine (and_congr Iff.rfl (reduce_max_le S _ _ _ _ c)).trans ⟨fun h2 κ _ => h2.2.2 _ (drop_eq _), fun h2 => ⟨bot_le, ?_, fun j e => ?_⟩⟩
  · exact le_of_eq_of_le Cert.GqaIdeal.Block.start_eq bot_le
  · rw [drop_eq] at e
    have e0 : j 0 = b := congrFun e 0
    have e1 : j 1 = h := congrFun e 1
    have e2 : j 2 = g := congrFun e 2
    have e3 : j 3 = i := congrFun e 3
    rw [eq_ix5 j, e0, e1, e2, e3]
    exact h2 _ (Finset.mem_univ _)

/-- A row's number at one of its columns. -/
theorem spread_at (v : FVec Ideal S2x2x4x4096 .f32) (b h : Fin 2) (g : Fin 4) (i : Fin 4096) (κ : Fin 4352) :
    spread v (ix5 b h g i κ) = v (ix4 b h g i) := by
  pointwise [spread]

/-- The exponentials at an element. -/
theorem expo_at (S : FVec Ideal S2x2x4x4096x4352 .f32) (b h : Fin 2) (g : Fin 4) (i : Fin 4096) (κ : Fin 4352) :
    expo S (ix5 b h g i κ) = Ideal.exp (S (ix5 b h g i κ) - peak S (ix4 b h g i)) := by
  unfold expo
  show Ideal.exp (S (ix5 b h g i κ) - spread (peak S) (ix5 b h g i κ)) = _
  rw [spread_at]

/-- Each row's sum. -/
theorem total_at (E : FVec Ideal S2x2x4x4096x4352 .f32) (b h : Fin 2) (g : Fin 4) (i : Fin 4096) :
    total E (ix4 b h g i) = ∑ κ : Fin 4352, E (ix5 b h g i κ) := by
  pointwise [total]

/-- The result at an element from the weights and the values. -/
theorem applied_at (P : FVec Ideal S2x2x4x4096x4352 .f32) (W : FVec Ideal S2x4352x2x128 .f32) (i : Fin 8192) (j : Fin 1024) :
    applied P W (ix2 i j) = ∑ κ : Fin 4352, W (ix4 ⟨i.val / 4096, by omega⟩ κ ⟨j.val / 512, by omega⟩ ⟨j.val % 128, by omega⟩) *
      P (ix5 ⟨i.val / 4096, by omega⟩ ⟨j.val / 512, by omega⟩ ⟨j.val / 128 % 4, by omega⟩ ⟨i.val % 4096, by omega⟩ κ) := by
  pointwise [applied]

/-- The reference's result at an element. -/
theorem res_at (c : Dev nD) (i : Fin 8192) (j : Fin 1024) : res_main_v31 m c (ix2 i j) =
    out (softmax ((Real.log 2 : ℝ) : EReal)) (fun a b => m ((c.tc : Thread nD τ).loc main_arg0) (ix2 a b))
      (fun a b => m ((c.tc : Thread nD τ).loc main_arg1) (ix2 a b)) (fun a b => m ((c.tc : Thread nD τ).loc main_arg2) (ix2 a b)) i j := by
  rw [res_eq]
  refine (applied_at _ _ i j).trans ?_
  unfold out softmax
  have eq : ∀ k : Fin 128, queries (m ((c.tc : Thread nD τ).loc main_arg0)) (ix5 ⟨i.val / 4096, by omega⟩ ⟨i.val % 4096, by omega⟩ ⟨j.val / 512, by omega⟩ ⟨j.val / 128 % 4, by omega⟩ k)
      = m ((c.tc : Thread nD τ).loc main_arg0) (ix2 i ⟨128 * (j.val / 128) + k.val, by omega⟩) := by
    intro k
    rw [queries_at]
    exact congrArg₂ (fun a b => m ((c.tc : Thread nD τ).loc main_arg0) (ix2 a b)) (Fin.ext (by dsimp only; omega)) (Fin.ext (by dsimp only; omega))
  refine Finset.sum_congr rfl fun κ _ => ?_
  show _ * Ideal.div (expo _ _) (spread _ _) = _
  rw [values_at, spread_at, total_at, expo_at, peak_at]
  simp only [expo_at, peak_at, scores_at, keys_at, eq]

end Cert.GqaRefIdeal.Spec

end
-- ==== Proof.GqaEquation.lean ====
/-
  The attention call: where the queries, the keys and the cached keys are finite, the kernel's array is the reference's.
-/
module

public import proofs.«01_k».proof.Defs
public import proofs.«01_k».proof.Proof.GqaValue
public import proofs.«01_k».proof.Proof.GqaRefValue
public import proofs.«01_k».proof.Proof.Softmax
public import proofs.«01_k».proof.Proof.Gen.Pre_finite_qk
public import Idealize.ShloMosaic.Lib.ReduceAll

@[expose] public section

set_option maxRecDepth 16384

noncomputable section

namespace Cert.GqaEquation

open Idealize.ShloMosaic Idealize.ShloMosaic.TcCoe Idealize.SL.Sem Idealize.ShloMosaic.Tactic
open Cert.GqaSpec

/-- The two spellings of an element agree where the queries, the keys and the cached keys are finite. -/
theorem out_eq (A : Fin 8192 → Fin 4608 → EReal) (C D : Fin 512 → Fin 256 → EReal)
    (hA : ∀ a b, b.val < 1280 → ∃ r : ℝ, A a b = r) (hC : ∀ a b, ∃ r : ℝ, C a b = r) (i : Fin 8192) (j : Fin 1024) :
    out attn A C D i j = out (softmax ((Real.log 2 : ℝ) : EReal)) A C D i j := by
  unfold out attn softmax
  refine Cert.Softmax.average (by omega) _ _ (fun κ => Cert.Softmax.real_dot _ _ (fun k => ?_) fun k => ?_) _ _ _ rfl (fun x => ?_) fun x => ?_
  · exact hA _ _ (by dsimp only; omega)
  · unfold col
    split
    · exact hA _ _ (by dsimp only; omega)
    · exact hC _ _
  · rw [Finset.sup_le_iff]; simp
  · rw [Finset.sup_le_iff]; simp

/-- A number whose absolute value is below infinity is real. -/
theorem real_of_abs (x : EReal) (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

/-- What the precondition says: the queries and the keys, and the cached keys, are real numbers. -/
theorem finite_of_pre (A0 : FVec Ideal Cert.Pre_finite_qk.S8192x4608 .bf16) (A1 A2 : FVec Ideal Cert.Pre_finite_qk.S512x256 .f32)
    (h : Cert.Pre_finite_qk.fn (F := Ideal) A0 A1 A2 = fun _ => 1#1) :
    (∀ (a : Fin 8192) (b : Fin 4608), b.val < 1280 → ∃ r : ℝ, A0 (ix2 a b) = (r : EReal)) ∧ ∀ (a : Fin 512) (b : Fin 256), ∃ r : ℝ, A1 (ix2 a b) = (r : EReal) := by
  have h0 := congrFun h (Shape.Idx.first Cert.Pre_finite_qk.Facts.h_S_)
  unfold Cert.Pre_finite_qk.fn at h0
  dsimp only at h0
  have h1 := IntOp.andi_eq_one.1 h0
  haveI : Subsingleton Cert.Pre_finite_qk.S_.Idx := ⟨fun a b => funext fun k => k.elim0⟩
  constructor
  · intro a b hb
    have h2 := Host.reduce_andi_all _ _ _ _ _ h1.1 (ix2 a ⟨b.val, hb⟩)
    refine real_of_abs _ ?_
    rw [← h2]
    pointwise []
    rfl
  · intro a b
    have h2 := Host.reduce_andi_all _ _ _ _ _ h1.2 (ix2 a b)
    refine real_of_abs _ ?_
    rw [← h2]
    pointwise []
    rfl

/-- From memories that agree on the arguments, the reference's result is the kernel's array. -/
theorem equation (m : (ℓ : Loc Cert.GqaIdeal.nD Cert.GqaIdeal.τ Cert.GqaIdeal.sig) → Buf (Elt Ideal) ℓ)
    (m' : (ℓ : Loc Cert.GqaRefIdeal.nD Cert.GqaRefIdeal.τ Cert.GqaRefIdeal.sig) → Buf (Elt Ideal) ℓ) (hp : Cert.Pre_GqaIdeal_finite_qk m)
    (c : Dev Cert.GqaIdeal.nD)
    (h0 : m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0))
    (h1 : m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1))
    (h2 : m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) :
    Cert.GqaRefIdeal.Value.res_main_v31 m' c = Cert.GqaIdeal.Block.G m c := by
  obtain ⟨hA, hC⟩ := finite_of_pre _ _ _ (hp c)
  funext y
  rw [eq_ix2 y]
  refine (Cert.GqaRefIdeal.Spec.res_at m' c (y 0) (y 1)).trans ?_
  rw [h0, h1, h2]
  exact (out_eq _ _ _ hA hC (y 0) (y 1)).symm

end Cert.GqaEquation

end
-- ==== Proof.DiffBlock.lean ====
/- What one grid point of the differential attention kernel stores, as a term over the blocks it reads. -/
module

public import proofs.«01_k».proof.Proof.Gen.DiffIdeal.Value
public import Idealize.ShloMosaic.Lib.Pipeline.ReadBack
public import Idealize.ShloMosaic.Lib.Pipeline.ValueKit

@[expose] public section

set_option maxRecDepth 16384

noncomputable section

namespace Cert.DiffIdeal.Block

open Cert.DiffIdeal Cert.DiffIdeal.Gen Idealize.ShloMosaic Idealize.ShloMosaic.TcCoe Idealize.SL.Sem Idealize.ShloMosaic.Tactic

variable {F : FTy → Type} [FloatOps F]

/-- The scores of 128 query rows against 512 keys. -/
def score (q : FVec F S128x128 .bf16) (k : FVec F S512x128 .bf16) : FVec F S128x512 .f32 :=
  matmul dot_S128x128_S512x128_S128x512_1_1_0_0_n_n none q k (constant S128x512 .f32 0x00000000#32)

/-- The scores of 128 query rows against the 256 cached keys. -/
def scoreC (q : FVec F S128x128 .bf16) (k : FVec F S256x128 .f32) : FVec F S128x256 .f32 :=
  matmul dot_S128x128_S256x128_S128x256_1_1_0_0_n_n none q (truncf .bf16 k bitsLt_bf16_f32)
    (constant S128x256 .f32 0x00000000#32)

/-- The four 128-lane tiles of a chunk of 512 columns. -/
def t0 (s : FVec F S128x512 .f32) : FVec F S128x128 .f32 := extractStridedSlice S128x128 ![0, 0] s slices_S128x512_o0_0_S128x128
@[inherit_doc t0]
def t1 (s : FVec F S128x512 .f32) : FVec F S128x128 .f32 := extractStridedSlice S128x128 ![0, 128] s slices_S128x512_o0_128_S128x128
@[inherit_doc t0]
def t2 (s : FVec F S128x512 .f32) : FVec F S128x128 .f32 := extractStridedSlice S128x128 ![0, 256] s slices_S128x512_o0_256_S128x128
@[inherit_doc t0]
def t3 (s : FVec F S128x512 .f32) : FVec F S128x128 .f32 := extractStridedSlice S128x128 ![0, 384] s slices_S128x512_o0_384_S128x128
/-- The two 128-lane tiles of the 256 cached columns. -/
def c0 (s : FVec F S128x256 .f32) : FVec F S128x128 .f32 := extractStridedSlice S128x128 ![0, 0] s slices_S128x256_o0_0_S128x128
@[inherit_doc c0]
def c1 (s : FVec F S128x256 .f32) : FVec F S128x128 .f32 := extractStridedSlice S128x128 ![0, 128] s slices_S128x256_o0_128_S128x128

/-- The lane tiles of one chunk combined by maximum, into what the chunks before left. -/
def max4 (a : FVec F S128x128 .f32) (s : FVec F S128x512 .f32) : FVec F S128x128 .f32 :=
  maximumf (maximumf (maximumf (maximumf a (t0 s)) (t1 s)) (t2 s)) (t3 s)

/-- The lane tiles of one chunk added to what the chunks before left. -/
def add4 (a : FVec F S128x128 .f32) (s : FVec F S128x512 .f32) : FVec F S128x128 .f32 :=
  addf (addf (addf (addf a (t0 s)) (t1 s)) (t2 s)) (t3 s)

/-- The row maxima of the nine chunks of scores, as a column. -/
def rowMax (s0 s1 s2 s3 s4 s5 s6 s7 : FVec F S128x512 .f32) (s8 : FVec F S128x256 .f32) : FVec F S128x1 .f32 :=
  shapeCast S128x1 (multiReduction .maximumf [1] S128
    (maximumf (maximumf (max4 (max4 (max4 (max4 (max4 (max4 (max4
      (maximumf (maximumf (maximumf (t0 s0) (t1 s0)) (t2 s0)) (t3 s0)) s1) s2) s3) s4) s5) s6) s7) (c0 s8)) (c1 s8))
    0xFF800000#32 reduces_S128x128_S128 (.inl rfl) rfl) shapeCasts_S128_S128x1

/-- The weights of one chunk: two to the power of the stored scores minus the row maxima. -/
def weight (mx : FVec F S128x1 .f32) (s : FVec F S128x512 .f32) : FVec F S128x512 .f32 :=
  exp2 (subf (shapeCast S128x512 s shapeCasts_S128x512_S128x512) (broadcastTo S128x512 mx broadcasts_S128x1_S128x512))

/-- The weights of the cached columns. -/
def weightC (mx : FVec F S128x1 .f32) (s : FVec F S128x256 .f32) : FVec F S128x256 .f32 :=
  exp2 (subf (shapeCast S128x256 s shapeCasts_S128x256_S128x256) (broadcastTo S128x256 mx broadcasts_S128x1_S128x256))

/-- One chunk's weights times its values. -/
def pv (p : FVec F S128x512 .f32) (v : FVec F S512x256 .bf16) : FVec F S128x256 .f32 :=
  matmul dot_S128x512_S512x256_S128x256_1_0_0_1_n_n none (truncf .bf16 p bitsLt_bf16_f32) v
    (constant S128x256 .f32 0x00000000#32)

/-- The cached columns' weights times the cached values. -/
def pvC (p : FVec F S128x256 .f32) (v : FVec F S256x256 .f32) : FVec F S128x256 .f32 :=
  matmul dot_S128x256_S256x256_S128x256_1_0_0_1_n_n none (truncf .bf16 p bitsLt_bf16_f32)
    (truncf .bf16 v bitsLt_bf16_f32) (constant S128x256 .f32 0x00000000#32)

/-- Weighted values over the sum of the weights, from the nine chunks' weights and values. -/
def normed (p0 p1 p2 p3 p4 p5 p6 p7 : FVec F S128x512 .f32) (p8 : FVec F S128x256 .f32)
    (v0 v1 v2 v3 v4 v5 v6 v7 : FVec F S512x256 .bf16) (v8 : FVec F S256x256 .f32) : FVec F S128x256 .f32 :=
  divf (addf (addf (addf (addf (addf (addf (addf (addf (pv p0 v0) (pv p1 v1)) (pv p2 v2)) (pv p3 v3)) (pv p4 v4))
      (pv p5 v5)) (pv p6 v6)) (pv p7 v7)) (pvC p8 v8))
    (broadcastTo S128x256 (shapeCast S128x1 (multiReduction .add [1] S128
      (addf (addf (add4 (add4 (add4 (add4 (add4 (add4 (add4
        (addf (addf (addf (t0 p0) (t1 p0)) (t2 p0)) (t3 p0)) p1) p2) p3) p4) p5) p6) p7) (c0 p8)) (c1 p8))
      0x00000000#32 reduces_S128x128_S128 (.inl rfl) rfl) shapeCasts_S128_S128x1) broadcasts_S128x1_S128x256)

/-- The nine chunks' scores turned into weights, under the row maxima `mx`, and applied to the values. -/
def applied (mx : FVec F S128x1 .f32) (s0 s1 s2 s3 s4 s5 s6 s7 : FVec F S128x512 .f32) (s8 : FVec F S128x256 .f32)
    (v0 v1 v2 v3 v4 v5 v6 v7 : FVec F S512x256 .bf16) (v8 : FVec F S256x256 .f32) : FVec F S128x256 .f32 :=
  normed (weight mx s0) (weight mx s1) (weight mx s2) (weight mx s3) (weight mx s4) (weight mx s5) (weight mx s6)
    (weight mx s7) (weightC mx s8) v0 v1 v2 v3 v4 v5 v6 v7 v8

/-- The attention of 128 query rows from their scores. -/
def attended (s0 s1 s2 s3 s4 s5 s6 s7 : FVec F S128x512 .f32) (s8 : FVec F S128x256 .f32)
    (v0 v1 v2 v3 v4 v5 v6 v7 : FVec F S512x256 .bf16) (v8 : FVec F S256x256 .f32) : FVec F S128x256 .f32 :=
  applied (rowMax s0 s1 s2 s3 s4 s5 s6 s7 s8) s0 s1 s2 s3 s4 s5 s6 s7 s8 v0 v1 v2 v3 v4 v5 v6 v7 v8

/-- 512 rows of the keys' block, in one of its two halves of 128 columns. -/
def k0 (x : Vec F S4096x256 .bf16) : Vec F S512x128 .bf16 := View.ld x (Rect.unit (s := S4096x256) ![0, 0] S512x128.size inb_S4096x256_S512x128_0_0)
@[inherit_doc k0]
def k1 (x : Vec F S4096x256 .bf16) : Vec F S512x128 .bf16 := View.ld x (Rect.unit (s := S4096x256) ![512, 0] S512x128.size inb_S4096x256_S512x128_512_0)
@[inherit_doc k0]
def k2 (x : Vec F S4096x256 .bf16) : Vec F S512x128 .bf16 := View.ld x (Rect.unit (s := S4096x256) ![1024, 0] S512x128.size inb_S4096x256_S512x128_1024_0)
@[inherit_doc k0]
def k3 (x : Vec F S4096x256 .bf16) : Vec F S512x128 .bf16 := View.ld x (Rect.unit (s := S4096x256) ![1536, 0] S512x128.size inb_S4096x256_S512x128_1536_0)
@[inherit_doc k0]
def k4 (x : Vec F S4096x256 .bf16) : Vec F S512x128 .bf16 := View.ld x (Rect.unit (s := S4096x256) ![2048, 0] S512x128.size inb_S4096x256_S512x128_2048_0)
@[inherit_doc k0]
def k5 (x : Vec F S4096x256 .bf16) : Vec F S512x128 .bf16 := View.ld x (Rect.unit (s := S4096x256) ![2560, 0] S512x128.size inb_S4096x256_S512x128_2560_0)
@[inherit_doc k0]
def k6 (x : Vec F S4096x256 .bf16) : Vec F S512x128 .bf16 := View.ld x (Rect.unit (s := S4096x256) ![3072, 0] S512x128.size inb_S4096x256_S512x128_3072_0)
@[inherit_doc k0]
def k7 (x : Vec F S4096x256 .bf16) : Vec F S512x128 .bf16 := View.ld x (Rect.unit (s := S4096x256) ![3584, 0] S512x128.size inb_S4096x256_S512x128_3584_0)
@[inherit_doc k0]
def l0 (x : Vec F S4096x256 .bf16) : Vec F S512x128 .bf16 := View.ld x (Rect.unit (s := S4096x256) ![0, 128] S512x128.size inb_S4096x256_S512x128_0_128)
@[inherit_doc k0]
def l1 (x : Vec F S4096x256 .bf16) : Vec F S512x128 .bf16 := View.ld x (Rect.unit (s := S4096x256) ![512, 128] S512x128.size inb_S4096x256_S512x128_512_128)
@[inherit_doc k0]
def l2 (x : Vec F S4096x256 .bf16) : Vec F S512x128 .bf16 := View.ld x (Rect.unit (s := S4096x256) ![1024, 128] S512x128.size inb_S4096x256_S512x128_1024_128)
@[inherit_doc k0]
def l3 (x : Vec F S4096x256 .bf16) : Vec F S512x128 .bf16 := View.ld x (Rect.unit (s := S4096x256) ![1536, 128] S512x128.size inb_S4096x256_S512x128_1536_128)
@[inherit_doc k0]
def l4 (x : Vec F S4096x256 .bf16) : Vec F S512x128 .bf16 := View.ld x (Rect.unit (s := S4096x256) ![2048, 128] S512x128.size inb_S4096x256_S512x128_2048_128)
@[inherit_doc k0]
def l5 (x : Vec F S4096x256 .bf16) : Vec F S512x128 .bf16 := View.ld x (Rect.unit (s := S4096x256) ![2560, 128] S512x128.size inb_S4096x256_S512x128_2560_128)
@[inherit_doc k0]
def l6 (x : Vec F S4096x256 .bf16) : Vec F S512x128 .bf16 := View.ld x (Rect.unit (s := S4096x256) ![3072, 128] S512x128.size inb_S4096x256_S512x128_3072_128)
@[inherit_doc k0]
def l7 (x : Vec F S4096x256 .bf16) : Vec F S512x128 .bf16 := View.ld x (Rect.unit (s := S4096x256) ![3584, 128] S512x128.size inb_S4096x256_S512x128_3584_128)
/-- 512 rows of the values' block. -/
def w0 (x : Vec F S4096x256 .bf16) : Vec F S512x256 .bf16 := View.ld x (Rect.unit (s := S4096x256) ![0, 0] S512x256.size inb_S4096x256_S512x256_0_0)
@[inherit_doc w0]
def w1 (x : Vec F S4096x256 .bf16) : Vec F S512x256 .bf16 := View.ld x (Rect.unit (s := S4096x256) ![512, 0] S512x256.size inb_S4096x256_S512x256_512_0)
@[inherit_doc w0]
def w2 (x : Vec F S4096x256 .bf16) : Vec F S512x256 .bf16 := View.ld x (Rect.unit (s := S4096x256) ![1024, 0] S512x256.size inb_S4096x256_S512x256_1024_0)
@[inherit_doc w0]
def w3 (x : Vec F S4096x256 .bf16) : Vec F S512x256 .bf16 := View.ld x (Rect.unit (s := S4096x256) ![1536, 0] S512x256.size inb_S4096x256_S512x256_1536_0)
@[inherit_doc w0]
def w4 (x : Vec F S4096x256 .bf16) : Vec F S512x256 .bf16 := View.ld x (Rect.unit (s := S4096x256) ![2048, 0] S512x256.size inb_S4096x256_S512x256_2048_0)
@[inherit_doc w0]
def w5 (x : Vec F S4096x256 .bf16) : Vec F S512x256 .bf16 := View.ld x (Rect.unit (s := S4096x256) ![2560, 0] S512x256.size inb_S4096x256_S512x256_2560_0)
@[inherit_doc w0]
def w6 (x : Vec F S4096x256 .bf16) : Vec F S512x256 .bf16 := View.ld x (Rect.unit (s := S4096x256) ![3072, 0] S512x256.size inb_S4096x256_S512x256_3072_0)
@[inherit_doc w0]
def w7 (x : Vec F S4096x256 .bf16) : Vec F S512x256 .bf16 := View.ld x (Rect.unit (s := S4096x256) ![3584, 0] S512x256.size inb_S4096x256_S512x256_3584_0)

/-- One of the two halves of the cached keys. -/
def kc (x : Vec F S256x256 .f32) : Vec F S256x128 .f32 := View.ld x (Rect.unit (s := S256x256) ![0, 0] S256x128.size inb_S256x256_S256x128_0_0)
@[inherit_doc kc]
def lc (x : Vec F S256x256 .f32) : Vec F S256x128 .f32 := View.ld x (Rect.unit (s := S256x256) ![0, 128] S256x128.size inb_S256x256_S256x128_0_128)
/-- One of the two halves of the queries. -/
def qa (x : Vec F S1024x256 .bf16) : Vec F S1024x128 .bf16 := View.ld x (Rect.unit (s := S1024x256) ![0, 0] S1024x128.size inb_S1024x256_S1024x128_0_0)
@[inherit_doc qa]
def qb (x : Vec F S1024x256 .bf16) : Vec F S1024x128 .bf16 := View.ld x (Rect.unit (s := S1024x256) ![0, 128] S1024x128.size inb_S1024x256_S1024x128_0_128)

/-- The attention of 128 query rows over the first half of the keys. -/
def rowsA (q : FVec F S128x128 .bf16) (x1 x2 : Vec F S4096x256 .bf16) (x3 x4 : Vec F S256x256 .f32) : FVec F S128x256 .f32 :=
  attended (score q (k0 x1)) (score q (k1 x1)) (score q (k2 x1)) (score q (k3 x1)) (score q (k4 x1)) (score q (k5 x1)) (score q (k6 x1)) (score q (k7 x1))
    (scoreC q (kc x3)) (w0 x2) (w1 x2) (w2 x2) (w3 x2) (w4 x2) (w5 x2) (w6 x2) (w7 x2) x4

/-- The attention of 128 query rows over the second half of the keys. -/
def rowsB (q : FVec F S128x128 .bf16) (x1 x2 : Vec F S4096x256 .bf16) (x3 x4 : Vec F S256x256 .f32) : FVec F S128x256 .f32 :=
  attended (score q (l0 x1)) (score q (l1 x1)) (score q (l2 x1)) (score q (l3 x1)) (score q (l4 x1)) (score q (l5 x1)) (score q (l6 x1)) (score q (l7 x1))
    (scoreC q (lc x3)) (w0 x2) (w1 x2) (w2 x2) (w3 x2) (w4 x2) (w5 x2) (w6 x2) (w7 x2) x4

/-- Eight row blocks, one after another. -/
def joined (o0 o1 o2 o3 o4 o5 o6 o7 : FVec F S128x256 .f32) : FVec F S1024x256 .f32 :=
  concatenate S1024x256 0 [⟨S128x256, o0⟩, ⟨S128x256, o1⟩, ⟨S128x256, o2⟩, ⟨S128x256, o3⟩, ⟨S128x256, o4⟩, ⟨S128x256, o5⟩, ⟨S128x256, o6⟩, ⟨S128x256, o7⟩] concatenates_S128x256_S128x256_S128x256_S128x256_S128x256_S128x256_S128x256_S128x256_S1024x256_d0

/-- The first attention map of all the block's query rows. -/
def halfA (q : FVec F S1024x128 .bf16) (x1 x2 : Vec F S4096x256 .bf16) (x3 x4 : Vec F S256x256 .f32) : FVec F S1024x256 .f32 :=
  joined
    (rowsA (extractStridedSlice S128x128 ![0, 0] q slices_S1024x128_o0_0_S128x128) x1 x2 x3 x4)
    (rowsA (extractStridedSlice S128x128 ![128, 0] q slices_S1024x128_o128_0_S128x128) x1 x2 x3 x4)
    (rowsA (extractStridedSlice S128x128 ![256, 0] q slices_S1024x128_o256_0_S128x128) x1 x2 x3 x4)
    (rowsA (extractStridedSlice S128x128 ![384, 0] q slices_S1024x128_o384_0_S128x128) x1 x2 x3 x4)
    (rowsA (extractStridedSlice S128x128 ![512, 0] q slices_S1024x128_o512_0_S128x128) x1 x2 x3 x4)
    (rowsA (extractStridedSlice S128x128 ![640, 0] q slices_S1024x128_o640_0_S128x128) x1 x2 x3 x4)
    (rowsA (extractStridedSlice S128x128 ![768, 0] q slices_S1024x128_o768_0_S128x128) x1 x2 x3 x4)
    (rowsA (extractStridedSlice S128x128 ![896, 0] q slices_S1024x128_o896_0_S128x128) x1 x2 x3 x4)

/-- The second attention map of all the block's query rows. -/
def halfB (q : FVec F S1024x128 .bf16) (x1 x2 : Vec F S4096x256 .bf16) (x3 x4 : Vec F S256x256 .f32) : FVec F S1024x256 .f32 :=
  joined
    (rowsB (extractStridedSlice S128x128 ![0, 0] q slices_S1024x128_o0_0_S128x128) x1 x2 x3 x4)
    (rowsB (extractStridedSlice S128x128 ![128, 0] q slices_S1024x128_o128_0_S128x128) x1 x2 x3 x4)
    (rowsB (extractStridedSlice S128x128 ![256, 0] q slices_S1024x128_o256_0_S128x128) x1 x2 x3 x4)
    (rowsB (extractStridedSlice S128x128 ![384, 0] q slices_S1024x128_o384_0_S128x128) x1 x2 x3 x4)
    (rowsB (extractStridedSlice S128x128 ![512, 0] q slices_S1024x128_o512_0_S128x128) x1 x2 x3 x4)
    (rowsB (extractStridedSlice S128x128 ![640, 0] q slices_S1024x128_o640_0_S128x128) x1 x2 x3 x4)
    (rowsB (extractStridedSlice S128x128 ![768, 0] q slices_S1024x128_o768_0_S128x128) x1 x2 x3 x4)
    (rowsB (extractStridedSlice S128x128 ![896, 0] q slices_S1024x128_o896_0_S128x128) x1 x2 x3 x4)

/-- The weight of the second map. -/
def lam (x : Vec F S4x128 .f32) : FVec F S1x1 .f32 := k0_pay1 x

/-- The first map less the second one times its weight. -/
def mixed (l : FVec F S1x1 .f32) (a b : FVec F S1024x256 .f32) : FVec F S1024x256 .f32 :=
  subf a (mulf (broadcastTo S1024x256 l broadcasts_S1x1_S1024x256) b)

/-- Each row over the square root of its mean square, times the gains and a constant. -/
def scaled (o : FVec F S1024x256 .f32) (g : FVec F S1x256 .f32) : FVec F S1024x256 .bf16 :=
  truncf .bf16 (mulf (mulf (mulf o (broadcastTo S1024x256 (rsqrt (addf (divf (shapeCast S1024x1 (multiReduction .add [1] S1024 (mulf o o) 0x00000000#32 reduces_S1024x256_S1024 (.inl rfl) rfl) shapeCasts_S1024_S1024x1) (broadcast S1024x1 (Scalar.ofBits .f32 0x43800000#32))) (broadcast S1024x1 (Scalar.ofBits .f32 0x358637BD#32)))) broadcasts_S1024x1_S1024x256)) (broadcastTo S1024x256 g broadcasts_S1x256_S1024x256)) (broadcast S1024x256 (Scalar.ofBits .f32 0x3F4CCCCD#32))) bitsLt_bf16_f32

/-- What one grid point leaves in the output block. -/
def blockOut (x0 : Vec F S1024x256 .bf16) (x1 x2 : Vec F S4096x256 .bf16) (x3 x4 : Vec F S256x256 .f32) (x5 : Vec F S4x128 .f32) (x6 : Vec F S1x256 .f32) :
    FVec F S1024x256 .bf16 :=
  scaled (mixed (lam x5) (halfA (qa x0) x1 x2 x3 x4) (halfB (qb x0) x1 x2 x3 x4)) x6

/-- The run's contents of the output block are `blockOut` of the input blocks. -/
theorem out_eq (c : Dev nD) (i : grid0.Coords) (arg3 : Memref sig .tc .vmem S1024x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S4x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S1024x4352 .f32) (harg11 : arg11.IsWhole)
    (x0 : Vec F S1024x256 .bf16) (x1 : Vec F S4096x256 .bf16) (x2 : Vec F S4096x256 .bf16) (x3 : Vec F S256x256 .f32) (x4 : Vec F S256x256 .f32) (x5 : Vec F S4x128 .f32) (x6 : Vec F S1x256 .f32) :
    out0_A_7 c i arg3 harg3 arg4 harg4 arg5 harg5 arg6 harg6 arg7 harg7 arg8 harg8 arg9 harg9 arg10 harg10 arg11 harg11 x0 x1 x2 x3 x4 x5 x6
      = blockOut x0 x1 x2 x3 x4 x5 x6 := by
  frame_open
  simp (disch := decide) only [↓ View.readCov_skip, ↓ View.readCov_cons_toLoadRect, ↓ View.readCov_fill]
  frame_out
  rfl

end Cert.DiffIdeal.Block
-- ==== Proof.DiffSpec.lean ====
/-
  What both programs of the differential attention call are compared over: one query row's attention maps, their difference, and
  the keys' and the values' columns as functions of the argument arrays.
-/
module

public import Idealize.ShloMosaic.PureOps
public import Idealize.ShloMosaic.Lib.Pointwise

@[expose] public section

set_option maxRecDepth 16384

noncomputable section

namespace Cert.DiffSpec

open Idealize.ShloMosaic

/-- The columns of keys (or values) of prompt `b` and head `h`: 4096 rows of the projection, from column `o`, then the 256
cached rows. -/
def col (A : Fin 8192 → Fin 4608 → EReal) (C : Fin 512 → Fin 1024 → EReal) (o : ℕ) (ho : o + 1024 ≤ 4608) (b h : ℕ) (hb : b < 2) (hh : h < 4)
    (κ : Fin 4352) (k : Fin 256) : EReal :=
  if hκ : κ.val < 4096 then A ⟨4096 * b + κ.val, by omega⟩ ⟨o + 256 * h + k.val, by omega⟩
  else C ⟨256 * b + (κ.val - 4096), by omega⟩ ⟨256 * h + k.val, by omega⟩

/-- One query row's attention with base-two powers: the values' average weighted by two to the scores less the largest. -/
def attn (q : Fin 128 → EReal) (K : Fin 4352 → Fin 128 → EReal) (V : Fin 4352 → Fin 256 → EReal) (d : Fin 256) : EReal :=
  Ideal.div (∑ κ, Ideal.exp2 ((∑ k, q k * K κ k) - Finset.univ.sup fun κ => ∑ k, q k * K κ k) * V κ d)
    (∑ κ, Ideal.exp2 ((∑ k, q k * K κ k) - Finset.univ.sup fun κ => ∑ k, q k * K κ k))

/-- One query row's softmax: column `κ`'s share of the exponentials of the scores, each score multiplied by `c`. -/
def share (c : EReal) (q : Fin 128 → EReal) (K : Fin 4352 → Fin 128 → EReal) (κ : Fin 4352) : EReal :=
  Ideal.div (Ideal.exp ((∑ k, q k * K κ k) * c - Finset.univ.sup fun κ => (∑ k, q k * K κ k) * c))
    (∑ l, Ideal.exp ((∑ k, q k * K l k) * c - Finset.univ.sup fun κ => (∑ k, q k * K κ k) * c))

/-- The weight of the second map. -/
def weight2 (L : Fin 4 → Fin 128 → EReal) : EReal :=
  Ideal.exp (∑ k, L 0 k * L 1 k) - Ideal.exp (∑ k, L 2 k * L 3 k) + Ideal.ofBits .f32 0x3E4CCCCD#32

/-- The first map's values less `l` times the second map's: each map attends with its own half of the query and the keys. -/
def mix (l : EReal) (q : Fin 256 → EReal) (K V : Fin 4352 → Fin 256 → EReal) (d : Fin 256) : EReal :=
  attn (fun k => q ⟨k.val, by omega⟩) (fun κ k => K κ ⟨k.val, by omega⟩) V d
    - l * attn (fun k => q ⟨128 + k.val, by omega⟩) (fun κ k => K κ ⟨128 + k.val, by omega⟩) V d

/-- The values weighted by the first softmax less `l` times the second. -/
def mixRef (c l : EReal) (q : Fin 256 → EReal) (K V : Fin 4352 → Fin 256 → EReal) (d : Fin 256) : EReal :=
  ∑ κ, V κ d * (share c (fun k => q ⟨k.val, by omega⟩) (fun κ k => K κ ⟨k.val, by omega⟩) κ
    - l * share c (fun k => q ⟨128 + k.val, by omega⟩) (fun κ k => K κ ⟨128 + k.val, by omega⟩) κ)

/-- A row over the square root of its mean square, times the gains and a constant. -/
def scale (o g : Fin 256 → EReal) (d : Fin 256) : EReal :=
  o d * Ideal.rsqrt (Ideal.div (∑ e, o e * o e) (Ideal.ofBits .f32 0x43800000#32) + Ideal.ofBits .f32 0x358637BD#32) * g d
    * Ideal.ofBits .f32 0x3F4CCCCD#32

/-- An element of the differential attention over the argument arrays. -/
def out (f : EReal → (Fin 256 → EReal) → (Fin 4352 → Fin 256 → EReal) → (Fin 4352 → Fin 256 → EReal) → Fin 256 → EReal)
    (A : Fin 8192 → Fin 4608 → EReal) (C D : Fin 512 → Fin 1024 → EReal) (L : Fin 4 → Fin 128 → EReal) (g : Fin 256 → EReal)
    (i : Fin 8192) (j : Fin 1024) : EReal :=
  scale (f (weight2 L) (fun k => A i ⟨1536 + 256 * (j.val / 256) + k.val, by omega⟩)
    (col A C 2560 (by omega) (i.val / 4096) (j.val / 256) (by omega) (by omega))
    (col A D 3584 (by omega) (i.val / 4096) (j.val / 256) (by omega) (by omega))) g ⟨j.val % 256, by omega⟩

end Cert.DiffSpec

end
-- ==== Proof.DiffRows.lean ====
/- The attention of 128 query rows, read element by element: the row maximum, the row sum and the weighted values, chunk by
chunk. -/
module

public import proofs.«01_k».proof.Proof.DiffBlock
public import proofs.«01_k».proof.Proof.GqaRows
public import proofs.«01_k».proof.Proof.DiffSpec
public import Idealize.ShloMosaic.Lib.Pointwise

@[expose] public section

set_option maxRecDepth 16384

noncomputable section

namespace Cert.DiffIdeal.Block

open Cert.DiffIdeal Cert.DiffIdeal.Gen Idealize.ShloMosaic Idealize.SL.Sem
open Cert.GqaIdeal.Block (forall512 forall256 sum512 sum256 forall4352 sum4352 start_eq)
open Cert.DiffSpec

/-- The lane maxima after one more chunk are at most `x` when those before and the chunk's scores are. -/
theorem max4_le (a : FVec Ideal S128x128 .f32) (s : FVec Ideal S128x512 .f32) (r : Fin 128) (x : EReal) :
    (∀ l : Fin 128, max4 a s (ix2 r l) ≤ x) ↔ (∀ l : Fin 128, a (ix2 r l) ≤ x) ∧ ∀ l : Fin 512, s (ix2 r l) ≤ x := by
  rw [forall512, ← forall_and]
  refine forall_congr' fun l => ?_
  pointwise [max4, t0, t1, t2, t3]
  simp only [max_le_iff, and_assoc]

/-- The lane sums after one more chunk add up to those before and the chunk's sum. -/
theorem add4_sum (a : FVec Ideal S128x128 .f32) (s : FVec Ideal S128x512 .f32) (r : Fin 128) :
    ∑ l : Fin 128, add4 a s (ix2 r l) = ∑ l : Fin 128, a (ix2 r l) + ∑ l : Fin 512, s (ix2 r l) := by
  rw [sum512, ← Finset.sum_add_distrib]
  refine Finset.sum_congr rfl fun l _ => ?_
  pointwise [add4, t0, t1, t2, t3]
  simp only [add_assoc]

/-- Nine chunks' maxima: the row maximum is at most `x` exactly when every score is. -/
theorem rowMax_le (s0 s1 s2 s3 s4 s5 s6 s7 : FVec Ideal S128x512 .f32) (s8 : FVec Ideal S128x256 .f32) (r : Fin 128) (x : EReal) :
    rowMax s0 s1 s2 s3 s4 s5 s6 s7 s8 (ix2 r 0) ≤ x ↔
      (∀ l : Fin 512, s0 (ix2 r l) ≤ x) ∧ (∀ l : Fin 512, s1 (ix2 r l) ≤ x) ∧ (∀ l : Fin 512, s2 (ix2 r l) ≤ x) ∧ (∀ l : Fin 512, s3 (ix2 r l) ≤ x) ∧ (∀ l : Fin 512, s4 (ix2 r l) ≤ x) ∧ (∀ l : Fin 512, s5 (ix2 r l) ≤ x) ∧ (∀ l : Fin 512, s6 (ix2 r l) ≤ x) ∧ (∀ l : Fin 512, s7 (ix2 r l) ≤ x) ∧ ∀ l : Fin 256, s8 (ix2 r l) ≤ x := by
  have e0 : (∀ l : Fin 128, maximumf (maximumf (maximumf (t0 s0) (t1 s0)) (t2 s0)) (t3 s0) (ix2 r l) ≤ x)
      ↔ ∀ l : Fin 512, s0 (ix2 r l) ≤ x := by
    rw [forall512]
    refine forall_congr' fun l => ?_
    pointwise [t0, t1, t2, t3]
    simp only [max_le_iff, and_assoc]
  unfold rowMax
  generalize hz : maximumf (maximumf (maximumf (t0 s0) (t1 s0)) (t2 s0)) (t3 s0) = z at e0 ⊢
  rw [← e0]
  have e8 : (∀ l : Fin 256, s8 (ix2 r l) ≤ x) ↔ ∀ l : Fin 128, c0 s8 (ix2 r l) ≤ x ∧ c1 s8 (ix2 r l) ≤ x := by
    rw [forall256]
    refine forall_congr' fun l => ?_
    pointwise [c0, c1]
  rw [e8]
  pointwise []
  rw [Finset.fold_max_le]
  simp only [max_le_iff, start_eq]
  simp only [max_le_iff, bot_le, Finset.mem_univ, true_and, forall_const, forall_and, max4_le, and_assoc, true_imp_iff]

/-- One chunk's weights. -/
theorem weight_at (mx : FVec Ideal S128x1 .f32) (s : FVec Ideal S128x512 .f32) (r : Fin 128) (l : Fin 512) :
    weight mx s (ix2 r l) = Ideal.exp2 (s (ix2 r l) - mx (ix2 r 0)) := by
  pointwise [weight]
  rfl

/-- The cached columns' weights. -/
theorem weightC_at (mx : FVec Ideal S128x1 .f32) (s : FVec Ideal S128x256 .f32) (r : Fin 128) (l : Fin 256) :
    weightC mx s (ix2 r l) = Ideal.exp2 (s (ix2 r l) - mx (ix2 r 0)) := by
  pointwise [weightC]
  rfl

/-- One chunk's weighted values. -/
theorem pv_at (p : FVec Ideal S128x512 .f32) (v : FVec Ideal S512x256 .bf16) (r : Fin 128) (d : Fin 256) :
    pv p v (ix2 r d) = ∑ l : Fin 512, p (ix2 r l) * v (ix2 l d) := by
  pointwise [pv]

/-- The cached columns' weighted values. -/
theorem pvC_at (p : FVec Ideal S128x256 .f32) (v : FVec Ideal S256x256 .f32) (r : Fin 128) (d : Fin 256) :
    pvC p v (ix2 r d) = ∑ l : Fin 256, p (ix2 r l) * v (ix2 l d) := by
  pointwise [pvC]

/-- One chunk's scores. -/
theorem score_at (q : FVec Ideal S128x128 .bf16) (k : FVec Ideal S512x128 .bf16) (r : Fin 128) (l : Fin 512) :
    score q k (ix2 r l) = ∑ d : Fin 128, q (ix2 r d) * k (ix2 l d) := by
  pointwise [score]

/-- The cached columns' scores. -/
theorem scoreC_at (q : FVec Ideal S128x128 .bf16) (k : FVec Ideal S256x128 .f32) (r : Fin 128) (l : Fin 256) :
    scoreC q k (ix2 r l) = ∑ d : Fin 128, q (ix2 r d) * k (ix2 l d) := by
  pointwise [scoreC]

/-- The weighted values over the weights' sum, chunk by chunk. -/
theorem normed_at (p0 p1 p2 p3 p4 p5 p6 p7 : FVec Ideal S128x512 .f32) (p8 : FVec Ideal S128x256 .f32)
    (v0 v1 v2 v3 v4 v5 v6 v7 : FVec Ideal S512x256 .bf16) (v8 : FVec Ideal S256x256 .f32) (r : Fin 128) (d : Fin 256) :
    normed p0 p1 p2 p3 p4 p5 p6 p7 p8 v0 v1 v2 v3 v4 v5 v6 v7 v8 (ix2 r d) =
      Ideal.div ((∑ l : Fin 512, p0 (ix2 r l) * v0 (ix2 l d)) + (∑ l : Fin 512, p1 (ix2 r l) * v1 (ix2 l d)) + (∑ l : Fin 512, p2 (ix2 r l) * v2 (ix2 l d)) + (∑ l : Fin 512, p3 (ix2 r l) * v3 (ix2 l d)) + (∑ l : Fin 512, p4 (ix2 r l) * v4 (ix2 l d)) + (∑ l : Fin 512, p5 (ix2 r l) * v5 (ix2 l d)) + (∑ l : Fin 512, p6 (ix2 r l) * v6 (ix2 l d)) + (∑ l : Fin 512, p7 (ix2 r l) * v7 (ix2 l d)) + ∑ l : Fin 256, p8 (ix2 r l) * v8 (ix2 l d))
        ((∑ l : Fin 512, p0 (ix2 r l)) + (∑ l : Fin 512, p1 (ix2 r l)) + (∑ l : Fin 512, p2 (ix2 r l)) + (∑ l : Fin 512, p3 (ix2 r l)) + (∑ l : Fin 512, p4 (ix2 r l)) + (∑ l : Fin 512, p5 (ix2 r l)) + (∑ l : Fin 512, p6 (ix2 r l)) + (∑ l : Fin 512, p7 (ix2 r l)) + ∑ l : Fin 256, p8 (ix2 r l)) := by
  have e0 : ∑ l : Fin 128, addf (addf (addf (t0 p0) (t1 p0)) (t2 p0)) (t3 p0) (ix2 r l) = ∑ l : Fin 512, p0 (ix2 r l) := by
    rw [sum512]
    refine Finset.sum_congr rfl fun l _ => ?_
    pointwise [t0, t1, t2, t3]
  unfold normed
  generalize hz : addf (addf (addf (t0 p0) (t1 p0)) (t2 p0)) (t3 p0) = z at e0 ⊢
  rw [← e0]
  have e8 : ∑ l : Fin 256, p8 (ix2 r l) = ∑ l : Fin 128, c0 p8 (ix2 r l) + ∑ l : Fin 128, c1 p8 (ix2 r l) := by
    rw [sum256, ← Finset.sum_add_distrib]
    refine Finset.sum_congr rfl fun l _ => ?_
    pointwise [c0, c1]
  rw [e8]
  pointwise []
  simp only [Finset.sum_add_distrib, add4_sum, pv_at, pvC_at, add_assoc]

/-- The keys (or the values) of column `κ`: the block's 4096 rows, then the 256 cached rows. -/
def colAt (x : Vec Ideal S4096x256 .bf16) (y : Vec Ideal S256x256 .f32) (κ : Fin 4352) (k : Fin 256) : EReal :=
  if h : κ.val < 4096 then x (ix2 ⟨κ.val, h⟩ k) else y (ix2 ⟨κ.val - 4096, by omega⟩ k)

theorem colAt_cached (x : Vec Ideal S4096x256 .bf16) (y : Vec Ideal S256x256 .f32) (l : Fin 256) (k : Fin 256) :
    y (ix2 l k) = colAt x y ⟨4096 + l.val, by omega⟩ k := by
  unfold colAt
  rw [dif_neg (by dsimp only; omega)]
  exact congrArg (fun a => y (ix2 a k)) (Fin.ext (by dsimp only; omega))

theorem kc_at (x : Vec Ideal S4096x256 .bf16) (y : Vec Ideal S256x256 .f32) (l : Fin 256) (k : Fin 128) :
    kc y (ix2 l k) = colAt x y ⟨4096 + l.val, by omega⟩ ⟨k.val, by omega⟩ := by
  rw [← colAt_cached]
  pointwise [kc]

theorem lc_at (x : Vec Ideal S4096x256 .bf16) (y : Vec Ideal S256x256 .f32) (l : Fin 256) (k : Fin 128) :
    lc y (ix2 l k) = colAt x y ⟨4096 + l.val, by omega⟩ ⟨128 + k.val, by omega⟩ := by
  rw [← colAt_cached]
  pointwise [lc]

/-- Chunk 0 of the block's keys, first half. -/
theorem k0_at (x : Vec Ideal S4096x256 .bf16) (y : Vec Ideal S256x256 .f32) (l : Fin 512) (k : Fin 128) :
    k0 x (ix2 l k) = colAt x y ⟨l.val, by omega⟩ ⟨k.val, by omega⟩ := by
  unfold colAt
  rw [dif_pos (by dsimp only; omega)]
  pointwise [k0]

/-- Chunk 1 of the block's keys, first half. -/
theorem k1_at (x : Vec Ideal S4096x256 .bf16) (y : Vec Ideal S256x256 .f32) (l : Fin 512) (k : Fin 128) :
    k1 x (ix2 l k) = colAt x y ⟨512 + l.val, by omega⟩ ⟨k.val, by omega⟩ := by
  unfold colAt
  rw [dif_pos (by dsimp only; omega)]
  pointwise [k1]

/-- Chunk 2 of the block's keys, first half. -/
theorem k2_at (x : Vec Ideal S4096x256 .bf16) (y : Vec Ideal S256x256 .f32) (l : Fin 512) (k : Fin 128) :
    k2 x (ix2 l k) = colAt x y ⟨1024 + l.val, by omega⟩ ⟨k.val, by omega⟩ := by
  unfold colAt
  rw [dif_pos (by dsimp only; omega)]
  pointwise [k2]

/-- Chunk 3 of the block's keys, first half. -/
theorem k3_at (x : Vec Ideal S4096x256 .bf16) (y : Vec Ideal S256x256 .f32) (l : Fin 512) (k : Fin 128) :
    k3 x (ix2 l k) = colAt x y ⟨1536 + l.val, by omega⟩ ⟨k.val, by omega⟩ := by
  unfold colAt
  rw [dif_pos (by dsimp only; omega)]
  pointwise [k3]

/-- Chunk 4 of the block's keys, first half. -/
theorem k4_at (x : Vec Ideal S4096x256 .bf16) (y : Vec Ideal S256x256 .f32) (l : Fin 512) (k : Fin 128) :
    k4 x (ix2 l k) = colAt x y ⟨2048 + l.val, by omega⟩ ⟨k.val, by omega⟩ := by
  unfold colAt
  rw [dif_pos (by dsimp only; omega)]
  pointwise [k4]

/-- Chunk 5 of the block's keys, first half. -/
theorem k5_at (x : Vec Ideal S4096x256 .bf16) (y : Vec Ideal S256x256 .f32) (l : Fin 512) (k : Fin 128) :
    k5 x (ix2 l k) = colAt x y ⟨2560 + l.val, by omega⟩ ⟨k.val, by omega⟩ := by
  unfold colAt
  rw [dif_pos (by dsimp only; omega)]
  pointwise [k5]

/-- Chunk 6 of the block's keys, first half. -/
theorem k6_at (x : Vec Ideal S4096x256 .bf16) (y : Vec Ideal S256x256 .f32) (l : Fin 512) (k : Fin 128) :
    k6 x (ix2 l k) = colAt x y ⟨3072 + l.val, by omega⟩ ⟨k.val, by omega⟩ := by
  unfold colAt
  rw [dif_pos (by dsimp only; omega)]
  pointwise [k6]

/-- Chunk 7 of the block's keys, first half. -/
theorem k7_at (x : Vec Ideal S4096x256 .bf16) (y : Vec Ideal S256x256 .f32) (l : Fin 512) (k : Fin 128) :
    k7 x (ix2 l k) = colAt x y ⟨3584 + l.val, by omega⟩ ⟨k.val, by omega⟩ := by
  unfold colAt
  rw [dif_pos (by dsimp only; omega)]
  pointwise [k7]

/-- Chunk 0 of the block's keys, second half. -/
theorem l0_at (x : Vec Ideal S4096x256 .bf16) (y : Vec Ideal S256x256 .f32) (l : Fin 512) (k : Fin 128) :
    l0 x (ix2 l k) = colAt x y ⟨l.val, by omega⟩ ⟨128 + k.val, by omega⟩ := by
  unfold colAt
  rw [dif_pos (by dsimp only; omega)]
  pointwise [l0]

/-- Chunk 1 of the block's keys, second half. -/
theorem l1_at (x : Vec Ideal S4096x256 .bf16) (y : Vec Ideal S256x256 .f32) (l : Fin 512) (k : Fin 128) :
    l1 x (ix2 l k) = colAt x y ⟨512 + l.val, by omega⟩ ⟨128 + k.val, by omega⟩ := by
  unfold colAt
  rw [dif_pos (by dsimp only; omega)]
  pointwise [l1]

/-- Chunk 2 of the block's keys, second half. -/
theorem l2_at (x : Vec Ideal S4096x256 .bf16) (y : Vec Ideal S256x256 .f32) (l : Fin 512) (k : Fin 128) :
    l2 x (ix2 l k) = colAt x y ⟨1024 + l.val, by omega⟩ ⟨128 + k.val, by omega⟩ := by
  unfold colAt
  rw [dif_pos (by dsimp only; omega)]
  pointwise [l2]

/-- Chunk 3 of the block's keys, second half. -/
theorem l3_at (x : Vec Ideal S4096x256 .bf16) (y : Vec Ideal S256x256 .f32) (l : Fin 512) (k : Fin 128) :
    l3 x (ix2 l k) = colAt x y ⟨1536 + l.val, by omega⟩ ⟨128 + k.val, by omega⟩ := by
  unfold colAt
  rw [dif_pos (by dsimp only; omega)]
  pointwise [l3]

/-- Chunk 4 of the block's keys, second half. -/
theorem l4_at (x : Vec Ideal S4096x256 .bf16) (y : Vec Ideal S256x256 .f32) (l : Fin 512) (k : Fin 128) :
    l4 x (ix2 l k) = colAt x y ⟨2048 + l.val, by omega⟩ ⟨128 + k.val, by omega⟩ := by
  unfold colAt
  rw [dif_pos (by dsimp only; omega)]
  pointwise [l4]

/-- Chunk 5 of the block's keys, second half. -/
theorem l5_at (x : Vec Ideal S4096x256 .bf16) (y : Vec Ideal S256x256 .f32) (l : Fin 512) (k : Fin 128) :
    l5 x (ix2 l k) = colAt x y ⟨2560 + l.val, by omega⟩ ⟨128 + k.val, by omega⟩ := by
  unfold colAt
  rw [dif_pos (by dsimp only; omega)]
  pointwise [l5]

/-- Chunk 6 of the block's keys, second half. -/
theorem l6_at (x : Vec Ideal S4096x256 .bf16) (y : Vec Ideal S256x256 .f32) (l : Fin 512) (k : Fin 128) :
    l6 x (ix2 l k) = colAt x y ⟨3072 + l.val, by omega⟩ ⟨128 + k.val, by omega⟩ := by
  unfold colAt
  rw [dif_pos (by dsimp only; omega)]
  pointwise [l6]

/-- Chunk 7 of the block's keys, second half. -/
theorem l7_at (x : Vec Ideal S4096x256 .bf16) (y : Vec Ideal S256x256 .f32) (l : Fin 512) (k : Fin 128) :
    l7 x (ix2 l k) = colAt x y ⟨3584 + l.val, by omega⟩ ⟨128 + k.val, by omega⟩ := by
  unfold colAt
  rw [dif_pos (by dsimp only; omega)]
  pointwise [l7]

/-- Chunk 0 of the block's values. -/
theorem w0_at (x : Vec Ideal S4096x256 .bf16) (y : Vec Ideal S256x256 .f32) (l : Fin 512) (k : Fin 256) :
    w0 x (ix2 l k) = colAt x y ⟨l.val, by omega⟩ k := by
  unfold colAt
  rw [dif_pos (by dsimp only; omega)]
  pointwise [w0]

/-- Chunk 1 of the block's values. -/
theorem w1_at (x : Vec Ideal S4096x256 .bf16) (y : Vec Ideal S256x256 .f32) (l : Fin 512) (k : Fin 256) :
    w1 x (ix2 l k) = colAt x y ⟨512 + l.val, by omega⟩ k := by
  unfold colAt
  rw [dif_pos (by dsimp only; omega)]
  pointwise [w1]

/-- Chunk 2 of the block's values. -/
theorem w2_at (x : Vec Ideal S4096x256 .bf16) (y : Vec Ideal S256x256 .f32) (l : Fin 512) (k : Fin 256) :
    w2 x (ix2 l k) = colAt x y ⟨1024 + l.val, by omega⟩ k := by
  unfold colAt
  rw [dif_pos (by dsimp only; omega)]
  pointwise [w2]

/-- Chunk 3 of the block's values. -/
theorem w3_at (x : Vec Ideal S4096x256 .bf16) (y : Vec Ideal S256x256 .f32) (l : Fin 512) (k : Fin 256) :
    w3 x (ix2 l k) = colAt x y ⟨1536 + l.val, by omega⟩ k := by
  unfold colAt
  rw [dif_pos (by dsimp only; omega)]
  pointwise [w3]

/-- Chunk 4 of the block's values. -/
theorem w4_at (x : Vec Ideal S4096x256 .bf16) (y : Vec Ideal S256x256 .f32) (l : Fin 512) (k : Fin 256) :
    w4 x (ix2 l k) = colAt x y ⟨2048 + l.val, by omega⟩ k := by
  unfold colAt
  rw [dif_pos (by dsimp only; omega)]
  pointwise [w4]

/-- Chunk 5 of the block's values. -/
theorem w5_at (x : Vec Ideal S4096x256 .bf16) (y : Vec Ideal S256x256 .f32) (l : Fin 512) (k : Fin 256) :
    w5 x (ix2 l k) = colAt x y ⟨2560 + l.val, by omega⟩ k := by
  unfold colAt
  rw [dif_pos (by dsimp only; omega)]
  pointwise [w5]

/-- Chunk 6 of the block's values. -/
theorem w6_at (x : Vec Ideal S4096x256 .bf16) (y : Vec Ideal S256x256 .f32) (l : Fin 512) (k : Fin 256) :
    w6 x (ix2 l k) = colAt x y ⟨3072 + l.val, by omega⟩ k := by
  unfold colAt
  rw [dif_pos (by dsimp only; omega)]
  pointwise [w6]

/-- Chunk 7 of the block's values. -/
theorem w7_at (x : Vec Ideal S4096x256 .bf16) (y : Vec Ideal S256x256 .f32) (l : Fin 512) (k : Fin 256) :
    w7 x (ix2 l k) = colAt x y ⟨3584 + l.val, by omega⟩ k := by
  unfold colAt
  rw [dif_pos (by dsimp only; omega)]
  pointwise [w7]

/-- The attention of 128 query rows over one half of the keys, at an element. -/
theorem rowsA_at (q : FVec Ideal S128x128 .bf16) (x1 x2 : Vec Ideal S4096x256 .bf16) (x3 x4 : Vec Ideal S256x256 .f32) (r : Fin 128) (d : Fin 256) :
    rowsA q x1 x2 x3 x4 (ix2 r d) = attn (fun k => q (ix2 r k)) (fun κ k => colAt x1 x3 κ ⟨k.val, by omega⟩) (colAt x2 x4) d := by
  have hM : rowMax (score q (k0 x1)) (score q (k1 x1)) (score q (k2 x1)) (score q (k3 x1)) (score q (k4 x1)) (score q (k5 x1)) (score q (k6 x1)) (score q (k7 x1)) (scoreC q (kc x3)) (ix2 r 0) = Finset.univ.sup fun κ => ∑ k : Fin 128, q (ix2 r k) * colAt x1 x3 κ ⟨k.val, by omega⟩ := by
    refine eq_of_forall_ge_iff fun x => ?_
    rw [rowMax_le, Finset.sup_le_iff]
    simp only [Finset.mem_univ, true_imp_iff]
    rw [forall4352]
    simp only [score_at, scoreC_at, k0_at _ x3, k1_at _ x3, k2_at _ x3, k3_at _ x3, k4_at _ x3, k5_at _ x3, k6_at _ x3, k7_at _ x3, kc_at x1 x3]
  unfold rowsA attended applied
  rw [normed_at]
  simp only [weight_at, weightC_at]
  rw [hM]
  unfold attn
  rw [sum4352, sum4352]
  generalize (Finset.univ.sup fun κ => ∑ k : Fin 128, q (ix2 r k) * colAt x1 x3 κ ⟨k.val, by omega⟩) = M
  simp only [score_at, scoreC_at, k0_at _ x3, k1_at _ x3, k2_at _ x3, k3_at _ x3, k4_at _ x3, k5_at _ x3, k6_at _ x3, k7_at _ x3, kc_at x1 x3]
  simp only [w0_at _ x4, w1_at _ x4, w2_at _ x4, w3_at _ x4, w4_at _ x4, w5_at _ x4, w6_at _ x4, w7_at _ x4, colAt_cached x2 x4]

/-- The attention of 128 query rows over one half of the keys, at an element. -/
theorem rowsB_at (q : FVec Ideal S128x128 .bf16) (x1 x2 : Vec Ideal S4096x256 .bf16) (x3 x4 : Vec Ideal S256x256 .f32) (r : Fin 128) (d : Fin 256) :
    rowsB q x1 x2 x3 x4 (ix2 r d) = attn (fun k => q (ix2 r k)) (fun κ k => colAt x1 x3 κ ⟨128 + k.val, by omega⟩) (colAt x2 x4) d := by
  have hM : rowMax (score q (l0 x1)) (score q (l1 x1)) (score q (l2 x1)) (score q (l3 x1)) (score q (l4 x1)) (score q (l5 x1)) (score q (l6 x1)) (score q (l7 x1)) (scoreC q (lc x3)) (ix2 r 0) = Finset.univ.sup fun κ => ∑ k : Fin 128, q (ix2 r k) * colAt x1 x3 κ ⟨128 + k.val, by omega⟩ := by
    refine eq_of_forall_ge_iff fun x => ?_
    rw [rowMax_le, Finset.sup_le_iff]
    simp only [Finset.mem_univ, true_imp_iff]
    rw [forall4352]
    simp only [score_at, scoreC_at, l0_at _ x3, l1_at _ x3, l2_at _ x3, l3_at _ x3, l4_at _ x3, l5_at _ x3, l6_at _ x3, l7_at _ x3, lc_at x1 x3]
  unfold rowsB attended applied
  rw [normed_at]
  simp only [weight_at, weightC_at]
  rw [hM]
  unfold attn
  rw [sum4352, sum4352]
  generalize (Finset.univ.sup fun κ => ∑ k : Fin 128, q (ix2 r k) * colAt x1 x3 κ ⟨128 + k.val, by omega⟩) = M
  simp only [score_at, scoreC_at, l0_at _ x3, l1_at _ x3, l2_at _ x3, l3_at _ x3, l4_at _ x3, l5_at _ x3, l6_at _ x3, l7_at _ x3, lc_at x1 x3]
  simp only [w0_at _ x4, w1_at _ x4, w2_at _ x4, w3_at _ x4, w4_at _ x4, w5_at _ x4, w6_at _ x4, w7_at _ x4, colAt_cached x2 x4]

/-- Eight row blocks, one after another. -/
theorem joined_at (o0 o1 o2 o3 o4 o5 o6 o7 : FVec Ideal S128x256 .f32) (f : ℕ → Fin 256 → EReal)
    (h0 : ∀ (r : Fin 128) d, o0 (ix2 r d) = f (0 + r.val) d) (h1 : ∀ (r : Fin 128) d, o1 (ix2 r d) = f (128 + r.val) d) (h2 : ∀ (r : Fin 128) d, o2 (ix2 r d) = f (256 + r.val) d) (h3 : ∀ (r : Fin 128) d, o3 (ix2 r d) = f (384 + r.val) d) (h4 : ∀ (r : Fin 128) d, o4 (ix2 r d) = f (512 + r.val) d) (h5 : ∀ (r : Fin 128) d, o5 (ix2 r d) = f (640 + r.val) d) (h6 : ∀ (r : Fin 128) d, o6 (ix2 r d) = f (768 + r.val) d) (h7 : ∀ (r : Fin 128) d, o7 (ix2 r d) = f (896 + r.val) d) (i : Fin 1024) (d : Fin 256) :
    joined o0 o1 o2 o3 o4 o5 o6 o7 (ix2 i d) = f i.val d := by
  have hi := i.isLt
  pointwise [joined]
  simp only [h0, h1, h2, h3, h4, h5, h6, h7]
  split_ifs <;> exact congrArg (fun a => f a d) (by omega)

/-- One attention map at an element: the attention of its row. -/
theorem halfA_at (q : FVec Ideal S1024x128 .bf16) (x1 x2 : Vec Ideal S4096x256 .bf16) (x3 x4 : Vec Ideal S256x256 .f32) (i : Fin 1024) (d : Fin 256) :
    halfA q x1 x2 x3 x4 (ix2 i d) = attn (fun k => q (ix2 i k)) (fun κ k => colAt x1 x3 κ ⟨k.val, by omega⟩) (colAt x2 x4) d := by
  unfold halfA
  rw [joined_at _ _ _ _ _ _ _ _ (fun n d => attn (fun k => q (ix2 ⟨n % 1024, by omega⟩ k)) (fun κ k => colAt x1 x3 κ ⟨k.val, by omega⟩) (colAt x2 x4) d)]
  · congr 1
    funext k
    exact congrArg (fun a => q (ix2 a k)) (Fin.ext (by dsimp only; omega))
  all_goals
    intro r d
    rw [rowsA_at]
    congr 1
    funext k
    pointwise []
    exact congrArg (fun a => q (ix2 a k)) (Fin.ext (by first | omega | (dsimp only; omega) | dsimp only))

/-- One attention map at an element: the attention of its row. -/
theorem halfB_at (q : FVec Ideal S1024x128 .bf16) (x1 x2 : Vec Ideal S4096x256 .bf16) (x3 x4 : Vec Ideal S256x256 .f32) (i : Fin 1024) (d : Fin 256) :
    halfB q x1 x2 x3 x4 (ix2 i d) = attn (fun k => q (ix2 i k)) (fun κ k => colAt x1 x3 κ ⟨128 + k.val, by omega⟩) (colAt x2 x4) d := by
  unfold halfB
  rw [joined_at _ _ _ _ _ _ _ _ (fun n d => attn (fun k => q (ix2 ⟨n % 1024, by omega⟩ k)) (fun κ k => colAt x1 x3 κ ⟨128 + k.val, by omega⟩) (colAt x2 x4) d)]
  · congr 1
    funext k
    exact congrArg (fun a => q (ix2 a k)) (Fin.ext (by dsimp only; omega))
  all_goals
    intro r d
    rw [rowsB_at]
    congr 1
    funext k
    pointwise []
    exact congrArg (fun a => q (ix2 a k)) (Fin.ext (by first | omega | (dsimp only; omega) | dsimp only))

/-- The weight of the second map. -/
theorem lam_at (x : Vec Ideal S4x128 .f32) : lam x (ix2 0 0) = weight2 (fun r k => x (ix2 r k)) := by
  pointwise [lam, k0_pay1]
  rfl

/-- The first map less the second, at an element. -/
theorem mixed_at (l : FVec Ideal S1x1 .f32) (a b : FVec Ideal S1024x256 .f32) (i : Fin 1024) (d : Fin 256) :
    mixed l a b (ix2 i d) = a (ix2 i d) - l (ix2 0 0) * b (ix2 i d) := by
  pointwise [mixed]

/-- The scaled row at an element. -/
theorem scaled_at (o : FVec Ideal S1024x256 .f32) (g : FVec Ideal S1x256 .f32) (i : Fin 1024) (d : Fin 256) :
    scaled o g (ix2 i d) = scale (fun e => o (ix2 i e)) (fun e => g (ix2 0 e)) d := by
  pointwise [scaled]
  rfl

/-- The queries' halves. -/
theorem qa_at (x : Vec Ideal S1024x256 .bf16) (i : Fin 1024) (k : Fin 128) : qa x (ix2 i k) = x (ix2 i ⟨k.val, by omega⟩) := by
  pointwise [qa]

theorem qb_at (x : Vec Ideal S1024x256 .bf16) (i : Fin 1024) (k : Fin 128) : qb x (ix2 i k) = x (ix2 i ⟨128 + k.val, by omega⟩) := by
  pointwise [qb]

/-- A grid point's block at an element. -/
theorem blockOut_at (x0 : Vec Ideal S1024x256 .bf16) (x1 x2 : Vec Ideal S4096x256 .bf16) (x3 x4 : Vec Ideal S256x256 .f32) (x5 : Vec Ideal S4x128 .f32) (x6 : Vec Ideal S1x256 .f32) (i : Fin 1024) (d : Fin 256) :
    blockOut x0 x1 x2 x3 x4 x5 x6 (ix2 i d) =
      scale (mix (weight2 fun r k => x5 (ix2 r k)) (fun k => x0 (ix2 i k)) (colAt x1 x3) (colAt x2 x4)) (fun e => x6 (ix2 0 e)) d := by
  unfold blockOut
  rw [scaled_at]
  congr 1
  funext e
  rw [mixed_at, lam_at, halfA_at, halfB_at]
  simp only [qa_at, qb_at]
  rfl

end Cert.DiffIdeal.Block

end
-- ==== Proof.DiffValue.lean ====
/-
  The array the differential attention kernel leaves: each grid point's block read element by element, and the blocks put together.
-/
module

public import proofs.«01_k».proof.Proof.Gen.DiffIdeal.Value
public import proofs.«01_k».proof.Proof.DiffRows
public import proofs.«01_k».proof.Proof.DiffSpec
public import Idealize.ShloMosaic.Lib.Pipeline.ValueKit

@[expose] public section

set_option maxRecDepth 16384

noncomputable section

namespace Cert.DiffIdeal.Block

open Cert.DiffIdeal Cert.DiffIdeal.Gen Idealize.ShloMosaic Idealize.ShloMosaic.TcCoe Idealize.SL.Sem Idealize.ShloMosaic.Tactic
open Idealize.ShloMosaic.Pipeline (Dat)
open Cert.DiffSpec

/-- The index maps. -/
theorem idx : ∀ t : Fin cfg0.N, win0_0.index t = ![4 * (t.val / 16) + t.val % 4, 6 + t.val / 4 % 4] ∧
    win0_1.index t = ![t.val / 16, 10 + t.val / 4 % 4] ∧ win0_2.index t = ![t.val / 16, 14 + t.val / 4 % 4] ∧
    win0_3.index t = ![t.val / 16, t.val / 4 % 4] ∧ win0_4.index t = ![t.val / 16, t.val / 4 % 4] ∧
    win0_5.index t = ![0, 0] ∧ win0_6.index t = ![0, 0] ∧
    win0_7.index t = ![4 * (t.val / 16) + t.val % 4, t.val / 4 % 4] :=
  (by decide +kernel : ∀ t : Fin grid0.N, _)

variable (m : (ℓ : Loc nD τ sig) → Buf (Elt Ideal) ℓ)

/-- The array after the grid, over the argument arrays. -/
def G (c : Dev nD) : S8192x1024.Idx → EReal := fun y =>
  out mix (fun a b => m ((c.tc : Thread nD τ).loc main_arg0) (ix2 a b)) (fun a b => m ((c.tc : Thread nD τ).loc main_arg1) (ix2 a b))
    (fun a b => m ((c.tc : Thread nD τ).loc main_arg2) (ix2 a b)) (fun a b => m ((c.tc : Thread nD τ).loc main_arg3) (ix2 a b))
    (fun e => m ((c.tc : Thread nD τ).loc main_arg4) (ix2 0 e)) (y 0) (y 1)

/-- The keys' block and the cached keys' block of a grid point are the columns of its prompt and head. -/
theorem keys_at (c : Dev nD) (t : Fin cfg0.N) (b h : ℕ) (hb : b < 2) (hh : h < 4) (eb : b = t.val / 16) (eh : h = t.val / 4 % 4) (κ : Fin 4352) (k : Fin 256) :
    colAt (iblk m c 1 t) (iblk m c 3 t) κ k = col (fun a b => m ((c.tc : Thread nD τ).loc main_arg0) (ix2 a b))
      (fun a b => m ((c.tc : Thread nD τ).loc main_arg1) (ix2 a b)) 2560 (by omega) b h hb hh κ k := by
  subst eb; subst eh
  unfold colAt col
  split
  · blk_ext [iblk, V, idx t]
  · blk_ext [iblk, V, idx t]

/-- The values' block and the cached values' block likewise. -/
theorem values_at (c : Dev nD) (t : Fin cfg0.N) (b h : ℕ) (hb : b < 2) (hh : h < 4) (eb : b = t.val / 16) (eh : h = t.val / 4 % 4) (κ : Fin 4352) (k : Fin 256) :
    colAt (iblk m c 2 t) (iblk m c 4 t) κ k = col (fun a b => m ((c.tc : Thread nD τ).loc main_arg0) (ix2 a b))
      (fun a b => m ((c.tc : Thread nD τ).loc main_arg2) (ix2 a b)) 3584 (by omega) b h hb hh κ k := by
  subst eb; subst eh
  unfold colAt col
  split
  · blk_ext [iblk, V, idx t]
  · blk_ext [iblk, V, idx t]

/-- The rows the second map's weight is computed from. -/
theorem lams_at (c : Dev nD) (t : Fin cfg0.N) (r : Fin 4) (k : Fin 128) :
    iblk m c 5 t (ix2 r k) = m ((c.tc : Thread nD τ).loc main_arg3) (ix2 r k) := by
  blk_ext [iblk, V, idx t]

/-- The gains. -/
theorem gains_at (c : Dev nD) (t : Fin cfg0.N) (e : Fin 256) :
    iblk m c 6 t (ix2 0 e) = m ((c.tc : Thread nD τ).loc main_arg4) (ix2 0 e) := by
  blk_ext [iblk, V, idx t]

/-- What a grid point stores. -/
theorem outs_eq (c : Dev nD) (t : Fin cfg0.N) : outsAt0 m c t =
    blockOut (iblk m c 0 t) (iblk m c 1 t) (iblk m c 2 t) (iblk m c 3 t) (iblk m c 4 t) (iblk m c 5 t) (iblk m c 6 t) := by
  unfold outsAt0
  rw [out_eq]

/-- The position in the array of an element of a grid point's block. -/
theorem emb_at (t : Fin cfg0.N) (y0 : Fin 1024) (y1 : Fin 256) :
    (((View.whole main_v0).slice (win0_7.rect t)).emb (ix2 y0 y1) 0 : ℕ) = 1024 * (4 * (t.val / 16) + t.val % 4) + y0.val
      ∧ (((View.whole main_v0).slice (win0_7.rect t)).emb (ix2 y0 y1) 1 : ℕ) = 256 * (t.val / 4 % 4) + y1.val := by
  constructor
  · blk_simp [idx t]
    omega
  · blk_simp [idx t]
    omega

/-- A grid point's block at an element, over the argument arrays. -/
theorem point_at (c : Dev nD) (t : Fin cfg0.N) (y0 : Fin 1024) (y1 : Fin 256) (a : Fin 8192) (b : Fin 1024)
    (ea : a.val = 1024 * (4 * (t.val / 16) + t.val % 4) + y0.val) (eb : b.val = 256 * (t.val / 4 % 4) + y1.val) :
    blockOut (iblk m c 0 t) (iblk m c 1 t) (iblk m c 2 t) (iblk m c 3 t) (iblk m c 4 t) (iblk m c 5 t) (iblk m c 6 t) (ix2 y0 y1)
      = G m c (ix2 a b) := by
  have ht : t.val < 32 := t.isLt
  rw [blockOut_at]
  rw [show colAt (iblk m c 1 t) (iblk m c 3 t) = _ from funext fun κ => funext fun k =>
      keys_at m c t (a.val / 4096) (b.val / 256) (by omega) (by omega) (by omega) (by omega) κ k,
    show colAt (iblk m c 2 t) (iblk m c 4 t) = _ from funext fun κ => funext fun k =>
      values_at m c t (a.val / 4096) (b.val / 256) (by omega) (by omega) (by omega) (by omega) κ k,
    show (fun r k => iblk m c 5 t (ix2 r k)) = _ from funext fun r => funext fun k => lams_at m c t r k,
    show (fun e => iblk m c 6 t (ix2 0 e)) = _ from funext fun e => gains_at m c t e,
    show (fun k => iblk m c 0 t (ix2 y0 k)) = fun k : Fin 256 => m ((c.tc : Thread nD τ).loc main_arg0) (ix2 a ⟨1536 + 256 * (b.val / 256) + k.val, by omega⟩) from
      funext fun k => by blk_ext [iblk, V, idx t]]
  show _ = out mix _ _ _ _ _ a b
  unfold out
  congr 1
  refine Fin.ext ?_
  dsimp only
  omega

/-- The array after the grid. -/
theorem final (c : Dev nD) : (dats m 0 c).arrAt 7 cfg0.N = G m c := by
  refine (dats m 0 c).arrAt_eq_of_covers 7 _ (by decide +kernel) fun t hf y => ?_
  blk_simp
  rw [after0_7, outs_eq]
  idx_vars y
  have e := emb_at t y0 y1
  rw [point_at m c t y0 y1 _ _ e.1 e.2]
  exact congrArg (G m c) (eq_ix2 _).symm

end Cert.DiffIdeal.Block

end
-- ==== Proof.DiffRefValue.lean ====
/-
  The reference of the differential attention call, read element by element.
-/
module

public import proofs.«01_k».proof.Proof.Gen.DiffRefIdeal.Run
public import proofs.«01_k».proof.Proof.DiffSpec
public import proofs.«01_k».proof.Proof.GqaRows
public import proofs.«01_k».proof.Proof.GqaRefValue
public import Idealize.ShloMosaic.Lib.Pipeline.ValueKit

@[expose] public section

set_option maxRecDepth 16384

noncomputable section

namespace Cert.DiffRefIdeal.Spec

open Cert.DiffRefIdeal Cert.DiffRefIdeal.Gen Cert.DiffRefIdeal.Value Idealize.ShloMosaic Idealize.ShloMosaic.TcCoe Idealize.SL.Sem Idealize.ShloMosaic.Tactic
open Cert.DiffSpec
open Cert.GqaRefIdeal.Spec (log_two reduce_max_le maximumf_at copied_at)

/-- The projection's rows, by prompt. -/
def rows (A0 : FVec Ideal S8192x4608 .bf16) : FVec Ideal S2x4096x4608 .f32 :=
  shapeCast _ (extf .f32 A0 bitsLt_bf16_f32) shapeCasts_S8192x4608_S2x4096x4608

/-- The keys: the projection's columns from 2560, then the cached rows. -/
def keys (A0 : FVec Ideal S8192x4608 .bf16) (A1 : FVec Ideal S512x1024 .f32) : FVec Ideal S2x4352x4x2x128 .f32 :=
  concatenate S2x4352x4x2x128 1 [⟨S2x4096x4x2x128, (shapeCast _ (extractStridedSlice S2x4096x1024 ![0, 0, 2560] (rows A0) slices_S2x4096x4608_S2x4096x1024_0_0_2560) shapeCasts_S2x4096x1024_S2x4096x4x2x128)⟩, ⟨S2x256x4x2x128, (shapeCast _ A1 shapeCasts_S512x1024_S2x256x4x2x128)⟩] concatenates_S2x4096x4x2x128_S2x256x4x2x128_S2x4352x4x2x128_d1

/-- The values: the projection's columns from 3584, then the cached rows. -/
def values (A0 : FVec Ideal S8192x4608 .bf16) (A2 : FVec Ideal S512x1024 .f32) : FVec Ideal S2x4352x4x256 .f32 :=
  concatenate S2x4352x4x256 1 [⟨S2x4096x4x256, (shapeCast _ (extractStridedSlice S2x4096x1024 ![0, 0, 3584] (rows A0) slices_S2x4096x4608_S2x4096x1024_0_0_3584) shapeCasts_S2x4096x1024_S2x4096x4x256)⟩, ⟨S2x256x4x256, (shapeCast _ A2 shapeCasts_S512x1024_S2x256x4x256)⟩] concatenates_S2x4096x4x256_S2x256x4x256_S2x4352x4x256_d1

/-- The queries, by prompt, head and map. -/
def queries (A0 : FVec Ideal S8192x4608 .bf16) : FVec Ideal S2x4096x4x2x128 .f32 :=
  shapeCast _ (extractStridedSlice S2x4096x1024 ![0, 0, 1536] (rows A0) slices_S2x4096x4608_S2x4096x1024_0_0_1536) shapeCasts_S2x4096x1024_S2x4096x4x2x128

/-- The scores, times the logarithm of two. -/
def scores (Q : FVec Ideal S2x4096x4x2x128 .f32) (K : FVec Ideal S2x4352x4x2x128 .f32) : FVec Ideal S2x4x2x4096x4352 .f32 :=
  mulf (Host.dotGeneral dot_S2x4096x4x2x128_S2x4352x4x2x128_S2x4x2x4096x4352_4_4_1_1_023_023 none Q K) (broadcastInDim S2x4x2x4096x4352 ![] bcast_S_S2x4x2x4096x4352 (Host.log (constant S_ .f32 0x40000000#32)))

/-- Each row's largest score. -/
def peak (S : FVec Ideal S2x4x2x4096x4352 .f32) : FVec Ideal S2x4x2x4096 .f32 :=
  maximumf (broadcastInDim S2x4x2x4096 ![] bcast_S_S2x4x2x4096 (constant S_ .f32 0xFF800000#32)) (Host.reduce FloatOps.maximumf S (constant S_ .f32 0xFF800000#32) reducesTo_S2x4x2x4096x4352_S2x4x2x4096_d4 h_S_)

/-- A row's number at each of its columns. -/
def spread (v : FVec Ideal S2x4x2x4096 .f32) : FVec Ideal S2x4x2x4096x4352 .f32 :=
  broadcastInDim S2x4x2x4096x4352 ![0, 1, 2, 3, 4] bcast_S2x4x2x4096x1_S2x4x2x4096x4352_0_1_2_3_4 (broadcastInDim S2x4x2x4096x1 ![0, 1, 2, 3] bcast_S2x4x2x4096_S2x4x2x4096x1_0_1_2_3 v)

/-- The exponentials of the scores less the row's largest. -/
def expo (S : FVec Ideal S2x4x2x4096x4352 .f32) : FVec Ideal S2x4x2x4096x4352 .f32 := Host.exp (subf S (spread (peak S)))

/-- Each row's sum. -/
def total (E : FVec Ideal S2x4x2x4096x4352 .f32) : FVec Ideal S2x4x2x4096 .f32 :=
  Host.reduceAdd E (constant S_ .f32 0x00000000#32) reducesTo_S2x4x2x4096x4352_S2x4x2x4096_d4 h_S_

/-- Each column's share of its row's sum. -/
def shares (E : FVec Ideal S2x4x2x4096x4352 .f32) : FVec Ideal S2x4x2x4096x4352 .f32 := Host.divf E (spread (total E))

/-- The weight of the second map. -/
def lam (A3 : FVec Ideal S4x128 .f32) : FVec Ideal S_ .f32 :=
  addf (subf (Host.exp (Host.reduceAdd (mulf (shapeCast _ (extractStridedSlice S1x128 ![0, 0] A3 slices_S4x128_S1x128_0_0) shapeCasts_S1x128_S128) (shapeCast _ (extractStridedSlice S1x128 ![1, 0] A3 slices_S4x128_S1x128_1_0) shapeCasts_S1x128_S128)) (constant S_ .f32 0x00000000#32) reducesTo_S128_S_d0 h_S_)) (Host.exp (Host.reduceAdd (mulf (shapeCast _ (extractStridedSlice S1x128 ![2, 0] A3 slices_S4x128_S1x128_2_0) shapeCasts_S1x128_S128) (shapeCast _ (extractStridedSlice S1x128 ![3, 0] A3 slices_S4x128_S1x128_3_0) shapeCasts_S1x128_S128)) (constant S_ .f32 0x00000000#32) reducesTo_S128_S_d0 h_S_))) (constant S_ .f32 0x3E4CCCCD#32)

/-- The first map's shares less the second's times its weight. -/
def mixed (l : FVec Ideal S_ .f32) (P : FVec Ideal S2x4x2x4096x4352 .f32) : FVec Ideal S2x4x4096x4352 .f32 :=
  subf (shapeCast _ (extractStridedSlice S2x4x1x4096x4352 ![0, 0, 0, 0, 0] P slices_S2x4x2x4096x4352_S2x4x1x4096x4352_0_0_0_0_0) shapeCasts_S2x4x1x4096x4352_S2x4x4096x4352) (mulf (broadcastInDim S2x4x4096x4352 ![] bcast_S_S2x4x4096x4352 l) (shapeCast _ (extractStridedSlice S2x4x1x4096x4352 ![0, 0, 1, 0, 0] P slices_S2x4x2x4096x4352_S2x4x1x4096x4352_0_0_1_0_0) shapeCasts_S2x4x1x4096x4352_S2x4x4096x4352))

/-- The weighted values, by row and head. -/
def applied (W : FVec Ideal S2x4352x4x256 .f32) (P : FVec Ideal S2x4x4096x4352 .f32) : FVec Ideal S2x4096x4x256 .f32 :=
  transpose S2x4096x4x256 [0, 3, 1, 2] (Host.dotGeneral dot_S2x4352x4x256_S2x4x4096x4352_S2x4x256x4096_1_3_3_2_02_01 none W P) transposes_S2x4x256x4096_S2x4096x4x256_0_3_1_2

/-- Each row over the square root of its mean square, times the gains and a constant. -/
def scaled (O : FVec Ideal S2x4096x4x256 .f32) (A4 : FVec Ideal S1x256 .f32) : FVec Ideal S2x4096x4x256 .f32 :=
  mulf (mulf (mulf O (broadcastInDim S2x4096x4x256 ![0, 1, 2, 3] bcast_S2x4096x4x1_S2x4096x4x256_0_1_2_3 (Host.rsqrt (addf (Host.divf (broadcastInDim S2x4096x4x1 ![0, 1, 2] bcast_S2x4096x4_S2x4096x4x1_0_1_2 (Host.reduceAdd (mulf O O) (constant S_ .f32 0x00000000#32) reducesTo_S2x4096x4x256_S2x4096x4_d3 h_S_)) (broadcastInDim S2x4096x4x1 ![] bcast_S_S2x4096x4x1 (constant S_ .f32 0x43800000#32))) (broadcastInDim S2x4096x4x1 ![] bcast_S_S2x4096x4x1 (constant S_ .f32 0x358637BD#32)))))) (broadcastInDim S2x4096x4x256 ![0, 1, 2, 3] bcast_S1x1x1x256_S2x4096x4x256_0_1_2_3 (broadcastInDim S1x1x1x256 ![3] bcast_S256_S1x1x1x256_3 (shapeCast _ A4 shapeCasts_S1x256_S256)))) (broadcastInDim S2x4096x4x256 ![] bcast_S_S2x4096x4x256 (constant S_ .f32 0x3F4CCCCD#32))

/-- The rows and heads laid out as a matrix. -/
def laid (O : FVec Ideal S2x4096x4x256 .f32) : FVec Ideal S8192x1024 .bf16 :=
  truncf .bf16 (shapeCast _ O shapeCasts_S2x4096x4x256_S8192x1024) bitsLt_bf16_f32

variable (m : (ℓ : Loc nD τ sig) → Buf (Elt Ideal) ℓ)

/-- The reference's result in these stages. -/
theorem res_eq (c : Dev nD) : res_main_v69 m c =
    laid (scaled (applied (values (m ((c.tc : Thread nD τ).loc main_arg0)) (m ((c.tc : Thread nD τ).loc main_arg2)))
      (mixed (lam (m ((c.tc : Thread nD τ).loc main_arg3))) (shares (expo (scores (queries (m ((c.tc : Thread nD τ).loc main_arg0)))
        (keys (m ((c.tc : Thread nD τ).loc main_arg0)) (m ((c.tc : Thread nD τ).loc main_arg1))))))))
      (m ((c.tc : Thread nD τ).loc main_arg4))) := rfl

/-- The keys at an element. -/
theorem keys_at (A0 : FVec Ideal S8192x4608 .bf16) (A1 : FVec Ideal S512x1024 .f32) (b : Fin 2) (κ : Fin 4352) (h : Fin 4) (s : Fin 2) (k : Fin 128) :
    keys A0 A1 (ix5 b κ h s k) = col (fun a b => A0 (ix2 a b)) (fun a b => A1 (ix2 a b)) 2560 (by omega) b.val h.val b.isLt h.isLt κ ⟨128 * s.val + k.val, by omega⟩ := by
  pointwise [keys, rows]
  unfold col
  split
  · exact congrArg₂ (fun a b => A0 (ix2 a b)) (Fin.ext (by dsimp only; omega)) (Fin.ext (by dsimp only; omega))
  · exact congrArg₂ (fun a b => A1 (ix2 a b)) (Fin.ext (by dsimp only; omega)) (Fin.ext (by dsimp only; omega))

/-- The values at an element. -/
theorem values_at (A0 : FVec Ideal S8192x4608 .bf16) (A2 : FVec Ideal S512x1024 .f32) (b : Fin 2) (κ : Fin 4352) (h : Fin 4) (k : Fin 256) :
    values A0 A2 (ix4 b κ h k) = col (fun a b => A0 (ix2 a b)) (fun a b => A2 (ix2 a b)) 3584 (by omega) b.val h.val b.isLt h.isLt κ k := by
  pointwise [values, rows]
  unfold col
  split
  · exact congrArg₂ (fun a b => A0 (ix2 a b)) (Fin.ext (by dsimp only; omega)) (Fin.ext (by dsimp only; omega))
  · exact congrArg₂ (fun a b => A2 (ix2 a b)) (Fin.ext (by dsimp only; omega)) (Fin.ext (by dsimp only; omega))

/-- The queries at an element. -/
theorem queries_at (A0 : FVec Ideal S8192x4608 .bf16) (b : Fin 2) (i : Fin 4096) (h : Fin 4) (s : Fin 2) (k : Fin 128) :
    queries A0 (ix5 b i h s k) = A0 (ix2 ⟨4096 * b.val + i.val, by omega⟩ ⟨1536 + 256 * h.val + (128 * s.val + k.val), by omega⟩) := by
  pointwise [queries, rows]
  exact congrArg₂ (fun a b => A0 (ix2 a b)) (Fin.ext (by dsimp only; omega)) (Fin.ext (by dsimp only; omega))

/-- The scores at an element. -/
theorem scores_at (Q : FVec Ideal S2x4096x4x2x128 .f32) (K : FVec Ideal S2x4352x4x2x128 .f32) (b : Fin 2) (h : Fin 4) (g : Fin 2) (i : Fin 4096) (κ : Fin 4352) :
    scores Q K (ix5 b h g i κ) = (∑ k : Fin 128, Q (ix5 b i h g k) * K (ix5 b κ h g k)) * ((Real.log 2 : ℝ) : EReal) := by
  pointwise [scores]
  rw [log_two]

/-- Dropping the last axis keeps the other four. -/
theorem drop_eq (i : S2x4x2x4096x4352.Idx) : reducesTo_S2x4x2x4096x4352_S2x4x2x4096_d4.drop i = ix4 (i 0) (i 1) (i 2) (i 3) := by
  funext a
  match a with
  | 0 => exact Fin.ext (Shape.ReducesTo.drop_apply_val_of_eq _ i 0 0)
  | 1 => exact Fin.ext (Shape.ReducesTo.drop_apply_val_of_eq _ i 1 1)
  | 2 => exact Fin.ext (Shape.ReducesTo.drop_apply_val_of_eq _ i 2 2)
  | 3 => exact Fin.ext (Shape.ReducesTo.drop_apply_val_of_eq _ i 3 3)

/-- Each row's largest score. -/
theorem peak_at (S : FVec Ideal S2x4x2x4096x4352 .f32) (b : Fin 2) (h : Fin 4) (g : Fin 2) (i : Fin 4096) :
    peak S (ix4 b h g i) = Finset.univ.sup fun κ : Fin 4352 => S (ix5 b h g i κ) := by
  unfold peak
  generalize hz : Host.reduce FloatOps.maximumf S (constant S_ .f32 0xFF800000#32) reducesTo_S2x4x2x4096x4352_S2x4x2x4096_d4 h_S_ = z
  rw [maximumf_at, copied_at, Cert.GqaIdeal.Block.start_eq]
  refine eq_of_forall_ge_iff fun c => ?_
  rw [Finset.sup_le_iff, max_le_iff, ← hz]
  refine (and_congr Iff.rfl (reduce_max_le S _ _ _ _ c)).trans ⟨fun h2 κ _ => h2.2.2 _ (drop_eq _), fun h2 => ⟨bot_le, ?_, fun j e => ?_⟩⟩
  · exact le_of_eq_of_le Cert.GqaIdeal.Block.start_eq bot_le
  · rw [drop_eq] at e
    have e0 : j 0 = b := congrFun e 0
    have e1 : j 1 = h := congrFun e 1
    have e2 : j 2 = g := congrFun e 2
    have e3 : j 3 = i := congrFun e 3
    rw [eq_ix5 j, e0, e1, e2, e3]
    exact h2 _ (Finset.mem_univ _)

/-- A row's number at one of its columns. -/
theorem spread_at (v : FVec Ideal S2x4x2x4096 .f32) (b : Fin 2) (h : Fin 4) (g : Fin 2) (i : Fin 4096) (κ : Fin 4352) :
    spread v (ix5 b h g i κ) = v (ix4 b h g i) := by
  pointwise [spread]

/-- The exponentials at an element. -/
theorem expo_at (S : FVec Ideal S2x4x2x4096x4352 .f32) (b : Fin 2) (h : Fin 4) (g : Fin 2) (i : Fin 4096) (κ : Fin 4352) :
    expo S (ix5 b h g i κ) = Ideal.exp (S (ix5 b h g i κ) - peak S (ix4 b h g i)) := by
  unfold expo
  show Ideal.exp (S (ix5 b h g i κ) - spread (peak S) (ix5 b h g i κ)) = _
  rw [spread_at]

/-- Each row's sum. -/
theorem total_at (E : FVec Ideal S2x4x2x4096x4352 .f32) (b : Fin 2) (h : Fin 4) (g : Fin 2) (i : Fin 4096) :
    total E (ix4 b h g i) = ∑ κ : Fin 4352, E (ix5 b h g i κ) := by
  pointwise [total]

/-- A column's share at an element, from the scores. -/
theorem shares_at (S : FVec Ideal S2x4x2x4096x4352 .f32) (b : Fin 2) (h : Fin 4) (g : Fin 2) (i : Fin 4096) (κ : Fin 4352) :
    shares (expo S) (ix5 b h g i κ) = Ideal.div (Ideal.exp (S (ix5 b h g i κ) - Finset.univ.sup fun κ : Fin 4352 => S (ix5 b h g i κ)))
      (∑ l : Fin 4352, Ideal.exp (S (ix5 b h g i l) - Finset.univ.sup fun κ : Fin 4352 => S (ix5 b h g i κ))) := by
  show Ideal.div (expo S (ix5 b h g i κ)) (spread (total (expo S)) (ix5 b h g i κ)) = _
  rw [spread_at, total_at, expo_at, peak_at]
  simp only [expo_at, peak_at]

/-- The weight of the second map. -/
theorem lam_at (A3 : FVec Ideal S4x128 .f32) (j : S_.Idx) : lam A3 j = weight2 (fun r k => A3 (ix2 r k)) := by
  pointwise [lam]
  rfl

/-- The difference of the maps at an element. -/
theorem mixed_at (l : FVec Ideal S_ .f32) (P : FVec Ideal S2x4x2x4096x4352 .f32) (b : Fin 2) (h : Fin 4) (i : Fin 4096) (κ : Fin 4352) :
    mixed l P (ix4 b h i κ) = P (ix5 b h 0 i κ) - l ix0 * P (ix5 b h 1 i κ) := by
  pointwise [mixed]

/-- The weighted values at an element. -/
theorem applied_at (W : FVec Ideal S2x4352x4x256 .f32) (P : FVec Ideal S2x4x4096x4352 .f32) (b : Fin 2) (i : Fin 4096) (h : Fin 4) (d : Fin 256) :
    applied W P (ix4 b i h d) = ∑ κ : Fin 4352, W (ix4 b κ h d) * P (ix4 b h i κ) := by
  pointwise [applied]

/-- The scaled rows at an element. -/
theorem scaled_at (O : FVec Ideal S2x4096x4x256 .f32) (A4 : FVec Ideal S1x256 .f32) (b : Fin 2) (i : Fin 4096) (h : Fin 4) (d : Fin 256) :
    scaled O A4 (ix4 b i h d) = scale (fun e => O (ix4 b i h e)) (fun e => A4 (ix2 0 e)) d := by
  pointwise [scaled]
  rfl

/-- The matrix at an element. -/
theorem laid_at (O : FVec Ideal S2x4096x4x256 .f32) (i : Fin 8192) (j : Fin 1024) :
    laid O (ix2 i j) = O (ix4 ⟨i.val / 4096, by omega⟩ ⟨i.val % 4096, by omega⟩ ⟨j.val / 256, by omega⟩ ⟨j.val % 256, by omega⟩) := by
  pointwise [laid]

/-- A column's share over the argument arrays. -/
theorem share_at (A0 : FVec Ideal S8192x4608 .bf16) (A1 : FVec Ideal S512x1024 .f32) (i : Fin 8192) (h : Fin 4) (g : Fin 2) (κ : Fin 4352) :
    shares (expo (scores (queries A0) (keys A0 A1))) (ix5 ⟨i.val / 4096, by omega⟩ h g ⟨i.val % 4096, by omega⟩ κ) =
      share ((Real.log 2 : ℝ) : EReal) (fun k => A0 (ix2 i ⟨1536 + 256 * h.val + (128 * g.val + k.val), by omega⟩))
        (fun κ k => col (fun a b => A0 (ix2 a b)) (fun a b => A1 (ix2 a b)) 2560 (by omega) (i.val / 4096) h.val (by omega) h.isLt κ ⟨128 * g.val + k.val, by omega⟩) κ := by
  have eq : ∀ k : Fin 128, queries A0 (ix5 ⟨i.val / 4096, by omega⟩ ⟨i.val % 4096, by omega⟩ h g k)
      = A0 (ix2 i ⟨1536 + 256 * h.val + (128 * g.val + k.val), by omega⟩) := by
    intro k
    rw [queries_at]
    exact congrArg₂ (fun a b => A0 (ix2 a b)) (Fin.ext (by dsimp only; omega)) rfl
  rw [shares_at]
  simp only [scores_at, keys_at, eq]
  rfl

/-- The reference's result at an element. -/
theorem res_at (c : Dev nD) (i : Fin 8192) (j : Fin 1024) : res_main_v69 m c (ix2 i j) =
    out (mixRef ((Real.log 2 : ℝ) : EReal)) (fun a b => m ((c.tc : Thread nD τ).loc main_arg0) (ix2 a b))
      (fun a b => m ((c.tc : Thread nD τ).loc main_arg1) (ix2 a b)) (fun a b => m ((c.tc : Thread nD τ).loc main_arg2) (ix2 a b))
      (fun a b => m ((c.tc : Thread nD τ).loc main_arg3) (ix2 a b)) (fun e => m ((c.tc : Thread nD τ).loc main_arg4) (ix2 0 e)) i j := by
  rw [res_eq]
  refine (laid_at _ i j).trans ?_
  rw [scaled_at]
  unfold out
  congr 1
  funext d
  rw [applied_at]
  unfold mixRef
  refine Finset.sum_congr rfl fun κ _ => ?_
  rw [mixed_at, lam_at, share_at, share_at, values_at]
  congr 1

end Cert.DiffRefIdeal.Spec

end
-- ==== Proof.DiffCorners.lean ====
/-
  The differential attention's rows where scores may be infinite: a row of scores either has a finite maximum, and its shares are
  real, or has none, and both programs' rows end at zero.
-/
module

public import proofs.«01_k».proof.Proof.DiffSpec
public import proofs.«01_k».proof.Proof.Softmax
public import Idealize.ShloMosaic.PureOps.Ideal
public import Idealize.ShloMosaic.Lib.Pointwise

@[expose] public section

set_option maxRecDepth 16384

noncomputable section

namespace Cert.DiffCorners

open Idealize.ShloMosaic
open Cert.DiffSpec

/-- One score under a finite maximum: both spellings of its weight are one real number, positive unless the score is minus infinity. -/
theorem weight_one (s : EReal) (a : ℝ) (h : s ≤ (a : EReal)) : ∃ w : ℝ, 0 ≤ w ∧ (s ≠ ⊥ → 0 < w) ∧ Ideal.exp2 (s - (a : EReal)) = (w : EReal)
    ∧ Ideal.exp (s * ((Real.log 2 : ℝ) : EReal) - (a : EReal) * ((Real.log 2 : ℝ) : EReal)) = (w : EReal) := by
  have hlog : (0 : ℝ) < Real.log 2 := Real.log_pos (by norm_num)
  induction s with
  | bot =>
    refine ⟨0, le_rfl, fun h => absurd rfl h, ?_, ?_⟩
    · rw [EReal.bot_sub]; rfl
    · rw [EReal.bot_mul_coe_of_pos hlog, EReal.bot_sub]; rfl
  | top => exact absurd h (by simp)
  | coe b =>
    have hw : (0 : ℝ) < Real.rpow 2 (b - a) := Real.rpow_pos_of_pos (by norm_num) _
    refine ⟨Real.rpow 2 (b - a), hw.le, fun _ => hw, ?_, ?_⟩
    · rw [← EReal.coe_sub]; rfl
    · rw [← EReal.coe_mul, ← EReal.coe_mul, ← EReal.coe_sub, ← sub_mul]
      show ((Real.exp _ : ℝ) : EReal) = _
      rw [show Real.rpow 2 (b - a) = (2 : ℝ) ^ (b - a) from rfl, Real.rpow_def_of_pos (by norm_num), mul_comm]

/-- A row of scores: its weights are real numbers with a positive sum in both spellings, or all zero in both. -/
theorem row_cases {n : ℕ} (hn : 0 < n) (S : Fin n → EReal) :
    (∃ w : Fin n → ℝ, 0 < ∑ κ, w κ ∧ (∀ κ, Ideal.exp2 (S κ - Finset.univ.sup fun κ => S κ) = (w κ : EReal))
      ∧ ∀ κ, Ideal.exp (S κ * ((Real.log 2 : ℝ) : EReal) - Finset.univ.sup fun κ => S κ * ((Real.log 2 : ℝ) : EReal)) = (w κ : EReal))
    ∨ ((∀ κ, Ideal.exp2 (S κ - Finset.univ.sup fun κ => S κ) = 0)
      ∧ ∀ κ, Ideal.exp (S κ * ((Real.log 2 : ℝ) : EReal) - Finset.univ.sup fun κ => S κ * ((Real.log 2 : ℝ) : EReal)) = 0) := by
  have hlog : (0 : ℝ) < Real.log 2 := Real.log_pos (by norm_num)
  haveI : Nonempty (Fin n) := ⟨⟨0, hn⟩⟩
  obtain ⟨κ0, h0⟩ := Finite.exists_max S
  have e1 : (Finset.univ.sup fun κ => S κ) = S κ0 :=
    le_antisymm (Finset.sup_le fun κ _ => h0 κ) (Finset.le_sup (f := fun κ => S κ) (Finset.mem_univ κ0))
  have e2 : (Finset.univ.sup fun κ => S κ * ((Real.log 2 : ℝ) : EReal)) = S κ0 * ((Real.log 2 : ℝ) : EReal) :=
    le_antisymm (Finset.sup_le fun κ _ => mul_le_mul_of_nonneg_right (h0 κ) (EReal.coe_nonneg.2 hlog.le))
      (Finset.le_sup (f := fun κ => S κ * ((Real.log 2 : ℝ) : EReal)) (Finset.mem_univ κ0))
  rw [e1, e2]
  generalize hM : S κ0 = M at h0
  induction M with
  | bot =>
    right
    have hb : ∀ κ, S κ = ⊥ := fun κ => le_bot_iff.1 (h0 κ)
    refine ⟨fun κ => ?_, fun κ => ?_⟩
    · rw [hb, EReal.bot_sub]; rfl
    · rw [hb, EReal.bot_mul_coe_of_pos hlog, EReal.bot_sub]; rfl
  | top =>
    right
    refine ⟨fun κ => ?_, fun κ => ?_⟩
    · rw [sub_eq_add_neg, EReal.neg_top, EReal.add_bot]; rfl
    · rw [EReal.top_mul_coe_of_pos hlog, sub_eq_add_neg, EReal.neg_top, EReal.add_bot]; rfl
  | coe a =>
    left
    choose w w0 wpos hw1 hw2 using fun κ => weight_one (S κ) a (h0 κ)
    exact ⟨w, Finset.sum_pos' (fun κ _ => w0 κ) ⟨κ0, Finset.mem_univ _, wpos κ0 (by rw [hM]; exact EReal.coe_ne_bot a)⟩, hw1, hw2⟩

/-- Zero over zero. -/
theorem div_zero_zero : Ideal.div 0 0 = ⊥ := by
  simp [Ideal.div]

/-- A map's row: real shares and their average, or minus infinity throughout. -/
theorem attn_cases (q : Fin 128 → EReal) (K : Fin 4352 → Fin 128 → EReal) :
    (∃ p : Fin 4352 → ℝ, (∀ κ, share ((Real.log 2 : ℝ) : EReal) q K κ = (p κ : EReal))
      ∧ ∀ (V : Fin 4352 → Fin 256 → EReal) d, attn q K V d = ∑ κ, V κ d * (p κ : EReal))
    ∨ ((∀ κ, share ((Real.log 2 : ℝ) : EReal) q K κ = ⊥) ∧ ∀ (V : Fin 4352 → Fin 256 → EReal) d, attn q K V d = ⊥) := by
  unfold attn share
  rcases row_cases (by omega) (fun κ : Fin 4352 => ∑ k, q k * K κ k) with ⟨w, hL, h1, h2⟩ | ⟨h1, h2⟩
  · left
    simp only [h1, h2]
    refine ⟨fun κ => w κ * (1 / ∑ κ, w κ), fun κ => ?_, fun V d => ?_⟩
    · rw [← Cert.Softmax.coe_sum, Ideal.div_coe hL.ne', ← EReal.coe_mul]
      all_goals first | rfl | simp [one_div]
    · rw [← Cert.Softmax.coe_sum, Ideal.div_coe hL.ne', Cert.Softmax.sum_mul_coe _ _ (by positivity)]
      refine Finset.sum_congr rfl fun κ _ => ?_
      rw [mul_comm (w κ : EReal) (V κ d), mul_assoc, ← EReal.coe_mul]
  · right
    simp only [h1, h2, zero_mul, Finset.sum_const_zero, div_zero_zero, implies_true, and_self]

/-- The square of an extended real is not negative. -/
theorem sq_nonneg (x : EReal) : 0 ≤ x * x := by
  induction x with
  | bot => simp
  | top => simp
  | coe r => rw [← EReal.coe_mul]; exact EReal.coe_nonneg.2 (mul_self_nonneg r)

/-- The norm's constants. -/
theorem const_256 : Ideal.ofBits .f32 0x43800000#32 = ((256 : ℝ) : EReal) := by
  simp [Ideal.ofBits, Ideal.ieee, -EReal.coe_mul]; norm_num

theorem const_eps : ∃ r : ℝ, Ideal.ofBits .f32 0x358637BD#32 = r := by
  simp [Ideal.ofBits, Ideal.ieee, -EReal.coe_mul]

/-- A row with an infinite element is scaled to zero. -/
theorem scale_inf (o g : Fin 256 → EReal) (d e0 : Fin 256) (h : o e0 = ⊤ ∨ o e0 = ⊥) : scale o g d = 0 := by
  have e : ∑ e, o e * o e = ⊤ := by
    refine top_le_iff.1 ?_
    have h1 : o e0 * o e0 = ⊤ := by rcases h with h | h <;> rw [h] <;> simp
    rw [← h1]
    exact Finset.single_le_sum (f := fun e => o e * o e) (fun e _ => sq_nonneg (o e)) (Finset.mem_univ e0)
  obtain ⟨r, hr⟩ := const_eps
  unfold scale
  rw [e, const_256, Ideal.div_coe (by norm_num), EReal.top_mul_coe_of_pos (by positivity), hr, EReal.top_add_coe]
  show o d * 0 * g d * _ = 0
  simp

/-- A row of zeros is scaled to zero. -/
theorem scale_zero (o g : Fin 256 → EReal) (d : Fin 256) (h : ∀ e, o e = 0) : scale o g d = 0 := by
  unfold scale
  simp [h]

/-- A sum of real multiples of an infinity is zero or infinite. -/
theorem inf_sum {n : ℕ} (v : Fin n → EReal) (I : EReal) (hI : I = ⊤ ∨ I = ⊥) (hv : ∀ κ, ∃ r : ℝ, v κ = r) :
    ∑ κ, v κ * I = 0 ∨ ∑ κ, v κ * I = ⊤ ∨ ∑ κ, v κ * I = ⊥ := by
  refine Finset.sum_induction (fun κ => v κ * I) (fun x => x = 0 ∨ x = ⊤ ∨ x = ⊥) (fun a b ha hb => ?_) (Or.inl rfl) fun κ _ => ?_
  · rcases ha with rfl | rfl | rfl <;> rcases hb with rfl | rfl | rfl <;> simp
  · obtain ⟨r, hr⟩ := hv κ
    rw [hr]
    rcases lt_trichotomy r 0 with h | h | h
    · rcases hI with rfl | rfl
      · rw [EReal.coe_mul_top_of_neg h]; simp
      · rw [EReal.coe_mul_bot_of_neg h]; simp
    · subst h; simp
    · rcases hI with rfl | rfl
      · rw [EReal.coe_mul_top_of_pos h]; simp
      · rw [EReal.coe_mul_bot_of_pos h]; simp

/-- A row of such sums is scaled to zero. -/
theorem scale_infs {n : ℕ} (V : Fin n → Fin 256 → EReal) (I : EReal) (hI : I = ⊤ ∨ I = ⊥) (hV : ∀ κ d, ∃ r : ℝ, V κ d = r)
    (g : Fin 256 → EReal) (d : Fin 256) : scale (fun d => ∑ κ, V κ d * I) g d = 0 := by
  by_cases h : ∀ e, ∑ κ, V κ e * I = 0
  · exact scale_zero _ _ _ h
  · obtain ⟨e0, he⟩ := not_forall.1 h
    exact scale_inf _ _ _ e0 ((inf_sum (fun κ => V κ e0) I hI fun κ => hV κ e0).resolve_left he)

/-- The difference of two real averages is the average under the differences. -/
theorem sum_sub {n : ℕ} (l : EReal) (v : Fin n → EReal) (p p' : Fin n → ℝ) (hl : ∃ r : ℝ, l = r) (hv : ∀ κ, ∃ r : ℝ, v κ = r) :
    (∑ κ, v κ * (p κ : EReal)) - l * ∑ κ, v κ * (p' κ : EReal) = ∑ κ, v κ * ((p κ : EReal) - l * (p' κ : EReal)) := by
  obtain ⟨l, rfl⟩ := hl
  choose v' hv using hv
  simp only [hv, ← EReal.coe_mul, ← EReal.coe_sub, ← Cert.Softmax.coe_sum]
  refine congrArg _ ?_
  rw [Finset.mul_sum, ← Finset.sum_sub_distrib]
  exact Finset.sum_congr rfl fun _ _ => by ring

/-- A real number less an infinity. -/
theorem real_sub_bot (x : ℝ) : (x : EReal) - ⊥ = ⊤ := by
  rw [sub_eq_add_neg, EReal.neg_bot, EReal.coe_add_top]

theorem real_sub_top (x : ℝ) : (x : EReal) - ⊤ = ⊥ := by
  rw [sub_eq_add_neg, EReal.neg_top, EReal.add_bot]

/-- The two spellings of a row are scaled to the same numbers where the values and the second map's weight are real. -/
theorem scale_mix_eq (l : EReal) (q : Fin 256 → EReal) (K V : Fin 4352 → Fin 256 → EReal) (g : Fin 256 → EReal) (d : Fin 256)
    (hl : ∃ r : ℝ, l = r) (hV : ∀ κ d, ∃ r : ℝ, V κ d = r) :
    scale (mix l q K V) g d = scale (mixRef ((Real.log 2 : ℝ) : EReal) l q K V) g d := by
  rcases attn_cases (fun k => q ⟨k.val, by omega⟩) (fun κ k => K κ ⟨k.val, by omega⟩) with ⟨p, h1, h2⟩ | ⟨h1, h2⟩
  · rcases attn_cases (fun k => q ⟨128 + k.val, by omega⟩) (fun κ k => K κ ⟨128 + k.val, by omega⟩) with ⟨p', h3, h4⟩ | ⟨h3, h4⟩
    · have e : mix l q K V = mixRef ((Real.log 2 : ℝ) : EReal) l q K V := by
        funext d
        unfold mix mixRef
        simp only [h1, h2, h3, h4]
        exact sum_sub l _ p p' hl fun κ => hV κ d
      rw [e]
    · obtain ⟨r, rfl⟩ := hl
      have hA : ∀ d, ∃ a : ℝ, ∑ κ, V κ d * (p κ : EReal) = a := fun d =>
        Cert.Softmax.real_dot _ _ (fun κ => hV κ d) fun κ => ⟨p κ, rfl⟩
      choose A hA using hA
      rcases lt_trichotomy r 0 with h | h | h
      · have e1 : mix (r : EReal) q K V = fun _ => ⊥ := by
          funext d
          unfold mix
          rw [h2, h4, EReal.coe_mul_bot_of_neg h, hA, real_sub_top]
        have e2 : mixRef ((Real.log 2 : ℝ) : EReal) (r : EReal) q K V = fun d => ∑ κ, V κ d * ⊥ := by
          funext d
          unfold mixRef
          simp only [h1, h3, EReal.coe_mul_bot_of_neg h, real_sub_top]
        rw [e1, e2, scale_infs V ⊥ (Or.inr rfl) hV, scale_inf _ _ _ d (Or.inr rfl)]
      · subst h
        have e : mix ((0 : ℝ) : EReal) q K V = mixRef ((Real.log 2 : ℝ) : EReal) ((0 : ℝ) : EReal) q K V := by
          funext d
          unfold mix mixRef
          simp only [h1, h2, h3, h4, EReal.coe_zero, zero_mul, sub_zero]
        rw [e]
      · have e1 : mix (r : EReal) q K V = fun _ => ⊤ := by
          funext d
          unfold mix
          rw [h2, h4, EReal.coe_mul_bot_of_pos h, hA, real_sub_bot]
        have e2 : mixRef ((Real.log 2 : ℝ) : EReal) (r : EReal) q K V = fun d => ∑ κ, V κ d * ⊤ := by
          funext d
          unfold mixRef
          simp only [h1, h3, EReal.coe_mul_bot_of_pos h, real_sub_bot]
        rw [e1, e2, scale_infs V ⊤ (Or.inl rfl) hV, scale_inf _ _ _ d (Or.inl rfl)]
  · have e1 : mix l q K V = fun _ => ⊥ := by
      funext d
      unfold mix
      rw [h2, EReal.bot_sub]
    have e2 : mixRef ((Real.log 2 : ℝ) : EReal) l q K V = fun d => ∑ κ, V κ d * ⊥ := by
      funext d
      unfold mixRef
      simp only [h1, EReal.bot_sub]
    rw [e1, e2, scale_infs V ⊥ (Or.inr rfl) hV, scale_inf _ _ _ d (Or.inr rfl)]

end Cert.DiffCorners

end
-- ==== Proof.DiffEquation.lean ====
/-
  The differential attention call: where the values, the cached values and the rows the second map's weight comes from are
  finite, the kernel's array is the reference's.
-/
module

public import proofs.«01_k».proof.Defs
public import proofs.«01_k».proof.Proof.DiffValue
public import proofs.«01_k».proof.Proof.DiffRefValue
public import proofs.«01_k».proof.Proof.Softmax
public import proofs.«01_k».proof.Proof.DiffCorners
public import proofs.«01_k».proof.Proof.GqaEquation
public import proofs.«01_k».proof.Proof.Gen.Pre_finite_b
public import Idealize.ShloMosaic.Lib.ReduceAll

@[expose] public section

set_option maxRecDepth 16384

noncomputable section

namespace Cert.DiffEquation

open Idealize.ShloMosaic Idealize.ShloMosaic.TcCoe Idealize.SL.Sem Idealize.ShloMosaic.Tactic
open Cert.DiffSpec
open Cert.GqaEquation (real_of_abs)

/-- The constant of the second map's weight is real. -/
theorem const_real : ∃ r : ℝ, Ideal.ofBits .f32 0x3E4CCCCD#32 = r := by
  simp [Ideal.ofBits, Ideal.ieee, -EReal.coe_mul]

/-- Of real rows the second map's weight is real. -/
theorem weight_real (L : Fin 4 → Fin 128 → EReal) (hL : ∀ r k, ∃ x : ℝ, L r k = x) : ∃ r : ℝ, weight2 L = r := by
  obtain ⟨a, ha⟩ := Cert.Softmax.real_dot _ _ (hL 0) (hL 1)
  obtain ⟨b, hb⟩ := Cert.Softmax.real_dot _ _ (hL 2) (hL 3)
  obtain ⟨c, hc⟩ := const_real
  unfold weight2
  rw [ha, hb, hc]
  exact ⟨Real.exp a - Real.exp b + c, by rw [EReal.coe_add, EReal.coe_sub]; rfl⟩

/-- The two spellings of an element agree where the values and the rows of the second map's weight are finite. -/
theorem out_eq (A : Fin 8192 → Fin 4608 → EReal) (C D : Fin 512 → Fin 1024 → EReal) (L : Fin 4 → Fin 128 → EReal) (g : Fin 256 → EReal)
    (hA : ∀ a b, 3584 ≤ b.val → ∃ r : ℝ, A a b = r) (hD : ∀ a b, ∃ r : ℝ, D a b = r)
    (hL : ∀ a b, ∃ r : ℝ, L a b = r) (i : Fin 8192) (j : Fin 1024) :
    out mix A C D L g i j = out (mixRef ((Real.log 2 : ℝ) : EReal)) A C D L g i j := by
  unfold out
  refine Cert.DiffCorners.scale_mix_eq _ _ _ _ _ _ (weight_real L hL) fun κ k => ?_
  unfold col
  split
  · exact hA _ _ (by dsimp only; omega)
  · exact hD _ _

/-- What the precondition says: the projection's columns from 3584, the cached values, and the rows of the second map's weight, are
real numbers. -/
theorem finite_of_pre (A0 : FVec Ideal Cert.Pre_finite_b.S8192x4608 .bf16) (A1 A2 : FVec Ideal Cert.Pre_finite_b.S512x1024 .f32)
    (A3 : FVec Ideal Cert.Pre_finite_b.S4x128 .f32) (A4 : FVec Ideal Cert.Pre_finite_b.S1x256 .f32)
    (h : Cert.Pre_finite_b.fn (F := Ideal) A0 A1 A2 A3 A4 = fun _ => 1#1) :
    (∀ (a : Fin 8192) (b : Fin 4608), 3584 ≤ b.val → ∃ r : ℝ, A0 (ix2 a b) = (r : EReal))
      ∧ (∀ (a : Fin 512) (b : Fin 1024), ∃ r : ℝ, A2 (ix2 a b) = (r : EReal))
      ∧ ∀ (a : Fin 4) (b : Fin 128), ∃ r : ℝ, A3 (ix2 a b) = (r : EReal) := by
  have h0 := congrFun h (Shape.Idx.first Cert.Pre_finite_b.Facts.h_S_)
  unfold Cert.Pre_finite_b.fn at h0
  dsimp only at h0
  have h1 := IntOp.andi_eq_one.1 h0
  have h2 := IntOp.andi_eq_one.1 h1.1
  haveI : Subsingleton Cert.Pre_finite_b.S_.Idx := ⟨fun a b => funext fun k => k.elim0⟩
  refine ⟨fun a b hb => ?_, fun a b => ?_, fun a b => ?_⟩
  · have h4 := Host.reduce_andi_all _ _ _ _ _ h2.1 (ix2 a ⟨b.val - 3584, by omega⟩)
    refine real_of_abs _ ?_
    rw [← h4]
    pointwise []
    have e : (⟨3584 + (b.val - 3584), by omega⟩ : Fin 4608) = b := Fin.ext (by dsimp only; omega)
    rw [e]
    rfl
  · have h4 := Host.reduce_andi_all _ _ _ _ _ h2.2 (ix2 a b)
    refine real_of_abs _ ?_
    rw [← h4]
    pointwise []
    rfl
  · have h4 := Host.reduce_andi_all _ _ _ _ _ h1.2 (ix2 a b)
    refine real_of_abs _ ?_
    rw [← h4]
    pointwise []
    rfl

/-- From memories that agree on the arguments, the reference's result is the kernel's array. -/
theorem equation (m : (ℓ : Loc Cert.DiffIdeal.nD Cert.DiffIdeal.τ Cert.DiffIdeal.sig) → Buf (Elt Ideal) ℓ)
    (m' : (ℓ : Loc Cert.DiffRefIdeal.nD Cert.DiffRefIdeal.τ Cert.DiffRefIdeal.sig) → Buf (Elt Ideal) ℓ) (hp : Cert.Pre_DiffIdeal_finite_b m)
    (c : Dev Cert.DiffIdeal.nD)
    (h0 : m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0))
    (h1 : m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1))
    (h2 : m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2))
    (h3 : m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3))
    (h4 : m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) :
    Cert.DiffRefIdeal.Value.res_main_v69 m' c = Cert.DiffIdeal.Block.G m c := by
  obtain ⟨hA, hD, hL⟩ := finite_of_pre _ _ _ _ _ (hp c)
  funext y
  rw [eq_ix2 y]
  refine (Cert.DiffRefIdeal.Spec.res_at m' c (y 0) (y 1)).trans ?_
  rw [h0, h1, h2, h3, h4]
  exact (out_eq _ _ _ _ _ hA hD hL (y 0) (y 1)).symm

end Cert.DiffEquation

end
-- ==== Proof.MlpSpec.lean ====
/- The feed-forward network, row by row: the definitions the kernel's and the reference's arrays are read as. -/
module

public import Idealize.ShloMosaic.PureOps.Ideal
public import Mathlib.Algebra.BigOperators.Fin
public import Mathlib.Logic.Equiv.Fin.Basic

@[expose] public section

noncomputable section

namespace Cert.MlpSpec

open Idealize.ShloMosaic

/-- The reciprocal of a row's root mean square, with the small constant under the root. -/
def rms (v : Fin 2048 → EReal) : EReal :=
  Ideal.rsqrt (Ideal.div (∑ k, v k * v k) (Ideal.ofBits .f32 0x45000000#32) + Ideal.ofBits .f32 0x358637BD#32)

/-- A row normalised, scaled by a gain and by one plus a modulation, and shifted. -/
def normed (x g scale shift : Fin 2048 → EReal) (k : Fin 2048) : EReal :=
  x k * rms x * (g k * (1 + scale k)) + shift k

/-- One hidden unit: the square of the positive part of a row against a column. -/
def unitAt (n w : Fin 2048 → EReal) : EReal :=
  max (∑ k, n k * w k) 0 * max (∑ k, n k * w k) 0

/-- The part of a row's second product that the hidden units of one block of 512 give. -/
def part (n : Fin 2048 → EReal) (w1 : Fin 512 → Fin 2048 → EReal) (w2 : Fin 512 → EReal) : EReal :=
  ∑ l, unitAt n (w1 l) * w2 l

/-- A row plus its gated, normalised update. -/
def gated (x y g gate : Fin 2048 → EReal) (j : Fin 2048) : EReal :=
  x j + y j * rms y * (g j * gate j)

/-- The row of the modulation array that a row of the input reads its `a`-th modulation from. -/
def modRow (a : ℕ) (ha : a < 6) (i : Fin 8192) : Fin 48 := ⟨6 * (1 + i.val / 4096) + a, by omega⟩

/-- The normalised, modulated row `i`. -/
def rowN (X : Fin 8192 → Fin 2048 → EReal) (g : Fin 2048 → EReal) (mod : Fin 48 → Fin 2048 → EReal) (i : Fin 8192) : Fin 2048 → EReal :=
  normed (X i) g (mod (modRow 4 (by omega) i)) (mod (modRow 3 (by omega) i))

/-- The part of column `j` of a row's second product that block `g` of 512 hidden units gives. -/
def blockPart (n : Fin 2048 → EReal) (w1 : Fin 2048 → Fin 8192 → EReal) (w2 : Fin 8192 → Fin 2048 → EReal) (j : Fin 2048) (g : ℕ) : EReal :=
  part n (fun l k => w1 k ⟨(512 * g + l.val) % 8192, by omega⟩) (fun l => w2 ⟨(512 * g + l.val) % 8192, by omega⟩ j)

/-- Column `j` of a row's second product: every hidden unit against its weight. -/
def product (n : Fin 2048 → EReal) (w1 : Fin 2048 → Fin 8192 → EReal) (w2 : Fin 8192 → Fin 2048 → EReal) (j : Fin 2048) : EReal :=
  ∑ l, unitAt n (fun k => w1 k l) * w2 l j

/-- The sixteen blocks' parts are the whole product. -/
theorem sum_blockPart (n : Fin 2048 → EReal) (w1 : Fin 2048 → Fin 8192 → EReal) (w2 : Fin 8192 → Fin 2048 → EReal) (j : Fin 2048) :
    ∑ g ∈ Finset.range 16, blockPart n w1 w2 j g = product n w1 w2 j := by
  unfold blockPart part product
  rw [Finset.sum_range, ← Fintype.sum_prod_type']
  refine Fintype.sum_equiv ((Equiv.refl _).trans (finProdFinEquiv (m := 16) (n := 512))) _ _ fun p => ?_
  have e : ∀ h, (⟨(512 * p.1.val + p.2.val) % 8192, h⟩ : Fin 8192) = finProdFinEquiv (m := 16) (n := 512) p := fun h => by
    refine Fin.ext ?_
    simp only [finProdFinEquiv_apply_val]
    omega
  simp only [e]
  rfl

/-- Row `i` of the feed-forward network's result. -/
def out (X : Fin 8192 → Fin 2048 → EReal) (g g' : Fin 2048 → EReal) (mod : Fin 48 → Fin 2048 → EReal)
    (w1 : Fin 2048 → Fin 8192 → EReal) (w2 : Fin 8192 → Fin 2048 → EReal) (i : Fin 8192) (j : Fin 2048) : EReal :=
  gated (X i) (product (rowN X g mod i) w1 w2) g' (mod (modRow 5 (by omega) i)) j

end Cert.MlpSpec

end
-- ==== Proof.MlpBlock.lean ====
/- What one grid point of the feed-forward kernel stores, element by element, over the blocks it reads. -/
module

public import proofs.«01_k».proof.Proof.Gen.MlpIdeal.Value
public import proofs.«01_k».proof.Proof.MlpSpec
public import Idealize.ShloMosaic.Lib.Pipeline.ReadBack
public import Idealize.ShloMosaic.Lib.Pipeline.ValueKit

@[expose] public section

set_option maxRecDepth 16384

noncomputable section

namespace Cert.MlpIdeal.Block

open Cert.MlpIdeal Cert.MlpIdeal.Gen Idealize.ShloMosaic Idealize.ShloMosaic.TcCoe Idealize.SL.Sem Idealize.ShloMosaic.Tactic
open Cert.MlpSpec

/-- The hidden units of a grid point. -/
theorem act_at (n : Vec Ideal S1024x2048 .bf16) (w1 : Vec Ideal S1x2048x512 .bf16) (r : Fin 1024) (l : Fin 512) :
    k0_pay9 n w1 (ix2 r l) = unitAt (fun k => n (ix2 r k)) (fun k => w1 (ix3 0 k l)) := by
  pointwise [k0_pay9]
  rfl

/-- The normalised row. -/
theorem pay7_at (x : Vec Ideal S1024x2048 .f32) (g : Vec Ideal S1x2048 .f32) (sc sh : Vec Ideal S1x1x2048 .f32) (r : Fin 1024) (k : Fin 2048) :
    k0_pay7 x g sc sh (ix2 r k) = normed (fun k => x (ix2 r k)) (fun k => g (ix2 0 k)) (fun k => sc (ix3 0 0 k)) (fun k => sh (ix3 0 0 k)) k := by
  pointwise [k0_pay7]
  rfl

/-- The gated update. -/
theorem pay6_at (x y : Vec Ideal S1024x2048 .f32) (g : Vec Ideal S1x2048 .f32) (gate : Vec Ideal S1x1x2048 .f32) (r : Fin 1024) (k : Fin 2048) :
    k0_pay6 x y g gate (ix2 r k) = gated (fun k => x (ix2 r k)) (fun k => y (ix2 r k)) (fun k => g (ix2 0 k)) (fun k => gate (ix3 0 0 k)) k := by
  pointwise [k0_pay6]
  rfl

/-- One store of the accumulation: what was there plus 512 hidden units against their weights. -/
theorem pay5_at (n : FVec Ideal S1024x512 .bf16) (w2 : Vec Ideal S1x512x512 .bf16) (p : Vec Ideal S1024x512 .f32) (r : Fin 1024) (k : Fin 512) :
    k0_pay5 n w2 p (ix2 r k) = p (ix2 r k) + ∑ l, n (ix2 r l) * w2 (ix3 0 l k) := by
  pointwise [k0_pay5]

/-- The first store of a sum: 512 hidden units against their weights. -/
theorem pay1_at (n : FVec Ideal S1024x512 .bf16) (w2 : Vec Ideal S1x512x512 .bf16) (r : Fin 1024) (k : Fin 512) :
    k0_pay1 n w2 (ix2 r k) = ∑ l, n (ix2 r l) * w2 (ix3 0 l k) := by
  pointwise [k0_pay1]

/-- What a grid point adds at an element of the block. -/
def added (n : Vec Ideal S1024x2048 .bf16) (w1 : Vec Ideal S1x2048x512 .bf16) (w2 : Vec Ideal S1x512x2048 .bf16) (y : S1024x2048.Idx) : EReal :=
  part (fun k => n (ix2 (y 0) k)) (fun l k => w1 (ix3 0 k l)) (fun l => w2 (ix3 0 l (y 1)))

/-- The four column tiles a later grid point stores, as one block. -/
theorem canon_B (n : Vec Ideal S1024x2048 .bf16) (w1 : Vec Ideal S1x2048x512 .bf16) (w2 : Vec Ideal S1x512x2048 .bf16) (o : Vec Ideal S1024x2048 .f32) :
    View.canon (Val := Elt Ideal) (s := S1024x2048) (e := .f32)
      [⟨Rect.unit (s := S1024x2048) ![0, 1536] ![1024, 512] inb_S1024x2048_S1024x512_0_1536,
          k0_pay5 (k0_pay9 n w1)
            (View.ld w2 (Rect.unit (s := S1x512x2048) ![0, 0, 1536] ![1, 512, 512] inb_S1x512x2048_S1x512x512_0_0_1536))
            (View.ld o (Rect.unit (s := S1024x2048) ![0, 1536] ![1024, 512] inb_S1024x2048_S1024x512_0_1536))⟩,
        ⟨Rect.unit (s := S1024x2048) ![0, 1024] ![1024, 512] inb_S1024x2048_S1024x512_0_1024,
          k0_pay12 n w1 (View.ld w2 (Rect.unit (s := S1x512x2048) ![0, 0, 1024] ![1, 512, 512] inb_S1x512x2048_S1x512x512_0_0_1024))
            (View.ld o (Rect.unit (s := S1024x2048) ![0, 1024] ![1024, 512] inb_S1024x2048_S1024x512_0_1024))⟩,
        ⟨Rect.unit (s := S1024x2048) ![0, 512] ![1024, 512] inb_S1024x2048_S1024x512_0_512,
          k0_pay11 n w1 (View.ld w2 (Rect.unit (s := S1x512x2048) ![0, 0, 512] ![1, 512, 512] inb_S1x512x2048_S1x512x512_0_0_512))
            (View.ld o (Rect.unit (s := S1024x2048) ![0, 512] ![1024, 512] inb_S1024x2048_S1024x512_0_512))⟩,
        ⟨Rect.unit (s := S1024x2048) ![0, 0] ![1024, 512] inb_S1024x2048_S1024x512_0_0,
          k0_pay10 n w1 (View.ld w2 (Rect.unit (s := S1x512x2048) ![0, 0, 0] ![1, 512, 512] inb_S1x512x2048_S1x512x512_0_0_0))
            (View.ld o (Rect.unit (s := S1024x2048) ![0, 0] ![1024, 512] inb_S1024x2048_S1024x512_0_0))⟩] =
    fun y => o y + added n w1 w2 y := by
  refine funext fun y => View.canon_apply_of_pieces (Val := Elt Ideal) (S := S1024x2048) (e := .f32) (fun y => o y + added n w1 w2 y) _ ?_ y ?_
  swap
  · exact View.cover_of_tiledL _ ![1024, 512] (by sl_kernel_rfl) y
  simp only [List.forall_mem_cons, List.not_mem_nil, false_imp_iff, implies_true, and_true]
  refine ⟨fun x => ?_, fun x => ?_, fun x => ?_, fun x => ?_⟩ <;>
    (change S1024x512.Idx at x
     idx_vars x
     refine (pay5_at _ _ _ x0 x1).trans ?_
     unfold added part
     refine congrArg₂ (· + ·) (by blk_ext []) (Finset.sum_congr rfl fun l _ => ?_)
     rw [act_at]
     refine congrArg₂ (· * ·) (congrArg₂ unitAt ?_ rfl) ?_
     · refine funext fun k => congrArg n (funext fun a => Fin.ext ?_)
       fin_cases a
       · show x0.val = 0 + 1 * x0.val
         omega
       · rfl
     · refine congrArg w2 (funext fun a => Fin.ext ?_)
       fin_cases a
       · rfl
       · show 0 + 1 * l.val = l.val
         omega
       · rfl)

/-- The four column tiles the first grid point of a row block stores, as one block. -/
theorem canon_A (n : Vec Ideal S1024x2048 .bf16) (w1 : Vec Ideal S1x2048x512 .bf16) (w2 : Vec Ideal S1x512x2048 .bf16) :
    View.canon (Val := Elt Ideal) (s := S1024x2048) (e := .f32)
      [⟨Rect.unit (s := S1024x2048) ![0, 1536] ![1024, 512] inb_S1024x2048_S1024x512_0_1536,
          k0_pay4 (k0_pay8 n w1)
            (View.ld w2 (Rect.unit (s := S1x512x2048) ![0, 0, 1536] ![1, 512, 512] inb_S1x512x2048_S1x512x512_0_0_1536))⟩,
        ⟨Rect.unit (s := S1024x2048) ![0, 1024] ![1024, 512] inb_S1024x2048_S1024x512_0_1024,
          k0_pay3 (k0_pay8 n w1)
            (View.ld w2 (Rect.unit (s := S1x512x2048) ![0, 0, 1024] ![1, 512, 512] inb_S1x512x2048_S1x512x512_0_0_1024))⟩,
        ⟨Rect.unit (s := S1024x2048) ![0, 512] ![1024, 512] inb_S1024x2048_S1024x512_0_512,
          k0_pay2 (k0_pay8 n w1)
            (View.ld w2 (Rect.unit (s := S1x512x2048) ![0, 0, 512] ![1, 512, 512] inb_S1x512x2048_S1x512x512_0_0_512))⟩,
        ⟨Rect.unit (s := S1024x2048) ![0, 0] ![1024, 512] inb_S1024x2048_S1024x512_0_0,
          k0_pay1 (k0_pay8 n w1)
            (View.ld w2 (Rect.unit (s := S1x512x2048) ![0, 0, 0] ![1, 512, 512] inb_S1x512x2048_S1x512x512_0_0_0))⟩] =
    added n w1 w2 := by
  refine funext fun y => View.canon_apply_of_pieces (Val := Elt Ideal) (S := S1024x2048) (e := .f32) (added n w1 w2) _ ?_ y ?_
  swap
  · exact View.cover_of_tiledL _ ![1024, 512] (by sl_kernel_rfl) y
  simp only [List.forall_mem_cons, List.not_mem_nil, false_imp_iff, implies_true, and_true]
  refine ⟨fun x => ?_, fun x => ?_, fun x => ?_, fun x => ?_⟩ <;>
    (change S1024x512.Idx at x
     idx_vars x
     refine (pay1_at (k0_pay9 n w1) _ x0 x1).trans ?_
     unfold added part
     refine Finset.sum_congr rfl fun l _ => ?_
     rw [act_at]
     refine congrArg₂ (· * ·) (congrArg₂ unitAt ?_ rfl) ?_
     · refine funext fun k => congrArg n (funext fun a => Fin.ext ?_)
       fin_cases a
       · show x0.val = 0 + 1 * x0.val
         omega
       · rfl
     · refine congrArg w2 (funext fun a => Fin.ext ?_)
       fin_cases a
       · rfl
       · show 0 + 1 * l.val = l.val
         omega
       · rfl)

/-- The middle points of a row block add their part. -/
theorem out_B  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) (xo8 : Vec Ideal S1024x2048 .f32) (xs0 : Vec Ideal S1024x2048 .bf16) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 = fun y => xo8 y + added xs0 x6 x7 y := by
  frame_open
  simp (disch := decide) only [↓ View.readCov_skip, ↓ View.readCov_cons_toLoadRect, ↓ View.readCov_fill]
  frame_out
  exact canon_B xs0 x6 x7 xo8

/-- The first point of a row block stores its part, of the normalised rows. -/
theorem out_A  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7 = added (k0_pay7 x0 x1 x3 x2) x6 x7 := by
  frame_open
  simp (disch := decide) only [↓ View.readCov_skip, ↓ View.readCov_cons_toLoadRect, ↓ View.readCov_fill]
  frame_out
  exact canon_A _ x6 x7

/-- The first point of a row block keeps the normalised rows. -/
theorem kept_A  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7 = k0_pay7 x0 x1 x3 x2 := by
  frame_open
  simp (disch := decide) only [↓ View.readCov_skip, ↓ View.readCov_cons_toLoadRect, ↓ View.readCov_fill]
  frame_out

/-- The last point of a row block adds its part and then stores the gated update. -/
theorem out_C  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) (xo8 : Vec Ideal S1024x2048 .f32) (xs0 : Vec Ideal S1024x2048 .bf16) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 = k0_pay6 x0 (fun y => xo8 y + added xs0 x6 x7 y) x5 x4 := by
  frame_open
  simp (disch := decide) only [↓ View.readCov_skip, ↓ View.readCov_cons_toLoadRect, ↓ View.readCov_fill]
  frame_out
  rw [View.readCov_eq_canon', canon_B]
  refine congrArg (fun v => k0_pay6 x0 v x5 x4) ?_
  funext j
  refine congrArg (fun z => xo8 z + added xs0 x6 x7 z) (funext fun a => Fin.ext ?_)
  fin_cases a
  · show 0 + 1 * (j 0).val = (j 0).val
    omega
  · show 0 + 1 * (j 1).val = (j 1).val
    omega

end Cert.MlpIdeal.Block

end
-- ==== Proof.MlpValue.lean ====
/-
  The array the feed-forward kernel leaves: what each grid point holds, by induction along the sixteen points of a row
  block, and the blocks put together.
-/
module

public import proofs.«01_k».proof.Proof.Gen.MlpIdeal.Value
public import proofs.«01_k».proof.Proof.MlpBlock
public import proofs.«01_k».proof.Proof.MlpSpec
public import Idealize.ShloMosaic.Lib.Pipeline.ValueKit

@[expose] public section

set_option maxRecDepth 16384

noncomputable section

namespace Cert.MlpIdeal.Block

open Cert.MlpIdeal Cert.MlpIdeal.Gen Idealize.ShloMosaic Idealize.ShloMosaic.TcCoe Idealize.SL.Sem Idealize.ShloMosaic.Tactic
open Idealize.ShloMosaic.Pipeline (Dat)
open Cert.MlpSpec

/-- The index maps. -/
theorem idx : ∀ t : Fin cfg0.N, win0_0.index t = ![t.val / 16, 0] ∧ win0_1.index t = ![0, 0] ∧
    win0_2.index t = ![6 * (1 + t.val / 64) + 3, 0, 0] ∧ win0_3.index t = ![6 * (1 + t.val / 64) + 4, 0, 0] ∧
    win0_4.index t = ![6 * (1 + t.val / 64) + 5, 0, 0] ∧ win0_5.index t = ![0, 0] ∧ win0_6.index t = ![1, 0, t.val % 16] ∧
    win0_7.index t = ![1, t.val % 16, 0] ∧ win0_8.index t = ![t.val / 16, 0] :=
  (by decide +kernel : ∀ t : Fin grid0.N, _)

variable (m : (ℓ : Loc nD τ sig) → Buf (Elt Ideal) ℓ)

/-- The input rows. -/
def aX (c : Dev nD) (i : Fin 8192) (j : Fin 2048) : EReal := m ((c.tc : Thread nD τ).loc main_arg0) (ix2 i j)
/-- The gain before the network. -/
def aG (c : Dev nD) (j : Fin 2048) : EReal := m ((c.tc : Thread nD τ).loc main_arg1) (ix2 0 j)
/-- The gain after it. -/
def aG' (c : Dev nD) (j : Fin 2048) : EReal := m ((c.tc : Thread nD τ).loc main_arg2) (ix2 0 j)
/-- The modulations. -/
def aM (c : Dev nD) (i : Fin 48) (j : Fin 2048) : EReal := m ((c.tc : Thread nD τ).loc main_arg3) (ix3 i 0 j)
/-- The last layer's first weights. -/
def aW (c : Dev nD) (i : Fin 2048) (j : Fin 8192) : EReal := m ((c.tc : Thread nD τ).loc main_arg4) (ix3 1 i j)
/-- Its second weights. -/
def aV (c : Dev nD) (i : Fin 8192) (j : Fin 2048) : EReal := m ((c.tc : Thread nD τ).loc main_arg5) (ix3 1 i j)

/-- The array after the grid, over the argument arrays. -/
def G (c : Dev nD) : S8192x2048.Idx → EReal := fun y =>
  out (aX m c) (aG m c) (aG' m c) (aM m c) (aW m c) (aV m c) (y 0) (y 1)

/-- The row of the array that row `r` of a grid point's block is. -/
def rowOf (n : ℕ) (hn : n < cfg0.N) (r : Fin 1024) : Fin 8192 := ⟨1024 * (n / 16) + r.val, by
  have : n < 128 := hn
  omega⟩

/-- The normalised rows a grid point's blocks give. -/
theorem rows_at (c : Dev nD) (t : Fin cfg0.N) (r : Fin 1024) (k : Fin 2048) :
    k0_pay7 (iblk m c 0 t) (iblk m c 1 t) (iblk m c 3 t) (iblk m c 2 t) (ix2 r k) = rowN (aX m c) (aG m c) (aM m c) (rowOf t.val t.isLt r) k := by
  rw [pay7_at]
  unfold rowN aX aG aM
  have ht : t.val < 128 := t.isLt
  have e : (rowOf t.val t.isLt r).val / 4096 = t.val / 64 := by
    show (1024 * (t.val / 16) + r.val) / 4096 = _
    omega
  refine congrFun (congr (congr (congrArg₂ normed ?_ ?_) ?_) ?_) k
  · funext k
    blk_ext [iblk, V, idx t, rowOf]
  · funext k
    blk_ext [iblk, V, idx t]
  · funext k
    blk_ext [iblk, V, idx t, modRow, e]
  · funext k
    blk_ext [iblk, V, idx t, modRow, e]

/-- What a grid point adds, over the arrays. -/
theorem added_at (c : Dev nD) (t : Fin cfg0.N) (n : Vec Ideal S1024x2048 .bf16) (r : Fin 1024) (j : Fin 2048) :
    added n (iblk m c 6 t) (iblk m c 7 t) (ix2 r j) = blockPart (fun k => n (ix2 r k)) (aW m c) (aV m c) j (t.val % 16) := by
  unfold added blockPart aW aV
  refine congrArg₂ (part _) ?_ ?_
  · funext l k
    blk_ext [iblk, V, idx t]
  · funext l
    blk_ext [iblk, V, idx t]

/-- Row `r` of a grid point's block holds the sum of the first `f` parts, and the normalised row. -/
def Holds (c : Dev nD) (f : ℕ) (n : ℕ) (hn : n < cfg0.N) (o : Vec Ideal S1024x2048 .f32 × Vec Ideal S1024x2048 .bf16) : Prop := ∀ r : Fin 1024,
  (∀ j, o.1 (ix2 r j) = ∑ g ∈ Finset.range f, blockPart (rowN (aX m c) (aG m c) (aM m c) (rowOf n hn r)) (aW m c) (aV m c) j g) ∧
    ∀ k, o.2 (ix2 r k) = rowN (aX m c) (aG m c) (aM m c) (rowOf n hn r) k

/-- The first point of a row block. -/
theorem holds_A (c : Dev nD) (t : Fin cfg0.N) (h0 : t.val % 16 = 0) : Holds m c 1 t.val t.isLt (outsAt0 m c t.val t.isLt) := by
  rw [outsAt0_A m c t h0 (by omega) (by omega)]
  intro r
  refine ⟨fun j => ?_, fun k => ?_⟩
  · dsimp only
    rw [out_A, added_at, h0, Finset.sum_range_one]
    refine congrArg (fun v => blockPart v (aW m c) (aV m c) j 0) (funext fun k => rows_at m c t r k)
  · dsimp only
    rw [kept_A]
    exact rows_at m c t r k

/-- The row of a point's block is that of the point before, within a row block. -/
theorem rowOf_prev (t : Fin cfg0.N) (h0 : ¬t.val % 16 = 0) (hp : t.val - 1 < cfg0.N) (r : Fin 1024) : rowOf (t.val - 1) hp r = rowOf t.val t.isLt r := by
  refine Fin.ext ?_
  show 1024 * ((t.val - 1) / 16) + r.val = 1024 * (t.val / 16) + r.val
  omega

/-- What a later point's block would be before any gating: the parts up to its own. -/
theorem sum_next (c : Dev nD) (t : Fin cfg0.N) (h0 : ¬t.val % 16 = 0) (hp : t.val - 1 < cfg0.N) (o : Vec Ideal S1024x2048 .f32 × Vec Ideal S1024x2048 .bf16)
    (h : Holds m c (t.val % 16) (t.val - 1) hp o) (r : Fin 1024) (j : Fin 2048) :
    o.1 (ix2 r j) + added o.2 (iblk m c 6 t) (iblk m c 7 t) (ix2 r j) =
      ∑ g ∈ Finset.range (t.val % 16 + 1), blockPart (rowN (aX m c) (aG m c) (aM m c) (rowOf t.val t.isLt r)) (aW m c) (aV m c) j g := by
  rw [added_at, (h r).1 j, Finset.sum_range_succ, rowOf_prev t h0 hp r]
  refine congrArg _ (congrArg (fun v => blockPart v (aW m c) (aV m c) j (t.val % 16)) (funext fun k => ?_))
  rw [(h r).2 k, rowOf_prev t h0 hp r]

/-- A middle point of a row block. -/
theorem holds_B (c : Dev nD) (t : Fin cfg0.N) (h0 : ¬t.val % 16 = 0) (h2 : ¬t.val % 16 = 15) (hp : t.val - 1 < cfg0.N)
    (h : Holds m c (t.val % 16) (t.val - 1) hp (outsAt0 m c (t.val - 1) hp)) :
    Holds m c (t.val % 16 + 1) t.val t.isLt (outsAt0 m c t.val t.isLt) := by
  rw [outsAt0_B m c t h0 (by omega) h2]
  intro r
  refine ⟨fun j => ?_, fun k => ?_⟩
  · dsimp only
    rw [out_B]
    exact sum_next m c t h0 hp _ h r j
  · rw [← rowOf_prev t h0 hp r]
    exact (h r).2 k

/-- What every point but the last of a row block holds. -/
theorem holds (c : Dev nD) : ∀ (n : ℕ) (hn : n < cfg0.N), ¬n % 16 = 15 → Holds m c (n % 16 + 1) n hn (outsAt0 m c n hn) := by
  intro n
  induction n with
  | zero => exact fun hn _ => holds_A m c ⟨0, hn⟩ rfl
  | succ n ih =>
    intro hn h2
    by_cases h0 : (n + 1) % 16 = 0
    · rw [h0]
      exact holds_A m c ⟨n + 1, hn⟩ h0
    · have hp : n < cfg0.N := Nat.lt_of_succ_lt hn
      have e : (n + 1) % 16 = n % 16 + 1 := by omega
      refine holds_B m c ⟨n + 1, hn⟩ h0 h2 hp ?_
      have hi := ih hp (by omega)
      rw [← e] at hi
      exact hi

/-- The last point of a row block leaves the network's rows. -/
theorem last (c : Dev nD) (t : Fin cfg0.N) (h2 : t.val % 16 = 15) (r : Fin 1024) (j : Fin 2048) :
    (outsAt0 m c t.val t.isLt).1 (ix2 r j) = out (aX m c) (aG m c) (aG' m c) (aM m c) (aW m c) (aV m c) (rowOf t.val t.isLt r) j := by
  have h0 : ¬t.val % 16 = 0 := by omega
  have ht : t.val < 128 := t.isLt
  have hp : t.val - 1 < cfg0.N := lt_of_le_of_lt (Nat.sub_le _ _) t.isLt
  have h := holds m c (t.val - 1) hp (by omega)
  rw [show (t.val - 1) % 16 + 1 = t.val % 16 by omega] at h
  rw [outsAt0_C m c t h0 (by omega) h2]
  dsimp only
  rw [out_C, pay6_at]
  have e : (rowOf t.val t.isLt r).val / 4096 = t.val / 64 := by
    show (1024 * (t.val / 16) + r.val) / 4096 = _
    omega
  unfold out
  refine congrFun (congr (congr (congrArg₂ gated ?_ ?_) ?_) ?_) j
  · unfold aX
    funext k
    blk_ext [iblk, V, idx t, rowOf]
  · funext k
    refine (sum_next m c t h0 hp _ h r k).trans ?_
    rw [h2]
    exact sum_blockPart _ _ _ _
  · unfold aG'
    funext k
    blk_ext [iblk, V, idx t]
  · unfold aM
    funext k
    blk_ext [iblk, V, idx t, modRow, e]

/-- The array after the grid. -/
theorem final (c : Dev nD) : (dats m 0 c).arrAt 8 cfg0.N = G m c := by
  refine (dats m 0 c).arrAt_eq_of_covers 8 _ (by decide +kernel) fun t hf y => ?_
  have h2 : t.val % 16 = 15 := (by decide +kernel : ∀ t : Fin cfg0.N, (cfg0.win 8).flush t = true → t.val % 16 = 15) t hf
  have ht : t.val < 128 := t.isLt
  blk_simp
  rw [after0_8]
  idx_vars y
  refine (last m c t h2 y0 y1).trans ?_
  have e0 : (((View.whole main_v0).slice (win0_8.rect t)).emb (ix2 y0 y1) 0 : ℕ) = 1024 * (t.val / 16) + y0.val := by
    blk_simp [idx t]
    omega
  have e1 : (((View.whole main_v0).slice (win0_8.rect t)).emb (ix2 y0 y1) 1 : ℕ) = y1.val := by
    blk_simp [idx t]
  unfold G
  exact congrArg₂ (out _ _ _ _ _ _) (Fin.ext e0.symm) (Fin.ext e1.symm)

end Cert.MlpIdeal.Block

end
-- ==== Proof.MlpRefValue.lean ====
/- The reference's array of the feed-forward network, stage by stage and element by element. -/
module

public import proofs.«01_k».proof.Proof.Gen.MlpRefIdeal.Run
public import proofs.«01_k».proof.Proof.MlpSpec
public import Idealize.ShloMosaic.Lib.Pipeline.ValueKit

@[expose] public section

set_option maxRecDepth 16384

noncomputable section

namespace Cert.MlpRefIdeal.Staged

open Cert.MlpRefIdeal Cert.MlpRefIdeal.Gen Idealize.ShloMosaic Idealize.ShloMosaic.TcCoe Idealize.SL.Sem Idealize.ShloMosaic.Tactic
open Cert.MlpSpec

/-- The rows, by prompt. -/
def xs (X : FVec Ideal S8192x2048 .f32) : FVec Ideal S2x4096x2048 .f32 := shapeCast _ X shapeCasts_S8192x2048_S2x4096x2048

/-- The reciprocal root mean squares of rows. -/
def rs (v : FVec Ideal S2x4096x2048 .f32) : FVec Ideal S2x4096x1 .f32 :=
  Host.rsqrt (addf (Host.divf (broadcastInDim S2x4096x1 ![0, 1] bcast_S2x4096_S2x4096x1_0_1 (Host.reduceAdd (mulf v v) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))

/-- Rows normalised and scaled by a gain. -/
def scaled (v : FVec Ideal S2x4096x2048 .f32) (g : FVec Ideal S1x2048 .f32) : FVec Ideal S2x4096x2048 .f32 :=
  mulf (mulf v (broadcastInDim S2x4096x2048 ![0, 1, 2] bcast_S2x4096x1_S2x4096x2048_0_1_2 (rs v))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The modulations of the two prompts. -/
def mods (M : FVec Ideal S48x1x2048 .f32) : FVec Ideal S2x6x2048 .f32 :=
  extractStridedSlice S2x6x2048 ![1, 0, 0] (shapeCast _ M shapeCasts_S48x1x2048_S8x6x2048) slices_S8x6x2048_S2x6x2048_1_0_0

/-- The shift. -/
def shift (M : FVec Ideal S48x1x2048 .f32) : FVec Ideal S2x1x2048 .f32 :=
  broadcastInDim S2x1x2048 ![0, 2] bcast_S2x2048_S2x1x2048_0_2 (shapeCast _ (extractStridedSlice S2x1x2048 ![0, 3, 0] (mods M) slices_S2x6x2048_S2x1x2048_0_3_0) shapeCasts_S2x1x2048_S2x2048)
/-- The scale. -/
def scale (M : FVec Ideal S48x1x2048 .f32) : FVec Ideal S2x1x2048 .f32 :=
  broadcastInDim S2x1x2048 ![0, 2] bcast_S2x2048_S2x1x2048_0_2 (shapeCast _ (extractStridedSlice S2x1x2048 ![0, 4, 0] (mods M) slices_S2x6x2048_S2x1x2048_0_4_0) shapeCasts_S2x1x2048_S2x2048)
/-- The gate. -/
def gate (M : FVec Ideal S48x1x2048 .f32) : FVec Ideal S2x1x2048 .f32 :=
  broadcastInDim S2x1x2048 ![0, 2] bcast_S2x2048_S2x1x2048_0_2 (shapeCast _ (extractStridedSlice S2x1x2048 ![0, 5, 0] (mods M) slices_S2x6x2048_S2x1x2048_0_5_0) shapeCasts_S2x1x2048_S2x2048)

/-- The modulated rows. -/
def modulated (a : FVec Ideal S2x4096x2048 .f32) (sc sh : FVec Ideal S2x1x2048 .f32) : FVec Ideal S2x4096x2048 .f32 :=
  addf (mulf a (broadcastInDim S2x4096x2048 ![0, 1, 2] bcast_S2x1x2048_S2x4096x2048_0_1_2 (addf (broadcastInDim S2x1x2048 ![] bcast_S_S2x1x2048 (constant S_ .f32 0x3F800000#32)) sc))) (broadcastInDim S2x4096x2048 ![0, 1, 2] bcast_S2x1x2048_S2x4096x2048_0_1_2 sh)

/-- The positive parts of the first product. -/
def positive (n : FVec Ideal S2x4096x2048 .f32) (W : FVec Ideal S2x2048x8192 .bf16) : FVec Ideal S2x4096x8192 .f32 :=
  maximumf (Host.dotGeneral dot_S2x4096x2048_S2048x8192_S2x4096x8192_2_0_01_1_n_n none n (extf .f32 (shapeCast _ (extractStridedSlice S1x2048x8192 ![1, 0, 0] W slices_S2x2048x8192_S1x2048x8192_1_0_0) shapeCasts_S1x2048x8192_S2048x8192) bitsLt_bf16_f32)) (broadcastInDim S2x4096x8192 ![] bcast_S_S2x4096x8192 (constant S_ .f32 0x00000000#32))

/-- The second product. -/
def second (h : FVec Ideal S2x4096x8192 .f32) (W : FVec Ideal S2x8192x2048 .bf16) : FVec Ideal S2x4096x2048 .f32 :=
  Host.dotGeneral dot_S2x4096x8192_S8192x2048_S2x4096x2048_2_0_01_1_n_n none (mulf h h) (extf .f32 (shapeCast _ (extractStridedSlice S1x8192x2048 ![1, 0, 0] W slices_S2x8192x2048_S1x8192x2048_1_0_0) shapeCasts_S1x8192x2048_S8192x2048) bitsLt_bf16_f32)

/-- The rows plus their gated update. -/
def result (x a : FVec Ideal S2x4096x2048 .f32) (gt : FVec Ideal S2x1x2048 .f32) : FVec Ideal S8192x2048 .f32 :=
  shapeCast _ (addf x (mulf (broadcastInDim S2x4096x2048 ![0, 1, 2] bcast_S2x1x2048_S2x4096x2048_0_1_2 gt) a)) shapeCasts_S2x4096x2048_S8192x2048

/-- The whole, from the argument arrays. -/
def whole (X : FVec Ideal S8192x2048 .f32) (g g' : FVec Ideal S1x2048 .f32) (M : FVec Ideal S48x1x2048 .f32) (W1 : FVec Ideal S2x2048x8192 .bf16)
    (W2 : FVec Ideal S2x8192x2048 .bf16) : FVec Ideal S8192x2048 .f32 :=
  result (xs X) (scaled (second (positive (modulated (scaled (xs X) g) (scale M) (shift M)) W1) W2) g') (gate M)

/-- The run's result is the stages'. -/
theorem res_eq (m : (ℓ : Loc nD τ sig) → Buf (Elt Ideal) ℓ) (c : Dev nD) :
    Value.res_main_v60 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-- A row by prompt. -/
theorem xs_at (X : FVec Ideal S8192x2048 .f32) (b : Fin 2) (s : Fin 4096) (k : Fin 2048) :
    xs X (ix3 b s k) = X (ix2 ⟨4096 * b.val + s.val, by omega⟩ k) := by
  pointwise [xs]
  exact congrArg (fun a => X (ix2 a k)) (Fin.ext (by dsimp only; omega))

/-- The reciprocal root mean square of a row. -/
theorem rs_at (v : FVec Ideal S2x4096x2048 .f32) (b : Fin 2) (s : Fin 4096) : rs v (ix3 b s 0) = rms fun k => v (ix3 b s k) := by
  pointwise [rs]
  rfl

/-- A row normalised and scaled, at an element. -/
theorem scaled_at (v : FVec Ideal S2x4096x2048 .f32) (g : FVec Ideal S1x2048 .f32) (b : Fin 2) (s : Fin 4096) (k : Fin 2048) :
    scaled v g (ix3 b s k) = v (ix3 b s k) * rms (fun k => v (ix3 b s k)) * g (ix2 0 k) := by
  pointwise [scaled]
  rw [rs_at]

/-- A modulation of a prompt. -/
theorem mods_at (M : FVec Ideal S48x1x2048 .f32) (b : Fin 2) (a : Fin 6) (k : Fin 2048) :
    mods M (ix3 b a k) = M (ix3 ⟨6 * (1 + b.val) + a.val, by omega⟩ 0 k) := by
  pointwise [mods]
  exact congrArg (fun i => M (ix3 i 0 k)) (Fin.ext (by dsimp only; omega))

/-- A prompt's shift. -/
theorem shift_at (M : FVec Ideal S48x1x2048 .f32) (b : Fin 2) (k : Fin 2048) : shift M (ix3 b 0 k) = M (ix3 ⟨6 * (1 + b.val) + 3, by omega⟩ 0 k) := by
  pointwise [shift]
  exact mods_at M b 3 k

/-- A prompt's scale. -/
theorem scale_at (M : FVec Ideal S48x1x2048 .f32) (b : Fin 2) (k : Fin 2048) : scale M (ix3 b 0 k) = M (ix3 ⟨6 * (1 + b.val) + 4, by omega⟩ 0 k) := by
  pointwise [scale]
  exact mods_at M b 4 k

/-- A prompt's gate. -/
theorem gate_at (M : FVec Ideal S48x1x2048 .f32) (b : Fin 2) (k : Fin 2048) : gate M (ix3 b 0 k) = M (ix3 ⟨6 * (1 + b.val) + 5, by omega⟩ 0 k) := by
  pointwise [gate]
  exact mods_at M b 5 k

/-- A modulated row at an element. -/
theorem modulated_at (a : FVec Ideal S2x4096x2048 .f32) (sc sh : FVec Ideal S2x1x2048 .f32) (b : Fin 2) (s : Fin 4096) (k : Fin 2048) :
    modulated a sc sh (ix3 b s k) = a (ix3 b s k) * (1 + sc (ix3 b 0 k)) + sh (ix3 b 0 k) := by
  pointwise [modulated]

/-- A positive part. -/
theorem positive_at (n : FVec Ideal S2x4096x2048 .f32) (W : FVec Ideal S2x2048x8192 .bf16) (b : Fin 2) (s : Fin 4096) (l : Fin 8192) :
    positive n W (ix3 b s l) = max (∑ k, n (ix3 b s k) * W (ix3 1 k l)) 0 := by
  pointwise [positive]

/-- The second product at an element. -/
theorem second_at (h : FVec Ideal S2x4096x8192 .f32) (W : FVec Ideal S2x8192x2048 .bf16) (b : Fin 2) (s : Fin 4096) (j : Fin 2048) :
    second h W (ix3 b s j) = ∑ l, h (ix3 b s l) * h (ix3 b s l) * W (ix3 1 l j) := by
  pointwise [second]

/-- The result at an element. -/
theorem result_at (x a : FVec Ideal S2x4096x2048 .f32) (gt : FVec Ideal S2x1x2048 .f32) (i : Fin 8192) (j : Fin 2048) :
    result x a gt (ix2 i j) = x (ix3 ⟨i.val / 4096, by omega⟩ ⟨i.val % 4096, by omega⟩ j) + gt (ix3 ⟨i.val / 4096, by omega⟩ 0 j) * a (ix3 ⟨i.val / 4096, by omega⟩ ⟨i.val % 4096, by omega⟩ j) := by
  pointwise [result]

/-- The reference's array, row by row. -/
theorem whole_at (X : FVec Ideal S8192x2048 .f32) (g g' : FVec Ideal S1x2048 .f32) (M : FVec Ideal S48x1x2048 .f32) (W1 : FVec Ideal S2x2048x8192 .bf16)
    (W2 : FVec Ideal S2x8192x2048 .bf16) (i : Fin 8192) (j : Fin 2048) :
    whole X g g' M W1 W2 (ix2 i j) = out (fun i j => X (ix2 i j)) (fun j => g (ix2 0 j)) (fun j => g' (ix2 0 j)) (fun a j => M (ix3 a 0 j))
      (fun k l => W1 (ix3 1 k l)) (fun l j => W2 (ix3 1 l j)) i j := by
  have hx : ∀ k, xs X (ix3 ⟨i.val / 4096, by omega⟩ ⟨i.val % 4096, by omega⟩ k) = X (ix2 i k) := fun k => by
    rw [xs_at]
    exact congrArg (fun a => X (ix2 a k)) (Fin.ext (by dsimp only; omega))
  have hn : ∀ k, modulated (scaled (xs X) g) (scale M) (shift M) (ix3 ⟨i.val / 4096, by omega⟩ ⟨i.val % 4096, by omega⟩ k)
      = rowN (fun i j => X (ix2 i j)) (fun j => g (ix2 0 j)) (fun a j => M (ix3 a 0 j)) i k := fun k => by
    rw [modulated_at, scaled_at, scale_at, shift_at]
    simp only [hx]
    rw [mul_assoc (X (ix2 i k) * _)]
    rfl
  have hy : ∀ k, second (positive (modulated (scaled (xs X) g) (scale M) (shift M)) W1) W2 (ix3 ⟨i.val / 4096, by omega⟩ ⟨i.val % 4096, by omega⟩ k)
      = product (rowN (fun i j => X (ix2 i j)) (fun j => g (ix2 0 j)) (fun a j => M (ix3 a 0 j)) i) (fun k l => W1 (ix3 1 k l)) (fun l j => W2 (ix3 1 l j)) k := fun k => by
    rw [second_at]
    simp only [positive_at, hn]
    rfl
  unfold whole
  rw [result_at, hx, gate_at, scaled_at]
  simp only [hy]
  unfold out gated
  refine congrArg _ ?_
  rw [mul_comm, mul_assoc (_ * _)]
  rfl

end Cert.MlpRefIdeal.Staged

end
-- ==== Proof.MlpEquation.lean ====
/- The kernel's and the reference's arrays of the feed-forward network are one array. -/
module

public import proofs.«01_k».proof.Proof.MlpValue
public import proofs.«01_k».proof.Proof.MlpRefValue

@[expose] public section

noncomputable section

namespace Cert.MlpEquation

open Idealize.ShloMosaic Idealize.ShloMosaic.TcCoe Idealize.SL.Sem Idealize.ShloMosaic.Tactic

/-- The reference's result, on arguments that are the kernel's, is the kernel's array. -/
theorem equation (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h0 : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0))
    (h1 : m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1))
    (h2 : m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2))
    (h3 : m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3))
    (h4 : m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4))
    (h5 : m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) :
    Cert.MlpRefIdeal.Value.res_main_v60 m' c = Cert.MlpIdeal.Block.G m c := by
  refine (Cert.MlpRefIdeal.Staged.res_eq m' c).trans ?_
  rw [h0, h1, h2, h3, h4, h5]
  funext y
  rw [show y = ix2 (y 0) (y 1) from eq_ix2 y]
  exact Cert.MlpRefIdeal.Staged.whole_at _ _ _ _ _ _ (y 0) (y 1)

end Cert.MlpEquation

end
-- ==== Proof.LayerSpec.lean ====
/- The layer's projections and its gate, row by row: the definitions the kernels' and the references' arrays are read as. -/
module

public import proofs.«01_k».proof.Proof.MlpSpec

@[expose] public section

noncomputable section

namespace Cert.LayerSpec

open Idealize.ShloMosaic Cert.MlpSpec

/-- A row against one column of a matrix. -/
def against {K N : ℕ} (n : Fin K → EReal) (w : Fin K → Fin N → EReal) (j : Fin N) : EReal := ∑ k, n k * w k j

/-- A row of the input, normalised and modulated for the mixer. -/
def mixed (X : Fin 8192 → Fin 2048 → EReal) (g : Fin 2048 → EReal) (mod : Fin 48 → Fin 2048 → EReal) (i : Fin 8192) : Fin 2048 → EReal :=
  normed (X i) g (mod (modRow 1 (by omega) i)) (mod (modRow 0 (by omega) i))

/-- The recurrence's input: the modulated row against the weights. -/
def ssmIn (X : Fin 8192 → Fin 2048 → EReal) (g : Fin 2048 → EReal) (mod : Fin 48 → Fin 2048 → EReal) (w : Fin 2048 → Fin 2048 → EReal)
    (i : Fin 8192) (j : Fin 2048) : EReal :=
  against (mixed X g mod i) w j

/-- The output projection of one array of rows, normalised, gated and added to the input. -/
def outC (Z : Fin 8192 → Fin 2048 → EReal) (w : Fin 2048 → Fin 2048 → EReal) (X : Fin 8192 → Fin 2048 → EReal) (g : Fin 2048 → EReal)
    (mod : Fin 48 → Fin 2048 → EReal) (i : Fin 8192) (j : Fin 2048) : EReal :=
  gated (X i) (against (Z i) w) g (mod (modRow 2 (by omega) i)) j

/-- Two half rows against the two halves of a column. -/
def halves (a b : Fin 1024 → EReal) (w : Fin 2048 → Fin 2048 → EReal) (j : Fin 2048) : EReal :=
  (∑ k : Fin 1024, a k * w ⟨k.val, by omega⟩ j) + ∑ k : Fin 1024, b k * w ⟨1024 + k.val, by omega⟩ j

/-- The output projection of two arrays of half rows. -/
def outA (A B : Fin 8192 → Fin 1024 → EReal) (w : Fin 2048 → Fin 2048 → EReal) (X : Fin 8192 → Fin 2048 → EReal) (g : Fin 2048 → EReal)
    (mod : Fin 48 → Fin 2048 → EReal) (i : Fin 8192) (j : Fin 2048) : EReal :=
  gated (X i) (halves (A i) (B i) w) g (mod (modRow 2 (by omega) i)) j

/-- The two half rows side by side against a column are the halves' sum. -/
theorem halves_eq (a b : Fin 1024 → EReal) (c : Fin 2048 → EReal) (w : Fin 2048 → Fin 2048 → EReal) (j : Fin 2048)
    (ha : ∀ k : Fin 1024, c ⟨k.val, by omega⟩ = a k) (hb : ∀ k : Fin 1024, c ⟨1024 + k.val, by omega⟩ = b k) :
    against c w j = halves a b w j := by
  unfold against halves
  refine (Fin.sum_univ_add (a := 1024) (b := 1024) fun k => c k * w k j).trans ?_
  refine congrArg₂ (· + ·) (Finset.sum_congr rfl fun k _ => ?_) (Finset.sum_congr rfl fun k _ => ?_)
  · exact congrArg (· * _) (ha k)
  · exact congrArg (· * _) (hb k)

/-- The smooth rectifier, in its form with the hyperbolic tangent. -/
def gelu (v : EReal) : EReal :=
  Ideal.ofBits .f32 0x3F000000#32 * v * (1 + Ideal.tanh (Ideal.ofBits .f32 0x3F4C422A#32 * (v + Ideal.ofBits .f32 0x3D372713#32 * (v * v * v))))

/-- The recurrence's rows with the skip connection, rectified. -/
def rectified (Y U : Fin 8192 → Fin 2048 → EReal) (d : Fin 2048 → EReal) (i : Fin 8192) (j : Fin 2048) : EReal :=
  gelu (Y i j + d j * U i j)

/-- A value times the logistic function of another. -/
def logistic (z s : EReal) : EReal := z * Ideal.div 1 (1 + Ideal.exp (-s))

/-- The gated rows of the recurrence. -/
def glu (Y U : Fin 8192 → Fin 2048 → EReal) (d : Fin 2048 → EReal) (w : Fin 2048 → Fin 2048 → EReal) (i : Fin 8192) (j : Fin 2048) : EReal :=
  logistic (rectified Y U d i j) (against (rectified Y U d i) w j)

end Cert.LayerSpec

end
-- ==== Proof.QkvSpec.lean ====
/- The query, key and value projection, row by row. -/
module

public import proofs.«01_k».proof.Proof.LayerSpec

@[expose] public section

noncomputable section

namespace Cert.QkvSpec

open Idealize.ShloMosaic Cert.MlpSpec Cert.LayerSpec

/-- Columns `128 a` to `128 a + 127` of a projected row. -/
def head (p : Fin 4608 → EReal) (a : Fin 36) : Fin 128 → EReal := fun l => p ⟨128 * a.val + l.val, by omega⟩

/-- A head's columns divided by their root mean square, times a gain. -/
def headNormed (v g : Fin 128 → EReal) (l : Fin 128) : EReal :=
  v l * Ideal.rsqrt (Ideal.div (∑ d, v d * v d) (Ideal.ofBits .f32 0x43000000#32) + Ideal.ofBits .f32 0x358637BD#32) * g l

/-- What the queries are multiplied with. -/
def queryScale : EReal := Ideal.ofBits .f32 0x3E0293EE#32

/-- The `a`-th 128 columns the attention is handed: eight heads of normalised, scaled queries, two of normalised keys, two of values,
    eight of scaled queries, and keys and values as they are. -/
def handed (v : Fin 128 → EReal) (g : Fin 2 → Fin 128 → EReal) (a : Fin 36) (l : Fin 128) : EReal :=
  if a.val < 8 then headNormed v (g 0) l * queryScale
  else if a.val < 10 then headNormed v (g 1) l
  else if a.val < 12 then v l
  else if a.val < 20 then v l * queryScale
  else v l

/-- The queries of the first mixer. -/
theorem handed_query (v : Fin 128 → EReal) (g : Fin 2 → Fin 128 → EReal) (a : Fin 36) (l : Fin 128) (h : 0 ≤ a.val ∧ a.val < 8) :
    handed v g a l = headNormed v (g 0) l * queryScale := by
  unfold handed
  rw [if_pos (by omega)]

/-- The keys of the first mixer. -/
theorem handed_key (v : Fin 128 → EReal) (g : Fin 2 → Fin 128 → EReal) (a : Fin 36) (l : Fin 128) (h : 8 ≤ a.val ∧ a.val < 10) :
    handed v g a l = headNormed v (g 1) l := by
  unfold handed
  rw [if_neg (by omega), if_pos (by omega)]

/-- The values of the first mixer. -/
theorem handed_value (v : Fin 128 → EReal) (g : Fin 2 → Fin 128 → EReal) (a : Fin 36) (l : Fin 128) (h : 10 ≤ a.val ∧ a.val < 12) :
    handed v g a l = v l := by
  unfold handed
  rw [if_neg (by omega), if_neg (by omega), if_pos (by omega)]

/-- The queries of the second mixer. -/
theorem handed_query2 (v : Fin 128 → EReal) (g : Fin 2 → Fin 128 → EReal) (a : Fin 36) (l : Fin 128) (h : 12 ≤ a.val ∧ a.val < 20) :
    handed v g a l = v l * queryScale := by
  unfold handed
  rw [if_neg (by omega), if_neg (by omega), if_neg (by omega), if_pos (by omega)]

/-- The keys and values of the second mixer. -/
theorem handed_rest (v : Fin 128 → EReal) (g : Fin 2 → Fin 128 → EReal) (a : Fin 36) (l : Fin 128) (h : 20 ≤ a.val ∧ a.val < 36) :
    handed v g a l = v l := by
  unfold handed
  rw [if_neg (by omega), if_neg (by omega), if_neg (by omega), if_neg (by omega)]

/-- A whole row the attention is handed. -/
def handedRow (p : Fin 4608 → EReal) (g : Fin 2 → Fin 128 → EReal) (j : Fin 4608) : EReal :=
  handed (head p ⟨j.val / 128, by omega⟩) g ⟨j.val / 128, by omega⟩ ⟨j.val % 128, by omega⟩

theorem handedRow_eq (p : Fin 4608 → EReal) (g : Fin 2 → Fin 128 → EReal) (j : Fin 4608) (a : Fin 36) (l : Fin 128) (h : j.val = 128 * a.val + l.val) :
    handedRow p g j = handed (head p a) g a l := by
  have ha : (⟨j.val / 128, by omega⟩ : Fin 36) = a := Fin.ext (by dsimp only; omega)
  have hl : (⟨j.val % 128, by omega⟩ : Fin 128) = l := Fin.ext (by dsimp only; omega)
  unfold handedRow
  rw [ha, hl]

/-- A row of the prompt, normalised and modulated. -/
def promptMixed (X : Fin 8192 → Fin 2048 → EReal) (g : Fin 2048 → EReal) (mod : Fin 48 → Fin 2048 → EReal) (i : Fin 8192) : Fin 2048 → EReal :=
  normed (X i) g (mod 1) (mod 0)

/-- A projected row. -/
def projected (X : Fin 8192 → Fin 2048 → EReal) (g : Fin 2048 → EReal) (mod : Fin 48 → Fin 2048 → EReal) (w : Fin 2048 → Fin 4608 → EReal)
    (i : Fin 8192) : Fin 4608 → EReal :=
  against (promptMixed X g mod i) w

/-- A row of the prompt, of its 32 pages of 256. -/
def pageRow (b : Fin 32) (t : Fin 256) : Fin 8192 := ⟨256 * b.val + t.val, by omega⟩

/-- The first mixer's keys. -/
def pageKeys (p : Fin 8192 → Fin 4608 → EReal) (g : Fin 128 → EReal) (b : Fin 32) (t : Fin 256) (h : Fin 2) (d : Fin 128) : EReal :=
  headNormed (head (p (pageRow b t)) ⟨8 + h.val, by omega⟩) g d

/-- The first mixer's values. -/
def pageValues (p : Fin 8192 → Fin 4608 → EReal) (b : Fin 32) (t : Fin 256) (h : Fin 2) (d : Fin 128) : EReal :=
  head (p (pageRow b t)) ⟨10 + h.val, by omega⟩ d

/-- The second mixer's keys. -/
def pagePairs (p : Fin 8192 → Fin 4608 → EReal) (b : Fin 32) (t : Fin 256) (h : Fin 4) (s : Fin 2) (d : Fin 128) : EReal :=
  head (p (pageRow b t)) ⟨20 + 2 * h.val + s.val, by omega⟩ d

/-- The second mixer's values. -/
def pageWide (p : Fin 8192 → Fin 4608 → EReal) (b : Fin 32) (t : Fin 256) (h : Fin 4) (e : Fin 256) : EReal :=
  p (pageRow b t) ⟨3584 + 256 * h.val + e.val, by omega⟩

end Cert.QkvSpec

end
-- ==== Proof.QkvTiles.lean ====
/- What the query, key and value projection stores, tile by tile. -/
module

public import proofs.«01_k».proof.Proof.Gen.QkvIdeal.Frame
public import proofs.«01_k».proof.Proof.QkvSpec
public import Idealize.ShloMosaic.Lib.Pipeline.ReadBack
public import Idealize.ShloMosaic.Lib.Pipeline.ValueKit

@[expose] public section

set_option maxRecDepth 16384

noncomputable section

namespace Cert.QkvIdeal.Block

open Cert.QkvIdeal Cert.QkvIdeal.Gen Idealize.ShloMosaic Idealize.ShloMosaic.TcCoe Idealize.SL.Sem Idealize.ShloMosaic.Tactic
open Cert.MlpSpec Cert.LayerSpec Cert.QkvSpec

/-- A row's products with a column tile of the weights. -/
def prod (n : FVec Ideal S512x2048 .bf16) (w : Vec Ideal S2048x256 .bf16) (r : Fin 512) (l : Fin 256) : EReal := ∑ k, n (ix2 r k) * w (ix2 k l)

/-- The first 128 columns. -/
def half0 (p : Fin 256 → EReal) (l : Fin 128) : EReal := p ⟨l.val, by omega⟩

/-- The second 128 columns. -/
def half1 (p : Fin 256 → EReal) (l : Fin 128) : EReal := p ⟨128 + l.val, by omega⟩

/-- The modulated rows of a block. -/
theorem rows_at (v0 : Vec Ideal S512x2048 .f32) (v1 : Vec Ideal S1x2048 .f32) (v2 v4 : Vec Ideal S1x1x2048 .f32) (r : Fin 512) (k : Fin 2048) :
    k0_pay7 v0 v1 v2 v4 (ix2 r k) = normed (fun k => v0 (ix2 r k)) (fun k => v1 (ix2 0 k)) (fun k => v2 (ix3 0 0 k)) (fun k => v4 (ix3 0 0 k)) k := by
  pointwise [k0_pay7]
  rfl

/-- Column tile 0, head 0: the products' columns, normalised and scaled. -/
theorem tile0_0 (v0 : Vec Ideal S512x2048 .f32) (v1 : Vec Ideal S1x2048 .f32) (v2 v4 : Vec Ideal S1x1x2048 .f32) (w : Vec Ideal S2048x256 .bf16) (g : Vec Ideal S1x128 .f32) (r : Fin 512) (l : Fin 128) :
    k0_pay11 (k0_pay8 v0 v1 v2 v4 w) (k0_pay9 v0 v1 v2 v4 w) g (k0_pay10 v0 v1 v2 v4 w) g (ix2 r ⟨l.val, by omega⟩) = headNormed (half0 (prod (k0_pay7 v0 v1 v2 v4) w r)) (fun d => g (ix2 0 d)) l * queryScale := by
  pointwise [k0_pay11, k0_pay8, k0_pay9, k0_pay10]
  rfl

/-- Column tile 0, head 1: the products' columns, normalised and scaled. -/
theorem tile0_1 (v0 : Vec Ideal S512x2048 .f32) (v1 : Vec Ideal S1x2048 .f32) (v2 v4 : Vec Ideal S1x1x2048 .f32) (w : Vec Ideal S2048x256 .bf16) (g : Vec Ideal S1x128 .f32) (r : Fin 512) (l : Fin 128) :
    k0_pay11 (k0_pay8 v0 v1 v2 v4 w) (k0_pay9 v0 v1 v2 v4 w) g (k0_pay10 v0 v1 v2 v4 w) g (ix2 r ⟨128 + l.val, by omega⟩) = headNormed (half1 (prod (k0_pay7 v0 v1 v2 v4) w r)) (fun d => g (ix2 0 d)) l * queryScale := by
  pointwise [k0_pay11, k0_pay8, k0_pay9, k0_pay10]
  rfl

/-- Column tile 1, head 0: the products' columns, normalised and scaled. -/
theorem tile1_0 (n : FVec Ideal S512x2048 .bf16) (w : Vec Ideal S2048x256 .bf16) (g : Vec Ideal S1x128 .f32) (r : Fin 512) (l : Fin 128) :
    k0_pay15 (k0_pay12 n w) (k0_pay13 n w g) (k0_pay14 (F := Ideal)) g (ix2 r ⟨l.val, by omega⟩) = headNormed (half0 (prod n w r)) (fun d => g (ix2 0 d)) l * queryScale := by
  pointwise [k0_pay15, k0_pay12, k0_pay13, k0_pay14]
  rfl

/-- Column tile 1, head 1: the products' columns, normalised and scaled. -/
theorem tile1_1 (n : FVec Ideal S512x2048 .bf16) (w : Vec Ideal S2048x256 .bf16) (g : Vec Ideal S1x128 .f32) (r : Fin 512) (l : Fin 128) :
    k0_pay15 (k0_pay12 n w) (k0_pay13 n w g) (k0_pay14 (F := Ideal)) g (ix2 r ⟨128 + l.val, by omega⟩) = headNormed (half1 (prod n w r)) (fun d => g (ix2 0 d)) l * queryScale := by
  pointwise [k0_pay15, k0_pay12, k0_pay13, k0_pay14]
  rfl

/-- Column tile 2, head 0: the products' columns, normalised and scaled. -/
theorem tile2_0 (n : FVec Ideal S512x2048 .bf16) (w : Vec Ideal S2048x256 .bf16) (g : Vec Ideal S1x128 .f32) (r : Fin 512) (l : Fin 128) :
    k0_pay19 (k0_pay17 n w g) (k0_pay18 n w) g (ix2 r ⟨l.val, by omega⟩) = headNormed (half0 (prod n w r)) (fun d => g (ix2 0 d)) l * queryScale := by
  pointwise [k0_pay19, k0_pay17, k0_pay18, k0_pay16]
  rfl

/-- Column tile 2, head 1: the products' columns, normalised and scaled. -/
theorem tile2_1 (n : FVec Ideal S512x2048 .bf16) (w : Vec Ideal S2048x256 .bf16) (g : Vec Ideal S1x128 .f32) (r : Fin 512) (l : Fin 128) :
    k0_pay19 (k0_pay17 n w g) (k0_pay18 n w) g (ix2 r ⟨128 + l.val, by omega⟩) = headNormed (half1 (prod n w r)) (fun d => g (ix2 0 d)) l * queryScale := by
  pointwise [k0_pay19, k0_pay17, k0_pay18, k0_pay16]
  rfl

/-- Column tile 3, head 0: the products' columns, normalised and scaled. -/
theorem tile3_0 (n : FVec Ideal S512x2048 .bf16) (w : Vec Ideal S2048x256 .bf16) (g : Vec Ideal S1x128 .f32) (r : Fin 512) (l : Fin 128) :
    k0_pay24 (k0_pay21 n w g) (k0_pay22 n w) g (k0_pay23 n w) (Scalar.ofBits .f32 0x43000000#32) (ix2 r ⟨l.val, by omega⟩) = headNormed (half0 (prod n w r)) (fun d => g (ix2 0 d)) l * queryScale := by
  pointwise [k0_pay24, k0_pay21, k0_pay22, k0_pay23, k0_pay20]
  rfl

/-- Column tile 3, head 1: the products' columns, normalised and scaled. -/
theorem tile3_1 (n : FVec Ideal S512x2048 .bf16) (w : Vec Ideal S2048x256 .bf16) (g : Vec Ideal S1x128 .f32) (r : Fin 512) (l : Fin 128) :
    k0_pay24 (k0_pay21 n w g) (k0_pay22 n w) g (k0_pay23 n w) (Scalar.ofBits .f32 0x43000000#32) (ix2 r ⟨128 + l.val, by omega⟩) = headNormed (half1 (prod n w r)) (fun d => g (ix2 0 d)) l * queryScale := by
  pointwise [k0_pay24, k0_pay21, k0_pay22, k0_pay23, k0_pay20]
  rfl

/-- Column tile 4, head 0: the products' columns, normalised. -/
theorem tile4_0 (n : FVec Ideal S512x2048 .bf16) (w : Vec Ideal S2048x256 .bf16) (g : Vec Ideal S1x128 .f32) (r : Fin 512) (l : Fin 128) :
    k0_pay33 (k0_pay26 n w g) g (k0_pay27 n w) (ix2 r ⟨l.val, by omega⟩) = headNormed (half0 (prod n w r)) (fun d => g (ix2 0 d)) l := by
  pointwise [k0_pay33, k0_pay28, k0_pay26, k0_pay27, k0_pay25]
  rfl

/-- Column tile 4, head 1: the products' columns, normalised. -/
theorem tile4_1 (n : FVec Ideal S512x2048 .bf16) (w : Vec Ideal S2048x256 .bf16) (g : Vec Ideal S1x128 .f32) (r : Fin 512) (l : Fin 128) :
    k0_pay33 (k0_pay26 n w g) g (k0_pay27 n w) (ix2 r ⟨128 + l.val, by omega⟩) = headNormed (half1 (prod n w r)) (fun d => g (ix2 0 d)) l := by
  pointwise [k0_pay33, k0_pay28, k0_pay26, k0_pay27, k0_pay25]
  rfl

/-- Column tile 5, head 0: the products' columns, as they are. -/
theorem tile5_0 (n : FVec Ideal S512x2048 .bf16) (w : Vec Ideal S2048x256 .bf16) (r : Fin 512) (l : Fin 128) :
    k0_pay40 (k0_pay34 n w) (ix2 r ⟨l.val, by omega⟩) = (half0 (prod n w r)) l := by
  pointwise [k0_pay40, k0_pay34]
  rfl

/-- Column tile 5, head 1: the products' columns, as they are. -/
theorem tile5_1 (n : FVec Ideal S512x2048 .bf16) (w : Vec Ideal S2048x256 .bf16) (r : Fin 512) (l : Fin 128) :
    k0_pay40 (k0_pay34 n w) (ix2 r ⟨128 + l.val, by omega⟩) = (half1 (prod n w r)) l := by
  pointwise [k0_pay40, k0_pay34]
  rfl

/-- Column tile 6, head 0: the products' columns, scaled. -/
theorem tile6_0 (n : FVec Ideal S512x2048 .bf16) (w : Vec Ideal S2048x256 .bf16) (r : Fin 512) (l : Fin 128) :
    k0_pay41 n w (ix2 r ⟨l.val, by omega⟩) = (half0 (prod n w r)) l * queryScale := by
  pointwise [k0_pay41]
  rfl

/-- Column tile 6, head 1: the products' columns, scaled. -/
theorem tile6_1 (n : FVec Ideal S512x2048 .bf16) (w : Vec Ideal S2048x256 .bf16) (r : Fin 512) (l : Fin 128) :
    k0_pay41 n w (ix2 r ⟨128 + l.val, by omega⟩) = (half1 (prod n w r)) l * queryScale := by
  pointwise [k0_pay41]
  rfl

/-- Column tile 7, head 0: the products' columns, scaled. -/
theorem tile7_0 (n : FVec Ideal S512x2048 .bf16) (w : Vec Ideal S2048x256 .bf16) (r : Fin 512) (l : Fin 128) :
    k0_pay42 n w (ix2 r ⟨l.val, by omega⟩) = (half0 (prod n w r)) l * queryScale := by
  pointwise [k0_pay42]
  rfl

/-- Column tile 7, head 1: the products' columns, scaled. -/
theorem tile7_1 (n : FVec Ideal S512x2048 .bf16) (w : Vec Ideal S2048x256 .bf16) (r : Fin 512) (l : Fin 128) :
    k0_pay42 n w (ix2 r ⟨128 + l.val, by omega⟩) = (half1 (prod n w r)) l * queryScale := by
  pointwise [k0_pay42]
  rfl

/-- Column tile 8, head 0: the products' columns, scaled. -/
theorem tile8_0 (n : FVec Ideal S512x2048 .bf16) (w : Vec Ideal S2048x256 .bf16) (r : Fin 512) (l : Fin 128) :
    k0_pay43 n w (ix2 r ⟨l.val, by omega⟩) = (half0 (prod n w r)) l * queryScale := by
  pointwise [k0_pay43]
  rfl

/-- Column tile 8, head 1: the products' columns, scaled. -/
theorem tile8_1 (n : FVec Ideal S512x2048 .bf16) (w : Vec Ideal S2048x256 .bf16) (r : Fin 512) (l : Fin 128) :
    k0_pay43 n w (ix2 r ⟨128 + l.val, by omega⟩) = (half1 (prod n w r)) l * queryScale := by
  pointwise [k0_pay43]
  rfl

/-- Column tile 9, head 0: the products' columns, scaled. -/
theorem tile9_0 (n : FVec Ideal S512x2048 .bf16) (w : Vec Ideal S2048x256 .bf16) (r : Fin 512) (l : Fin 128) :
    k0_pay44 n w (ix2 r ⟨l.val, by omega⟩) = (half0 (prod n w r)) l * queryScale := by
  pointwise [k0_pay44]
  rfl

/-- Column tile 9, head 1: the products' columns, scaled. -/
theorem tile9_1 (n : FVec Ideal S512x2048 .bf16) (w : Vec Ideal S2048x256 .bf16) (r : Fin 512) (l : Fin 128) :
    k0_pay44 n w (ix2 r ⟨128 + l.val, by omega⟩) = (half1 (prod n w r)) l * queryScale := by
  pointwise [k0_pay44]
  rfl

/-- Column tile 10, head 0: the products' columns, as they are. -/
theorem tile10_0 (n : FVec Ideal S512x2048 .bf16) (w : Vec Ideal S2048x256 .bf16) (r : Fin 512) (l : Fin 128) :
    k0_pay50 n w (ix2 r ⟨l.val, by omega⟩) = (half0 (prod n w r)) l := by
  pointwise [k0_pay50, k0_pay45]
  rfl

/-- Column tile 10, head 1: the products' columns, as they are. -/
theorem tile10_1 (n : FVec Ideal S512x2048 .bf16) (w : Vec Ideal S2048x256 .bf16) (r : Fin 512) (l : Fin 128) :
    k0_pay50 n w (ix2 r ⟨128 + l.val, by omega⟩) = (half1 (prod n w r)) l := by
  pointwise [k0_pay50, k0_pay45]
  rfl

/-- Column tile 11, head 0: the products' columns, as they are. -/
theorem tile11_0 (n : FVec Ideal S512x2048 .bf16) (w : Vec Ideal S2048x256 .bf16) (r : Fin 512) (l : Fin 128) :
    k0_pay57 (k0_pay51 n w) (ix2 r ⟨l.val, by omega⟩) = (half0 (prod n w r)) l := by
  pointwise [k0_pay57, k0_pay51]
  rfl

/-- Column tile 11, head 1: the products' columns, as they are. -/
theorem tile11_1 (n : FVec Ideal S512x2048 .bf16) (w : Vec Ideal S2048x256 .bf16) (r : Fin 512) (l : Fin 128) :
    k0_pay57 (k0_pay51 n w) (ix2 r ⟨128 + l.val, by omega⟩) = (half1 (prod n w r)) l := by
  pointwise [k0_pay57, k0_pay51]
  rfl

/-- Column tile 12, head 0: the products' columns, as they are. -/
theorem tile12_0 (n : FVec Ideal S512x2048 .bf16) (w : Vec Ideal S2048x256 .bf16) (r : Fin 512) (l : Fin 128) :
    k0_pay64 (k0_pay58 n w) (ix2 r ⟨l.val, by omega⟩) = (half0 (prod n w r)) l := by
  pointwise [k0_pay64, k0_pay58]
  rfl

/-- Column tile 12, head 1: the products' columns, as they are. -/
theorem tile12_1 (n : FVec Ideal S512x2048 .bf16) (w : Vec Ideal S2048x256 .bf16) (r : Fin 512) (l : Fin 128) :
    k0_pay64 (k0_pay58 n w) (ix2 r ⟨128 + l.val, by omega⟩) = (half1 (prod n w r)) l := by
  pointwise [k0_pay64, k0_pay58]
  rfl

/-- Column tile 13, head 0: the products' columns, as they are. -/
theorem tile13_0 (n : FVec Ideal S512x2048 .bf16) (w : Vec Ideal S2048x256 .bf16) (r : Fin 512) (l : Fin 128) :
    k0_pay71 (k0_pay65 n w) (ix2 r ⟨l.val, by omega⟩) = (half0 (prod n w r)) l := by
  pointwise [k0_pay71, k0_pay65]
  rfl

/-- Column tile 13, head 1: the products' columns, as they are. -/
theorem tile13_1 (n : FVec Ideal S512x2048 .bf16) (w : Vec Ideal S2048x256 .bf16) (r : Fin 512) (l : Fin 128) :
    k0_pay71 (k0_pay65 n w) (ix2 r ⟨128 + l.val, by omega⟩) = (half1 (prod n w r)) l := by
  pointwise [k0_pay71, k0_pay65]
  rfl

/-- Column tile 14, head 0: the products' columns, as they are. -/
theorem tile14_0 (n : FVec Ideal S512x2048 .bf16) (w : Vec Ideal S2048x256 .bf16) (r : Fin 512) (l : Fin 128) :
    k0_pay75 (k0_pay72 n w) (ix2 r ⟨l.val, by omega⟩) = (half0 (prod n w r)) l := by
  pointwise [k0_pay75, k0_pay72]
  rfl

/-- Column tile 14, head 1: the products' columns, as they are. -/
theorem tile14_1 (n : FVec Ideal S512x2048 .bf16) (w : Vec Ideal S2048x256 .bf16) (r : Fin 512) (l : Fin 128) :
    k0_pay75 (k0_pay72 n w) (ix2 r ⟨128 + l.val, by omega⟩) = (half1 (prod n w r)) l := by
  pointwise [k0_pay75, k0_pay72]
  rfl

/-- Column tile 15, head 0: the products' columns, as they are. -/
theorem tile15_0 (n : FVec Ideal S512x2048 .bf16) (w : Vec Ideal S2048x256 .bf16) (r : Fin 512) (l : Fin 128) :
    k0_pay79 n w (ix2 r ⟨l.val, by omega⟩) = (half0 (prod n w r)) l := by
  pointwise [k0_pay79, k0_pay76]
  rfl

/-- Column tile 15, head 1: the products' columns, as they are. -/
theorem tile15_1 (n : FVec Ideal S512x2048 .bf16) (w : Vec Ideal S2048x256 .bf16) (r : Fin 512) (l : Fin 128) :
    k0_pay79 n w (ix2 r ⟨128 + l.val, by omega⟩) = (half1 (prod n w r)) l := by
  pointwise [k0_pay79, k0_pay76]
  rfl

/-- Column tile 16, head 0: the products' columns, as they are. -/
theorem tile16_0 (n : FVec Ideal S512x2048 .bf16) (w : Vec Ideal S2048x256 .bf16) (r : Fin 512) (l : Fin 128) :
    k0_pay2 (k0_pay80 n w) (ix2 r ⟨l.val, by omega⟩) = (half0 (prod n w r)) l := by
  pointwise [k0_pay2, k0_pay80]
  rfl

/-- Column tile 16, head 1: the products' columns, as they are. -/
theorem tile16_1 (n : FVec Ideal S512x2048 .bf16) (w : Vec Ideal S2048x256 .bf16) (r : Fin 512) (l : Fin 128) :
    k0_pay2 (k0_pay80 n w) (ix2 r ⟨128 + l.val, by omega⟩) = (half1 (prod n w r)) l := by
  pointwise [k0_pay2, k0_pay80]
  rfl

/-- Column tile 17, head 0: the products' columns, as they are. -/
theorem tile17_0 (n : FVec Ideal S512x2048 .bf16) (w : Vec Ideal S2048x256 .bf16) (r : Fin 512) (l : Fin 128) :
    k0_pay6 n w (ix2 r ⟨l.val, by omega⟩) = (half0 (prod n w r)) l := by
  pointwise [k0_pay6, k0_pay3]
  rfl

/-- Column tile 17, head 1: the products' columns, as they are. -/
theorem tile17_1 (n : FVec Ideal S512x2048 .bf16) (w : Vec Ideal S2048x256 .bf16) (r : Fin 512) (l : Fin 128) :
    k0_pay6 n w (ix2 r ⟨128 + l.val, by omega⟩) = (half1 (prod n w r)) l := by
  pointwise [k0_pay6, k0_pay3]
  rfl

end Cert.QkvIdeal.Block

end
-- ==== Proof.QkvRows.lean ====
/- What the query, key and value projection stores, tile by tile: the rows handed on. -/
module

public import proofs.«01_k».proof.Proof.Gen.QkvIdeal.Frame
public import proofs.«01_k».proof.Proof.QkvTiles
public import Idealize.ShloMosaic.Lib.Pipeline.ReadBack
public import Idealize.ShloMosaic.Lib.Pipeline.ValueKit

@[expose] public section

set_option maxRecDepth 16384

noncomputable section

namespace Cert.QkvIdeal.Block

open Cert.QkvIdeal Cert.QkvIdeal.Gen Idealize.ShloMosaic Idealize.ShloMosaic.TcCoe Idealize.SL.Sem Idealize.ShloMosaic.Tactic
open Cert.MlpSpec Cert.LayerSpec Cert.QkvSpec

/-- A row of a block against all the weights' columns. -/
def blockRow (n : FVec Ideal S512x2048 .bf16) (w : Vec Ideal S2048x4608 .bf16) (r : Fin 512) (j : Fin 4608) : EReal := ∑ k, n (ix2 r k) * w (ix2 k j)

/-- The two gains. -/
def gains (g : Vec Ideal S2x128 .f32) (a : Fin 2) (d : Fin 128) : EReal := g (ix2 a d)

/-- The first gain, read out of the pair. -/
theorem gain0 (g : Vec Ideal S2x128 .f32) : (fun d => (View.ld g r0_4 : Vec Ideal S1x128 .f32) (ix2 0 d)) = gains g 0 := by
  refine funext fun d => congrArg g (funext fun a => Fin.ext ?_)
  fin_cases a
  · rfl
  · show 0 + 1 * d.val = d.val
    omega

/-- The second one. -/
theorem gain1 (g : Vec Ideal S2x128 .f32) : (fun d => (View.ld g r0_13 : Vec Ideal S1x128 .f32) (ix2 0 d)) = gains g 1 := by
  refine funext fun d => congrArg g (funext fun a => Fin.ext ?_)
  fin_cases a
  · rfl
  · show 0 + 1 * d.val = d.val
    omega

/-- A column of a 256-column tile is in its first or in its second half. -/
theorem halves (x : Fin 256) : (∃ l : Fin 128, x = ⟨l.val, by omega⟩) ∨ ∃ l : Fin 128, x = ⟨128 + l.val, by omega⟩ := by
  rcases Nat.lt_or_ge x.val 128 with h | h
  · exact .inl ⟨⟨x.val, h⟩, rfl⟩
  · exact .inr ⟨⟨x.val - 128, by omega⟩, Fin.ext (by dsimp only; omega)⟩

theorem cols0_0 (n : FVec Ideal S512x2048 .bf16) (w : Vec Ideal S2048x4608 .bf16) (r : Fin 512) :
    half0 (prod n (View.ld w r0_3) r) = head (blockRow n w r) ⟨0, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 0 + 1 * l.val = 128 * 0 + l.val
    omega

theorem cols0_1 (n : FVec Ideal S512x2048 .bf16) (w : Vec Ideal S2048x4608 .bf16) (r : Fin 512) :
    half1 (prod n (View.ld w r0_3) r) = head (blockRow n w r) ⟨1, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 0 + 1 * (128 + l.val) = 128 * 1 + l.val
    omega

theorem cols1_0 (n : FVec Ideal S512x2048 .bf16) (w : Vec Ideal S2048x4608 .bf16) (r : Fin 512) :
    half0 (prod n (View.ld w r0_6) r) = head (blockRow n w r) ⟨2, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 256 + 1 * l.val = 128 * 2 + l.val
    omega

theorem cols1_1 (n : FVec Ideal S512x2048 .bf16) (w : Vec Ideal S2048x4608 .bf16) (r : Fin 512) :
    half1 (prod n (View.ld w r0_6) r) = head (blockRow n w r) ⟨3, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 256 + 1 * (128 + l.val) = 128 * 3 + l.val
    omega

theorem cols2_0 (n : FVec Ideal S512x2048 .bf16) (w : Vec Ideal S2048x4608 .bf16) (r : Fin 512) :
    half0 (prod n (View.ld w r0_8) r) = head (blockRow n w r) ⟨4, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 512 + 1 * l.val = 128 * 4 + l.val
    omega

theorem cols2_1 (n : FVec Ideal S512x2048 .bf16) (w : Vec Ideal S2048x4608 .bf16) (r : Fin 512) :
    half1 (prod n (View.ld w r0_8) r) = head (blockRow n w r) ⟨5, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 512 + 1 * (128 + l.val) = 128 * 5 + l.val
    omega

theorem cols3_0 (n : FVec Ideal S512x2048 .bf16) (w : Vec Ideal S2048x4608 .bf16) (r : Fin 512) :
    half0 (prod n (View.ld w r0_10) r) = head (blockRow n w r) ⟨6, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 768 + 1 * l.val = 128 * 6 + l.val
    omega

theorem cols3_1 (n : FVec Ideal S512x2048 .bf16) (w : Vec Ideal S2048x4608 .bf16) (r : Fin 512) :
    half1 (prod n (View.ld w r0_10) r) = head (blockRow n w r) ⟨7, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 768 + 1 * (128 + l.val) = 128 * 7 + l.val
    omega

theorem cols4_0 (n : FVec Ideal S512x2048 .bf16) (w : Vec Ideal S2048x4608 .bf16) (r : Fin 512) :
    half0 (prod n (View.ld w r0_12) r) = head (blockRow n w r) ⟨8, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 1024 + 1 * l.val = 128 * 8 + l.val
    omega

theorem cols4_1 (n : FVec Ideal S512x2048 .bf16) (w : Vec Ideal S2048x4608 .bf16) (r : Fin 512) :
    half1 (prod n (View.ld w r0_12) r) = head (blockRow n w r) ⟨9, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 1024 + 1 * (128 + l.val) = 128 * 9 + l.val
    omega

theorem cols5_0 (n : FVec Ideal S512x2048 .bf16) (w : Vec Ideal S2048x4608 .bf16) (r : Fin 512) :
    half0 (prod n (View.ld w r0_19) r) = head (blockRow n w r) ⟨10, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 1280 + 1 * l.val = 128 * 10 + l.val
    omega

theorem cols5_1 (n : FVec Ideal S512x2048 .bf16) (w : Vec Ideal S2048x4608 .bf16) (r : Fin 512) :
    half1 (prod n (View.ld w r0_19) r) = head (blockRow n w r) ⟨11, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 1280 + 1 * (128 + l.val) = 128 * 11 + l.val
    omega

theorem cols6_0 (n : FVec Ideal S512x2048 .bf16) (w : Vec Ideal S2048x4608 .bf16) (r : Fin 512) :
    half0 (prod n (View.ld w r0_21) r) = head (blockRow n w r) ⟨12, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 1536 + 1 * l.val = 128 * 12 + l.val
    omega

theorem cols6_1 (n : FVec Ideal S512x2048 .bf16) (w : Vec Ideal S2048x4608 .bf16) (r : Fin 512) :
    half1 (prod n (View.ld w r0_21) r) = head (blockRow n w r) ⟨13, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 1536 + 1 * (128 + l.val) = 128 * 13 + l.val
    omega

theorem cols7_0 (n : FVec Ideal S512x2048 .bf16) (w : Vec Ideal S2048x4608 .bf16) (r : Fin 512) :
    half0 (prod n (View.ld w r0_23) r) = head (blockRow n w r) ⟨14, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 1792 + 1 * l.val = 128 * 14 + l.val
    omega

theorem cols7_1 (n : FVec Ideal S512x2048 .bf16) (w : Vec Ideal S2048x4608 .bf16) (r : Fin 512) :
    half1 (prod n (View.ld w r0_23) r) = head (blockRow n w r) ⟨15, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 1792 + 1 * (128 + l.val) = 128 * 15 + l.val
    omega

theorem cols8_0 (n : FVec Ideal S512x2048 .bf16) (w : Vec Ideal S2048x4608 .bf16) (r : Fin 512) :
    half0 (prod n (View.ld w r0_25) r) = head (blockRow n w r) ⟨16, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 2048 + 1 * l.val = 128 * 16 + l.val
    omega

theorem cols8_1 (n : FVec Ideal S512x2048 .bf16) (w : Vec Ideal S2048x4608 .bf16) (r : Fin 512) :
    half1 (prod n (View.ld w r0_25) r) = head (blockRow n w r) ⟨17, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 2048 + 1 * (128 + l.val) = 128 * 17 + l.val
    omega

theorem cols9_0 (n : FVec Ideal S512x2048 .bf16) (w : Vec Ideal S2048x4608 .bf16) (r : Fin 512) :
    half0 (prod n (View.ld w r0_27) r) = head (blockRow n w r) ⟨18, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 2304 + 1 * l.val = 128 * 18 + l.val
    omega

theorem cols9_1 (n : FVec Ideal S512x2048 .bf16) (w : Vec Ideal S2048x4608 .bf16) (r : Fin 512) :
    half1 (prod n (View.ld w r0_27) r) = head (blockRow n w r) ⟨19, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 2304 + 1 * (128 + l.val) = 128 * 19 + l.val
    omega

theorem cols10_0 (n : FVec Ideal S512x2048 .bf16) (w : Vec Ideal S2048x4608 .bf16) (r : Fin 512) :
    half0 (prod n (View.ld w r0_29) r) = head (blockRow n w r) ⟨20, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 2560 + 1 * l.val = 128 * 20 + l.val
    omega

theorem cols10_1 (n : FVec Ideal S512x2048 .bf16) (w : Vec Ideal S2048x4608 .bf16) (r : Fin 512) :
    half1 (prod n (View.ld w r0_29) r) = head (blockRow n w r) ⟨21, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 2560 + 1 * (128 + l.val) = 128 * 21 + l.val
    omega

theorem cols11_0 (n : FVec Ideal S512x2048 .bf16) (w : Vec Ideal S2048x4608 .bf16) (r : Fin 512) :
    half0 (prod n (View.ld w r0_35) r) = head (blockRow n w r) ⟨22, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 2816 + 1 * l.val = 128 * 22 + l.val
    omega

theorem cols11_1 (n : FVec Ideal S512x2048 .bf16) (w : Vec Ideal S2048x4608 .bf16) (r : Fin 512) :
    half1 (prod n (View.ld w r0_35) r) = head (blockRow n w r) ⟨23, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 2816 + 1 * (128 + l.val) = 128 * 23 + l.val
    omega

theorem cols12_0 (n : FVec Ideal S512x2048 .bf16) (w : Vec Ideal S2048x4608 .bf16) (r : Fin 512) :
    half0 (prod n (View.ld w r0_41) r) = head (blockRow n w r) ⟨24, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 3072 + 1 * l.val = 128 * 24 + l.val
    omega

theorem cols12_1 (n : FVec Ideal S512x2048 .bf16) (w : Vec Ideal S2048x4608 .bf16) (r : Fin 512) :
    half1 (prod n (View.ld w r0_41) r) = head (blockRow n w r) ⟨25, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 3072 + 1 * (128 + l.val) = 128 * 25 + l.val
    omega

theorem cols13_0 (n : FVec Ideal S512x2048 .bf16) (w : Vec Ideal S2048x4608 .bf16) (r : Fin 512) :
    half0 (prod n (View.ld w r0_47) r) = head (blockRow n w r) ⟨26, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 3328 + 1 * l.val = 128 * 26 + l.val
    omega

theorem cols13_1 (n : FVec Ideal S512x2048 .bf16) (w : Vec Ideal S2048x4608 .bf16) (r : Fin 512) :
    half1 (prod n (View.ld w r0_47) r) = head (blockRow n w r) ⟨27, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 3328 + 1 * (128 + l.val) = 128 * 27 + l.val
    omega

theorem cols14_0 (n : FVec Ideal S512x2048 .bf16) (w : Vec Ideal S2048x4608 .bf16) (r : Fin 512) :
    half0 (prod n (View.ld w r0_53) r) = head (blockRow n w r) ⟨28, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 3584 + 1 * l.val = 128 * 28 + l.val
    omega

theorem cols14_1 (n : FVec Ideal S512x2048 .bf16) (w : Vec Ideal S2048x4608 .bf16) (r : Fin 512) :
    half1 (prod n (View.ld w r0_53) r) = head (blockRow n w r) ⟨29, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 3584 + 1 * (128 + l.val) = 128 * 29 + l.val
    omega

theorem cols15_0 (n : FVec Ideal S512x2048 .bf16) (w : Vec Ideal S2048x4608 .bf16) (r : Fin 512) :
    half0 (prod n (View.ld w r0_57) r) = head (blockRow n w r) ⟨30, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 3840 + 1 * l.val = 128 * 30 + l.val
    omega

theorem cols15_1 (n : FVec Ideal S512x2048 .bf16) (w : Vec Ideal S2048x4608 .bf16) (r : Fin 512) :
    half1 (prod n (View.ld w r0_57) r) = head (blockRow n w r) ⟨31, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 3840 + 1 * (128 + l.val) = 128 * 31 + l.val
    omega

theorem cols16_0 (n : FVec Ideal S512x2048 .bf16) (w : Vec Ideal S2048x4608 .bf16) (r : Fin 512) :
    half0 (prod n (View.ld w r0_61) r) = head (blockRow n w r) ⟨32, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 4096 + 1 * l.val = 128 * 32 + l.val
    omega

theorem cols16_1 (n : FVec Ideal S512x2048 .bf16) (w : Vec Ideal S2048x4608 .bf16) (r : Fin 512) :
    half1 (prod n (View.ld w r0_61) r) = head (blockRow n w r) ⟨33, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 4096 + 1 * (128 + l.val) = 128 * 33 + l.val
    omega

theorem cols17_0 (n : FVec Ideal S512x2048 .bf16) (w : Vec Ideal S2048x4608 .bf16) (r : Fin 512) :
    half0 (prod n (View.ld w r0_65) r) = head (blockRow n w r) ⟨34, by decide⟩ := by
  refine funext fun l => ?_
  unfold half0 prod head blockRow
  refine Finset.sum_congr rfl fun k _ => ?_
  refine congrArg (fun z : EReal => n (ix2 r k) * z) (congrArg w (funext fun a => Fin.ext ?_))
  fin_cases a
  · show 0 + 1 * k.val = k.val
    omega
  · show 4352 + 1 * l.val = 128 * 34 + l.val
    omega

theorem cols17_1 (n : FVec Ideal S512x2048 .bf16) (w : Vec Ideal S2048x4608 .bf16) (r : Fin 512) :
    half1 (prod n (View.ld w r0_65) r) = head (blockRow n w r) ⟨35, by decide⟩ := by
  refine funext fun l => ?_
  unfold half1 prod head blockRow
  refine Finset.sum_congr rfl fun k _ => ?_
  refine congrArg (fun z : EReal => n (ix2 r k) * z) (congrArg w (funext fun a => Fin.ext ?_))
  fin_cases a
  · show 0 + 1 * k.val = k.val
    omega
  · show 4352 + 1 * (128 + l.val) = 128 * 35 + l.val
    omega

theorem full14 (n : FVec Ideal S512x2048 .bf16) (w : Vec Ideal S2048x4608 .bf16) (r : Fin 512) (l : Fin 256) :
    prod n (View.ld w r0_53) r l = blockRow n w r ⟨3584 + l.val, by omega⟩ := by
  unfold prod blockRow
  refine Finset.sum_congr rfl fun k _ => ?_
  refine congrArg (fun z : EReal => n (ix2 r k) * z) (congrArg w (funext fun a => Fin.ext ?_))
  fin_cases a
  · show 0 + 1 * k.val = k.val
    omega
  · show 3584 + 1 * l.val = 3584 + l.val
    omega

theorem full15 (n : FVec Ideal S512x2048 .bf16) (w : Vec Ideal S2048x4608 .bf16) (r : Fin 512) (l : Fin 256) :
    prod n (View.ld w r0_57) r l = blockRow n w r ⟨3840 + l.val, by omega⟩ := by
  unfold prod blockRow
  refine Finset.sum_congr rfl fun k _ => ?_
  refine congrArg (fun z : EReal => n (ix2 r k) * z) (congrArg w (funext fun a => Fin.ext ?_))
  fin_cases a
  · show 0 + 1 * k.val = k.val
    omega
  · show 3840 + 1 * l.val = 3840 + l.val
    omega

theorem full16 (n : FVec Ideal S512x2048 .bf16) (w : Vec Ideal S2048x4608 .bf16) (r : Fin 512) (l : Fin 256) :
    prod n (View.ld w r0_61) r l = blockRow n w r ⟨4096 + l.val, by omega⟩ := by
  unfold prod blockRow
  refine Finset.sum_congr rfl fun k _ => ?_
  refine congrArg (fun z : EReal => n (ix2 r k) * z) (congrArg w (funext fun a => Fin.ext ?_))
  fin_cases a
  · show 0 + 1 * k.val = k.val
    omega
  · show 4096 + 1 * l.val = 4096 + l.val
    omega

theorem full17 (n : FVec Ideal S512x2048 .bf16) (w : Vec Ideal S2048x4608 .bf16) (r : Fin 512) (l : Fin 256) :
    prod n (View.ld w r0_65) r l = blockRow n w r ⟨4352 + l.val, by omega⟩ := by
  unfold prod blockRow
  refine Finset.sum_congr rfl fun k _ => ?_
  refine congrArg (fun z : EReal => n (ix2 r k) * z) (congrArg w (funext fun a => Fin.ext ?_))
  fin_cases a
  · show 0 + 1 * k.val = k.val
    omega
  · show 4352 + 1 * l.val = 4352 + l.val
    omega

/-- The rows a block hands on. -/
def block6 (n : FVec Ideal S512x2048 .bf16) (w : Vec Ideal S2048x4608 .bf16) (g : Vec Ideal S2x128 .f32) (y : S512x4608.Idx) : EReal := handedRow (blockRow n w (y 0)) (gains g) (y 1)

theorem block6_at (n : FVec Ideal S512x2048 .bf16) (w : Vec Ideal S2048x4608 .bf16) (g : Vec Ideal S2x128 .f32) (y : S512x4608.Idx) (r : Fin 512) (a : Fin 36) (l : Fin 128)
    (h0 : (y 0).val = r.val) (h1 : (y 1).val = 128 * a.val + l.val) : block6 n w g y = handed (head (blockRow n w r) a) (gains g) a l := by
  have e : (y 0 : Fin 512) = r := Fin.ext h0
  unfold block6
  rw [e]
  exact handedRow_eq _ _ _ a l h1

/-- A block's row, of its two halves. -/
def rowOf (b : Fin 2) (t : Fin 256) : Fin 512 := ⟨256 * b.val + t.val, by omega⟩

/-- The new keys of the first mixer. -/
def keys7 (n : FVec Ideal S512x2048 .bf16) (w : Vec Ideal S2048x4608 .bf16) (g : Vec Ideal S2x128 .f32) (b : Fin 2) (t : Fin 256) (h : Fin 2) (d : Fin 128) : EReal :=
  headNormed (head (blockRow n w (rowOf b t)) ⟨8 + h.val, by omega⟩) (gains g 1) d

def block7 (n : FVec Ideal S512x2048 .bf16) (w : Vec Ideal S2048x4608 .bf16) (g : Vec Ideal S2x128 .f32) (y : S2x1x256x2x128.Idx) : EReal := keys7 n w g (y 0) (y 2) (y 3) (y 4)

theorem block7_at (n : FVec Ideal S512x2048 .bf16) (w : Vec Ideal S2048x4608 .bf16) (g : Vec Ideal S2x128 .f32) (y : S2x1x256x2x128.Idx) (r : Fin 512) (a : Fin 36) (l : Fin 128)
    (h0 : 256 * (y 0).val + (y 2).val = r.val) (h1 : 8 + (y 3).val = a.val) (h2 : (y 4).val = l.val) :
    block7 n w g y = headNormed (head (blockRow n w r) a) (gains g 1) l := by
  have e0 : rowOf (y 0) (y 2) = r := Fin.ext h0
  have e2 : (y 4 : Fin 128) = l := Fin.ext h2
  unfold block7 keys7
  rw [e0, e2]
  exact congrArg (fun a => headNormed (head (blockRow n w r) a) (gains g 1) l) (Fin.ext h1)

/-- The new values of the first mixer. -/
def values8 (n : FVec Ideal S512x2048 .bf16) (w : Vec Ideal S2048x4608 .bf16) (g : Vec Ideal S2x128 .f32) (b : Fin 2) (t : Fin 256) (h : Fin 2) (d : Fin 128) : EReal :=
  head (blockRow n w (rowOf b t)) ⟨10 + h.val, by omega⟩ d

def block8 (n : FVec Ideal S512x2048 .bf16) (w : Vec Ideal S2048x4608 .bf16) (g : Vec Ideal S2x128 .f32) (y : S2x1x256x2x128.Idx) : EReal := values8 n w g (y 0) (y 2) (y 3) (y 4)

theorem block8_at (n : FVec Ideal S512x2048 .bf16) (w : Vec Ideal S2048x4608 .bf16) (g : Vec Ideal S2x128 .f32) (y : S2x1x256x2x128.Idx) (r : Fin 512) (a : Fin 36) (l : Fin 128)
    (h0 : 256 * (y 0).val + (y 2).val = r.val) (h1 : 10 + (y 3).val = a.val) (h2 : (y 4).val = l.val) :
    block8 n w g y = head (blockRow n w r) a l := by
  have e0 : rowOf (y 0) (y 2) = r := Fin.ext h0
  have e2 : (y 4 : Fin 128) = l := Fin.ext h2
  unfold block8 values8
  rw [e0, e2]
  exact congrArg (fun a => head (blockRow n w r) a l) (Fin.ext h1)

/-- The new keys of the second mixer. -/
def keys9 (n : FVec Ideal S512x2048 .bf16) (w : Vec Ideal S2048x4608 .bf16) (g : Vec Ideal S2x128 .f32) (b : Fin 2) (t : Fin 256) (h : Fin 4) (s : Fin 2) (d : Fin 128) : EReal :=
  head (blockRow n w (rowOf b t)) ⟨20 + 2 * h.val + s.val, by omega⟩ d

def block9 (n : FVec Ideal S512x2048 .bf16) (w : Vec Ideal S2048x4608 .bf16) (g : Vec Ideal S2x128 .f32) (y : S2x1x256x4x2x128.Idx) : EReal := keys9 n w g (y 0) (y 2) (y 3) (y 4) (y 5)

theorem block9_at (n : FVec Ideal S512x2048 .bf16) (w : Vec Ideal S2048x4608 .bf16) (g : Vec Ideal S2x128 .f32) (y : S2x1x256x4x2x128.Idx) (r : Fin 512) (a : Fin 36) (l : Fin 128)
    (h0 : 256 * (y 0).val + (y 2).val = r.val) (h1 : 20 + 2 * (y 3).val + (y 4).val = a.val) (h2 : (y 5).val = l.val) :
    block9 n w g y = head (blockRow n w r) a l := by
  have e0 : rowOf (y 0) (y 2) = r := Fin.ext h0
  have e2 : (y 5 : Fin 128) = l := Fin.ext h2
  unfold block9 keys9
  rw [e0, e2]
  exact congrArg (fun a => head (blockRow n w r) a l) (Fin.ext h1)

/-- The new values of the second mixer. -/
def values10 (n : FVec Ideal S512x2048 .bf16) (w : Vec Ideal S2048x4608 .bf16) (g : Vec Ideal S2x128 .f32) (b : Fin 2) (t : Fin 256) (h : Fin 4) (e : Fin 256) : EReal :=
  blockRow n w (rowOf b t) ⟨3584 + 256 * h.val + e.val, by omega⟩

def block10 (n : FVec Ideal S512x2048 .bf16) (w : Vec Ideal S2048x4608 .bf16) (g : Vec Ideal S2x128 .f32) (y : S2x1x256x4x256.Idx) : EReal := values10 n w g (y 0) (y 2) (y 3) (y 4)

theorem block10_at (n : FVec Ideal S512x2048 .bf16) (w : Vec Ideal S2048x4608 .bf16) (g : Vec Ideal S2x128 .f32) (y : S2x1x256x4x256.Idx) (r : Fin 512) (j : Fin 4608)
    (h0 : 256 * (y 0).val + (y 2).val = r.val) (h1 : 3584 + 256 * (y 3).val + (y 4).val = j.val) :
    block10 n w g y = blockRow n w r j := by
  have e0 : rowOf (y 0) (y 2) = r := Fin.ext h0
  unfold block10 values10
  rw [e0]
  exact congrArg (blockRow n w r) (Fin.ext h1)

/-- The eighteen column tiles are the rows a block hands on. -/
theorem out6_eq (a0 : Vec Ideal S512x2048 .f32) (a1 : Vec Ideal S1x2048 .f32) (a2 a3 : Vec Ideal S1x1x2048 .f32) (a4 : Vec Ideal S2048x4608 .bf16) (a5 : Vec Ideal S2x128 .f32) : out0_6 a0 a1 a2 a3 a4 a5 = block6 (k0_pay82 a0 a1 a2 a3 a4 a5) a4 a5 := by
  unfold out0_6 k0_pay83 k0_pay84 k0_pay85 k0_pay86 k0_pay87 k0_pay88 k0_pay89 k0_pay90
  refine funext fun y => View.canon_apply_of_pieces (Val := Elt Ideal) (S := S512x4608) (e := .bf16) (block6 (k0_pay82 a0 a1 a2 a3 a4 a5) a4 a5) _ ?_ y ?_
  swap
  · exact cover0_6 _ _ _ _ _ _ _ _ _ _ _ _ _ _ _ _ _ _ y
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · change S512x256.Idx at x
    idx_vars x
    rcases halves x1 with ⟨l, rfl⟩ | ⟨l, rfl⟩
    · refine (tile17_0 _ _ x0 l).trans ?_
      rw [cols17_0]
      refine (handed_rest _ (gains a5) ⟨34, by decide⟩ l (by decide)).symm.trans (block6_at _ _ _ _ x0 _ l ?_ ?_).symm
      · show 0 + 1 * x0.val = x0.val
        omega
      · show 4352 + 1 * l.val = 128 * 34 + l.val
        omega
    · refine (tile17_1 _ _ x0 l).trans ?_
      rw [cols17_1]
      refine (handed_rest _ (gains a5) ⟨35, by decide⟩ l (by decide)).symm.trans (block6_at _ _ _ _ x0 _ l ?_ ?_).symm
      · show 0 + 1 * x0.val = x0.val
        omega
      · show 4352 + 1 * (128 + l.val) = 128 * 35 + l.val
        omega
  · change S512x256.Idx at x
    idx_vars x
    rcases halves x1 with ⟨l, rfl⟩ | ⟨l, rfl⟩
    · refine (tile16_0 _ _ x0 l).trans ?_
      rw [cols16_0]
      refine (handed_rest _ (gains a5) ⟨32, by decide⟩ l (by decide)).symm.trans (block6_at _ _ _ _ x0 _ l ?_ ?_).symm
      · show 0 + 1 * x0.val = x0.val
        omega
      · show 4096 + 1 * l.val = 128 * 32 + l.val
        omega
    · refine (tile16_1 _ _ x0 l).trans ?_
      rw [cols16_1]
      refine (handed_rest _ (gains a5) ⟨33, by decide⟩ l (by decide)).symm.trans (block6_at _ _ _ _ x0 _ l ?_ ?_).symm
      · show 0 + 1 * x0.val = x0.val
        omega
      · show 4096 + 1 * (128 + l.val) = 128 * 33 + l.val
        omega
  · change S512x256.Idx at x
    idx_vars x
    rcases halves x1 with ⟨l, rfl⟩ | ⟨l, rfl⟩
    · refine (tile15_0 _ _ x0 l).trans ?_
      rw [cols15_0]
      refine (handed_rest _ (gains a5) ⟨30, by decide⟩ l (by decide)).symm.trans (block6_at _ _ _ _ x0 _ l ?_ ?_).symm
      · show 0 + 1 * x0.val = x0.val
        omega
      · show 3840 + 1 * l.val = 128 * 30 + l.val
        omega
    · refine (tile15_1 _ _ x0 l).trans ?_
      rw [cols15_1]
      refine (handed_rest _ (gains a5) ⟨31, by decide⟩ l (by decide)).symm.trans (block6_at _ _ _ _ x0 _ l ?_ ?_).symm
      · show 0 + 1 * x0.val = x0.val
        omega
      · show 3840 + 1 * (128 + l.val) = 128 * 31 + l.val
        omega
  · change S512x256.Idx at x
    idx_vars x
    rcases halves x1 with ⟨l, rfl⟩ | ⟨l, rfl⟩
    · refine (tile14_0 _ _ x0 l).trans ?_
      rw [cols14_0]
      refine (handed_rest _ (gains a5) ⟨28, by decide⟩ l (by decide)).symm.trans (block6_at _ _ _ _ x0 _ l ?_ ?_).symm
      · show 0 + 1 * x0.val = x0.val
        omega
      · show 3584 + 1 * l.val = 128 * 28 + l.val
        omega
    · refine (tile14_1 _ _ x0 l).trans ?_
      rw [cols14_1]
      refine (handed_rest _ (gains a5) ⟨29, by decide⟩ l (by decide)).symm.trans (block6_at _ _ _ _ x0 _ l ?_ ?_).symm
      · show 0 + 1 * x0.val = x0.val
        omega
      · show 3584 + 1 * (128 + l.val) = 128 * 29 + l.val
        omega
  · change S512x256.Idx at x
    idx_vars x
    rcases halves x1 with ⟨l, rfl⟩ | ⟨l, rfl⟩
    · refine (tile13_0 _ _ x0 l).trans ?_
      rw [cols13_0]
      refine (handed_rest _ (gains a5) ⟨26, by decide⟩ l (by decide)).symm.trans (block6_at _ _ _ _ x0 _ l ?_ ?_).symm
      · show 0 + 1 * x0.val = x0.val
        omega
      · show 3328 + 1 * l.val = 128 * 26 + l.val
        omega
    · refine (tile13_1 _ _ x0 l).trans ?_
      rw [cols13_1]
      refine (handed_rest _ (gains a5) ⟨27, by decide⟩ l (by decide)).symm.trans (block6_at _ _ _ _ x0 _ l ?_ ?_).symm
      · show 0 + 1 * x0.val = x0.val
        omega
      · show 3328 + 1 * (128 + l.val) = 128 * 27 + l.val
        omega
  · change S512x256.Idx at x
    idx_vars x
    rcases halves x1 with ⟨l, rfl⟩ | ⟨l, rfl⟩
    · refine (tile12_0 _ _ x0 l).trans ?_
      rw [cols12_0]
      refine (handed_rest _ (gains a5) ⟨24, by decide⟩ l (by decide)).symm.trans (block6_at _ _ _ _ x0 _ l ?_ ?_).symm
      · show 0 + 1 * x0.val = x0.val
        omega
      · show 3072 + 1 * l.val = 128 * 24 + l.val
        omega
    · refine (tile12_1 _ _ x0 l).trans ?_
      rw [cols12_1]
      refine (handed_rest _ (gains a5) ⟨25, by decide⟩ l (by decide)).symm.trans (block6_at _ _ _ _ x0 _ l ?_ ?_).symm
      · show 0 + 1 * x0.val = x0.val
        omega
      · show 3072 + 1 * (128 + l.val) = 128 * 25 + l.val
        omega
  · change S512x256.Idx at x
    idx_vars x
    rcases halves x1 with ⟨l, rfl⟩ | ⟨l, rfl⟩
    · refine (tile11_0 _ _ x0 l).trans ?_
      rw [cols11_0]
      refine (handed_rest _ (gains a5) ⟨22, by decide⟩ l (by decide)).symm.trans (block6_at _ _ _ _ x0 _ l ?_ ?_).symm
      · show 0 + 1 * x0.val = x0.val
        omega
      · show 2816 + 1 * l.val = 128 * 22 + l.val
        omega
    · refine (tile11_1 _ _ x0 l).trans ?_
      rw [cols11_1]
      refine (handed_rest _ (gains a5) ⟨23, by decide⟩ l (by decide)).symm.trans (block6_at _ _ _ _ x0 _ l ?_ ?_).symm
      · show 0 + 1 * x0.val = x0.val
        omega
      · show 2816 + 1 * (128 + l.val) = 128 * 23 + l.val
        omega
  · change S512x256.Idx at x
    idx_vars x
    rcases halves x1 with ⟨l, rfl⟩ | ⟨l, rfl⟩
    · refine (tile10_0 _ _ x0 l).trans ?_
      rw [cols10_0]
      refine (handed_rest _ (gains a5) ⟨20, by decide⟩ l (by decide)).symm.trans (block6_at _ _ _ _ x0 _ l ?_ ?_).symm
      · show 0 + 1 * x0.val = x0.val
        omega
      · show 2560 + 1 * l.val = 128 * 20 + l.val
        omega
    · refine (tile10_1 _ _ x0 l).trans ?_
      rw [cols10_1]
      refine (handed_rest _ (gains a5) ⟨21, by decide⟩ l (by decide)).symm.trans (block6_at _ _ _ _ x0 _ l ?_ ?_).symm
      · show 0 + 1 * x0.val = x0.val
        omega
      · show 2560 + 1 * (128 + l.val) = 128 * 21 + l.val
        omega
  · change S512x256.Idx at x
    idx_vars x
    rcases halves x1 with ⟨l, rfl⟩ | ⟨l, rfl⟩
    · refine (tile9_0 _ _ x0 l).trans ?_
      rw [cols9_0]
      refine (handed_query2 _ (gains a5) ⟨18, by decide⟩ l (by decide)).symm.trans (block6_at _ _ _ _ x0 _ l ?_ ?_).symm
      · show 0 + 1 * x0.val = x0.val
        omega
      · show 2304 + 1 * l.val = 128 * 18 + l.val
        omega
    · refine (tile9_1 _ _ x0 l).trans ?_
      rw [cols9_1]
      refine (handed_query2 _ (gains a5) ⟨19, by decide⟩ l (by decide)).symm.trans (block6_at _ _ _ _ x0 _ l ?_ ?_).symm
      · show 0 + 1 * x0.val = x0.val
        omega
      · show 2304 + 1 * (128 + l.val) = 128 * 19 + l.val
        omega
  · change S512x256.Idx at x
    idx_vars x
    rcases halves x1 with ⟨l, rfl⟩ | ⟨l, rfl⟩
    · refine (tile8_0 _ _ x0 l).trans ?_
      rw [cols8_0]
      refine (handed_query2 _ (gains a5) ⟨16, by decide⟩ l (by decide)).symm.trans (block6_at _ _ _ _ x0 _ l ?_ ?_).symm
      · show 0 + 1 * x0.val = x0.val
        omega
      · show 2048 + 1 * l.val = 128 * 16 + l.val
        omega
    · refine (tile8_1 _ _ x0 l).trans ?_
      rw [cols8_1]
      refine (handed_query2 _ (gains a5) ⟨17, by decide⟩ l (by decide)).symm.trans (block6_at _ _ _ _ x0 _ l ?_ ?_).symm
      · show 0 + 1 * x0.val = x0.val
        omega
      · show 2048 + 1 * (128 + l.val) = 128 * 17 + l.val
        omega
  · change S512x256.Idx at x
    idx_vars x
    rcases halves x1 with ⟨l, rfl⟩ | ⟨l, rfl⟩
    · refine (tile7_0 _ _ x0 l).trans ?_
      rw [cols7_0]
      refine (handed_query2 _ (gains a5) ⟨14, by decide⟩ l (by decide)).symm.trans (block6_at _ _ _ _ x0 _ l ?_ ?_).symm
      · show 0 + 1 * x0.val = x0.val
        omega
      · show 1792 + 1 * l.val = 128 * 14 + l.val
        omega
    · refine (tile7_1 _ _ x0 l).trans ?_
      rw [cols7_1]
      refine (handed_query2 _ (gains a5) ⟨15, by decide⟩ l (by decide)).symm.trans (block6_at _ _ _ _ x0 _ l ?_ ?_).symm
      · show 0 + 1 * x0.val = x0.val
        omega
      · show 1792 + 1 * (128 + l.val) = 128 * 15 + l.val
        omega
  · change S512x256.Idx at x
    idx_vars x
    rcases halves x1 with ⟨l, rfl⟩ | ⟨l, rfl⟩
    · refine (tile6_0 _ _ x0 l).trans ?_
      rw [cols6_0]
      refine (handed_query2 _ (gains a5) ⟨12, by decide⟩ l (by decide)).symm.trans (block6_at _ _ _ _ x0 _ l ?_ ?_).symm
      · show 0 + 1 * x0.val = x0.val
        omega
      · show 1536 + 1 * l.val = 128 * 12 + l.val
        omega
    · refine (tile6_1 _ _ x0 l).trans ?_
      rw [cols6_1]
      refine (handed_query2 _ (gains a5) ⟨13, by decide⟩ l (by decide)).symm.trans (block6_at _ _ _ _ x0 _ l ?_ ?_).symm
      · show 0 + 1 * x0.val = x0.val
        omega
      · show 1536 + 1 * (128 + l.val) = 128 * 13 + l.val
        omega
  · change S512x256.Idx at x
    idx_vars x
    rcases halves x1 with ⟨l, rfl⟩ | ⟨l, rfl⟩
    · refine (tile5_0 _ _ x0 l).trans ?_
      rw [cols5_0]
      refine (handed_value _ (gains a5) ⟨10, by decide⟩ l (by decide)).symm.trans (block6_at _ _ _ _ x0 _ l ?_ ?_).symm
      · show 0 + 1 * x0.val = x0.val
        omega
      · show 1280 + 1 * l.val = 128 * 10 + l.val
        omega
    · refine (tile5_1 _ _ x0 l).trans ?_
      rw [cols5_1]
      refine (handed_value _ (gains a5) ⟨11, by decide⟩ l (by decide)).symm.trans (block6_at _ _ _ _ x0 _ l ?_ ?_).symm
      · show 0 + 1 * x0.val = x0.val
        omega
      · show 1280 + 1 * (128 + l.val) = 128 * 11 + l.val
        omega
  · change S512x256.Idx at x
    idx_vars x
    rcases halves x1 with ⟨l, rfl⟩ | ⟨l, rfl⟩
    · refine (tile4_0 _ _ _ x0 l).trans ?_
      rw [cols4_0, gain1]
      refine (handed_key _ (gains a5) ⟨8, by decide⟩ l (by decide)).symm.trans (block6_at _ _ _ _ x0 _ l ?_ ?_).symm
      · show 0 + 1 * x0.val = x0.val
        omega
      · show 1024 + 1 * l.val = 128 * 8 + l.val
        omega
    · refine (tile4_1 _ _ _ x0 l).trans ?_
      rw [cols4_1, gain1]
      refine (handed_key _ (gains a5) ⟨9, by decide⟩ l (by decide)).symm.trans (block6_at _ _ _ _ x0 _ l ?_ ?_).symm
      · show 0 + 1 * x0.val = x0.val
        omega
      · show 1024 + 1 * (128 + l.val) = 128 * 9 + l.val
        omega
  · change S512x256.Idx at x
    idx_vars x
    rcases halves x1 with ⟨l, rfl⟩ | ⟨l, rfl⟩
    · refine (tile3_0 _ _ _ x0 l).trans ?_
      rw [cols3_0, gain0]
      refine (handed_query _ (gains a5) ⟨6, by decide⟩ l (by decide)).symm.trans (block6_at _ _ _ _ x0 _ l ?_ ?_).symm
      · show 0 + 1 * x0.val = x0.val
        omega
      · show 768 + 1 * l.val = 128 * 6 + l.val
        omega
    · refine (tile3_1 _ _ _ x0 l).trans ?_
      rw [cols3_1, gain0]
      refine (handed_query _ (gains a5) ⟨7, by decide⟩ l (by decide)).symm.trans (block6_at _ _ _ _ x0 _ l ?_ ?_).symm
      · show 0 + 1 * x0.val = x0.val
        omega
      · show 768 + 1 * (128 + l.val) = 128 * 7 + l.val
        omega
  · change S512x256.Idx at x
    idx_vars x
    rcases halves x1 with ⟨l, rfl⟩ | ⟨l, rfl⟩
    · refine (tile2_0 _ _ _ x0 l).trans ?_
      rw [cols2_0, gain0]
      refine (handed_query _ (gains a5) ⟨4, by decide⟩ l (by decide)).symm.trans (block6_at _ _ _ _ x0 _ l ?_ ?_).symm
      · show 0 + 1 * x0.val = x0.val
        omega
      · show 512 + 1 * l.val = 128 * 4 + l.val
        omega
    · refine (tile2_1 _ _ _ x0 l).trans ?_
      rw [cols2_1, gain0]
      refine (handed_query _ (gains a5) ⟨5, by decide⟩ l (by decide)).symm.trans (block6_at _ _ _ _ x0 _ l ?_ ?_).symm
      · show 0 + 1 * x0.val = x0.val
        omega
      · show 512 + 1 * (128 + l.val) = 128 * 5 + l.val
        omega
  · change S512x256.Idx at x
    idx_vars x
    rcases halves x1 with ⟨l, rfl⟩ | ⟨l, rfl⟩
    · refine (tile1_0 _ _ _ x0 l).trans ?_
      rw [cols1_0, gain0]
      refine (handed_query _ (gains a5) ⟨2, by decide⟩ l (by decide)).symm.trans (block6_at _ _ _ _ x0 _ l ?_ ?_).symm
      · show 0 + 1 * x0.val = x0.val
        omega
      · show 256 + 1 * l.val = 128 * 2 + l.val
        omega
    · refine (tile1_1 _ _ _ x0 l).trans ?_
      rw [cols1_1, gain0]
      refine (handed_query _ (gains a5) ⟨3, by decide⟩ l (by decide)).symm.trans (block6_at _ _ _ _ x0 _ l ?_ ?_).symm
      · show 0 + 1 * x0.val = x0.val
        omega
      · show 256 + 1 * (128 + l.val) = 128 * 3 + l.val
        omega
  · change S512x256.Idx at x
    idx_vars x
    rcases halves x1 with ⟨l, rfl⟩ | ⟨l, rfl⟩
    · refine (tile0_0 _ _ _ _ _ _ x0 l).trans ?_
      rw [cols0_0, gain0]
      refine (handed_query _ (gains a5) ⟨0, by decide⟩ l (by decide)).symm.trans (block6_at _ _ _ _ x0 _ l ?_ ?_).symm
      · show 0 + 1 * x0.val = x0.val
        omega
      · show 0 + 1 * l.val = 128 * 0 + l.val
        omega
    · refine (tile0_1 _ _ _ _ _ _ x0 l).trans ?_
      rw [cols0_1, gain0]
      refine (handed_query _ (gains a5) ⟨1, by decide⟩ l (by decide)).symm.trans (block6_at _ _ _ _ x0 _ l ?_ ?_).symm
      · show 0 + 1 * x0.val = x0.val
        omega
      · show 0 + 1 * (128 + l.val) = 128 * 1 + l.val
        omega

end Cert.QkvIdeal.Block

end
-- ==== Proof.QkvCaches.lean ====
/- What the query, key and value projection stores, tile by tile, for the caches. -/
module

public import proofs.«01_k».proof.Proof.Gen.QkvIdeal.Frame
public import proofs.«01_k».proof.Proof.QkvTiles
public import Idealize.ShloMosaic.Lib.Pipeline.ReadBack
public import Idealize.ShloMosaic.Lib.Pipeline.ValueKit

@[expose] public section

set_option maxRecDepth 16384

noncomputable section

namespace Cert.QkvIdeal.Block

open Cert.QkvIdeal Cert.QkvIdeal.Gen Idealize.ShloMosaic Idealize.ShloMosaic.TcCoe Idealize.SL.Sem Idealize.ShloMosaic.Tactic
open Cert.MlpSpec Cert.LayerSpec Cert.QkvSpec

/-- A store of the first keys. -/
theorem ka0_0 (n : FVec Ideal S512x2048 .bf16) (w : Vec Ideal S2048x256 .bf16) (g : Vec Ideal S1x128 .f32) (t : Fin 256) (l : Fin 128) :
    k0_pay29 (k0_pay26 n w g) g (k0_pay27 n w) (ix5 0 0 t 0 l) = headNormed (half0 (prod n w ⟨t.val, by omega⟩)) (fun d => g (ix2 0 d)) l := by
  pointwise [k0_pay29, k0_pay28, k0_pay26, k0_pay27, k0_pay25]
  rfl

/-- A store of the first keys. -/
theorem ka0_1 (n : FVec Ideal S512x2048 .bf16) (w : Vec Ideal S2048x256 .bf16) (g : Vec Ideal S1x128 .f32) (t : Fin 256) (l : Fin 128) :
    k0_pay30 (k0_pay26 n w g) g (k0_pay27 n w) (ix5 0 0 t 0 l) = headNormed (half1 (prod n w ⟨t.val, by omega⟩)) (fun d => g (ix2 0 d)) l := by
  pointwise [k0_pay30, k0_pay28, k0_pay26, k0_pay27, k0_pay25]
  rfl

/-- A store of the first keys. -/
theorem ka1_0 (n : FVec Ideal S512x2048 .bf16) (w : Vec Ideal S2048x256 .bf16) (g : Vec Ideal S1x128 .f32) (t : Fin 256) (l : Fin 128) :
    k0_pay31 (k0_pay26 n w g) g (k0_pay27 n w) (ix5 0 0 t 0 l) = headNormed (half0 (prod n w ⟨256 + t.val, by omega⟩)) (fun d => g (ix2 0 d)) l := by
  pointwise [k0_pay31, k0_pay28, k0_pay26, k0_pay27, k0_pay25]
  rfl

/-- A store of the first keys. -/
theorem ka1_1 (n : FVec Ideal S512x2048 .bf16) (w : Vec Ideal S2048x256 .bf16) (g : Vec Ideal S1x128 .f32) (t : Fin 256) (l : Fin 128) :
    k0_pay32 (k0_pay26 n w g) g (k0_pay27 n w) (ix5 0 0 t 0 l) = headNormed (half1 (prod n w ⟨256 + t.val, by omega⟩)) (fun d => g (ix2 0 d)) l := by
  pointwise [k0_pay32, k0_pay28, k0_pay26, k0_pay27, k0_pay25]
  rfl

/-- A store of the first values. -/
theorem va0_0 (n : FVec Ideal S512x2048 .bf16) (w : Vec Ideal S2048x256 .bf16) (t : Fin 256) (l : Fin 128) :
    k0_pay36 (k0_pay35 n w) (ix5 0 0 t 0 l) = (half0 (prod n w ⟨t.val, by omega⟩)) l := by
  pointwise [k0_pay36, k0_pay34, k0_pay35]
  rfl

/-- A store of the first values. -/
theorem va0_1 (n : FVec Ideal S512x2048 .bf16) (w : Vec Ideal S2048x256 .bf16) (t : Fin 256) (l : Fin 128) :
    k0_pay37 (k0_pay34 n w) (ix5 0 0 t 0 l) = (half1 (prod n w ⟨t.val, by omega⟩)) l := by
  pointwise [k0_pay37, k0_pay34]
  rfl

/-- A store of the first values. -/
theorem va1_0 (n : FVec Ideal S512x2048 .bf16) (w : Vec Ideal S2048x256 .bf16) (t : Fin 256) (l : Fin 128) :
    k0_pay38 (k0_pay34 n w) (ix5 0 0 t 0 l) = (half0 (prod n w ⟨256 + t.val, by omega⟩)) l := by
  pointwise [k0_pay38, k0_pay34]
  rfl

/-- A store of the first values. -/
theorem va1_1 (n : FVec Ideal S512x2048 .bf16) (w : Vec Ideal S2048x256 .bf16) (t : Fin 256) (l : Fin 128) :
    k0_pay39 (k0_pay34 n w) (ix5 0 0 t 0 l) = (half1 (prod n w ⟨256 + t.val, by omega⟩)) l := by
  pointwise [k0_pay39, k0_pay34]
  rfl

/-- A store of the second keys. -/
theorem kb0_0_0 (n : FVec Ideal S512x2048 .bf16) (w : Vec Ideal S2048x256 .bf16) (t : Fin 256) (l : Fin 128) :
    k0_pay46 n w (ix6 0 0 t 0 0 l) = (half0 (prod n w ⟨t.val, by omega⟩)) l := by
  pointwise [k0_pay45, k0_pay46]
  rfl

/-- A store of the second keys. -/
theorem kb0_0_1 (n : FVec Ideal S512x2048 .bf16) (w : Vec Ideal S2048x256 .bf16) (t : Fin 256) (l : Fin 128) :
    k0_pay47 n w (ix6 0 0 t 0 0 l) = (half1 (prod n w ⟨t.val, by omega⟩)) l := by
  pointwise [k0_pay45, k0_pay47]
  rfl

/-- A store of the second keys. -/
theorem kb0_1_0 (n : FVec Ideal S512x2048 .bf16) (w : Vec Ideal S2048x256 .bf16) (t : Fin 256) (l : Fin 128) :
    k0_pay48 n w (ix6 0 0 t 0 0 l) = (half0 (prod n w ⟨256 + t.val, by omega⟩)) l := by
  pointwise [k0_pay45, k0_pay48]
  rfl

/-- A store of the second keys. -/
theorem kb0_1_1 (n : FVec Ideal S512x2048 .bf16) (w : Vec Ideal S2048x256 .bf16) (t : Fin 256) (l : Fin 128) :
    k0_pay49 n w (ix6 0 0 t 0 0 l) = (half1 (prod n w ⟨256 + t.val, by omega⟩)) l := by
  pointwise [k0_pay45, k0_pay49]
  rfl

/-- A store of the second keys. -/
theorem kb1_0_0 (n : FVec Ideal S512x2048 .bf16) (w : Vec Ideal S2048x256 .bf16) (t : Fin 256) (l : Fin 128) :
    k0_pay53 (k0_pay52 n w) (ix6 0 0 t 0 0 l) = (half0 (prod n w ⟨t.val, by omega⟩)) l := by
  pointwise [k0_pay51, k0_pay52, k0_pay53]
  rfl

/-- A store of the second keys. -/
theorem kb1_0_1 (n : FVec Ideal S512x2048 .bf16) (w : Vec Ideal S2048x256 .bf16) (t : Fin 256) (l : Fin 128) :
    k0_pay54 (k0_pay51 n w) (ix6 0 0 t 0 0 l) = (half1 (prod n w ⟨t.val, by omega⟩)) l := by
  pointwise [k0_pay51, k0_pay54]
  rfl

/-- A store of the second keys. -/
theorem kb1_1_0 (n : FVec Ideal S512x2048 .bf16) (w : Vec Ideal S2048x256 .bf16) (t : Fin 256) (l : Fin 128) :
    k0_pay55 (k0_pay51 n w) (ix6 0 0 t 0 0 l) = (half0 (prod n w ⟨256 + t.val, by omega⟩)) l := by
  pointwise [k0_pay51, k0_pay55]
  rfl

/-- A store of the second keys. -/
theorem kb1_1_1 (n : FVec Ideal S512x2048 .bf16) (w : Vec Ideal S2048x256 .bf16) (t : Fin 256) (l : Fin 128) :
    k0_pay56 (k0_pay51 n w) (ix6 0 0 t 0 0 l) = (half1 (prod n w ⟨256 + t.val, by omega⟩)) l := by
  pointwise [k0_pay51, k0_pay56]
  rfl

/-- A store of the second keys. -/
theorem kb2_0_0 (n : FVec Ideal S512x2048 .bf16) (w : Vec Ideal S2048x256 .bf16) (t : Fin 256) (l : Fin 128) :
    k0_pay60 (k0_pay59 n w) (ix6 0 0 t 0 0 l) = (half0 (prod n w ⟨t.val, by omega⟩)) l := by
  pointwise [k0_pay58, k0_pay59, k0_pay60]
  rfl

/-- A store of the second keys. -/
theorem kb2_0_1 (n : FVec Ideal S512x2048 .bf16) (w : Vec Ideal S2048x256 .bf16) (t : Fin 256) (l : Fin 128) :
    k0_pay61 (k0_pay58 n w) (ix6 0 0 t 0 0 l) = (half1 (prod n w ⟨t.val, by omega⟩)) l := by
  pointwise [k0_pay58, k0_pay61]
  rfl

/-- A store of the second keys. -/
theorem kb2_1_0 (n : FVec Ideal S512x2048 .bf16) (w : Vec Ideal S2048x256 .bf16) (t : Fin 256) (l : Fin 128) :
    k0_pay62 (k0_pay58 n w) (ix6 0 0 t 0 0 l) = (half0 (prod n w ⟨256 + t.val, by omega⟩)) l := by
  pointwise [k0_pay58, k0_pay62]
  rfl

/-- A store of the second keys. -/
theorem kb2_1_1 (n : FVec Ideal S512x2048 .bf16) (w : Vec Ideal S2048x256 .bf16) (t : Fin 256) (l : Fin 128) :
    k0_pay63 (k0_pay58 n w) (ix6 0 0 t 0 0 l) = (half1 (prod n w ⟨256 + t.val, by omega⟩)) l := by
  pointwise [k0_pay58, k0_pay63]
  rfl

/-- A store of the second keys. -/
theorem kb3_0_0 (n : FVec Ideal S512x2048 .bf16) (w : Vec Ideal S2048x256 .bf16) (t : Fin 256) (l : Fin 128) :
    k0_pay67 (k0_pay66 n w) (ix6 0 0 t 0 0 l) = (half0 (prod n w ⟨t.val, by omega⟩)) l := by
  pointwise [k0_pay65, k0_pay66, k0_pay67]
  rfl

/-- A store of the second keys. -/
theorem kb3_0_1 (n : FVec Ideal S512x2048 .bf16) (w : Vec Ideal S2048x256 .bf16) (t : Fin 256) (l : Fin 128) :
    k0_pay68 (k0_pay65 n w) (ix6 0 0 t 0 0 l) = (half1 (prod n w ⟨t.val, by omega⟩)) l := by
  pointwise [k0_pay65, k0_pay68]
  rfl

/-- A store of the second keys. -/
theorem kb3_1_0 (n : FVec Ideal S512x2048 .bf16) (w : Vec Ideal S2048x256 .bf16) (t : Fin 256) (l : Fin 128) :
    k0_pay69 (k0_pay65 n w) (ix6 0 0 t 0 0 l) = (half0 (prod n w ⟨256 + t.val, by omega⟩)) l := by
  pointwise [k0_pay65, k0_pay69]
  rfl

/-- A store of the second keys. -/
theorem kb3_1_1 (n : FVec Ideal S512x2048 .bf16) (w : Vec Ideal S2048x256 .bf16) (t : Fin 256) (l : Fin 128) :
    k0_pay70 (k0_pay65 n w) (ix6 0 0 t 0 0 l) = (half1 (prod n w ⟨256 + t.val, by omega⟩)) l := by
  pointwise [k0_pay65, k0_pay70]
  rfl

/-- A store of the second values. -/
theorem vb0_0 (n : FVec Ideal S512x2048 .bf16) (w : Vec Ideal S2048x256 .bf16) (t : Fin 256) (l : Fin 256) :
    k0_pay73 n w (ix5 0 0 t 0 l) = prod n w ⟨t.val, by omega⟩ l := by
  pointwise [k0_pay72, k0_pay73]
  rfl

/-- A store of the second values. -/
theorem vb0_1 (n : FVec Ideal S512x2048 .bf16) (w : Vec Ideal S2048x256 .bf16) (t : Fin 256) (l : Fin 256) :
    k0_pay74 (k0_pay72 n w) (ix5 0 0 t 0 l) = prod n w ⟨256 + t.val, by omega⟩ l := by
  pointwise [k0_pay72, k0_pay74]
  rfl

/-- A store of the second values. -/
theorem vb1_0 (n : FVec Ideal S512x2048 .bf16) (w : Vec Ideal S2048x256 .bf16) (t : Fin 256) (l : Fin 256) :
    k0_pay77 n w (ix5 0 0 t 0 l) = prod n w ⟨t.val, by omega⟩ l := by
  pointwise [k0_pay76, k0_pay77]
  rfl

/-- A store of the second values. -/
theorem vb1_1 (n : FVec Ideal S512x2048 .bf16) (w : Vec Ideal S2048x256 .bf16) (t : Fin 256) (l : Fin 256) :
    k0_pay78 n w (ix5 0 0 t 0 l) = prod n w ⟨256 + t.val, by omega⟩ l := by
  pointwise [k0_pay76, k0_pay78]
  rfl

/-- A store of the second values. -/
theorem vb2_0 (n : FVec Ideal S512x2048 .bf16) (w : Vec Ideal S2048x256 .bf16) (t : Fin 256) (l : Fin 256) :
    k0_pay81 n w (ix5 0 0 t 0 l) = prod n w ⟨t.val, by omega⟩ l := by
  pointwise [k0_pay80, k0_pay81]
  rfl

/-- A store of the second values. -/
theorem vb2_1 (n : FVec Ideal S512x2048 .bf16) (w : Vec Ideal S2048x256 .bf16) (t : Fin 256) (l : Fin 256) :
    k0_pay1 (k0_pay80 n w) (ix5 0 0 t 0 l) = prod n w ⟨256 + t.val, by omega⟩ l := by
  pointwise [k0_pay1, k0_pay80]
  rfl

/-- A store of the second values. -/
theorem vb3_0 (n : FVec Ideal S512x2048 .bf16) (w : Vec Ideal S2048x256 .bf16) (t : Fin 256) (l : Fin 256) :
    k0_pay4 n w (ix5 0 0 t 0 l) = prod n w ⟨t.val, by omega⟩ l := by
  pointwise [k0_pay3, k0_pay4]
  rfl

/-- A store of the second values. -/
theorem vb3_1 (n : FVec Ideal S512x2048 .bf16) (w : Vec Ideal S2048x256 .bf16) (t : Fin 256) (l : Fin 256) :
    k0_pay5 n w (ix5 0 0 t 0 l) = prod n w ⟨256 + t.val, by omega⟩ l := by
  pointwise [k0_pay3, k0_pay5]
  rfl

end Cert.QkvIdeal.Block

end
-- ==== Proof.QkvBlock.lean ====
/- What the query, key and value projection stores, tile by tile: the caches. -/
module

public import proofs.«01_k».proof.Proof.Gen.QkvIdeal.Frame
public import proofs.«01_k».proof.Proof.QkvRows
public import proofs.«01_k».proof.Proof.QkvCaches
public import Idealize.ShloMosaic.Lib.Pipeline.ReadBack
public import Idealize.ShloMosaic.Lib.Pipeline.ValueKit

@[expose] public section

set_option maxRecDepth 16384

noncomputable section

namespace Cert.QkvIdeal.Block

open Cert.QkvIdeal Cert.QkvIdeal.Gen Idealize.ShloMosaic Idealize.ShloMosaic.TcCoe Idealize.SL.Sem Idealize.ShloMosaic.Tactic
open Cert.MlpSpec Cert.LayerSpec Cert.QkvSpec

/-- The four stores of the first mixer's keys. -/
theorem out7_eq (a0 : Vec Ideal S512x2048 .f32) (a1 : Vec Ideal S1x2048 .f32) (a2 a3 : Vec Ideal S1x1x2048 .f32) (a4 : Vec Ideal S2048x4608 .bf16) (a5 : Vec Ideal S2x128 .f32) : out0_7 a0 a1 a2 a3 a4 a5 = block7 (k0_pay82 a0 a1 a2 a3 a4 a5) a4 a5 := by
  unfold out0_7 k0_pay83 k0_pay84
  refine funext fun y => View.canon_apply_of_pieces (Val := Elt Ideal) (S := S2x1x256x2x128) (e := .f32) (block7 (k0_pay82 a0 a1 a2 a3 a4 a5) a4 a5) _ ?_ y ?_
  swap
  · exact cover0_7 _ _ _ _ y
  simp only [List.forall_mem_cons, List.not_mem_nil, false_imp_iff, implies_true, and_true]
  refine ⟨fun x => ?_, fun x => ?_, fun x => ?_, fun x => ?_⟩
  · change S1x1x256x1x128.Idx at x
    idx_vars x
    obtain rfl : x0 = 0 := Subsingleton.elim _ _
    obtain rfl : x1 = 0 := Subsingleton.elim _ _
    obtain rfl : x3 = 0 := Subsingleton.elim _ _
    refine (ka1_1 _ _ _ x2 x4).trans ?_
    rw [cols4_1, gain1]
    refine (block7_at _ _ _ _ ⟨256 + x2.val, by omega⟩ ⟨9, by decide⟩ x4 ?_ ?_ ?_).symm
    · show 256 * (1 + 1 * 0) + (0 + 1 * x2.val) = 256 + x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (ka1_0 _ _ _ x2 x4).trans ?_
    rw [cols4_0, gain1]
    refine (block7_at _ _ _ _ ⟨256 + x2.val, by omega⟩ ⟨8, by decide⟩ x4 ?_ ?_ ?_).symm
    · show 256 * (1 + 1 * 0) + (0 + 1 * x2.val) = 256 + x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (ka0_1 _ _ _ x2 x4).trans ?_
    rw [cols4_1, gain1]
    refine (block7_at _ _ _ _ ⟨x2.val, by omega⟩ ⟨9, by decide⟩ x4 ?_ ?_ ?_).symm
    · show 256 * (0 + 1 * 0) + (0 + 1 * x2.val) = x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (ka0_0 _ _ _ x2 x4).trans ?_
    rw [cols4_0, gain1]
    refine (block7_at _ _ _ _ ⟨x2.val, by omega⟩ ⟨8, by decide⟩ x4 ?_ ?_ ?_).symm
    · show 256 * (0 + 1 * 0) + (0 + 1 * x2.val) = x2.val
      omega
    · rfl
    · show 0 + 1 * x4.val = x4.val
      omega

/-- The four stores of its values. -/
theorem out8_eq (a0 : Vec Ideal S512x2048 .f32) (a1 : Vec Ideal S1x2048 .f32) (a2 a3 : Vec Ideal S1x1x2048 .f32) (a4 : Vec Ideal S2048x4608 .bf16) (a5 : Vec Ideal S2x128 .f32) : out0_8 a0 a1 a2 a3 a4 a5 = block8 (k0_pay82 a0 a1 a2 a3 a4 a5) a4 a5 := by
  unfold out0_8 k0_pay85
  refine funext fun y => View.canon_apply_of_pieces (Val := Elt Ideal) (S := S2x1x256x2x128) (e := .f32) (block8 (k0_pay82 a0 a1 a2 a3 a4 a5) a4 a5) _ ?_ y ?_
  swap
  · exact cover0_8 _ _ _ _ y
  simp only [List.forall_mem_cons, List.not_mem_nil, false_imp_iff, implies_true, and_true]
  refine ⟨fun x => ?_, fun x => ?_, fun x => ?_, fun x => ?_⟩
  · change S1x1x256x1x128.Idx at x
    idx_vars x
    obtain rfl : x0 = 0 := Subsingleton.elim _ _
    obtain rfl : x1 = 0 := Subsingleton.elim _ _
    obtain rfl : x3 = 0 := Subsingleton.elim _ _
    refine (va1_1 _ _ x2 x4).trans ?_
    rw [cols5_1]
    refine (block8_at _ _ _ _ ⟨256 + x2.val, by omega⟩ ⟨11, by decide⟩ x4 ?_ ?_ ?_).symm
    · show 256 * (1 + 1 * 0) + (0 + 1 * x2.val) = 256 + x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (va1_0 _ _ x2 x4).trans ?_
    rw [cols5_0]
    refine (block8_at _ _ _ _ ⟨256 + x2.val, by omega⟩ ⟨10, by decide⟩ x4 ?_ ?_ ?_).symm
    · show 256 * (1 + 1 * 0) + (0 + 1 * x2.val) = 256 + x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (va0_1 _ _ x2 x4).trans ?_
    rw [cols5_1]
    refine (block8_at _ _ _ _ ⟨x2.val, by omega⟩ ⟨11, by decide⟩ x4 ?_ ?_ ?_).symm
    · show 256 * (0 + 1 * 0) + (0 + 1 * x2.val) = x2.val
      omega
    · rfl
    · show 0 + 1 * x4.val = x4.val
      omega
  · change S1x1x256x1x128.Idx at x
    idx_vars x
    obtain rfl : x0 = 0 := Subsingleton.elim _ _
    obtain rfl : x1 = 0 := Subsingleton.elim _ _
    obtain rfl : x3 = 0 := Subsingleton.elim _ _
    refine (va0_0 _ _ x2 x4).trans ?_
    rw [cols5_0]
    refine (block8_at _ _ _ _ ⟨x2.val, by omega⟩ ⟨10, by decide⟩ x4 ?_ ?_ ?_).symm
    · show 256 * (0 + 1 * 0) + (0 + 1 * x2.val) = x2.val
      omega
    · rfl
    · show 0 + 1 * x4.val = x4.val
      omega

/-- The sixteen stores of the second mixer's keys. -/
theorem out9_eq (a0 : Vec Ideal S512x2048 .f32) (a1 : Vec Ideal S1x2048 .f32) (a2 a3 : Vec Ideal S1x1x2048 .f32) (a4 : Vec Ideal S2048x4608 .bf16) (a5 : Vec Ideal S2x128 .f32) : out0_9 a0 a1 a2 a3 a4 a5 = block9 (k0_pay82 a0 a1 a2 a3 a4 a5) a4 a5 := by
  unfold out0_9 k0_pay86 k0_pay87 k0_pay88
  refine funext fun y => View.canon_apply_of_pieces (Val := Elt Ideal) (S := S2x1x256x4x2x128) (e := .f32) (block9 (k0_pay82 a0 a1 a2 a3 a4 a5) a4 a5) _ ?_ y ?_
  swap
  · exact cover0_9 _ _ _ _ _ _ _ _ _ _ _ _ _ _ _ _ y
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb3_1_1 _ _ x2 x5).trans ?_
    rw [cols13_1]
    refine (block9_at _ _ _ _ ⟨256 + x2.val, by omega⟩ ⟨27, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb3_1_0 _ _ x2 x5).trans ?_
    rw [cols13_0]
    refine (block9_at _ _ _ _ ⟨256 + x2.val, by omega⟩ ⟨26, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb3_0_1 _ _ x2 x5).trans ?_
    rw [cols13_1]
    refine (block9_at _ _ _ _ ⟨x2.val, by omega⟩ ⟨27, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb3_0_0 _ _ x2 x5).trans ?_
    rw [cols13_0]
    refine (block9_at _ _ _ _ ⟨x2.val, by omega⟩ ⟨26, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb2_1_1 _ _ x2 x5).trans ?_
    rw [cols12_1]
    refine (block9_at _ _ _ _ ⟨256 + x2.val, by omega⟩ ⟨25, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb2_1_0 _ _ x2 x5).trans ?_
    rw [cols12_0]
    refine (block9_at _ _ _ _ ⟨256 + x2.val, by omega⟩ ⟨24, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb2_0_1 _ _ x2 x5).trans ?_
    rw [cols12_1]
    refine (block9_at _ _ _ _ ⟨x2.val, by omega⟩ ⟨25, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb2_0_0 _ _ x2 x5).trans ?_
    rw [cols12_0]
    refine (block9_at _ _ _ _ ⟨x2.val, by omega⟩ ⟨24, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb1_1_1 _ _ x2 x5).trans ?_
    rw [cols11_1]
    refine (block9_at _ _ _ _ ⟨256 + x2.val, by omega⟩ ⟨23, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb1_1_0 _ _ x2 x5).trans ?_
    rw [cols11_0]
    refine (block9_at _ _ _ _ ⟨256 + x2.val, by omega⟩ ⟨22, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb1_0_1 _ _ x2 x5).trans ?_
    rw [cols11_1]
    refine (block9_at _ _ _ _ ⟨x2.val, by omega⟩ ⟨23, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb1_0_0 _ _ x2 x5).trans ?_
    rw [cols11_0]
    refine (block9_at _ _ _ _ ⟨x2.val, by omega⟩ ⟨22, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb0_1_1 _ _ x2 x5).trans ?_
    rw [cols10_1]
    refine (block9_at _ _ _ _ ⟨256 + x2.val, by omega⟩ ⟨21, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb0_1_0 _ _ x2 x5).trans ?_
    rw [cols10_0]
    refine (block9_at _ _ _ _ ⟨256 + x2.val, by omega⟩ ⟨20, by decide⟩ x5 ?_ ?_ ?_).symm
    · show 256 * (1 + 1 * 0) + (0 + 1 * x2.val) = 256 + x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb0_0_1 _ _ x2 x5).trans ?_
    rw [cols10_1]
    refine (block9_at _ _ _ _ ⟨x2.val, by omega⟩ ⟨21, by decide⟩ x5 ?_ ?_ ?_).symm
    · show 256 * (0 + 1 * 0) + (0 + 1 * x2.val) = x2.val
      omega
    · rfl
    · show 0 + 1 * x5.val = x5.val
      omega
  · change S1x1x256x1x1x128.Idx at x
    idx_vars x
    obtain rfl : x0 = 0 := Subsingleton.elim _ _
    obtain rfl : x1 = 0 := Subsingleton.elim _ _
    obtain rfl : x3 = 0 := Subsingleton.elim _ _
    obtain rfl : x4 = 0 := Subsingleton.elim _ _
    refine (kb0_0_0 _ _ x2 x5).trans ?_
    rw [cols10_0]
    refine (block9_at _ _ _ _ ⟨x2.val, by omega⟩ ⟨20, by decide⟩ x5 ?_ ?_ ?_).symm
    · show 256 * (0 + 1 * 0) + (0 + 1 * x2.val) = x2.val
      omega
    · rfl
    · show 0 + 1 * x5.val = x5.val
      omega

/-- The eight stores of its values. -/
theorem out10_eq (a0 : Vec Ideal S512x2048 .f32) (a1 : Vec Ideal S1x2048 .f32) (a2 a3 : Vec Ideal S1x1x2048 .f32) (a4 : Vec Ideal S2048x4608 .bf16) (a5 : Vec Ideal S2x128 .f32) : out0_10 a0 a1 a2 a3 a4 a5 = block10 (k0_pay82 a0 a1 a2 a3 a4 a5) a4 a5 := by
  unfold out0_10 k0_pay89 k0_pay90
  refine funext fun y => View.canon_apply_of_pieces (Val := Elt Ideal) (S := S2x1x256x4x256) (e := .f32) (block10 (k0_pay82 a0 a1 a2 a3 a4 a5) a4 a5) _ ?_ y ?_
  swap
  · exact cover0_10 _ _ _ _ _ _ _ _ y
  simp only [List.forall_mem_cons, List.not_mem_nil, false_imp_iff, implies_true, and_true]
  refine ⟨fun x => ?_, fun x => ?_, fun x => ?_, fun x => ?_, fun x => ?_, fun x => ?_, fun x => ?_, fun x => ?_⟩
  · change S1x1x256x1x256.Idx at x
    idx_vars x
    obtain rfl : x0 = 0 := Subsingleton.elim _ _
    obtain rfl : x1 = 0 := Subsingleton.elim _ _
    obtain rfl : x3 = 0 := Subsingleton.elim _ _
    refine (vb3_1 _ _ x2 x4).trans ?_
    rw [full17]
    refine (block10_at _ _ _ _ ⟨256 + x2.val, by omega⟩ ⟨4352 + x4.val, by omega⟩  ?_ ?_).symm
    · show 256 * (1 + 1 * 0) + (0 + 1 * x2.val) = 256 + x2.val
      omega
    · show 3584 + 256 * (3 + 1 * 0) + (0 + 1 * x4.val) = 4352 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb3_0 _ _ x2 x4).trans ?_
    rw [full17]
    refine (block10_at _ _ _ _ ⟨x2.val, by omega⟩ ⟨4352 + x4.val, by omega⟩  ?_ ?_).symm
    · show 256 * (0 + 1 * 0) + (0 + 1 * x2.val) = x2.val
      omega
    · show 3584 + 256 * (3 + 1 * 0) + (0 + 1 * x4.val) = 4352 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb2_1 _ _ x2 x4).trans ?_
    rw [full16]
    refine (block10_at _ _ _ _ ⟨256 + x2.val, by omega⟩ ⟨4096 + x4.val, by omega⟩  ?_ ?_).symm
    · show 256 * (1 + 1 * 0) + (0 + 1 * x2.val) = 256 + x2.val
      omega
    · show 3584 + 256 * (2 + 1 * 0) + (0 + 1 * x4.val) = 4096 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb2_0 _ _ x2 x4).trans ?_
    rw [full16]
    refine (block10_at _ _ _ _ ⟨x2.val, by omega⟩ ⟨4096 + x4.val, by omega⟩  ?_ ?_).symm
    · show 256 * (0 + 1 * 0) + (0 + 1 * x2.val) = x2.val
      omega
    · show 3584 + 256 * (2 + 1 * 0) + (0 + 1 * x4.val) = 4096 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb1_1 _ _ x2 x4).trans ?_
    rw [full15]
    refine (block10_at _ _ _ _ ⟨256 + x2.val, by omega⟩ ⟨3840 + x4.val, by omega⟩  ?_ ?_).symm
    · show 256 * (1 + 1 * 0) + (0 + 1 * x2.val) = 256 + x2.val
      omega
    · show 3584 + 256 * (1 + 1 * 0) + (0 + 1 * x4.val) = 3840 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb1_0 _ _ x2 x4).trans ?_
    rw [full15]
    refine (block10_at _ _ _ _ ⟨x2.val, by omega⟩ ⟨3840 + x4.val, by omega⟩  ?_ ?_).symm
    · show 256 * (0 + 1 * 0) + (0 + 1 * x2.val) = x2.val
      omega
    · show 3584 + 256 * (1 + 1 * 0) + (0 + 1 * x4.val) = 3840 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb0_1 _ _ x2 x4).trans ?_
    rw [full14]
    refine (block10_at _ _ _ _ ⟨256 + x2.val, by omega⟩ ⟨3584 + x4.val, by omega⟩  ?_ ?_).symm
    · show 256 * (1 + 1 * 0) + (0 + 1 * x2.val) = 256 + x2.val
      omega
    · show 3584 + 256 * (0 + 1 * 0) + (0 + 1 * x4.val) = 3584 + x4.val
      omega
  · change S1x1x256x1x256.Idx at x
    idx_vars x
    obtain rfl : x0 = 0 := Subsingleton.elim _ _
    obtain rfl : x1 = 0 := Subsingleton.elim _ _
    obtain rfl : x3 = 0 := Subsingleton.elim _ _
    refine (vb0_0 _ _ x2 x4).trans ?_
    rw [full14]
    refine (block10_at _ _ _ _ ⟨x2.val, by omega⟩ ⟨3584 + x4.val, by omega⟩  ?_ ?_).symm
    · show 256 * (0 + 1 * 0) + (0 + 1 * x2.val) = x2.val
      omega
    · show 3584 + 256 * (0 + 1 * 0) + (0 + 1 * x4.val) = 3584 + x4.val
      omega

end Cert.QkvIdeal.Block

end
-- ==== Proof.QkvValue.lean ====
/- The five arrays the query, key and value projection leaves. -/
module

public import proofs.«01_k».proof.Proof.Gen.QkvIdeal.Frame
public import proofs.«01_k».proof.Proof.QkvBlock
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.QkvIdeal.Block

open Cert.QkvIdeal Cert.QkvIdeal.Gen Idealize.ShloMosaic Idealize.ShloMosaic.TcCoe Idealize.SL.Sem Idealize.ShloMosaic.Tactic
open Idealize.ShloMosaic.Pipeline (Dat)
open Cert.MlpSpec Cert.LayerSpec Cert.QkvSpec

/-- The index maps. -/
theorem idx : ∀ t : Fin cfg0.N, win0_0.index t = ![t.val, 0] ∧ win0_1.index t = ![0, 0] ∧
    win0_2.index t = ![0, 0, 0] ∧ win0_3.index t = ![1, 0, 0] ∧
    win0_4.index t = ![0, 0] ∧ win0_5.index t = ![0, 0] ∧ win0_6.index t = ![t.val, 0] ∧
    win0_7.index t = ![t.val, 0, 0, 0, 0] ∧ win0_8.index t = ![t.val, 0, 0, 0, 0] ∧
    win0_9.index t = ![t.val, 0, 0, 0, 0, 0] ∧ win0_10.index t = ![t.val, 0, 0, 0, 0] :=
  (by decide +kernel : ∀ t : Fin grid0.N, _)

variable (m : (ℓ : Loc nD τ sig) → Buf (Elt Ideal) ℓ)

/-- The projected rows, over the argument arrays. -/
def row (c : Dev nD) (i : Fin 8192) : Fin 4608 → EReal :=
  projected (fun i j => m ((c.tc : Thread nD τ).loc main_arg0) (ix2 i j)) (fun j => m ((c.tc : Thread nD τ).loc main_arg1) (ix2 0 j)) (fun a j => m ((c.tc : Thread nD τ).loc main_arg2) (ix3 a 0 j)) (fun k j => m ((c.tc : Thread nD τ).loc main_arg3) (ix2 k j)) i

/-- The two gains, over the argument arrays. -/
def gain (c : Dev nD) (a : Fin 2) (d : Fin 128) : EReal := m ((c.tc : Thread nD τ).loc main_arg4) (ix2 a d)

/-- The normalised, modulated rows a block works on. -/
theorem normed_at (a0 : Vec Ideal S512x2048 .f32) (a1 : Vec Ideal S1x2048 .f32) (a2 a3 : Vec Ideal S1x1x2048 .f32) (a4 : Vec Ideal S2048x4608 .bf16) (a5 : Vec Ideal S2x128 .f32) (r : Fin 512) (k : Fin 2048) :
    k0_pay82 a0 a1 a2 a3 a4 a5 (ix2 r k) = normed (fun k => a0 (ix2 r k)) (fun k => a1 (ix2 0 k)) (fun k => a3 (ix3 0 0 k)) (fun k => a2 (ix3 0 0 k)) k := by
  have h0 : View.ld a0 r0_0 = a0 := View.ld_unit_lit _ a0 (by decide)
  have h1 : View.ld a1 r0_1 = a1 := View.ld_unit_lit _ a1 (by decide)
  have h2 : View.ld a2 r0_2 = a2 := View.ld_unit_lit _ a2 (by decide)
  have h3 : View.ld a3 r0_2 = a3 := View.ld_unit_lit _ a3 (by decide)
  unfold k0_pay82
  rw [h0, h1, h2, h3]
  exact rows_at a0 a1 a3 a2 r k

/-- A row of a block is a projected row. -/
theorem row_eq (c : Dev nD) (t : Fin cfg0.N) (r : Fin 512) (i : Fin 8192) (hi : 512 * t.val + r.val = i.val) :
    blockRow (k0_pay82 (iblk m c 0 t) (iblk m c 1 t) (iblk m c 2 t) (iblk m c 3 t) (iblk m c 4 t) (iblk m c 5 t)) (iblk m c 4 t) r = row m c i := by
  refine funext fun j => ?_
  unfold blockRow row projected against
  refine Finset.sum_congr rfl fun k _ => congrArg₂ (· * ·) ?_ ?_
  · refine (normed_at _ _ _ _ _ _ r k).trans ?_
    unfold promptMixed
    refine congrFun (congr (congr (congrArg₂ normed ?_ ?_) ?_) ?_) k
    · funext k
      blk_ext [iblk, V, idx t, hi]
    · funext k
      blk_ext [iblk, V, idx t]
    · funext k
      blk_ext [iblk, V, idx t]
    · funext k
      blk_ext [iblk, V, idx t]
  · blk_ext [iblk, V, idx t]

/-- The gains a block reads. -/
theorem gain_eq (c : Dev nD) (t : Fin cfg0.N) : gains (iblk m c 5 t) = gain m c := by
  funext a d
  unfold gains gain
  blk_ext [iblk, V, idx t]

/-- The rows handed to the attention. -/
def G6 (c : Dev nD) : S8192x4608.Idx → EReal := fun y => handedRow (row m c (y 0)) (gain m c) (y 1)

/-- The four cache arrays. -/
def G7 (c : Dev nD) : S32x1x256x2x128.Idx → EReal := fun y => pageKeys (row m c) (gain m c 1) (y 0) (y 2) (y 3) (y 4)
def G8 (c : Dev nD) : S32x1x256x2x128.Idx → EReal := fun y => pageValues (row m c) (y 0) (y 2) (y 3) (y 4)
def G9 (c : Dev nD) : S32x1x256x4x2x128.Idx → EReal := fun y => pagePairs (row m c) (y 0) (y 2) (y 3) (y 4) (y 5)
def G10 (c : Dev nD) : S32x1x256x4x256.Idx → EReal := fun y => pageWide (row m c) (y 0) (y 2) (y 3) (y 4)

/-- The rows handed on. -/
theorem final6 (c : Dev nD) : (dats m 0 c).arrAt 6 cfg0.N = G6 m c := by
  refine (dats m 0 c).arrAt_eq_of_covers 6 _ (by decide +kernel) fun t hf y => ?_
  have ht : t.val < 16 := t.isLt
  blk_simp
  rw [after0_6]
  idx_vars y
  rw [out6_eq]
  have e0 : (((View.whole main_v0_0).slice (win0_6.rect t)).emb (ix2 y0 y1) 0 : ℕ) = 512 * t.val + y0.val := by
    blk_simp [idx t]
    omega
  have e1 : (((View.whole main_v0_0).slice (win0_6.rect t)).emb (ix2 y0 y1) 1 : ℕ) = y1.val := by
    blk_simp [idx t]
  unfold G6 block6
  rw [gain_eq]
  exact congr (congrArg (fun p => handedRow p (gain m c)) (row_eq m c t y0 _ e0.symm)) (Fin.ext e1.symm)

/-- The first mixer's new keys. -/
theorem final7 (c : Dev nD) : (dats m 0 c).arrAt 7 cfg0.N = G7 m c := by
  refine (dats m 0 c).arrAt_eq_of_covers 7 _ (by decide +kernel) fun t hf y => ?_
  have ht : t.val < 16 := t.isLt
  blk_simp
  rw [after0_7]
  idx_vars y
  rw [out7_eq]
  have e0 : (((View.whole main_v0_1).slice (win0_7.rect t)).emb (ix5 y0 y1 y2 y3 y4) 0 : ℕ) = 2 * t.val + y0.val := by
    blk_simp [idx t]
    omega
  have e2 : (((View.whole main_v0_1).slice (win0_7.rect t)).emb (ix5 y0 y1 y2 y3 y4) 2 : ℕ) = y2.val := by
    blk_simp [idx t]
  have e3 : (((View.whole main_v0_1).slice (win0_7.rect t)).emb (ix5 y0 y1 y2 y3 y4) 3 : ℕ) = y3.val := by
    blk_simp [idx t]
  have e4 : (((View.whole main_v0_1).slice (win0_7.rect t)).emb (ix5 y0 y1 y2 y3 y4) 4 : ℕ) = y4.val := by
    blk_simp [idx t]
  have hr := row_eq m c t (rowOf y0 y2) (pageRow ⟨2 * t.val + y0.val, by omega⟩ y2) (by unfold rowOf pageRow; dsimp only; omega)
  unfold G7 block7 keys7
  rw [gain_eq]
  refine (congrArg (fun p : Fin 4608 → EReal => headNormed (head p ⟨8 + y3.val, by omega⟩) (gain m c 1) y4) hr).trans ?_
  exact (congr (congr (congr (congrArg (pageKeys (row m c) (gain m c 1)) (Fin.ext e0.symm)) (Fin.ext e2.symm)) (Fin.ext e3.symm)) (Fin.ext e4.symm) :
    pageKeys (row m c) (gain m c 1) ⟨2 * t.val + y0.val, by omega⟩ y2 y3 y4 = _)

/-- The first mixer's new values. -/
theorem final8 (c : Dev nD) : (dats m 0 c).arrAt 8 cfg0.N = G8 m c := by
  refine (dats m 0 c).arrAt_eq_of_covers 8 _ (by decide +kernel) fun t hf y => ?_
  have ht : t.val < 16 := t.isLt
  blk_simp
  rw [after0_8]
  idx_vars y
  rw [out8_eq]
  have e0 : (((View.whole main_v0_2).slice (win0_8.rect t)).emb (ix5 y0 y1 y2 y3 y4) 0 : ℕ) = 2 * t.val + y0.val := by
    blk_simp [idx t]
    omega
  have e2 : (((View.whole main_v0_2).slice (win0_8.rect t)).emb (ix5 y0 y1 y2 y3 y4) 2 : ℕ) = y2.val := by
    blk_simp [idx t]
  have e3 : (((View.whole main_v0_2).slice (win0_8.rect t)).emb (ix5 y0 y1 y2 y3 y4) 3 : ℕ) = y3.val := by
    blk_simp [idx t]
  have e4 : (((View.whole main_v0_2).slice (win0_8.rect t)).emb (ix5 y0 y1 y2 y3 y4) 4 : ℕ) = y4.val := by
    blk_simp [idx t]
  have hr := row_eq m c t (rowOf y0 y2) (pageRow ⟨2 * t.val + y0.val, by omega⟩ y2) (by unfold rowOf pageRow; dsimp only; omega)
  unfold G8 block8 values8
  refine (congrArg (fun p : Fin 4608 → EReal => head p ⟨10 + y3.val, by omega⟩ y4) hr).trans ?_
  exact (congr (congr (congr (congrArg (pageValues (row m c)) (Fin.ext e0.symm)) (Fin.ext e2.symm)) (Fin.ext e3.symm)) (Fin.ext e4.symm) :
    pageValues (row m c) ⟨2 * t.val + y0.val, by omega⟩ y2 y3 y4 = _)

/-- The second mixer's new keys. -/
theorem final9 (c : Dev nD) : (dats m 0 c).arrAt 9 cfg0.N = G9 m c := by
  refine (dats m 0 c).arrAt_eq_of_covers 9 _ (by decide +kernel) fun t hf y => ?_
  have ht : t.val < 16 := t.isLt
  blk_simp
  rw [after0_9]
  idx_vars y
  rw [out9_eq]
  have e0 : (((View.whole main_v0_3).slice (win0_9.rect t)).emb (ix6 y0 y1 y2 y3 y4 y5) 0 : ℕ) = 2 * t.val + y0.val := by
    blk_simp [idx t]
    omega
  have e2 : (((View.whole main_v0_3).slice (win0_9.rect t)).emb (ix6 y0 y1 y2 y3 y4 y5) 2 : ℕ) = y2.val := by
    blk_simp [idx t]
  have e3 : (((View.whole main_v0_3).slice (win0_9.rect t)).emb (ix6 y0 y1 y2 y3 y4 y5) 3 : ℕ) = y3.val := by
    blk_simp [idx t]
  have e4 : (((View.whole main_v0_3).slice (win0_9.rect t)).emb (ix6 y0 y1 y2 y3 y4 y5) 4 : ℕ) = y4.val := by
    blk_simp [idx t]
  have e5 : (((View.whole main_v0_3).slice (win0_9.rect t)).emb (ix6 y0 y1 y2 y3 y4 y5) 5 : ℕ) = y5.val := by
    blk_simp [idx t]
  have hr := row_eq m c t (rowOf y0 y2) (pageRow ⟨2 * t.val + y0.val, by omega⟩ y2) (by unfold rowOf pageRow; dsimp only; omega)
  unfold G9 block9 keys9
  refine (congrArg (fun p : Fin 4608 → EReal => head p ⟨20 + 2 * y3.val + y4.val, by omega⟩ y5) hr).trans ?_
  exact (congr (congr (congr (congr (congrArg (pagePairs (row m c)) (Fin.ext e0.symm)) (Fin.ext e2.symm)) (Fin.ext e3.symm)) (Fin.ext e4.symm)) (Fin.ext e5.symm) :
    pagePairs (row m c) ⟨2 * t.val + y0.val, by omega⟩ y2 y3 y4 y5 = _)

/-- The second mixer's new values. -/
theorem final10 (c : Dev nD) : (dats m 0 c).arrAt 10 cfg0.N = G10 m c := by
  refine (dats m 0 c).arrAt_eq_of_covers 10 _ (by decide +kernel) fun t hf y => ?_
  have ht : t.val < 16 := t.isLt
  blk_simp
  rw [after0_10]
  idx_vars y
  rw [out10_eq]
  have e0 : (((View.whole main_v0_4).slice (win0_10.rect t)).emb (ix5 y0 y1 y2 y3 y4) 0 : ℕ) = 2 * t.val + y0.val := by
    blk_simp [idx t]
    omega
  have e2 : (((View.whole main_v0_4).slice (win0_10.rect t)).emb (ix5 y0 y1 y2 y3 y4) 2 : ℕ) = y2.val := by
    blk_simp [idx t]
  have e3 : (((View.whole main_v0_4).slice (win0_10.rect t)).emb (ix5 y0 y1 y2 y3 y4) 3 : ℕ) = y3.val := by
    blk_simp [idx t]
  have e4 : (((View.whole main_v0_4).slice (win0_10.rect t)).emb (ix5 y0 y1 y2 y3 y4) 4 : ℕ) = y4.val := by
    blk_simp [idx t]
  have hr := row_eq m c t (rowOf y0 y2) (pageRow ⟨2 * t.val + y0.val, by omega⟩ y2) (by unfold rowOf pageRow; dsimp only; omega)
  unfold G10 block10 values10
  refine (congrArg (fun p : Fin 4608 → EReal => p ⟨3584 + 256 * y3.val + y4.val, by omega⟩) hr).trans ?_
  exact (congr (congr (congr (congrArg (pageWide (row m c)) (Fin.ext e0.symm)) (Fin.ext e2.symm)) (Fin.ext e3.symm)) (Fin.ext e4.symm) :
    pageWide (row m c) ⟨2 * t.val + y0.val, by omega⟩ y2 y3 y4 = _)

/-- The projection ends with the five arrays in its results and its arguments as they were. -/
theorem run_arrays (ρ : Dev nD → PrngReg) : θ_run defs (onTc (τ := τ) (main (F := Ideal))) ⟨m, fun _ => 0, ρ⟩ fun r => ∀ c : Dev nD,
      r.2.mem ((c.tc : Thread nD τ).loc main_v0_0) = G6 m c
      ∧ r.2.mem ((c.tc : Thread nD τ).loc main_v0_1) = G7 m c
      ∧ r.2.mem ((c.tc : Thread nD τ).loc main_v0_2) = G8 m c
      ∧ r.2.mem ((c.tc : Thread nD τ).loc main_v0_3) = G9 m c
      ∧ r.2.mem ((c.tc : Thread nD τ).loc main_v0_4) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 6).trans (final6 m c),
      ((h c).1 7).trans (final7 m c),
      ((h c).1 8).trans (final8 m c),
      ((h c).1 9).trans (final9 m c),
      ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩) (run_main m ρ)

end Cert.QkvIdeal.Block

end
-- ==== Proof.QkvRefValue.lean ====
/- The reference's arrays of the query, key and value projection, stage by stage and element by element. -/
module

public import proofs.«01_k».proof.Proof.Gen.QkvRefIdeal.Run
public import proofs.«01_k».proof.Proof.QkvSpec
public import Idealize.ShloMosaic.Lib.Pipeline.ValueKit

@[expose] public section

set_option maxRecDepth 16384

noncomputable section

namespace Cert.QkvRefIdeal.Staged

open Cert.QkvRefIdeal Cert.QkvRefIdeal.Gen Idealize.ShloMosaic Idealize.ShloMosaic.TcCoe Idealize.SL.Sem Idealize.ShloMosaic.Tactic
open Cert.MlpSpec Cert.LayerSpec Cert.QkvSpec

/-- The rows, by page. -/
def xs (X : FVec Ideal S8192x2048 .f32) : FVec Ideal S32x256x2048 .f32 := shapeCast _ X shapeCasts_S8192x2048_S32x256x2048

/-- The reciprocal root mean squares of rows. -/
def rs (v : FVec Ideal S32x256x2048 .f32) : FVec Ideal S32x256x1 .f32 :=
  Host.rsqrt (addf (Host.divf (broadcastInDim S32x256x1 ![0, 1] bcast_S32x256_S32x256x1_0_1 (Host.reduceAdd (mulf v v) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))

/-- Rows normalised and scaled by a gain. -/
def scaled (v : FVec Ideal S32x256x2048 .f32) (g : FVec Ideal S1x2048 .f32) : FVec Ideal S32x256x2048 .f32 :=
  mulf (mulf v (broadcastInDim S32x256x2048 ![0, 1, 2] bcast_S32x256x1_S32x256x2048_0_1_2 (rs v))) (broadcastInDim S32x256x2048 ![0, 1, 2] bcast_S1x1x2048_S32x256x2048_0_1_2 (broadcastInDim S1x1x2048 ![2] bcast_S2048_S1x1x2048_2 (shapeCast _ g shapeCasts_S1x2048_S2048)))

/-- The factor the scale makes. -/
def scale (M : FVec Ideal S48x1x2048 .f32) : FVec Ideal S1x1x2048 .f32 :=
  broadcastInDim S1x1x2048 ![1, 2] bcast_S1x2048_S1x1x2048_1_2 (addf (broadcastInDim S1x2048 ![] bcast_S_S1x2048 (constant S_ .f32 0x3F800000#32)) (shapeCast _ (extractStridedSlice S1x1x2048 ![1, 0, 0] M slices_S48x1x2048_S1x1x2048_1_0_0) shapeCasts_S1x1x2048_S1x2048))

/-- The shift. -/
def shift (M : FVec Ideal S48x1x2048 .f32) : FVec Ideal S1x1x2048 .f32 :=
  broadcastInDim S1x1x2048 ![1, 2] bcast_S1x2048_S1x1x2048_1_2 (shapeCast _ (extractStridedSlice S1x1x2048 ![0, 0, 0] M slices_S48x1x2048_S1x1x2048_0_0_0) shapeCasts_S1x1x2048_S1x2048)

/-- The modulated rows. -/
def modulated (a : FVec Ideal S32x256x2048 .f32) (sc sh : FVec Ideal S1x1x2048 .f32) : FVec Ideal S32x256x2048 .f32 :=
  addf (mulf a (broadcastInDim S32x256x2048 ![0, 1, 2] bcast_S1x1x2048_S32x256x2048_0_1_2 sc)) (broadcastInDim S32x256x2048 ![0, 1, 2] bcast_S1x1x2048_S32x256x2048_0_1_2 sh)

/-- The product with the weights. -/
def product (n : FVec Ideal S32x256x2048 .f32) (W : FVec Ideal S2048x4608 .bf16) : FVec Ideal S32x256x4608 .f32 :=
  Host.dotGeneral dot_S32x256x2048_S2048x4608_S32x256x4608_2_0_01_1_n_n none n (extf .f32 W bitsLt_bf16_f32)

/-- The projected rows. -/
def rows (X : FVec Ideal S8192x2048 .f32) (g : FVec Ideal S1x2048 .f32) (M : FVec Ideal S48x1x2048 .f32) (W : FVec Ideal S2048x4608 .bf16) : FVec Ideal S32x256x4608 .f32 :=
  product (modulated (scaled (xs X) g) (scale M) (shift M)) W

/-- The reciprocal root mean squares of eight heads. -/
def rs8 (v : FVec Ideal S32x256x8x128 .f32) : FVec Ideal S32x256x8x1 .f32 :=
  Host.rsqrt (addf (Host.divf (broadcastInDim S32x256x8x1 ![0, 1, 2] bcast_S32x256x8_S32x256x8x1_0_1_2 (Host.reduceAdd (mulf v v) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x358637BD#32)))

/-- Eight heads normalised, times a gain. -/
def normed8 (v : FVec Ideal S32x256x8x128 .f32) (g : FVec Ideal S1x128 .f32) : FVec Ideal S32x256x8x128 .f32 :=
  mulf (mulf v (broadcastInDim S32x256x8x128 ![0, 1, 2, 3] bcast_S32x256x8x1_S32x256x8x128_0_1_2_3 (rs8 v))) (broadcastInDim S32x256x8x128 ![0, 1, 2, 3] bcast_S1x1x1x128_S32x256x8x128_0_1_2_3 (broadcastInDim S1x1x1x128 ![3] bcast_S128_S1x1x1x128_3 (shapeCast _ g shapeCasts_S1x128_S128)))

/-- The reciprocal root mean squares of two heads. -/
def rs2 (v : FVec Ideal S32x256x2x128 .f32) : FVec Ideal S32x256x2x1 .f32 :=
  Host.rsqrt (addf (Host.divf (broadcastInDim S32x256x2x1 ![0, 1, 2] bcast_S32x256x2_S32x256x2x1_0_1_2 (Host.reduceAdd (mulf v v) (constant S_ .f32 0x00000000#32) reducesTo_S32x256x2x128_S32x256x2_d3 h_S_)) (broadcastInDim S32x256x2x1 ![] bcast_S_S32x256x2x1 (constant S_ .f32 0x43000000#32))) (broadcastInDim S32x256x2x1 ![] bcast_S_S32x256x2x1 (constant S_ .f32 0x358637BD#32)))

/-- Two heads normalised, times a gain. -/
def normed2 (v : FVec Ideal S32x256x2x128 .f32) (g : FVec Ideal S1x128 .f32) : FVec Ideal S32x256x2x128 .f32 :=
  mulf (mulf v (broadcastInDim S32x256x2x128 ![0, 1, 2, 3] bcast_S32x256x2x1_S32x256x2x128_0_1_2_3 (rs2 v))) (broadcastInDim S32x256x2x128 ![0, 1, 2, 3] bcast_S1x1x1x128_S32x256x2x128_0_1_2_3 (broadcastInDim S1x1x1x128 ![3] bcast_S128_S1x1x1x128_3 (shapeCast _ g shapeCasts_S1x128_S128)))

/-- The first mixer's queries. -/
def qa (P : FVec Ideal S32x256x4608 .f32) (G : FVec Ideal S2x128 .f32) : FVec Ideal S32x256x8x128 .f32 :=
  normed8 (shapeCast _ (extractStridedSlice S32x256x1024 ![0, 0, 0] P slices_S32x256x4608_S32x256x1024_0_0_0) shapeCasts_S32x256x1024_S32x256x8x128) (extractStridedSlice S1x128 ![0, 0] G slices_S2x128_S1x128_0_0)

/-- Its keys. -/
def ka (P : FVec Ideal S32x256x4608 .f32) (G : FVec Ideal S2x128 .f32) : FVec Ideal S32x256x2x128 .f32 :=
  normed2 (shapeCast _ (extractStridedSlice S32x256x256 ![0, 0, 1024] P slices_S32x256x4608_S32x256x256_0_0_1024) shapeCasts_S32x256x256_S32x256x2x128) (extractStridedSlice S1x128 ![1, 0] G slices_S2x128_S1x128_1_0)

/-- Its values. -/
def va (P : FVec Ideal S32x256x4608 .f32) : FVec Ideal S32x256x2x128 .f32 :=
  shapeCast _ (extractStridedSlice S32x256x256 ![0, 0, 1280] P slices_S32x256x4608_S32x256x256_0_0_1280) shapeCasts_S32x256x256_S32x256x2x128

/-- The second mixer's queries, scaled. -/
def qb (P : FVec Ideal S32x256x4608 .f32) : FVec Ideal S32x256x1024 .f32 :=
  mulf (extractStridedSlice S32x256x1024 ![0, 0, 1536] P slices_S32x256x4608_S32x256x1024_0_0_1536) (broadcastInDim S32x256x1024 ![] bcast_S_S32x256x1024 (constant S_ .f32 0x3E0293EE#32))

/-- Its keys. -/
def kb (P : FVec Ideal S32x256x4608 .f32) : FVec Ideal S32x256x4x2x128 .f32 :=
  shapeCast _ (extractStridedSlice S32x256x1024 ![0, 0, 2560] P slices_S32x256x4608_S32x256x1024_0_0_2560) shapeCasts_S32x256x1024_S32x256x4x2x128

/-- Its values. -/
def vb (P : FVec Ideal S32x256x4608 .f32) : FVec Ideal S32x256x4x256 .f32 :=
  shapeCast _ (extractStridedSlice S32x256x1024 ![0, 0, 3584] P slices_S32x256x4608_S32x256x1024_0_0_3584) shapeCasts_S32x256x1024_S32x256x4x256

/-- Six arrays side by side. -/
def beside (A : FVec Ideal S8192x1024 .f32) (B C : FVec Ideal S8192x256 .f32) (D E H : FVec Ideal S8192x1024 .f32) : FVec Ideal S8192x4608 .f32 :=
  concatenate S8192x4608 1 [⟨S8192x1024, A⟩, ⟨S8192x256, B⟩, ⟨S8192x256, C⟩, ⟨S8192x1024, D⟩, ⟨S8192x1024, E⟩, ⟨S8192x1024, H⟩] concatenates_S8192x1024_S8192x256_S8192x256_S8192x1024_S8192x1024_S8192x1024_S8192x4608_d1

/-- The queries, scaled, as rows. -/
def qaRows (q : FVec Ideal S32x256x8x128 .f32) : FVec Ideal S8192x1024 .f32 :=
  shapeCast _ (mulf q (broadcastInDim S32x256x8x128 ![] bcast_S_S32x256x8x128 (constant S_ .f32 0x3E0293EE#32))) shapeCasts_S32x256x8x128_S8192x1024

/-- The other parts, as rows. -/
def pairRows (k : FVec Ideal S32x256x2x128 .f32) : FVec Ideal S8192x256 .f32 := shapeCast _ k shapeCasts_S32x256x2x128_S8192x256
def qbRows (q : FVec Ideal S32x256x1024 .f32) : FVec Ideal S8192x1024 .f32 := shapeCast _ q shapeCasts_S32x256x1024_S8192x1024
def kbRows (k : FVec Ideal S32x256x4x2x128 .f32) : FVec Ideal S8192x1024 .f32 := shapeCast _ k shapeCasts_S32x256x4x2x128_S8192x1024
def vbRows (v : FVec Ideal S32x256x4x256 .f32) : FVec Ideal S8192x1024 .f32 := shapeCast _ v shapeCasts_S32x256x4x256_S8192x1024

/-- What the attention is handed. -/
def handedOn (P : FVec Ideal S32x256x4608 .f32) (G : FVec Ideal S2x128 .f32) : FVec Ideal S8192x4608 .bf16 :=
  truncf .bf16 (beside (qaRows (qa P G)) (pairRows (ka P G)) (pairRows (va P)) (qbRows (qb P)) (kbRows (kb P)) (vbRows (vb P))) bitsLt_bf16_f32

/-- The four caches. -/
def cachedKeys (P : FVec Ideal S32x256x4608 .f32) (G : FVec Ideal S2x128 .f32) : FVec Ideal S32x1x256x2x128 .f32 :=
  broadcastInDim S32x1x256x2x128 ![0, 2, 3, 4] bcast_S32x256x2x128_S32x1x256x2x128_0_2_3_4 (ka P G)
def cachedValues (P : FVec Ideal S32x256x4608 .f32) : FVec Ideal S32x1x256x2x128 .f32 :=
  broadcastInDim S32x1x256x2x128 ![0, 2, 3, 4] bcast_S32x256x2x128_S32x1x256x2x128_0_2_3_4 (va P)
def cachedPairs (P : FVec Ideal S32x256x4608 .f32) : FVec Ideal S32x1x256x4x2x128 .f32 :=
  broadcastInDim S32x1x256x4x2x128 ![0, 2, 3, 4, 5] bcast_S32x256x4x2x128_S32x1x256x4x2x128_0_2_3_4_5 (kb P)
def cachedWide (P : FVec Ideal S32x256x4608 .f32) : FVec Ideal S32x1x256x4x256 .f32 :=
  broadcastInDim S32x1x256x4x256 ![0, 2, 3, 4] bcast_S32x256x4x256_S32x1x256x4x256_0_2_3_4 (vb P)

theorem res81_eq (m : (ℓ : Loc nD τ sig) → Buf (Elt Ideal) ℓ) (c : Dev nD) : Cert.QkvRefIdeal.Value.res_main_v81 m c = handedOn (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl

theorem res82_eq (m : (ℓ : Loc nD τ sig) → Buf (Elt Ideal) ℓ) (c : Dev nD) : Cert.QkvRefIdeal.Value.res_main_v82 m c = cachedKeys (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl

/-- A row by page. -/
theorem xs_at (X : FVec Ideal S8192x2048 .f32) (b : Fin 32) (s : Fin 256) (k : Fin 2048) : xs X (ix3 b s k) = X (ix2 (pageRow b s) k) := by
  pointwise [xs]
  exact congrArg (fun a => X (ix2 a k)) (Fin.ext (by unfold pageRow; dsimp only; omega))

/-- The reciprocal root mean square of a row. -/
theorem rs_at (v : FVec Ideal S32x256x2048 .f32) (b : Fin 32) (s : Fin 256) : rs v (ix3 b s 0) = rms fun k => v (ix3 b s k) := by
  pointwise [rs]
  rfl

/-- A row normalised and scaled, at an element. -/
theorem scaled_at (v : FVec Ideal S32x256x2048 .f32) (g : FVec Ideal S1x2048 .f32) (b : Fin 32) (s : Fin 256) (k : Fin 2048) :
    scaled v g (ix3 b s k) = v (ix3 b s k) * rms (fun k => v (ix3 b s k)) * g (ix2 0 k) := by
  pointwise [scaled]
  rw [rs_at]

/-- The scale's factor. -/
theorem scale_at (M : FVec Ideal S48x1x2048 .f32) (k : Fin 2048) : scale M (ix3 0 0 k) = 1 + M (ix3 1 0 k) := by
  pointwise [scale]

/-- The shift. -/
theorem shift_at (M : FVec Ideal S48x1x2048 .f32) (k : Fin 2048) : shift M (ix3 0 0 k) = M (ix3 0 0 k) := by
  pointwise [shift]

/-- A modulated row at an element. -/
theorem modulated_at (a : FVec Ideal S32x256x2048 .f32) (sc sh : FVec Ideal S1x1x2048 .f32) (b : Fin 32) (s : Fin 256) (k : Fin 2048) :
    modulated a sc sh (ix3 b s k) = a (ix3 b s k) * sc (ix3 0 0 k) + sh (ix3 0 0 k) := by
  pointwise [modulated]

/-- The product at an element. -/
theorem product_at (n : FVec Ideal S32x256x2048 .f32) (W : FVec Ideal S2048x4608 .bf16) (b : Fin 32) (s : Fin 256) (j : Fin 4608) :
    product n W (ix3 b s j) = ∑ k, n (ix3 b s k) * W (ix2 k j) := by
  pointwise [product]

/-- The projected rows, over the argument arrays. -/
def row (X : FVec Ideal S8192x2048 .f32) (g : FVec Ideal S1x2048 .f32) (M : FVec Ideal S48x1x2048 .f32) (W : FVec Ideal S2048x4608 .bf16) (i : Fin 8192) : Fin 4608 → EReal :=
  projected (fun i j => X (ix2 i j)) (fun j => g (ix2 0 j)) (fun a j => M (ix3 a 0 j)) (fun k j => W (ix2 k j)) i

/-- A projected row at an element. -/
theorem rows_at (X : FVec Ideal S8192x2048 .f32) (g : FVec Ideal S1x2048 .f32) (M : FVec Ideal S48x1x2048 .f32) (W : FVec Ideal S2048x4608 .bf16) (b : Fin 32) (s : Fin 256) (j : Fin 4608) :
    rows X g M W (ix3 b s j) = row X g M W (pageRow b s) j := by
  unfold rows
  rw [product_at]
  unfold row projected against promptMixed
  refine Finset.sum_congr rfl fun k _ => congrArg (· * _) ?_
  rw [modulated_at, scaled_at, scale_at, shift_at]
  simp only [xs_at]
  rw [mul_assoc (X (ix2 (pageRow b s) k) * _)]
  rfl

variable (P : FVec Ideal S32x256x4608 .f32) (G : FVec Ideal S2x128 .f32) (p : Fin 8192 → Fin 4608 → EReal)
  (hP : ∀ b s j, P (ix3 b s j) = p (pageRow b s) j)

theorem rs8_at (v : FVec Ideal S32x256x8x128 .f32) (b : Fin 32) (s : Fin 256) (h : Fin 8) :
    rs8 v (ix4 b s h 0) = Ideal.rsqrt (Ideal.div (∑ d, v (ix4 b s h d) * v (ix4 b s h d)) (Ideal.ofBits .f32 0x43000000#32) + Ideal.ofBits .f32 0x358637BD#32) := by
  pointwise [rs8]

/-- A normalised head at an element. -/
theorem normed8_at (v : FVec Ideal S32x256x8x128 .f32) (g : FVec Ideal S1x128 .f32) (b : Fin 32) (s : Fin 256) (h : Fin 8) (d : Fin 128) :
    normed8 v g (ix4 b s h d) = headNormed (fun d => v (ix4 b s h d)) (fun d => g (ix2 0 d)) d := by
  pointwise [normed8]
  rw [rs8_at]
  rfl

theorem rs2_at (v : FVec Ideal S32x256x2x128 .f32) (b : Fin 32) (s : Fin 256) (h : Fin 2) :
    rs2 v (ix4 b s h 0) = Ideal.rsqrt (Ideal.div (∑ d, v (ix4 b s h d) * v (ix4 b s h d)) (Ideal.ofBits .f32 0x43000000#32) + Ideal.ofBits .f32 0x358637BD#32) := by
  pointwise [rs2]

/-- A normalised head at an element. -/
theorem normed2_at (v : FVec Ideal S32x256x2x128 .f32) (g : FVec Ideal S1x128 .f32) (b : Fin 32) (s : Fin 256) (h : Fin 2) (d : Fin 128) :
    normed2 v g (ix4 b s h d) = headNormed (fun d => v (ix4 b s h d)) (fun d => g (ix2 0 d)) d := by
  pointwise [normed2]
  rw [rs2_at]
  rfl

/-- The gains, one by one. -/
theorem gain0_at (d : Fin 128) : (extractStridedSlice S1x128 ![0, 0] G slices_S2x128_S1x128_0_0 : FVec Ideal S1x128 .f32) (ix2 0 d) = G (ix2 0 d) := by
  pointwise

theorem gain1_at (d : Fin 128) : (extractStridedSlice S1x128 ![1, 0] G slices_S2x128_S1x128_1_0 : FVec Ideal S1x128 .f32) (ix2 0 d) = G (ix2 1 d) := by
  pointwise

include hP

/-- A head of queries. -/
theorem qa_at (b : Fin 32) (s : Fin 256) (h : Fin 8) (d : Fin 128) :
    qa P G (ix4 b s h d) = headNormed (head (p (pageRow b s)) ⟨h.val, by omega⟩) (fun d => G (ix2 0 d)) d := by
  unfold qa
  rw [normed8_at]
  refine congrFun (congrArg₂ headNormed (funext fun d => ?_) (funext fun d => gain0_at G d)) d
  pointwise
  rw [hP]
  exact congrArg (p _) (Fin.ext (by dsimp only; omega))

/-- A head of keys. -/
theorem ka_at (b : Fin 32) (s : Fin 256) (h : Fin 2) (d : Fin 128) :
    ka P G (ix4 b s h d) = pageKeys p (fun d => G (ix2 1 d)) b s h d := by
  unfold ka pageKeys
  rw [normed2_at]
  refine congrFun (congrArg₂ headNormed (funext fun d => ?_) (funext fun d => gain1_at G d)) d
  pointwise
  rw [hP]
  exact congrArg (p _) (Fin.ext (by dsimp only; omega))

/-- A head of values. -/
theorem va_at (b : Fin 32) (s : Fin 256) (h : Fin 2) (d : Fin 128) : va P (ix4 b s h d) = pageValues p b s h d := by
  unfold pageValues head
  pointwise [va]
  rw [hP]
  exact congrArg (p _) (Fin.ext (by dsimp only; omega))

/-- The second mixer's queries. -/
theorem qb_at (b : Fin 32) (s : Fin 256) (k : Fin 1024) : qb P (ix3 b s k) = p (pageRow b s) ⟨1536 + k.val, by omega⟩ * queryScale := by
  pointwise [qb]
  rw [hP]
  rfl

/-- Its keys. -/
theorem kb_at (b : Fin 32) (s : Fin 256) (h : Fin 4) (e : Fin 2) (d : Fin 128) : kb P (ix5 b s h e d) = pagePairs p b s h e d := by
  unfold pagePairs head
  pointwise [kb]
  rw [hP]
  exact congrArg (p _) (Fin.ext (by dsimp only; omega))

/-- Its values. -/
theorem vb_at (b : Fin 32) (s : Fin 256) (h : Fin 4) (e : Fin 256) : vb P (ix4 b s h e) = pageWide p b s h e := by
  unfold pageWide
  pointwise [vb]
  rw [hP]
  exact congrArg (p _) (Fin.ext (by dsimp only; omega))

/-- The caches. -/
theorem cachedKeys_at (y : S32x1x256x2x128.Idx) : cachedKeys P G y = pageKeys p (fun d => G (ix2 1 d)) (y 0) (y 2) (y 3) (y 4) := by
  idx_vars y
  pointwise [cachedKeys]
  exact ka_at P G p hP _ _ _ _

theorem cachedValues_at (y : S32x1x256x2x128.Idx) : cachedValues P y = pageValues p (y 0) (y 2) (y 3) (y 4) := by
  idx_vars y
  pointwise [cachedValues]
  exact va_at P p hP _ _ _ _

theorem cachedPairs_at (y : S32x1x256x4x2x128.Idx) : cachedPairs P y = pagePairs p (y 0) (y 2) (y 3) (y 4) (y 5) := by
  idx_vars y
  pointwise [cachedPairs]
  exact kb_at P p hP _ _ _ _ _

theorem cachedWide_at (y : S32x1x256x4x256.Idx) : cachedWide P y = pageWide p (y 0) (y 2) (y 3) (y 4) := by
  idx_vars y
  pointwise [cachedWide]
  exact vb_at P p hP _ _ _ _

omit hP

theorem besideA (A : FVec Ideal S8192x1024 .f32) (B C : FVec Ideal S8192x256 .f32) (D E H : FVec Ideal S8192x1024 .f32) (i : Fin 8192) (k : Fin 1024) :
    beside A B C D E H (ix2 i ⟨0 + k.val, by omega⟩) = A (ix2 i k) := by
  pointwise [beside]

theorem besideB (A : FVec Ideal S8192x1024 .f32) (B C : FVec Ideal S8192x256 .f32) (D E H : FVec Ideal S8192x1024 .f32) (i : Fin 8192) (k : Fin 256) :
    beside A B C D E H (ix2 i ⟨1024 + k.val, by omega⟩) = B (ix2 i k) := by
  pointwise [beside]

theorem besideC (A : FVec Ideal S8192x1024 .f32) (B C : FVec Ideal S8192x256 .f32) (D E H : FVec Ideal S8192x1024 .f32) (i : Fin 8192) (k : Fin 256) :
    beside A B C D E H (ix2 i ⟨1280 + k.val, by omega⟩) = C (ix2 i k) := by
  pointwise [beside]
  rw [dif_neg (by omega), dif_neg (by omega), dif_pos (by omega)]
  exact congrArg (fun a => C (ix2 i a)) (Fin.ext (by dsimp only; omega))

theorem besideD (A : FVec Ideal S8192x1024 .f32) (B C : FVec Ideal S8192x256 .f32) (D E H : FVec Ideal S8192x1024 .f32) (i : Fin 8192) (k : Fin 1024) :
    beside A B C D E H (ix2 i ⟨1536 + k.val, by omega⟩) = D (ix2 i k) := by
  pointwise [beside]
  rw [dif_neg (by omega), dif_neg (by omega), dif_neg (by omega), dif_pos (by omega)]
  exact congrArg (fun a => D (ix2 i a)) (Fin.ext (by dsimp only; omega))

theorem besideE (A : FVec Ideal S8192x1024 .f32) (B C : FVec Ideal S8192x256 .f32) (D E H : FVec Ideal S8192x1024 .f32) (i : Fin 8192) (k : Fin 1024) :
    beside A B C D E H (ix2 i ⟨2560 + k.val, by omega⟩) = E (ix2 i k) := by
  pointwise [beside]
  rw [dif_neg (by omega), dif_neg (by omega), dif_neg (by omega), dif_neg (by omega), dif_pos (by omega)]
  exact congrArg (fun a => E (ix2 i a)) (Fin.ext (by dsimp only; omega))

theorem besideH (A : FVec Ideal S8192x1024 .f32) (B C : FVec Ideal S8192x256 .f32) (D E H : FVec Ideal S8192x1024 .f32) (i : Fin 8192) (k : Fin 1024) :
    beside A B C D E H (ix2 i ⟨3584 + k.val, by omega⟩) = H (ix2 i k) := by
  pointwise [beside]
  rw [dif_neg (by omega), dif_neg (by omega), dif_neg (by omega), dif_neg (by omega), dif_neg (by omega)]
  exact congrArg (fun a => H (ix2 i a)) (Fin.ext (by dsimp only; omega))

/-- A row's page and its place there. -/
theorem pageRow_div (i : Fin 8192) : pageRow ⟨i.val / 256, by omega⟩ ⟨i.val % 256, by omega⟩ = i := Fin.ext (by unfold pageRow; dsimp only; omega)

/-- The parts as rows. -/
theorem qaRows_at (q : FVec Ideal S32x256x8x128 .f32) (i : Fin 8192) (k : Fin 1024) :
    qaRows q (ix2 i k) = q (ix4 ⟨i.val / 256, by omega⟩ ⟨i.val % 256, by omega⟩ ⟨k.val / 128, by omega⟩ ⟨k.val % 128, by omega⟩) * queryScale := by
  pointwise [qaRows]
  rfl

theorem pairRows_at (q : FVec Ideal S32x256x2x128 .f32) (i : Fin 8192) (k : Fin 256) :
    pairRows q (ix2 i k) = q (ix4 ⟨i.val / 256, by omega⟩ ⟨i.val % 256, by omega⟩ ⟨k.val / 128, by omega⟩ ⟨k.val % 128, by omega⟩) := by
  pointwise [pairRows]

theorem qbRows_at (q : FVec Ideal S32x256x1024 .f32) (i : Fin 8192) (k : Fin 1024) :
    qbRows q (ix2 i k) = q (ix3 ⟨i.val / 256, by omega⟩ ⟨i.val % 256, by omega⟩ k) := by
  pointwise [qbRows]

theorem kbRows_at (q : FVec Ideal S32x256x4x2x128 .f32) (i : Fin 8192) (k : Fin 1024) :
    kbRows q (ix2 i k) = q (ix5 ⟨i.val / 256, by omega⟩ ⟨i.val % 256, by omega⟩ ⟨k.val / 256, by omega⟩ ⟨k.val / 128 % 2, by omega⟩ ⟨k.val % 128, by omega⟩) := by
  pointwise [kbRows]

theorem vbRows_at (q : FVec Ideal S32x256x4x256 .f32) (i : Fin 8192) (k : Fin 1024) :
    vbRows q (ix2 i k) = q (ix4 ⟨i.val / 256, by omega⟩ ⟨i.val % 256, by omega⟩ ⟨k.val / 256, by omega⟩ ⟨k.val % 256, by omega⟩) := by
  pointwise [vbRows]

include hP

/-- A row the attention is handed. -/
theorem handedOn_at (i : Fin 8192) (j : Fin 4608) : handedOn P G (ix2 i j) = handedRow (p i) (fun a d => G (ix2 a d)) j := by
  have split : (∃ k : Fin 1024, j = ⟨0 + k.val, by omega⟩) ∨ (∃ k : Fin 256, j = ⟨1024 + k.val, by omega⟩) ∨ (∃ k : Fin 256, j = ⟨1280 + k.val, by omega⟩) ∨
      (∃ k : Fin 1024, j = ⟨1536 + k.val, by omega⟩) ∨ (∃ k : Fin 1024, j = ⟨2560 + k.val, by omega⟩) ∨ (∃ k : Fin 1024, j = ⟨3584 + k.val, by omega⟩) := by
    have hj := j.isLt
    by_cases h1 : j.val < 1024
    · exact .inl ⟨⟨j.val, h1⟩, Fin.ext (by dsimp only; omega)⟩
    by_cases h2 : j.val < 1280
    · exact .inr (.inl ⟨⟨j.val - 1024, by omega⟩, Fin.ext (by dsimp only; omega)⟩)
    by_cases h3 : j.val < 1536
    · exact .inr (.inr (.inl ⟨⟨j.val - 1280, by omega⟩, Fin.ext (by dsimp only; omega)⟩))
    by_cases h4 : j.val < 2560
    · exact .inr (.inr (.inr (.inl ⟨⟨j.val - 1536, by omega⟩, Fin.ext (by dsimp only; omega)⟩)))
    by_cases h5 : j.val < 3584
    · exact .inr (.inr (.inr (.inr (.inl ⟨⟨j.val - 2560, by omega⟩, Fin.ext (by dsimp only; omega)⟩))))
    · exact .inr (.inr (.inr (.inr (.inr ⟨⟨j.val - 3584, by omega⟩, Fin.ext (by dsimp only; omega)⟩))))
  have hd : handedOn P G (ix2 i j) = beside (qaRows (qa P G)) (pairRows (ka P G)) (pairRows (va P)) (qbRows (qb P)) (kbRows (kb P)) (vbRows (vb P)) (ix2 i j) := rfl
  rw [hd]
  rcases split with ⟨k, rfl⟩ | ⟨k, rfl⟩ | ⟨k, rfl⟩ | ⟨k, rfl⟩ | ⟨k, rfl⟩ | ⟨k, rfl⟩
  · rw [besideA, qaRows_at, qa_at P G p hP, pageRow_div, handedRow_eq (p i) _ _ ⟨0 + k.val / 128, by omega⟩ ⟨k.val % 128, by omega⟩ (by dsimp only; omega),
      handed_query _ _ _ _ (by dsimp only; omega)]
    exact congrArg (fun a => headNormed (head (p i) a) (fun d => G (ix2 0 d)) ⟨k.val % 128, by omega⟩ * queryScale) (Fin.ext (by dsimp only; omega))
  · rw [besideB, pairRows_at, ka_at P G p hP, handedRow_eq (p i) _ _ ⟨8 + k.val / 128, by omega⟩ ⟨k.val % 128, by omega⟩ (by dsimp only; omega),
      handed_key _ _ _ _ (by dsimp only; omega)]
    unfold pageKeys
    rw [pageRow_div]
  · rw [besideC, pairRows_at, va_at P p hP, handedRow_eq (p i) _ _ ⟨10 + k.val / 128, by omega⟩ ⟨k.val % 128, by omega⟩ (by dsimp only; omega),
      handed_value _ _ _ _ (by dsimp only; omega)]
    unfold pageValues
    rw [pageRow_div]
  · rw [besideD, qbRows_at, qb_at P p hP, pageRow_div, handedRow_eq (p i) _ _ ⟨12 + k.val / 128, by omega⟩ ⟨k.val % 128, by omega⟩ (by dsimp only; omega),
      handed_query2 _ _ _ _ (by dsimp only; omega)]
    exact congrArg (fun a => p i a * queryScale) (Fin.ext (by dsimp only; omega))
  · rw [besideE, kbRows_at, kb_at P p hP, handedRow_eq (p i) _ _ ⟨20 + k.val / 128, by omega⟩ ⟨k.val % 128, by omega⟩ (by dsimp only; omega),
      handed_rest _ _ _ _ (by dsimp only; omega)]
    unfold pagePairs
    rw [pageRow_div]
    unfold head
    exact congrArg (p i) (Fin.ext (by dsimp only; omega))
  · rw [besideH, vbRows_at, vb_at P p hP, handedRow_eq (p i) _ _ ⟨28 + k.val / 128, by omega⟩ ⟨k.val % 128, by omega⟩ (by dsimp only; omega),
      handed_rest _ _ _ _ (by dsimp only; omega)]
    unfold pageWide
    rw [pageRow_div]
    unfold head
    exact congrArg (p i) (Fin.ext (by dsimp only; omega))

end Cert.QkvRefIdeal.Staged

end
-- ==== Proof.QkvEquation.lean ====
/- The kernel's and the reference's five arrays of the query, key and value projection are the same arrays. -/
module

public import proofs.«01_k».proof.Proof.QkvValue
public import proofs.«01_k».proof.Proof.QkvRefValue

@[expose] public section

noncomputable section

namespace Cert.QkvEquation

open Idealize.ShloMosaic Idealize.ShloMosaic.TcCoe Idealize.SL.Sem Idealize.ShloMosaic.Tactic

/-- The reference's result, on arguments that are the kernel's, is the kernel's array: what the attention is handed. -/
theorem equation6 (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) :
    Cert.QkvRefIdeal.Staged.handedOn (Cert.QkvRefIdeal.Staged.rows (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3))) (m' ((c.tc : Thread Cert.QkvRefIdeal.nD Cert.QkvRefIdeal.τ).loc Cert.QkvRefIdeal.main_arg4)) = Cert.QkvIdeal.Block.G6 m c := by
  rw [h0, h1, h2, h3, h4]
  funext y
  rw [show y = ix2 (y 0) (y 1) from eq_ix2 y]
  exact Cert.QkvRefIdeal.Staged.handedOn_at _ _ _ (fun b s j => Cert.QkvRefIdeal.Staged.rows_at _ _ _ _ b s j) (y 0) (y 1)

/-- The reference's result, on arguments that are the kernel's, is the kernel's array: the first mixer's keys. -/
theorem equation7 (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) :
    Cert.QkvRefIdeal.Staged.cachedKeys (Cert.QkvRefIdeal.Staged.rows (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3))) (m' ((c.tc : Thread Cert.QkvRefIdeal.nD Cert.QkvRefIdeal.τ).loc Cert.QkvRefIdeal.main_arg4)) = Cert.QkvIdeal.Block.G7 m c := by
  rw [h0, h1, h2, h3, h4]
  funext y
  exact Cert.QkvRefIdeal.Staged.cachedKeys_at _ _ _ (fun b s j => Cert.QkvRefIdeal.Staged.rows_at _ _ _ _ b s j) y

/-- The reference's result, on arguments that are the kernel's, is the kernel's array: the first mixer's values. -/
theorem equation8 (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) :
    Cert.QkvRefIdeal.Staged.cachedValues (Cert.QkvRefIdeal.Staged.rows (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3))) = Cert.QkvIdeal.Block.G8 m c := by
  rw [h0, h1, h2, h3]
  funext y
  exact Cert.QkvRefIdeal.Staged.cachedValues_at _ _ (fun b s j => Cert.QkvRefIdeal.Staged.rows_at _ _ _ _ b s j) y

/-- The reference's result, on arguments that are the kernel's, is the kernel's array: the second mixer's keys. -/
theorem equation9 (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) :
    Cert.QkvRefIdeal.Staged.cachedPairs (Cert.QkvRefIdeal.Staged.rows (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3))) = Cert.QkvIdeal.Block.G9 m c := by
  rw [h0, h1, h2, h3]
  funext y
  exact Cert.QkvRefIdeal.Staged.cachedPairs_at _ _ (fun b s j => Cert.QkvRefIdeal.Staged.rows_at _ _ _ _ b s j) y

/-- The reference's result, on arguments that are the kernel's, is the kernel's array: the second mixer's values. -/
theorem equation10 (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) :
    Cert.QkvRefIdeal.Staged.cachedWide (Cert.QkvRefIdeal.Staged.rows (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3))) = Cert.QkvIdeal.Block.G10 m c := by
  rw [h0, h1, h2, h3]
  funext y
  exact Cert.QkvRefIdeal.Staged.cachedWide_at _ _ (fun b s j => Cert.QkvRefIdeal.Staged.rows_at _ _ _ _ b s j) y

end Cert.QkvEquation

end
-- ==== Proof.SsmInValue.lean ====
/- The array the recurrence's input projection leaves. -/
module

public import proofs.«01_k».proof.Proof.Gen.SsmInIdeal.Value
public import proofs.«01_k».proof.Proof.LayerSpec
public import Idealize.ShloMosaic.Lib.Pipeline.ReadBack
public import Idealize.ShloMosaic.Lib.Pipeline.ValueKit

@[expose] public section

set_option maxRecDepth 16384

noncomputable section

namespace Cert.SsmInIdeal.Block

open Cert.SsmInIdeal Cert.SsmInIdeal.Gen Idealize.ShloMosaic Idealize.ShloMosaic.TcCoe Idealize.SL.Sem Idealize.ShloMosaic.Tactic
open Idealize.ShloMosaic.Pipeline (Dat)
open Cert.MlpSpec Cert.LayerSpec

/-- The normalised, modulated rows of a block. -/
theorem rows_at (x : Vec Ideal S1024x2048 .f32) (g : Vec Ideal S1x2048 .f32) (sc sh : Vec Ideal S1x1x2048 .f32) (r : Fin 1024) (k : Fin 2048) :
    k0_pay3 x g sc sh (ix2 r k) = normed (fun k => x (ix2 r k)) (fun k => g (ix2 0 k)) (fun k => sc (ix3 0 0 k)) (fun k => sh (ix3 0 0 k)) k := by
  pointwise [k0_pay3]
  rfl

/-- One store: 512 columns of the product. -/
theorem tile_at (n : FVec Ideal S1024x2048 .bf16) (w : Vec Ideal S2048x512 .bf16) (r : Fin 1024) (l : Fin 512) :
    k0_pay1 n w (ix2 r l) = ∑ k, n (ix2 r k) * w (ix2 k l) := by
  pointwise [k0_pay1]

/-- Rows against the columns of a matrix, as one block. -/
def product (n : Vec Ideal S1024x2048 .bf16) (w : Vec Ideal S2048x2048 .bf16) (y : S1024x2048.Idx) : EReal :=
  against (fun k => n (ix2 (y 0) k)) (fun k j => w (ix2 k j)) (y 1)

/-- The four column tiles of a block are one product. -/
theorem out_eq (a0 : Vec Ideal S1024x2048 .f32) (a1 : Vec Ideal S1x2048 .f32) (a2 a3 : Vec Ideal S1x1x2048 .f32) (a4 : Vec Ideal S2048x2048 .bf16) :
    out0_5 a0 a1 a2 a3 a4 = product (k0_pay3 a0 a1 a3 a2) a4 := by
  have h0 : View.ld a0 r0_0 = a0 := View.ld_unit_lit _ a0 (by decide)
  have h1 : View.ld a1 r0_1 = a1 := View.ld_unit_lit _ a1 (by decide)
  have h2 : View.ld a2 r0_2 = a2 := View.ld_unit_lit _ a2 (by decide)
  have h3 : View.ld a3 r0_2 = a3 := View.ld_unit_lit _ a3 (by decide)
  unfold out0_5 k0_pay6
  rw [h0, h1, h2, h3]
  refine funext fun y => View.canon_apply_of_pieces (Val := Elt Ideal) (S := S1024x2048) (e := .f32) (product (k0_pay3 a0 a1 a3 a2) a4) _ ?_ y ?_
  swap
  · exact View.cover_of_tiledL _ ![1024, 512] (by sl_kernel_rfl) y
  simp only [List.forall_mem_cons, List.not_mem_nil, false_imp_iff, implies_true, and_true]
  refine ⟨fun x => ?_, fun x => ?_, fun x => ?_, fun x => ?_⟩ <;>
    (change S1024x512.Idx at x
     idx_vars x
     refine (tile_at (k0_pay3 a0 a1 a3 a2) _ x0 x1).trans ?_
     unfold product against
     refine Finset.sum_congr rfl fun l _ => congrArg₂ (· * ·) ?_ ?_
     · refine congrArg (k0_pay3 a0 a1 a3 a2) (funext fun a => Fin.ext ?_)
       fin_cases a
       · show x0.val = 0 + 1 * x0.val
         omega
       · rfl
     · refine congrArg a4 (funext fun a => Fin.ext ?_)
       fin_cases a
       · show 0 + 1 * l.val = l.val
         omega
       · rfl)

/-- The index maps. -/
theorem idx : ∀ t : Fin cfg0.N, win0_0.index t = ![t.val, 0] ∧ win0_1.index t = ![0, 0] ∧
    win0_2.index t = ![6 * (1 + t.val / 4), 0, 0] ∧ win0_3.index t = ![6 * (1 + t.val / 4) + 1, 0, 0] ∧
    win0_4.index t = ![0, 0] ∧ win0_5.index t = ![t.val, 0] :=
  (by decide +kernel : ∀ t : Fin grid0.N, _)

variable (m : (ℓ : Loc nD τ sig) → Buf (Elt Ideal) ℓ)

/-- The array after the grid, over the argument arrays. -/
def G (c : Dev nD) : S8192x2048.Idx → EReal := fun y =>
  ssmIn (fun i j => m ((c.tc : Thread nD τ).loc main_arg0) (ix2 i j)) (fun j => m ((c.tc : Thread nD τ).loc main_arg1) (ix2 0 j))
    (fun a j => m ((c.tc : Thread nD τ).loc main_arg2) (ix3 a 0 j)) (fun k j => m ((c.tc : Thread nD τ).loc main_arg3) (ix2 k j)) (y 0) (y 1)

/-- The array after the grid. -/
theorem final (c : Dev nD) : (dats m 0 c).arrAt 5 cfg0.N = G m c := by
  refine (dats m 0 c).arrAt_eq_of_covers 5 _ (by decide +kernel) fun t hf y => ?_
  have ht : t.val < 8 := t.isLt
  blk_simp
  rw [after0_5]
  idx_vars y
  rw [out_eq]
  have e0 : (((View.whole main_v0).slice (win0_5.rect t)).emb (ix2 y0 y1) 0 : ℕ) = 1024 * t.val + y0.val := by
    blk_simp [idx t]
    omega
  have e1 : (((View.whole main_v0).slice (win0_5.rect t)).emb (ix2 y0 y1) 1 : ℕ) = y1.val := by
    blk_simp [idx t]
  have e2 : (1024 * t.val + y0.val) / 4096 = t.val / 4 := by omega
  unfold G ssmIn product
  refine congr (congrArg₂ against (funext fun k => ?_) ?_) (Fin.ext e1.symm)
  · refine (rows_at _ _ _ _ y0 k).trans ?_
    unfold mixed
    refine congrFun (congr (congr (congrArg₂ normed ?_ ?_) ?_) ?_) k
    · funext k
      blk_ext [iblk, V, idx t, e0]
    · funext k
      blk_ext [iblk, V, idx t]
    · funext k
      blk_ext [iblk, V, idx t, modRow, e0, e2]
    · funext k
      blk_ext [iblk, V, idx t, modRow, e0, e2]
  · funext k j
    blk_ext [iblk, V, idx t]

end Cert.SsmInIdeal.Block

end
-- ==== Proof.SsmInRefValue.lean ====
/- The reference's array of the recurrence's input projection, stage by stage and element by element. -/
module

public import proofs.«01_k».proof.Proof.Gen.SsmInRefIdeal.Run
public import proofs.«01_k».proof.Proof.LayerSpec
public import Idealize.ShloMosaic.Lib.Pipeline.ValueKit

@[expose] public section

set_option maxRecDepth 16384

noncomputable section

namespace Cert.SsmInRefIdeal.Staged

open Cert.SsmInRefIdeal Cert.SsmInRefIdeal.Gen Idealize.ShloMosaic Idealize.ShloMosaic.TcCoe Idealize.SL.Sem Idealize.ShloMosaic.Tactic
open Cert.MlpSpec Cert.LayerSpec

/-- The rows, by prompt. -/
def xs (X : FVec Ideal S8192x2048 .f32) : FVec Ideal S2x4096x2048 .f32 := shapeCast _ X shapeCasts_S8192x2048_S2x4096x2048

/-- The reciprocal root mean squares of rows. -/
def rs (v : FVec Ideal S2x4096x2048 .f32) : FVec Ideal S2x4096x1 .f32 :=
  Host.rsqrt (addf (Host.divf (broadcastInDim S2x4096x1 ![0, 1] bcast_S2x4096_S2x4096x1_0_1 (Host.reduceAdd (mulf v v) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))

/-- Rows normalised and scaled by a gain. -/
def scaled (v : FVec Ideal S2x4096x2048 .f32) (g : FVec Ideal S1x2048 .f32) : FVec Ideal S2x4096x2048 .f32 :=
  mulf (mulf v (broadcastInDim S2x4096x2048 ![0, 1, 2] bcast_S2x4096x1_S2x4096x2048_0_1_2 (rs v))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The modulations of the two prompts. -/
def mods (M : FVec Ideal S48x1x2048 .f32) : FVec Ideal S2x6x2048 .f32 :=
  extractStridedSlice S2x6x2048 ![1, 0, 0] (shapeCast _ M shapeCasts_S48x1x2048_S8x6x2048) slices_S8x6x2048_S2x6x2048_1_0_0

/-- The shift. -/
def shift (M : FVec Ideal S48x1x2048 .f32) : FVec Ideal S2x1x2048 .f32 :=
  broadcastInDim S2x1x2048 ![0, 2] bcast_S2x2048_S2x1x2048_0_2 (shapeCast _ (extractStridedSlice S2x1x2048 ![0, 0, 0] (mods M) slices_S2x6x2048_S2x1x2048_0_0_0) shapeCasts_S2x1x2048_S2x2048)

/-- The scale. -/
def scale (M : FVec Ideal S48x1x2048 .f32) : FVec Ideal S2x1x2048 .f32 :=
  broadcastInDim S2x1x2048 ![0, 2] bcast_S2x2048_S2x1x2048_0_2 (shapeCast _ (extractStridedSlice S2x1x2048 ![0, 1, 0] (mods M) slices_S2x6x2048_S2x1x2048_0_1_0) shapeCasts_S2x1x2048_S2x2048)

/-- The modulated rows. -/
def modulated (a : FVec Ideal S2x4096x2048 .f32) (sc sh : FVec Ideal S2x1x2048 .f32) : FVec Ideal S2x4096x2048 .f32 :=
  addf (mulf a (broadcastInDim S2x4096x2048 ![0, 1, 2] bcast_S2x1x2048_S2x4096x2048_0_1_2 (addf (broadcastInDim S2x1x2048 ![] bcast_S_S2x1x2048 (constant S_ .f32 0x3F800000#32)) sc))) (broadcastInDim S2x4096x2048 ![0, 1, 2] bcast_S2x1x2048_S2x4096x2048_0_1_2 sh)

/-- The product with the weights, as one array of rows. -/
def result (n : FVec Ideal S2x4096x2048 .f32) (W : FVec Ideal S2048x2048 .bf16) : FVec Ideal S8192x2048 .f32 :=
  shapeCast _ (Host.dotGeneral dot_S2x4096x2048_S2048x2048_S2x4096x2048_2_0_01_1_n_n none n (extf .f32 W bitsLt_bf16_f32)) shapeCasts_S2x4096x2048_S8192x2048

/-- The whole, from the argument arrays. -/
def whole (X : FVec Ideal S8192x2048 .f32) (g : FVec Ideal S1x2048 .f32) (M : FVec Ideal S48x1x2048 .f32) (W : FVec Ideal S2048x2048 .bf16) : FVec Ideal S8192x2048 .f32 :=
  result (modulated (scaled (xs X) g) (scale M) (shift M)) W

/-- A row by prompt. -/
theorem xs_at (X : FVec Ideal S8192x2048 .f32) (b : Fin 2) (s : Fin 4096) (k : Fin 2048) :
    xs X (ix3 b s k) = X (ix2 ⟨4096 * b.val + s.val, by omega⟩ k) := by
  pointwise [xs]
  exact congrArg (fun a => X (ix2 a k)) (Fin.ext (by dsimp only; omega))

/-- The reciprocal root mean square of a row. -/
theorem rs_at (v : FVec Ideal S2x4096x2048 .f32) (b : Fin 2) (s : Fin 4096) : rs v (ix3 b s 0) = rms fun k => v (ix3 b s k) := by
  pointwise [rs]
  rfl

/-- A row normalised and scaled, at an element. -/
theorem scaled_at (v : FVec Ideal S2x4096x2048 .f32) (g : FVec Ideal S1x2048 .f32) (b : Fin 2) (s : Fin 4096) (k : Fin 2048) :
    scaled v g (ix3 b s k) = v (ix3 b s k) * rms (fun k => v (ix3 b s k)) * g (ix2 0 k) := by
  pointwise [scaled]
  rw [rs_at]

/-- A modulation of a prompt. -/
theorem mods_at (M : FVec Ideal S48x1x2048 .f32) (b : Fin 2) (a : Fin 6) (k : Fin 2048) :
    mods M (ix3 b a k) = M (ix3 ⟨6 * (1 + b.val) + a.val, by omega⟩ 0 k) := by
  pointwise [mods]
  exact congrArg (fun i => M (ix3 i 0 k)) (Fin.ext (by dsimp only; omega))

/-- A prompt's shift. -/
theorem shift_at (M : FVec Ideal S48x1x2048 .f32) (b : Fin 2) (k : Fin 2048) : shift M (ix3 b 0 k) = M (ix3 ⟨6 * (1 + b.val) + 0, by omega⟩ 0 k) := by
  pointwise [shift]
  exact mods_at M b 0 k

/-- A prompt's scale. -/
theorem scale_at (M : FVec Ideal S48x1x2048 .f32) (b : Fin 2) (k : Fin 2048) : scale M (ix3 b 0 k) = M (ix3 ⟨6 * (1 + b.val) + 1, by omega⟩ 0 k) := by
  pointwise [scale]
  exact mods_at M b 1 k

/-- A modulated row at an element. -/
theorem modulated_at (a : FVec Ideal S2x4096x2048 .f32) (sc sh : FVec Ideal S2x1x2048 .f32) (b : Fin 2) (s : Fin 4096) (k : Fin 2048) :
    modulated a sc sh (ix3 b s k) = a (ix3 b s k) * (1 + sc (ix3 b 0 k)) + sh (ix3 b 0 k) := by
  pointwise [modulated]

/-- The product at an element. -/
theorem result_at (n : FVec Ideal S2x4096x2048 .f32) (W : FVec Ideal S2048x2048 .bf16) (i : Fin 8192) (j : Fin 2048) :
    result n W (ix2 i j) = ∑ k, n (ix3 ⟨i.val / 4096, by omega⟩ ⟨i.val % 4096, by omega⟩ k) * W (ix2 k j) := by
  pointwise [result]

/-- The reference's array, row by row. -/
theorem whole_at (X : FVec Ideal S8192x2048 .f32) (g : FVec Ideal S1x2048 .f32) (M : FVec Ideal S48x1x2048 .f32) (W : FVec Ideal S2048x2048 .bf16) (i : Fin 8192) (j : Fin 2048) :
    whole X g M W (ix2 i j) = ssmIn (fun i j => X (ix2 i j)) (fun j => g (ix2 0 j)) (fun a j => M (ix3 a 0 j)) (fun k j => W (ix2 k j)) i j := by
  have hx : ∀ k, xs X (ix3 ⟨i.val / 4096, by omega⟩ ⟨i.val % 4096, by omega⟩ k) = X (ix2 i k) := fun k => by
    rw [xs_at]
    exact congrArg (fun a => X (ix2 a k)) (Fin.ext (by dsimp only; omega))
  unfold whole
  rw [result_at]
  unfold ssmIn against
  refine Finset.sum_congr rfl fun k _ => congrArg (· * _) ?_
  rw [modulated_at, scaled_at, scale_at, shift_at]
  simp only [hx]
  rw [mul_assoc (X (ix2 i k) * _)]
  rfl

end Cert.SsmInRefIdeal.Staged

end
-- ==== Proof.SsmInEquation.lean ====
/- The kernel's and the reference's arrays of the recurrence's input projection are one array. -/
module

public import proofs.«01_k».proof.Proof.SsmInValue
public import proofs.«01_k».proof.Proof.SsmInRefValue

@[expose] public section

noncomputable section

namespace Cert.SsmInEquation

open Idealize.ShloMosaic Idealize.ShloMosaic.TcCoe Idealize.SL.Sem Idealize.ShloMosaic.Tactic

/-- The reference's result, on arguments that are the kernel's, is the kernel's array. -/
theorem equation (m : (ℓ : Loc Cert.SsmInIdeal.nD Cert.SsmInIdeal.τ Cert.SsmInIdeal.sig) → Buf (Elt Ideal) ℓ)
    (m' : (ℓ : Loc Cert.SsmInRefIdeal.nD Cert.SsmInRefIdeal.τ Cert.SsmInRefIdeal.sig) → Buf (Elt Ideal) ℓ) (c : Dev Cert.SsmInIdeal.nD)
    (h0 : m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0))
    (h1 : m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1))
    (h2 : m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2))
    (h3 : m' ((c.tc : Thread Cert.SsmInRefIdeal.nD Cert.SsmInRefIdeal.τ).loc Cert.SsmInRefIdeal.main_arg3) = m ((c.tc : Thread Cert.SsmInIdeal.nD Cert.SsmInIdeal.τ).loc Cert.SsmInIdeal.main_arg3)) :
    Cert.SsmInRefIdeal.Staged.whole (m' ((c.tc : Thread Cert.SsmInRefIdeal.nD Cert.SsmInRefIdeal.τ).loc Cert.SsmInRefIdeal.main_arg0))
      (m' ((c.tc : Thread Cert.SsmInRefIdeal.nD Cert.SsmInRefIdeal.τ).loc Cert.SsmInRefIdeal.main_arg1))
      (m' ((c.tc : Thread Cert.SsmInRefIdeal.nD Cert.SsmInRefIdeal.τ).loc Cert.SsmInRefIdeal.main_arg2))
      (m' ((c.tc : Thread Cert.SsmInRefIdeal.nD Cert.SsmInRefIdeal.τ).loc Cert.SsmInRefIdeal.main_arg3)) = Cert.SsmInIdeal.Block.G m c := by
  rw [h0, h1, h2, h3]
  funext y
  rw [show y = ix2 (y 0) (y 1) from eq_ix2 y]
  exact Cert.SsmInRefIdeal.Staged.whole_at _ _ _ _ (y 0) (y 1)

end Cert.SsmInEquation

end
-- ==== Proof.GluValue.lean ====
/- The array the recurrence's gate leaves. -/
module

public import proofs.«01_k».proof.Proof.Gen.GluIdeal.Value
public import proofs.«01_k».proof.Proof.LayerSpec
public import Idealize.ShloMosaic.Lib.Pipeline.ReadBack
public import Idealize.ShloMosaic.Lib.Pipeline.ValueKit

@[expose] public section

set_option maxRecDepth 16384

noncomputable section

namespace Cert.GluIdeal.Block

open Cert.GluIdeal Cert.GluIdeal.Gen Idealize.ShloMosaic Idealize.ShloMosaic.TcCoe Idealize.SL.Sem Idealize.ShloMosaic.Tactic
open Idealize.ShloMosaic.Pipeline (Dat)
open Cert.MlpSpec Cert.LayerSpec

/-- The rectified rows of a block. -/
theorem rect_at (y : Vec Ideal S512x2048 .f32) (d : Vec Ideal S1x2048 .f32) (u : Vec Ideal S512x2048 .f32) (r : Fin 512) (k : Fin 2048) :
    k0_pay1 y d u (ix2 r k) = gelu (y (ix2 r k) + d (ix2 0 k) * u (ix2 r k)) := by
  pointwise [k0_pay1]
  rfl

/-- The first column tile's store, over the rectified rows. -/
theorem tile0_at (y : Vec Ideal S512x2048 .f32) (d : Vec Ideal S1x2048 .f32) (u : Vec Ideal S512x2048 .f32) (w : Vec Ideal S2048x512 .bf16) (r : Fin 512) (l : Fin 512) :
    k0_pay3 y d u w (ix2 r l) = logistic (k0_pay1 y d u (ix2 r ⟨l.val, by omega⟩)) (∑ k, k0_pay1 y d u (ix2 r k) * w (ix2 k l)) := by
  pointwise [k0_pay3, k0_pay2]
  rw [zero_sub]
  rfl

/-- The second one's. -/
theorem tile1_at (y : Vec Ideal S512x2048 .f32) (d : Vec Ideal S1x2048 .f32) (u : Vec Ideal S512x2048 .f32) (w : Vec Ideal S2048x512 .bf16) (r : Fin 512) (l : Fin 512) :
    k0_pay6 (k0_pay4 y d u w) (k0_pay5 y d u) (Scalar.ofBits .f32 0x00000000#32) (ix2 r l) =
      logistic (k0_pay1 y d u (ix2 r ⟨512 + l.val, by omega⟩)) (∑ k, k0_pay1 y d u (ix2 r k) * w (ix2 k l)) := by
  pointwise [k0_pay6, k0_pay5, k0_pay4, k0_pay2]
  rw [zero_sub]
  rfl

/-- The third one's. -/
theorem tile2_at (z : FVec Ideal S512x2048 .f32) (w : Vec Ideal S2048x512 .bf16) (r : Fin 512) (l : Fin 512) :
    k0_pay7 z (truncf .bf16 z bitsLt_bf16_f32) w (ix2 r l) = logistic (z (ix2 r ⟨1024 + l.val, by omega⟩)) (∑ k, z (ix2 r k) * w (ix2 k l)) := by
  pointwise [k0_pay7]
  rw [zero_sub]
  rfl

/-- The fourth one's. -/
theorem tile3_at (z : FVec Ideal S512x2048 .f32) (w : Vec Ideal S2048x512 .bf16) (r : Fin 512) (l : Fin 512) :
    k0_pay8 z (truncf .bf16 z bitsLt_bf16_f32) w (ix2 r l) = logistic (z (ix2 r ⟨1536 + l.val, by omega⟩)) (∑ k, z (ix2 r k) * w (ix2 k l)) := by
  pointwise [k0_pay8]
  rw [zero_sub]
  rfl

/-- Gated rows, as one block. -/
def gatedBlock (z : Vec Ideal S512x2048 .f32) (w : Vec Ideal S2048x2048 .bf16) (y : S512x2048.Idx) : EReal :=
  logistic (z (ix2 (y 0) (y 1))) (against (fun k => z (ix2 (y 0) k)) (fun k j => w (ix2 k j)) (y 1))

/-- The four column tiles of a block are one block of gated rows. -/
theorem out_eq (a0 a1 : Vec Ideal S512x2048 .f32) (a2 : Vec Ideal S1x2048 .f32) (a3 : Vec Ideal S2048x2048 .bf16) :
    out0_4 a0 a1 a2 a3 = gatedBlock (k0_pay1 a0 a2 a1) a3 := by
  have h0 : View.ld a0 r0_0 = a0 := View.ld_unit_lit _ a0 (by decide)
  have h1 : View.ld a1 r0_0 = a1 := View.ld_unit_lit _ a1 (by decide)
  have h2 : View.ld a2 r0_1 = a2 := View.ld_unit_lit _ a2 (by decide)
  unfold out0_4 k0_pay9 k0_pay10
  rw [h0, h1, h2]
  refine funext fun y => View.canon_apply_of_pieces (Val := Elt Ideal) (S := S512x2048) (e := .bf16) (gatedBlock (k0_pay1 a0 a2 a1) a3) _ ?_ y ?_
  swap
  · exact View.cover_of_tiledL _ ![512, 512] (by sl_kernel_rfl) y
  simp only [List.forall_mem_cons, List.not_mem_nil, false_imp_iff, implies_true, and_true]
  refine ⟨fun x => ?_, fun x => ?_, fun x => ?_, fun x => ?_⟩
  all_goals
    change S512x512.Idx at x
    idx_vars x
    first
      | refine (tile3_at (k0_pay1 a0 a2 a1) _ x0 x1).trans ?_
      | refine (tile2_at (k0_pay1 a0 a2 a1) _ x0 x1).trans ?_
      | refine (tile1_at a0 a2 a1 _ x0 x1).trans ?_
      | refine (tile0_at a0 a2 a1 _ x0 x1).trans ?_
    unfold gatedBlock against
    refine congrArg₂ logistic ?_ (Finset.sum_congr rfl fun l _ => congrArg₂ (· * ·) ?_ ?_)
    · refine congrArg (k0_pay1 a0 a2 a1) (funext fun a => Fin.ext ?_)
      fin_cases a
      · show x0.val = 0 + 1 * x0.val
        omega
      · show _ = _ + 1 * x1.val
        simp
    · refine congrArg (k0_pay1 a0 a2 a1) (funext fun a => Fin.ext ?_)
      fin_cases a
      · show x0.val = 0 + 1 * x0.val
        omega
      · rfl
    · refine congrArg a3 (funext fun a => Fin.ext ?_)
      fin_cases a
      · show 0 + 1 * l.val = l.val
        omega
      · rfl

/-- The index maps. -/
theorem idx : ∀ t : Fin cfg0.N, win0_0.index t = ![t.val, 0] ∧ win0_1.index t = ![t.val, 0] ∧ win0_2.index t = ![0, 0] ∧
    win0_3.index t = ![0, 0] ∧ win0_4.index t = ![t.val, 0] :=
  (by decide +kernel : ∀ t : Fin grid0.N, _)

variable (m : (ℓ : Loc nD τ sig) → Buf (Elt Ideal) ℓ)

/-- The array after the grid, over the argument arrays. -/
def G (c : Dev nD) : S8192x2048.Idx → EReal := fun y =>
  glu (fun i j => m ((c.tc : Thread nD τ).loc main_arg0) (ix2 i j)) (fun i j => m ((c.tc : Thread nD τ).loc main_arg1) (ix2 i j))
    (fun j => m ((c.tc : Thread nD τ).loc main_arg2) (ix2 0 j)) (fun k j => m ((c.tc : Thread nD τ).loc main_arg3) (ix2 k j)) (y 0) (y 1)

/-- The array after the grid. -/
theorem final (c : Dev nD) : (dats m 0 c).arrAt 4 cfg0.N = G m c := by
  refine (dats m 0 c).arrAt_eq_of_covers 4 _ (by decide +kernel) fun t hf y => ?_
  have ht : t.val < 16 := t.isLt
  blk_simp
  rw [after0_4]
  idx_vars y
  rw [out_eq]
  have e0 : (((View.whole main_v0).slice (win0_4.rect t)).emb (ix2 y0 y1) 0 : ℕ) = 512 * t.val + y0.val := by
    blk_simp [idx t]
    omega
  have e1 : (((View.whole main_v0).slice (win0_4.rect t)).emb (ix2 y0 y1) 1 : ℕ) = y1.val := by
    blk_simp [idx t]
  have hr : ∀ k : Fin 2048, k0_pay1 (iblk m c 0 t) (iblk m c 2 t) (iblk m c 1 t) (ix2 y0 k) =
      rectified (fun i j => m ((c.tc : Thread nD τ).loc main_arg0) (ix2 i j)) (fun i j => m ((c.tc : Thread nD τ).loc main_arg1) (ix2 i j))
        (fun j => m ((c.tc : Thread nD τ).loc main_arg2) (ix2 0 j)) (((View.whole main_v0).slice (win0_4.rect t)).emb (ix2 y0 y1) 0) k := fun k => by
    rw [rect_at]
    unfold rectified
    refine congrArg gelu (congrArg₂ (· + ·) ?_ (congrArg₂ (· * ·) ?_ ?_))
    · blk_ext [iblk, V, idx t, e0]
    · blk_ext [iblk, V, idx t]
    · blk_ext [iblk, V, idx t, e0]
  unfold G glu gatedBlock
  refine congrArg₂ logistic ((hr y1).trans (congrArg _ (Fin.ext e1.symm))) (congr (congrArg₂ against (funext fun k => hr k) ?_) (Fin.ext e1.symm))
  funext k j
  blk_ext [iblk, V, idx t]

end Cert.GluIdeal.Block

end
-- ==== Proof.GluRefValue.lean ====
/- The reference's array of the recurrence's gate, stage by stage and element by element. -/
module

public import proofs.«01_k».proof.Proof.Gen.GluRefIdeal.Run
public import proofs.«01_k».proof.Proof.LayerSpec
public import Idealize.ShloMosaic.Lib.Pipeline.ValueKit

@[expose] public section

set_option maxRecDepth 16384

noncomputable section

namespace Cert.GluRefIdeal.Staged

open Cert.GluRefIdeal Cert.GluRefIdeal.Gen Idealize.ShloMosaic Idealize.ShloMosaic.TcCoe Idealize.SL.Sem Idealize.ShloMosaic.Tactic
open Cert.MlpSpec Cert.LayerSpec

/-- The recurrence's rows with the skip connection. -/
def skipped (Y U : FVec Ideal S8192x2048 .f32) (d : FVec Ideal S1x2048 .f32) : FVec Ideal S8192x2048 .f32 :=
  addf Y (mulf (broadcastInDim S8192x2048 ![0, 1] bcast_S1x2048_S8192x2048_0_1 (broadcastInDim S1x2048 ![1] bcast_S2048_S1x2048_1 (shapeCast _ d shapeCasts_S1x2048_S2048))) U)

/-- The rows rectified. -/
def rect (v : FVec Ideal S8192x2048 .f32) : FVec Ideal S8192x2048 .f32 :=
  mulf v (mulf (broadcastInDim S8192x2048 ![] bcast_S_S8192x2048 (constant S_ .f32 0x3F000000#32)) (addf (broadcastInDim S8192x2048 ![] bcast_S_S8192x2048 (constant S_ .f32 0x3F800000#32)) (Host.tanh (mulf (broadcastInDim S8192x2048 ![] bcast_S_S8192x2048 (constant S_ .f32 0x3F4C422A#32)) (addf v (mulf (broadcastInDim S8192x2048 ![] bcast_S_S8192x2048 (constant S_ .f32 0x3D372713#32)) (mulf (mulf v v) v)))))))

/-- The rows gated by the logistic function of their product. -/
def result (z : FVec Ideal S8192x2048 .f32) (W : FVec Ideal S2048x2048 .bf16) : FVec Ideal S8192x2048 .bf16 :=
  truncf .bf16 (mulf z (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none z (extf .f32 W bitsLt_bf16_f32))))))) bitsLt_bf16_f32

/-- The whole, from the argument arrays. -/
def whole (Y U : FVec Ideal S8192x2048 .f32) (d : FVec Ideal S1x2048 .f32) (W : FVec Ideal S2048x2048 .bf16) : FVec Ideal S8192x2048 .bf16 :=
  result (rect (skipped Y U d)) W

/-- The run's result is the stages'. -/
theorem res_eq (m : (ℓ : Loc nD τ sig) → Buf (Elt Ideal) ℓ) (c : Dev nD) :
    Value.res_main_v27 m c = whole (m ((c.tc : Thread nD τ).loc main_arg0)) (m ((c.tc : Thread nD τ).loc main_arg1)) (m ((c.tc : Thread nD τ).loc main_arg2))
      (m ((c.tc : Thread nD τ).loc main_arg3)) := rfl

/-- A row with the skip connection at an element. -/
theorem skipped_at (Y U : FVec Ideal S8192x2048 .f32) (d : FVec Ideal S1x2048 .f32) (i : Fin 8192) (j : Fin 2048) :
    skipped Y U d (ix2 i j) = Y (ix2 i j) + d (ix2 0 j) * U (ix2 i j) := by
  pointwise [skipped]

/-- A rectified value. -/
theorem rect_at (v : FVec Ideal S8192x2048 .f32) (i : Fin 8192) (j : Fin 2048) : rect v (ix2 i j) = gelu (v (ix2 i j)) := by
  pointwise [rect]
  unfold gelu
  rw [← mul_assoc, mul_comm (v (ix2 i j)) (Ideal.ofBits .f32 0x3F000000#32)]

/-- A gated value. -/
theorem result_at (z : FVec Ideal S8192x2048 .f32) (W : FVec Ideal S2048x2048 .bf16) (i : Fin 8192) (j : Fin 2048) :
    result z W (ix2 i j) = logistic (z (ix2 i j)) (against (fun k => z (ix2 i k)) (fun k j => W (ix2 k j)) j) := by
  pointwise [result]
  rfl

/-- The reference's array, row by row. -/
theorem whole_at (Y U : FVec Ideal S8192x2048 .f32) (d : FVec Ideal S1x2048 .f32) (W : FVec Ideal S2048x2048 .bf16) (i : Fin 8192) (j : Fin 2048) :
    whole Y U d W (ix2 i j) = glu (fun i j => Y (ix2 i j)) (fun i j => U (ix2 i j)) (fun j => d (ix2 0 j)) (fun k j => W (ix2 k j)) i j := by
  unfold whole
  rw [result_at]
  simp only [rect_at, skipped_at]
  rfl

end Cert.GluRefIdeal.Staged

end
-- ==== Proof.GluEquation.lean ====
/- The kernel's and the reference's arrays of the recurrence's gate are one array. -/
module

public import proofs.«01_k».proof.Proof.GluValue
public import proofs.«01_k».proof.Proof.GluRefValue

@[expose] public section

noncomputable section

namespace Cert.GluEquation

open Idealize.ShloMosaic Idealize.ShloMosaic.TcCoe Idealize.SL.Sem Idealize.ShloMosaic.Tactic

/-- The reference's result, on arguments that are the kernel's, is the kernel's array. -/
theorem equation (m : (ℓ : Loc Cert.GluIdeal.nD Cert.GluIdeal.τ Cert.GluIdeal.sig) → Buf (Elt Ideal) ℓ)
    (m' : (ℓ : Loc Cert.GluRefIdeal.nD Cert.GluRefIdeal.τ Cert.GluRefIdeal.sig) → Buf (Elt Ideal) ℓ) (c : Dev Cert.GluIdeal.nD)
    (h0 : m' ((c.tc : Thread Cert.GluRefIdeal.nD Cert.GluRefIdeal.τ).loc Cert.GluRefIdeal.main_arg0) = m ((c.tc : Thread Cert.GluIdeal.nD Cert.GluIdeal.τ).loc Cert.GluIdeal.main_arg0))
    (h1 : m' ((c.tc : Thread Cert.GluRefIdeal.nD Cert.GluRefIdeal.τ).loc Cert.GluRefIdeal.main_arg1) = m ((c.tc : Thread Cert.GluIdeal.nD Cert.GluIdeal.τ).loc Cert.GluIdeal.main_arg1))
    (h2 : m' ((c.tc : Thread Cert.GluRefIdeal.nD Cert.GluRefIdeal.τ).loc Cert.GluRefIdeal.main_arg2) = m ((c.tc : Thread Cert.GluIdeal.nD Cert.GluIdeal.τ).loc Cert.GluIdeal.main_arg2))
    (h3 : m' ((c.tc : Thread Cert.GluRefIdeal.nD Cert.GluRefIdeal.τ).loc Cert.GluRefIdeal.main_arg3) = m ((c.tc : Thread Cert.GluIdeal.nD Cert.GluIdeal.τ).loc Cert.GluIdeal.main_arg3)) :
    Cert.GluRefIdeal.Staged.whole (m' ((c.tc : Thread Cert.GluRefIdeal.nD Cert.GluRefIdeal.τ).loc Cert.GluRefIdeal.main_arg0))
      (m' ((c.tc : Thread Cert.GluRefIdeal.nD Cert.GluRefIdeal.τ).loc Cert.GluRefIdeal.main_arg1))
      (m' ((c.tc : Thread Cert.GluRefIdeal.nD Cert.GluRefIdeal.τ).loc Cert.GluRefIdeal.main_arg2))
      (m' ((c.tc : Thread Cert.GluRefIdeal.nD Cert.GluRefIdeal.τ).loc Cert.GluRefIdeal.main_arg3)) = Cert.GluIdeal.Block.G m c := by
  rw [h0, h1, h2, h3]
  funext y
  rw [show y = ix2 (y 0) (y 1) from eq_ix2 y]
  exact Cert.GluRefIdeal.Staged.whole_at _ _ _ _ (y 0) (y 1)

end Cert.GluEquation

end
-- ==== Proof.OutCValue.lean ====
/- The array the recurrence's output projection leaves. -/
module

public import proofs.«01_k».proof.Proof.Gen.OutCIdeal.Value
public import proofs.«01_k».proof.Proof.LayerSpec
public import Idealize.ShloMosaic.Lib.Pipeline.ReadBack
public import Idealize.ShloMosaic.Lib.Pipeline.ValueKit

@[expose] public section

set_option maxRecDepth 16384

noncomputable section

namespace Cert.OutCIdeal.Block

open Cert.OutCIdeal Cert.OutCIdeal.Gen Idealize.ShloMosaic Idealize.ShloMosaic.TcCoe Idealize.SL.Sem Idealize.ShloMosaic.Tactic
open Idealize.ShloMosaic.Pipeline (Dat)
open Cert.MlpSpec Cert.LayerSpec

/-- What a grid point stores at an element. -/
theorem pay_at (z : Vec Ideal S512x2048 .bf16) (w : Vec Ideal S2048x2048 .bf16) (x : Vec Ideal S512x2048 .f32) (g : Vec Ideal S1x2048 .f32)
    (gate : Vec Ideal S1x1x2048 .f32) (r : Fin 512) (j : Fin 2048) :
    k0_pay1 z w x g gate (ix2 r j) = gated (fun k => x (ix2 r k)) (against (fun k => z (ix2 r k)) fun k j => w (ix2 k j))
      (fun k => g (ix2 0 k)) (fun k => gate (ix3 0 0 k)) j := by
  pointwise [k0_pay1]
  rfl

/-- The block a grid point leaves. -/
theorem out_eq (x0 : Vec Ideal S512x2048 .bf16) (x1 : Vec Ideal S2048x2048 .bf16) (x2 : Vec Ideal S512x2048 .f32) (x3 : Vec Ideal S1x2048 .f32)
    (x4 : Vec Ideal S1x1x2048 .f32) : out0_5 x0 x1 x2 x3 x4 = k0_pay1 x0 x1 x2 x3 x4 := by
  unfold out0_5
  frame_out

/-- The index maps. -/
theorem idx : ∀ t : Fin cfg0.N, win0_0.index t = ![t.val, 0] ∧ win0_1.index t = ![0, 0] ∧ win0_2.index t = ![t.val, 0] ∧
    win0_3.index t = ![0, 0] ∧ win0_4.index t = ![6 * (1 + t.val / 8) + 2, 0, 0] ∧ win0_5.index t = ![t.val, 0] :=
  (by decide +kernel : ∀ t : Fin grid0.N, _)

variable (m : (ℓ : Loc nD τ sig) → Buf (Elt Ideal) ℓ)

/-- The array after the grid, over the argument arrays. -/
def G (c : Dev nD) : S8192x2048.Idx → EReal := fun y =>
  outC (fun i j => m ((c.tc : Thread nD τ).loc main_arg0) (ix2 i j)) (fun k j => m ((c.tc : Thread nD τ).loc main_arg1) (ix2 k j))
    (fun i j => m ((c.tc : Thread nD τ).loc main_arg2) (ix2 i j)) (fun j => m ((c.tc : Thread nD τ).loc main_arg3) (ix2 0 j))
    (fun a j => m ((c.tc : Thread nD τ).loc main_arg4) (ix3 a 0 j)) (y 0) (y 1)

/-- The array after the grid. -/
theorem final (c : Dev nD) : (dats m 0 c).arrAt 5 cfg0.N = G m c := by
  refine (dats m 0 c).arrAt_eq_of_covers 5 _ (by decide +kernel) fun t hf y => ?_
  have ht : t.val < 16 := t.isLt
  blk_simp
  rw [after0_5]
  idx_vars y
  rw [out_eq, pay_at]
  have e0 : (((View.whole main_v0).slice (win0_5.rect t)).emb (ix2 y0 y1) 0 : ℕ) = 512 * t.val + y0.val := by
    blk_simp [idx t]
    omega
  have e1 : (((View.whole main_v0).slice (win0_5.rect t)).emb (ix2 y0 y1) 1 : ℕ) = y1.val := by
    blk_simp [idx t]
  have e2 : (512 * t.val + y0.val) / 4096 = t.val / 8 := by omega
  unfold G outC
  refine congr (congr (congr (congrArg₂ gated ?_ ?_) ?_) ?_) (Fin.ext e1.symm)
  · funext k
    blk_ext [iblk, V, idx t, e0]
  · refine congrArg₂ against ?_ ?_
    · funext k
      blk_ext [iblk, V, idx t, e0]
    · funext k j
      blk_ext [iblk, V, idx t]
  · funext k
    blk_ext [iblk, V, idx t]
  · funext k
    blk_ext [iblk, V, idx t, modRow, e0, e2]

end Cert.OutCIdeal.Block

end
-- ==== Proof.OutCRefValue.lean ====
/- The reference's array of the recurrence's output projection, stage by stage and element by element. -/
module

public import proofs.«01_k».proof.Proof.Gen.OutCRefIdeal.Run
public import proofs.«01_k».proof.Proof.LayerSpec
public import Idealize.ShloMosaic.Lib.Pipeline.ValueKit

@[expose] public section

set_option maxRecDepth 16384

noncomputable section

namespace Cert.OutCRefIdeal.Staged

open Cert.OutCRefIdeal Cert.OutCRefIdeal.Gen Idealize.ShloMosaic Idealize.ShloMosaic.TcCoe Idealize.SL.Sem Idealize.ShloMosaic.Tactic
open Cert.MlpSpec Cert.LayerSpec

/-- The rows, by prompt. -/
def xs (X : FVec Ideal S8192x2048 .f32) : FVec Ideal S2x4096x2048 .f32 := shapeCast _ X shapeCasts_S8192x2048_S2x4096x2048

/-- The reciprocal root mean squares of rows. -/
def rs (v : FVec Ideal S2x4096x2048 .f32) : FVec Ideal S2x4096x1 .f32 :=
  Host.rsqrt (addf (Host.divf (broadcastInDim S2x4096x1 ![0, 1] bcast_S2x4096_S2x4096x1_0_1 (Host.reduceAdd (mulf v v) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))

/-- Rows normalised and scaled by a gain. -/
def scaled (v : FVec Ideal S2x4096x2048 .f32) (g : FVec Ideal S1x2048 .f32) : FVec Ideal S2x4096x2048 .f32 :=
  mulf (mulf v (broadcastInDim S2x4096x2048 ![0, 1, 2] bcast_S2x4096x1_S2x4096x2048_0_1_2 (rs v))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The modulations of the two prompts. -/
def mods (M : FVec Ideal S48x1x2048 .f32) : FVec Ideal S2x6x2048 .f32 :=
  extractStridedSlice S2x6x2048 ![1, 0, 0] (shapeCast _ M shapeCasts_S48x1x2048_S8x6x2048) slices_S8x6x2048_S2x6x2048_1_0_0

/-- The gate. -/
def gate (M : FVec Ideal S48x1x2048 .f32) : FVec Ideal S2x1x2048 .f32 :=
  broadcastInDim S2x1x2048 ![0, 2] bcast_S2x2048_S2x1x2048_0_2 (shapeCast _ (extractStridedSlice S2x1x2048 ![0, 2, 0] (mods M) slices_S2x6x2048_S2x1x2048_0_2_0) shapeCasts_S2x1x2048_S2x2048)

/-- The product with the weights. -/
def product (Z : FVec Ideal S8192x2048 .bf16) (W : FVec Ideal S2048x2048 .bf16) : FVec Ideal S2x4096x2048 .f32 :=
  Host.dotGeneral dot_S2x4096x2048_S2048x2048_S2x4096x2048_2_0_01_1_n_n none (shapeCast _ (extf .f32 Z bitsLt_bf16_f32) shapeCasts_S8192x2048_S2x4096x2048) (extf .f32 W bitsLt_bf16_f32)

/-- The rows plus their gated update. -/
def result (x a : FVec Ideal S2x4096x2048 .f32) (gt : FVec Ideal S2x1x2048 .f32) : FVec Ideal S8192x2048 .f32 :=
  shapeCast _ (addf x (mulf (broadcastInDim S2x4096x2048 ![0, 1, 2] bcast_S2x1x2048_S2x4096x2048_0_1_2 gt) a)) shapeCasts_S2x4096x2048_S8192x2048

/-- The whole, from the argument arrays. -/
def whole (Z : FVec Ideal S8192x2048 .bf16) (W : FVec Ideal S2048x2048 .bf16) (X : FVec Ideal S8192x2048 .f32) (g : FVec Ideal S1x2048 .f32) (M : FVec Ideal S48x1x2048 .f32) : FVec Ideal S8192x2048 .f32 :=
  result (xs X) (scaled (product Z W) g) (gate M)

/-- A row by prompt. -/
theorem xs_at (X : FVec Ideal S8192x2048 .f32) (b : Fin 2) (s : Fin 4096) (k : Fin 2048) :
    xs X (ix3 b s k) = X (ix2 ⟨4096 * b.val + s.val, by omega⟩ k) := by
  pointwise [xs]
  exact congrArg (fun a => X (ix2 a k)) (Fin.ext (by dsimp only; omega))

/-- The reciprocal root mean square of a row. -/
theorem rs_at (v : FVec Ideal S2x4096x2048 .f32) (b : Fin 2) (s : Fin 4096) : rs v (ix3 b s 0) = rms fun k => v (ix3 b s k) := by
  pointwise [rs]
  rfl

/-- A row normalised and scaled, at an element. -/
theorem scaled_at (v : FVec Ideal S2x4096x2048 .f32) (g : FVec Ideal S1x2048 .f32) (b : Fin 2) (s : Fin 4096) (k : Fin 2048) :
    scaled v g (ix3 b s k) = v (ix3 b s k) * rms (fun k => v (ix3 b s k)) * g (ix2 0 k) := by
  pointwise [scaled]
  rw [rs_at]

/-- A modulation of a prompt. -/
theorem mods_at (M : FVec Ideal S48x1x2048 .f32) (b : Fin 2) (a : Fin 6) (k : Fin 2048) :
    mods M (ix3 b a k) = M (ix3 ⟨6 * (1 + b.val) + a.val, by omega⟩ 0 k) := by
  pointwise [mods]
  exact congrArg (fun i => M (ix3 i 0 k)) (Fin.ext (by dsimp only; omega))

/-- A prompt's gate. -/
theorem gate_at (M : FVec Ideal S48x1x2048 .f32) (b : Fin 2) (k : Fin 2048) : gate M (ix3 b 0 k) = M (ix3 ⟨6 * (1 + b.val) + 2, by omega⟩ 0 k) := by
  pointwise [gate]
  exact mods_at M b 2 k

/-- The result at an element. -/
theorem result_at (x a : FVec Ideal S2x4096x2048 .f32) (gt : FVec Ideal S2x1x2048 .f32) (i : Fin 8192) (j : Fin 2048) :
    result x a gt (ix2 i j) = x (ix3 ⟨i.val / 4096, by omega⟩ ⟨i.val % 4096, by omega⟩ j) + gt (ix3 ⟨i.val / 4096, by omega⟩ 0 j) * a (ix3 ⟨i.val / 4096, by omega⟩ ⟨i.val % 4096, by omega⟩ j) := by
  pointwise [result]

/-- The product at an element. -/
theorem product_at (Z : FVec Ideal S8192x2048 .bf16) (W : FVec Ideal S2048x2048 .bf16) (b : Fin 2) (s : Fin 4096) (j : Fin 2048) :
    product Z W (ix3 b s j) = ∑ k, Z (ix2 ⟨4096 * b.val + s.val, by omega⟩ k) * W (ix2 k j) := by
  pointwise [product]
  refine Finset.sum_congr rfl fun k _ => congrArg (· * _) (congrArg (fun a => Z (ix2 a k)) (Fin.ext (by dsimp only; omega)))

/-- The reference's array, row by row. -/
theorem whole_at (Z : FVec Ideal S8192x2048 .bf16) (W : FVec Ideal S2048x2048 .bf16) (X : FVec Ideal S8192x2048 .f32) (g : FVec Ideal S1x2048 .f32) (M : FVec Ideal S48x1x2048 .f32) (i : Fin 8192) (j : Fin 2048) :
    whole Z W X g M (ix2 i j) = outC (fun i j => Z (ix2 i j)) (fun k j => W (ix2 k j)) (fun i j => X (ix2 i j)) (fun j => g (ix2 0 j)) (fun a j => M (ix3 a 0 j)) i j := by
  have hx : ∀ k, xs X (ix3 ⟨i.val / 4096, by omega⟩ ⟨i.val % 4096, by omega⟩ k) = X (ix2 i k) := fun k => by
    rw [xs_at]
    exact congrArg (fun a => X (ix2 a k)) (Fin.ext (by dsimp only; omega))
  have hp : ∀ j, product Z W (ix3 ⟨i.val / 4096, by omega⟩ ⟨i.val % 4096, by omega⟩ j) = against (fun k => Z (ix2 i k)) (fun k j => W (ix2 k j)) j := fun j => by
    rw [product_at]
    exact Finset.sum_congr rfl fun k _ => congrArg (· * _) (congrArg (fun a => Z (ix2 a k)) (Fin.ext (by dsimp only; omega)))
  unfold whole
  rw [result_at, hx, gate_at, scaled_at]
  simp only [hp]
  unfold outC gated
  refine congrArg _ ?_
  rw [mul_comm, mul_assoc (_ * _)]
  rfl

end Cert.OutCRefIdeal.Staged

end
-- ==== Proof.OutCEquation.lean ====
/- The kernel's and the reference's arrays of the recurrence's output projection are one array. -/
module

public import proofs.«01_k».proof.Proof.OutCValue
public import proofs.«01_k».proof.Proof.OutCRefValue

@[expose] public section

noncomputable section

namespace Cert.OutCEquation

open Idealize.ShloMosaic Idealize.ShloMosaic.TcCoe Idealize.SL.Sem Idealize.ShloMosaic.Tactic

/-- The reference's result, on arguments that are the kernel's, is the kernel's array. -/
theorem equation (m : (ℓ : Loc Cert.OutCIdeal.nD Cert.OutCIdeal.τ Cert.OutCIdeal.sig) → Buf (Elt Ideal) ℓ)
    (m' : (ℓ : Loc Cert.OutCRefIdeal.nD Cert.OutCRefIdeal.τ Cert.OutCRefIdeal.sig) → Buf (Elt Ideal) ℓ) (c : Dev Cert.OutCIdeal.nD)
    (h0 : m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0))
    (h1 : m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1))
    (h2 : m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2))
    (h3 : m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3))
    (h4 : m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)) :
    Cert.OutCRefIdeal.Staged.whole (m' ((c.tc : Thread Cert.OutCRefIdeal.nD Cert.OutCRefIdeal.τ).loc Cert.OutCRefIdeal.main_arg0))
      (m' ((c.tc : Thread Cert.OutCRefIdeal.nD Cert.OutCRefIdeal.τ).loc Cert.OutCRefIdeal.main_arg1))
      (m' ((c.tc : Thread Cert.OutCRefIdeal.nD Cert.OutCRefIdeal.τ).loc Cert.OutCRefIdeal.main_arg2))
      (m' ((c.tc : Thread Cert.OutCRefIdeal.nD Cert.OutCRefIdeal.τ).loc Cert.OutCRefIdeal.main_arg3))
      (m' ((c.tc : Thread Cert.OutCRefIdeal.nD Cert.OutCRefIdeal.τ).loc Cert.OutCRefIdeal.main_arg4)) = Cert.OutCIdeal.Block.G m c := by
  rw [h0, h1, h2, h3, h4]
  funext y
  rw [show y = ix2 (y 0) (y 1) from eq_ix2 y]
  exact Cert.OutCRefIdeal.Staged.whole_at _ _ _ _ _ (y 0) (y 1)

end Cert.OutCEquation

end
-- ==== Proof.OutAValue.lean ====
/- The array the attention's output projection leaves. -/
module

public import proofs.«01_k».proof.Proof.Gen.OutAIdeal.Value
public import proofs.«01_k».proof.Proof.LayerSpec
public import Idealize.ShloMosaic.Lib.Pipeline.ReadBack
public import Idealize.ShloMosaic.Lib.Pipeline.ValueKit

@[expose] public section

set_option maxRecDepth 16384

noncomputable section

namespace Cert.OutAIdeal.Block

open Cert.OutAIdeal Cert.OutAIdeal.Gen Idealize.ShloMosaic Idealize.ShloMosaic.TcCoe Idealize.SL.Sem Idealize.ShloMosaic.Tactic
open Idealize.ShloMosaic.Pipeline (Dat)
open Cert.MlpSpec Cert.LayerSpec

/-- The two products' sum. -/
def both (a b : Vec Ideal S512x1024 .bf16) (w v : Vec Ideal S1024x2048 .bf16) (r : Fin 512) (j : Fin 2048) : EReal :=
  against (fun k => a (ix2 r k)) (fun k j => w (ix2 k j)) j + against (fun k => b (ix2 r k)) (fun k j => v (ix2 k j)) j

/-- What a grid point stores at an element. -/
theorem pay_at (a b : Vec Ideal S512x1024 .bf16) (w v : Vec Ideal S1024x2048 .bf16) (x : Vec Ideal S512x2048 .f32) (g : Vec Ideal S1x2048 .f32)
    (gate : Vec Ideal S1x1x2048 .f32) (r : Fin 512) (j : Fin 2048) :
    k0_pay1 a w b v x g gate (ix2 r j) = gated (fun k => x (ix2 r k)) (both a b w v r)
      (fun k => g (ix2 0 k)) (fun k => gate (ix3 0 0 k)) j := by
  pointwise [k0_pay1]
  rfl

/-- The block a grid point leaves. -/
theorem out_eq (x0 x1 : Vec Ideal S512x1024 .bf16) (x2 x3 : Vec Ideal S1024x2048 .bf16) (x4 : Vec Ideal S512x2048 .f32) (x5 : Vec Ideal S1x2048 .f32)
    (x6 : Vec Ideal S1x1x2048 .f32) : out0_7 x0 x1 x2 x3 x4 x5 x6 = k0_pay1 x0 x2 x1 x3 x4 x5 x6 := by
  unfold out0_7
  frame_out

/-- The index maps. -/
theorem idx : ∀ t : Fin cfg0.N, win0_0.index t = ![t.val, 0] ∧ win0_1.index t = ![t.val, 0] ∧ win0_2.index t = ![0, 0] ∧ win0_3.index t = ![1, 0] ∧
    win0_4.index t = ![t.val, 0] ∧ win0_5.index t = ![0, 0] ∧ win0_6.index t = ![6 * (1 + t.val / 8) + 2, 0, 0] ∧ win0_7.index t = ![t.val, 0] :=
  (by decide +kernel : ∀ t : Fin grid0.N, _)

variable (m : (ℓ : Loc nD τ sig) → Buf (Elt Ideal) ℓ)

/-- The array after the grid, over the argument arrays. -/
def G (c : Dev nD) : S8192x2048.Idx → EReal := fun y =>
  outA (fun i j => m ((c.tc : Thread nD τ).loc main_arg0) (ix2 i j)) (fun i j => m ((c.tc : Thread nD τ).loc main_arg1) (ix2 i j))
    (fun k j => m ((c.tc : Thread nD τ).loc main_arg2) (ix2 k j))
    (fun i j => m ((c.tc : Thread nD τ).loc main_arg3) (ix2 i j)) (fun j => m ((c.tc : Thread nD τ).loc main_arg4) (ix2 0 j))
    (fun a j => m ((c.tc : Thread nD τ).loc main_arg5) (ix3 a 0 j)) (y 0) (y 1)

/-- The array after the grid. -/
theorem final (c : Dev nD) : (dats m 0 c).arrAt 7 cfg0.N = G m c := by
  refine (dats m 0 c).arrAt_eq_of_covers 7 _ (by decide +kernel) fun t hf y => ?_
  have ht : t.val < 16 := t.isLt
  blk_simp
  rw [after0_7]
  idx_vars y
  rw [out_eq, pay_at]
  have e0 : (((View.whole main_v0).slice (win0_7.rect t)).emb (ix2 y0 y1) 0 : ℕ) = 512 * t.val + y0.val := by
    blk_simp [idx t]
    omega
  have e1 : (((View.whole main_v0).slice (win0_7.rect t)).emb (ix2 y0 y1) 1 : ℕ) = y1.val := by
    blk_simp [idx t]
  have e2 : (512 * t.val + y0.val) / 4096 = t.val / 8 := by omega
  unfold G outA
  refine congr (congr (congr (congrArg₂ gated ?_ ?_) ?_) ?_) (Fin.ext e1.symm)
  · funext k
    blk_ext [iblk, V, idx t, e0]
  · funext j
    unfold both halves against
    refine congrArg₂ (· + ·) (Finset.sum_congr rfl fun k _ => congrArg₂ (· * ·) ?_ ?_) (Finset.sum_congr rfl fun k _ => congrArg₂ (· * ·) ?_ ?_)
    · blk_ext [iblk, V, idx t, e0]
    · blk_ext [iblk, V, idx t]
    · blk_ext [iblk, V, idx t, e0]
    · blk_ext [iblk, V, idx t]
  · funext k
    blk_ext [iblk, V, idx t]
  · funext k
    blk_ext [iblk, V, idx t, modRow, e0, e2]

end Cert.OutAIdeal.Block

end
-- ==== Proof.OutARefValue.lean ====
/- The reference's array of the attention's output projection, stage by stage and element by element. -/
module

public import proofs.«01_k».proof.Proof.Gen.OutARefIdeal.Run
public import proofs.«01_k».proof.Proof.LayerSpec
public import Idealize.ShloMosaic.Lib.Pipeline.ValueKit

@[expose] public section

set_option maxRecDepth 16384

noncomputable section

namespace Cert.OutARefIdeal.Staged

open Cert.OutARefIdeal Cert.OutARefIdeal.Gen Idealize.ShloMosaic Idealize.ShloMosaic.TcCoe Idealize.SL.Sem Idealize.ShloMosaic.Tactic
open Cert.MlpSpec Cert.LayerSpec

/-- The rows, by prompt. -/
def xs (X : FVec Ideal S8192x2048 .f32) : FVec Ideal S2x4096x2048 .f32 := shapeCast _ X shapeCasts_S8192x2048_S2x4096x2048

/-- The reciprocal root mean squares of rows. -/
def rs (v : FVec Ideal S2x4096x2048 .f32) : FVec Ideal S2x4096x1 .f32 :=
  Host.rsqrt (addf (Host.divf (broadcastInDim S2x4096x1 ![0, 1] bcast_S2x4096_S2x4096x1_0_1 (Host.reduceAdd (mulf v v) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))

/-- Rows normalised and scaled by a gain. -/
def scaled (v : FVec Ideal S2x4096x2048 .f32) (g : FVec Ideal S1x2048 .f32) : FVec Ideal S2x4096x2048 .f32 :=
  mulf (mulf v (broadcastInDim S2x4096x2048 ![0, 1, 2] bcast_S2x4096x1_S2x4096x2048_0_1_2 (rs v))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The modulations of the two prompts. -/
def mods (M : FVec Ideal S48x1x2048 .f32) : FVec Ideal S2x6x2048 .f32 :=
  extractStridedSlice S2x6x2048 ![1, 0, 0] (shapeCast _ M shapeCasts_S48x1x2048_S8x6x2048) slices_S8x6x2048_S2x6x2048_1_0_0

/-- The gate. -/
def gate (M : FVec Ideal S48x1x2048 .f32) : FVec Ideal S2x1x2048 .f32 :=
  broadcastInDim S2x1x2048 ![0, 2] bcast_S2x2048_S2x1x2048_0_2 (shapeCast _ (extractStridedSlice S2x1x2048 ![0, 2, 0] (mods M) slices_S2x6x2048_S2x1x2048_0_2_0) shapeCasts_S2x1x2048_S2x2048)

/-- The two arrays side by side. -/
def beside (A B : FVec Ideal S8192x1024 .bf16) : FVec Ideal S8192x2048 .bf16 :=
  concatenate S8192x2048 1 [⟨S8192x1024, A⟩, ⟨S8192x1024, B⟩] concatenates_S8192x1024_S8192x1024_S8192x2048_d1

/-- The product with the weights. -/
def product (Z : FVec Ideal S8192x2048 .bf16) (W : FVec Ideal S2048x2048 .bf16) : FVec Ideal S2x4096x2048 .f32 :=
  Host.dotGeneral dot_S2x4096x2048_S2048x2048_S2x4096x2048_2_0_01_1_n_n none (shapeCast _ (extf .f32 Z bitsLt_bf16_f32) shapeCasts_S8192x2048_S2x4096x2048) (extf .f32 W bitsLt_bf16_f32)

/-- The rows plus their gated update. -/
def result (x a : FVec Ideal S2x4096x2048 .f32) (gt : FVec Ideal S2x1x2048 .f32) : FVec Ideal S8192x2048 .f32 :=
  shapeCast _ (addf x (mulf (broadcastInDim S2x4096x2048 ![0, 1, 2] bcast_S2x1x2048_S2x4096x2048_0_1_2 gt) a)) shapeCasts_S2x4096x2048_S8192x2048

/-- The whole, from the argument arrays. -/
def whole (A B : FVec Ideal S8192x1024 .bf16) (W : FVec Ideal S2048x2048 .bf16) (X : FVec Ideal S8192x2048 .f32) (g : FVec Ideal S1x2048 .f32) (M : FVec Ideal S48x1x2048 .f32) : FVec Ideal S8192x2048 .f32 :=
  result (xs X) (scaled (product (beside A B) W) g) (gate M)

/-- A row by prompt. -/
theorem xs_at (X : FVec Ideal S8192x2048 .f32) (b : Fin 2) (s : Fin 4096) (k : Fin 2048) :
    xs X (ix3 b s k) = X (ix2 ⟨4096 * b.val + s.val, by omega⟩ k) := by
  pointwise [xs]
  exact congrArg (fun a => X (ix2 a k)) (Fin.ext (by dsimp only; omega))

/-- The reciprocal root mean square of a row. -/
theorem rs_at (v : FVec Ideal S2x4096x2048 .f32) (b : Fin 2) (s : Fin 4096) : rs v (ix3 b s 0) = rms fun k => v (ix3 b s k) := by
  pointwise [rs]
  rfl

/-- A row normalised and scaled, at an element. -/
theorem scaled_at (v : FVec Ideal S2x4096x2048 .f32) (g : FVec Ideal S1x2048 .f32) (b : Fin 2) (s : Fin 4096) (k : Fin 2048) :
    scaled v g (ix3 b s k) = v (ix3 b s k) * rms (fun k => v (ix3 b s k)) * g (ix2 0 k) := by
  pointwise [scaled]
  rw [rs_at]

/-- A modulation of a prompt. -/
theorem mods_at (M : FVec Ideal S48x1x2048 .f32) (b : Fin 2) (a : Fin 6) (k : Fin 2048) :
    mods M (ix3 b a k) = M (ix3 ⟨6 * (1 + b.val) + a.val, by omega⟩ 0 k) := by
  pointwise [mods]
  exact congrArg (fun i => M (ix3 i 0 k)) (Fin.ext (by dsimp only; omega))

/-- A prompt's gate. -/
theorem gate_at (M : FVec Ideal S48x1x2048 .f32) (b : Fin 2) (k : Fin 2048) : gate M (ix3 b 0 k) = M (ix3 ⟨6 * (1 + b.val) + 2, by omega⟩ 0 k) := by
  pointwise [gate]
  exact mods_at M b 2 k

/-- The result at an element. -/
theorem result_at (x a : FVec Ideal S2x4096x2048 .f32) (gt : FVec Ideal S2x1x2048 .f32) (i : Fin 8192) (j : Fin 2048) :
    result x a gt (ix2 i j) = x (ix3 ⟨i.val / 4096, by omega⟩ ⟨i.val % 4096, by omega⟩ j) + gt (ix3 ⟨i.val / 4096, by omega⟩ 0 j) * a (ix3 ⟨i.val / 4096, by omega⟩ ⟨i.val % 4096, by omega⟩ j) := by
  pointwise [result]

/-- The first half of a row. -/
theorem beside_left (A B : FVec Ideal S8192x1024 .bf16) (i : Fin 8192) (k : Fin 1024) : beside A B (ix2 i ⟨k.val, by omega⟩) = A (ix2 i k) := by
  pointwise [beside]

/-- The second half. -/
theorem beside_right (A B : FVec Ideal S8192x1024 .bf16) (i : Fin 8192) (k : Fin 1024) : beside A B (ix2 i ⟨1024 + k.val, by omega⟩) = B (ix2 i k) := by
  pointwise [beside]

/-- The product at an element. -/
theorem product_at (Z : FVec Ideal S8192x2048 .bf16) (W : FVec Ideal S2048x2048 .bf16) (b : Fin 2) (s : Fin 4096) (j : Fin 2048) :
    product Z W (ix3 b s j) = ∑ k, Z (ix2 ⟨4096 * b.val + s.val, by omega⟩ k) * W (ix2 k j) := by
  pointwise [product]
  refine Finset.sum_congr rfl fun k _ => congrArg (· * _) (congrArg (fun a => Z (ix2 a k)) (Fin.ext (by dsimp only; omega)))

/-- The reference's array, row by row. -/
theorem whole_at (A B : FVec Ideal S8192x1024 .bf16) (W : FVec Ideal S2048x2048 .bf16) (X : FVec Ideal S8192x2048 .f32) (g : FVec Ideal S1x2048 .f32) (M : FVec Ideal S48x1x2048 .f32) (i : Fin 8192) (j : Fin 2048) :
    whole A B W X g M (ix2 i j) = outA (fun i j => A (ix2 i j)) (fun i j => B (ix2 i j)) (fun k j => W (ix2 k j)) (fun i j => X (ix2 i j)) (fun j => g (ix2 0 j)) (fun a j => M (ix3 a 0 j)) i j := by
  have hx : ∀ k, xs X (ix3 ⟨i.val / 4096, by omega⟩ ⟨i.val % 4096, by omega⟩ k) = X (ix2 i k) := fun k => by
    rw [xs_at]
    exact congrArg (fun a => X (ix2 a k)) (Fin.ext (by dsimp only; omega))
  have hp : ∀ j, product (beside A B) W (ix3 ⟨i.val / 4096, by omega⟩ ⟨i.val % 4096, by omega⟩ j) = halves (fun k => A (ix2 i k)) (fun k => B (ix2 i k)) (fun k j => W (ix2 k j)) j := fun j => by
    rw [product_at]
    refine Eq.trans ?_ (halves_eq _ _ (fun k => beside A B (ix2 i k)) _ j (fun k => beside_left A B i k) fun k => beside_right A B i k)
    exact Finset.sum_congr rfl fun k _ => congrArg (· * _) (congrArg (fun a => beside A B (ix2 a k)) (Fin.ext (by dsimp only; omega)))
  unfold whole
  rw [result_at, hx, gate_at, scaled_at]
  simp only [hp]
  unfold outA gated
  refine congrArg _ ?_
  rw [mul_comm, mul_assoc (_ * _)]
  rfl

end Cert.OutARefIdeal.Staged

end
-- ==== Proof.OutAEquation.lean ====
/- The kernel's and the reference's arrays of the attention's output projection are one array. -/
module

public import proofs.«01_k».proof.Proof.OutAValue
public import proofs.«01_k».proof.Proof.OutARefValue

@[expose] public section

noncomputable section

namespace Cert.OutAEquation

open Idealize.ShloMosaic Idealize.ShloMosaic.TcCoe Idealize.SL.Sem Idealize.ShloMosaic.Tactic

/-- The reference's result, on arguments that are the kernel's, is the kernel's array. -/
theorem equation (m : (ℓ : Loc Cert.OutAIdeal.nD Cert.OutAIdeal.τ Cert.OutAIdeal.sig) → Buf (Elt Ideal) ℓ)
    (m' : (ℓ : Loc Cert.OutARefIdeal.nD Cert.OutARefIdeal.τ Cert.OutARefIdeal.sig) → Buf (Elt Ideal) ℓ) (c : Dev Cert.OutAIdeal.nD)
    (h0 : m' ((c.tc : Thread Cert.OutARefIdeal.nD Cert.OutARefIdeal.τ).loc Cert.OutARefIdeal.main_arg0) = m ((c.tc : Thread Cert.OutAIdeal.nD Cert.OutAIdeal.τ).loc Cert.OutAIdeal.main_arg0))
    (h1 : m' ((c.tc : Thread Cert.OutARefIdeal.nD Cert.OutARefIdeal.τ).loc Cert.OutARefIdeal.main_arg1) = m ((c.tc : Thread Cert.OutAIdeal.nD Cert.OutAIdeal.τ).loc Cert.OutAIdeal.main_arg1))
    (h2 : m' ((c.tc : Thread Cert.OutARefIdeal.nD Cert.OutARefIdeal.τ).loc Cert.OutARefIdeal.main_arg2) = m ((c.tc : Thread Cert.OutAIdeal.nD Cert.OutAIdeal.τ).loc Cert.OutAIdeal.main_arg2))
    (h3 : m' ((c.tc : Thread Cert.OutARefIdeal.nD Cert.OutARefIdeal.τ).loc Cert.OutARefIdeal.main_arg3) = m ((c.tc : Thread Cert.OutAIdeal.nD Cert.OutAIdeal.τ).loc Cert.OutAIdeal.main_arg3))
    (h4 : m' ((c.tc : Thread Cert.OutARefIdeal.nD Cert.OutARefIdeal.τ).loc Cert.OutARefIdeal.main_arg4) = m ((c.tc : Thread Cert.OutAIdeal.nD Cert.OutAIdeal.τ).loc Cert.OutAIdeal.main_arg4))
    (h5 : m' ((c.tc : Thread Cert.OutARefIdeal.nD Cert.OutARefIdeal.τ).loc Cert.OutARefIdeal.main_arg5) = m ((c.tc : Thread Cert.OutAIdeal.nD Cert.OutAIdeal.τ).loc Cert.OutAIdeal.main_arg5)) :
    Cert.OutARefIdeal.Staged.whole (m' ((c.tc : Thread Cert.OutARefIdeal.nD Cert.OutARefIdeal.τ).loc Cert.OutARefIdeal.main_arg0))
      (m' ((c.tc : Thread Cert.OutARefIdeal.nD Cert.OutARefIdeal.τ).loc Cert.OutARefIdeal.main_arg1))
      (m' ((c.tc : Thread Cert.OutARefIdeal.nD Cert.OutARefIdeal.τ).loc Cert.OutARefIdeal.main_arg2))
      (m' ((c.tc : Thread Cert.OutARefIdeal.nD Cert.OutARefIdeal.τ).loc Cert.OutARefIdeal.main_arg3))
      (m' ((c.tc : Thread Cert.OutARefIdeal.nD Cert.OutARefIdeal.τ).loc Cert.OutARefIdeal.main_arg4))
      (m' ((c.tc : Thread Cert.OutARefIdeal.nD Cert.OutARefIdeal.τ).loc Cert.OutARefIdeal.main_arg5)) = Cert.OutAIdeal.Block.G m c := by
  rw [h0, h1, h2, h3, h4, h5]
  funext y
  rw [show y = ix2 (y 0) (y 1) from eq_ix2 y]
  exact Cert.OutARefIdeal.Staged.whole_at _ _ _ _ _ _ (y 0) (y 1)

end Cert.OutAEquation

end
-- ==== Proof.MlpPBlock.lean ====
/- What one grid point of the feed-forward kernel on the rows of the prompts stores, element by element, over the blocks it reads. -/
module

public import proofs.«01_k».proof.Proof.Gen.MlpPIdeal.Value
public import proofs.«01_k».proof.Proof.MlpSpec
public import Idealize.ShloMosaic.Lib.Pipeline.ReadBack
public import Idealize.ShloMosaic.Lib.Pipeline.ValueKit

@[expose] public section

set_option maxRecDepth 16384

noncomputable section

namespace Cert.MlpPIdeal.Block

open Cert.MlpPIdeal Cert.MlpPIdeal.Gen Idealize.ShloMosaic Idealize.ShloMosaic.TcCoe Idealize.SL.Sem Idealize.ShloMosaic.Tactic
open Cert.MlpSpec

/-- The hidden units of a grid point. -/
theorem act_at (n : Vec Ideal S1024x2048 .bf16) (w1 : Vec Ideal S1x2048x512 .bf16) (r : Fin 1024) (l : Fin 512) :
    k0_pay9 n w1 (ix2 r l) = unitAt (fun k => n (ix2 r k)) (fun k => w1 (ix3 0 k l)) := by
  pointwise [k0_pay9]
  rfl

/-- The normalised row. -/
theorem pay7_at (x : Vec Ideal S1024x2048 .f32) (g : Vec Ideal S1x2048 .f32) (sc sh : Vec Ideal S1x1x2048 .f32) (r : Fin 1024) (k : Fin 2048) :
    k0_pay7 x g sc sh (ix2 r k) = normed (fun k => x (ix2 r k)) (fun k => g (ix2 0 k)) (fun k => sc (ix3 0 0 k)) (fun k => sh (ix3 0 0 k)) k := by
  pointwise [k0_pay7]
  rfl

/-- The gated update. -/
theorem pay6_at (x y : Vec Ideal S1024x2048 .f32) (g : Vec Ideal S1x2048 .f32) (gate : Vec Ideal S1x1x2048 .f32) (r : Fin 1024) (k : Fin 2048) :
    k0_pay6 x y g gate (ix2 r k) = gated (fun k => x (ix2 r k)) (fun k => y (ix2 r k)) (fun k => g (ix2 0 k)) (fun k => gate (ix3 0 0 k)) k := by
  pointwise [k0_pay6]
  rfl

/-- One store of the accumulation: what was there plus 512 hidden units against their weights. -/
theorem pay5_at (n : FVec Ideal S1024x512 .bf16) (w2 : Vec Ideal S1x512x512 .bf16) (p : Vec Ideal S1024x512 .f32) (r : Fin 1024) (k : Fin 512) :
    k0_pay5 n w2 p (ix2 r k) = p (ix2 r k) + ∑ l, n (ix2 r l) * w2 (ix3 0 l k) := by
  pointwise [k0_pay5]

/-- The first store of a sum: 512 hidden units against their weights. -/
theorem pay1_at (n : FVec Ideal S1024x512 .bf16) (w2 : Vec Ideal S1x512x512 .bf16) (r : Fin 1024) (k : Fin 512) :
    k0_pay1 n w2 (ix2 r k) = ∑ l, n (ix2 r l) * w2 (ix3 0 l k) := by
  pointwise [k0_pay1]

/-- What a grid point adds at an element of the block. -/
def added (n : Vec Ideal S1024x2048 .bf16) (w1 : Vec Ideal S1x2048x512 .bf16) (w2 : Vec Ideal S1x512x2048 .bf16) (y : S1024x2048.Idx) : EReal :=
  part (fun k => n (ix2 (y 0) k)) (fun l k => w1 (ix3 0 k l)) (fun l => w2 (ix3 0 l (y 1)))

/-- The four column tiles a later grid point stores, as one block. -/
theorem canon_B (n : Vec Ideal S1024x2048 .bf16) (w1 : Vec Ideal S1x2048x512 .bf16) (w2 : Vec Ideal S1x512x2048 .bf16) (o : Vec Ideal S1024x2048 .f32) :
    View.canon (Val := Elt Ideal) (s := S1024x2048) (e := .f32)
      [⟨Rect.unit (s := S1024x2048) ![0, 1536] ![1024, 512] inb_S1024x2048_S1024x512_0_1536,
          k0_pay5 (k0_pay9 n w1)
            (View.ld w2 (Rect.unit (s := S1x512x2048) ![0, 0, 1536] ![1, 512, 512] inb_S1x512x2048_S1x512x512_0_0_1536))
            (View.ld o (Rect.unit (s := S1024x2048) ![0, 1536] ![1024, 512] inb_S1024x2048_S1024x512_0_1536))⟩,
        ⟨Rect.unit (s := S1024x2048) ![0, 1024] ![1024, 512] inb_S1024x2048_S1024x512_0_1024,
          k0_pay12 n w1 (View.ld w2 (Rect.unit (s := S1x512x2048) ![0, 0, 1024] ![1, 512, 512] inb_S1x512x2048_S1x512x512_0_0_1024))
            (View.ld o (Rect.unit (s := S1024x2048) ![0, 1024] ![1024, 512] inb_S1024x2048_S1024x512_0_1024))⟩,
        ⟨Rect.unit (s := S1024x2048) ![0, 512] ![1024, 512] inb_S1024x2048_S1024x512_0_512,
          k0_pay11 n w1 (View.ld w2 (Rect.unit (s := S1x512x2048) ![0, 0, 512] ![1, 512, 512] inb_S1x512x2048_S1x512x512_0_0_512))
            (View.ld o (Rect.unit (s := S1024x2048) ![0, 512] ![1024, 512] inb_S1024x2048_S1024x512_0_512))⟩,
        ⟨Rect.unit (s := S1024x2048) ![0, 0] ![1024, 512] inb_S1024x2048_S1024x512_0_0,
          k0_pay10 n w1 (View.ld w2 (Rect.unit (s := S1x512x2048) ![0, 0, 0] ![1, 512, 512] inb_S1x512x2048_S1x512x512_0_0_0))
            (View.ld o (Rect.unit (s := S1024x2048) ![0, 0] ![1024, 512] inb_S1024x2048_S1024x512_0_0))⟩] =
    fun y => o y + added n w1 w2 y := by
  refine funext fun y => View.canon_apply_of_pieces (Val := Elt Ideal) (S := S1024x2048) (e := .f32) (fun y => o y + added n w1 w2 y) _ ?_ y ?_
  swap
  · exact View.cover_of_tiledL _ ![1024, 512] (by sl_kernel_rfl) y
  simp only [List.forall_mem_cons, List.not_mem_nil, false_imp_iff, implies_true, and_true]
  refine ⟨fun x => ?_, fun x => ?_, fun x => ?_, fun x => ?_⟩ <;>
    (change S1024x512.Idx at x
     idx_vars x
     refine (pay5_at _ _ _ x0 x1).trans ?_
     unfold added part
     refine congrArg₂ (· + ·) (by blk_ext []) (Finset.sum_congr rfl fun l _ => ?_)
     rw [act_at]
     refine congrArg₂ (· * ·) (congrArg₂ unitAt ?_ rfl) ?_
     · refine funext fun k => congrArg n (funext fun a => Fin.ext ?_)
       fin_cases a
       · show x0.val = 0 + 1 * x0.val
         omega
       · rfl
     · refine congrArg w2 (funext fun a => Fin.ext ?_)
       fin_cases a
       · rfl
       · show 0 + 1 * l.val = l.val
         omega
       · rfl)

/-- The four column tiles the first grid point of a row block stores, as one block. -/
theorem canon_A (n : Vec Ideal S1024x2048 .bf16) (w1 : Vec Ideal S1x2048x512 .bf16) (w2 : Vec Ideal S1x512x2048 .bf16) :
    View.canon (Val := Elt Ideal) (s := S1024x2048) (e := .f32)
      [⟨Rect.unit (s := S1024x2048) ![0, 1536] ![1024, 512] inb_S1024x2048_S1024x512_0_1536,
          k0_pay4 (k0_pay8 n w1)
            (View.ld w2 (Rect.unit (s := S1x512x2048) ![0, 0, 1536] ![1, 512, 512] inb_S1x512x2048_S1x512x512_0_0_1536))⟩,
        ⟨Rect.unit (s := S1024x2048) ![0, 1024] ![1024, 512] inb_S1024x2048_S1024x512_0_1024,
          k0_pay3 (k0_pay8 n w1)
            (View.ld w2 (Rect.unit (s := S1x512x2048) ![0, 0, 1024] ![1, 512, 512] inb_S1x512x2048_S1x512x512_0_0_1024))⟩,
        ⟨Rect.unit (s := S1024x2048) ![0, 512] ![1024, 512] inb_S1024x2048_S1024x512_0_512,
          k0_pay2 (k0_pay8 n w1)
            (View.ld w2 (Rect.unit (s := S1x512x2048) ![0, 0, 512] ![1, 512, 512] inb_S1x512x2048_S1x512x512_0_0_512))⟩,
        ⟨Rect.unit (s := S1024x2048) ![0, 0] ![1024, 512] inb_S1024x2048_S1024x512_0_0,
          k0_pay1 (k0_pay8 n w1)
            (View.ld w2 (Rect.unit (s := S1x512x2048) ![0, 0, 0] ![1, 512, 512] inb_S1x512x2048_S1x512x512_0_0_0))⟩] =
    added n w1 w2 := by
  refine funext fun y => View.canon_apply_of_pieces (Val := Elt Ideal) (S := S1024x2048) (e := .f32) (added n w1 w2) _ ?_ y ?_
  swap
  · exact View.cover_of_tiledL _ ![1024, 512] (by sl_kernel_rfl) y
  simp only [List.forall_mem_cons, List.not_mem_nil, false_imp_iff, implies_true, and_true]
  refine ⟨fun x => ?_, fun x => ?_, fun x => ?_, fun x => ?_⟩ <;>
    (change S1024x512.Idx at x
     idx_vars x
     refine (pay1_at (k0_pay9 n w1) _ x0 x1).trans ?_
     unfold added part
     refine Finset.sum_congr rfl fun l _ => ?_
     rw [act_at]
     refine congrArg₂ (· * ·) (congrArg₂ unitAt ?_ rfl) ?_
     · refine funext fun k => congrArg n (funext fun a => Fin.ext ?_)
       fin_cases a
       · show x0.val = 0 + 1 * x0.val
         omega
       · rfl
     · refine congrArg w2 (funext fun a => Fin.ext ?_)
       fin_cases a
       · rfl
       · show 0 + 1 * l.val = l.val
         omega
       · rfl)

/-- The middle points of a row block add their part. -/
theorem out_B  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) (xo8 : Vec Ideal S1024x2048 .f32) (xs0 : Vec Ideal S1024x2048 .bf16) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 = fun y => xo8 y + added xs0 x6 x7 y := by
  frame_open
  simp (disch := decide) only [↓ View.readCov_skip, ↓ View.readCov_cons_toLoadRect, ↓ View.readCov_fill]
  frame_out
  exact canon_B xs0 x6 x7 xo8

/-- The first point of a row block stores its part, of the normalised rows. -/
theorem out_A  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7 = added (k0_pay7 x0 x1 x3 x2) x6 x7 := by
  frame_open
  simp (disch := decide) only [↓ View.readCov_skip, ↓ View.readCov_cons_toLoadRect, ↓ View.readCov_fill]
  frame_out
  exact canon_A _ x6 x7

/-- The first point of a row block keeps the normalised rows. -/
theorem kept_A  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7 = k0_pay7 x0 x1 x3 x2 := by
  frame_open
  simp (disch := decide) only [↓ View.readCov_skip, ↓ View.readCov_cons_toLoadRect, ↓ View.readCov_fill]
  frame_out

/-- The last point of a row block adds its part and then stores the gated update. -/
theorem out_C  (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : cond0_2 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048 .f32) (x6 : Vec Ideal S1x2048x512 .bf16) (x7 : Vec Ideal S1x512x2048 .bf16) (xo8 : Vec Ideal S1024x2048 .f32) (xs0 : Vec Ideal S1024x2048 .bf16) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 = k0_pay6 x0 (fun y => xo8 y + added xs0 x6 x7 y) x5 x4 := by
  frame_open
  simp (disch := decide) only [↓ View.readCov_skip, ↓ View.readCov_cons_toLoadRect, ↓ View.readCov_fill]
  frame_out
  rw [View.readCov_eq_canon', canon_B]
  refine congrArg (fun v => k0_pay6 x0 v x5 x4) ?_
  funext j
  refine congrArg (fun z => xo8 z + added xs0 x6 x7 z) (funext fun a => Fin.ext ?_)
  fin_cases a
  · show 0 + 1 * (j 0).val = (j 0).val
    omega
  · show 0 + 1 * (j 1).val = (j 1).val
    omega

end Cert.MlpPIdeal.Block

end
-- ==== Proof.MlpPSpec.lean ====
/- The feed-forward network on the rows of the prompts, row by row, over the extended reals. -/
module

public import proofs.«01_k».proof.Proof.MlpSpec
public import Mathlib.Algebra.BigOperators.Fin
public import Mathlib.Logic.Equiv.Fin.Basic

@[expose] public section

noncomputable section

namespace Cert.MlpPSpec

open Idealize.ShloMosaic
open Cert.MlpSpec

/-- The normalised row `i`, with the prompts' modulations. -/
def rowN (X : Fin 8192 → Fin 2048 → EReal) (g : Fin 2048 → EReal) (mod : Fin 48 → Fin 2048 → EReal) (i : Fin 8192) : Fin 2048 → EReal :=
  normed (X i) g (mod 4) (mod 3)

/-- Row `i` of the feed-forward network's result. -/
def out (X : Fin 8192 → Fin 2048 → EReal) (g g' : Fin 2048 → EReal) (mod : Fin 48 → Fin 2048 → EReal)
    (w1 : Fin 2048 → Fin 8192 → EReal) (w2 : Fin 8192 → Fin 2048 → EReal) (i : Fin 8192) (j : Fin 2048) : EReal :=
  gated (X i) (product (rowN X g mod i) w1 w2) g' (mod 5) j

end Cert.MlpPSpec

end
-- ==== Proof.MlpPValue.lean ====
/-
  The array the feed-forward kernel leaves of the rows of the prompts: what each grid point holds, by induction along the sixteen points of a row
  block, and the blocks put together.
-/
module

public import proofs.«01_k».proof.Proof.Gen.MlpPIdeal.Value
public import proofs.«01_k».proof.Proof.MlpPBlock
public import proofs.«01_k».proof.Proof.MlpPSpec
public import Idealize.ShloMosaic.Lib.Pipeline.ValueKit

@[expose] public section

set_option maxRecDepth 16384

noncomputable section

namespace Cert.MlpPIdeal.Block

open Cert.MlpPIdeal Cert.MlpPIdeal.Gen Idealize.ShloMosaic Idealize.ShloMosaic.TcCoe Idealize.SL.Sem Idealize.ShloMosaic.Tactic
open Idealize.ShloMosaic.Pipeline (Dat)
open Cert.MlpSpec hiding rowN out
open Cert.MlpPSpec

/-- The index maps. -/
theorem idx : ∀ t : Fin cfg0.N, win0_0.index t = ![t.val / 16, 0] ∧ win0_1.index t = ![0, 0] ∧
    win0_2.index t = ![3, 0, 0] ∧ win0_3.index t = ![4, 0, 0] ∧
    win0_4.index t = ![5, 0, 0] ∧ win0_5.index t = ![0, 0] ∧ win0_6.index t = ![1, 0, t.val % 16] ∧
    win0_7.index t = ![1, t.val % 16, 0] ∧ win0_8.index t = ![t.val / 16, 0] :=
  (by decide +kernel : ∀ t : Fin grid0.N, _)

variable (m : (ℓ : Loc nD τ sig) → Buf (Elt Ideal) ℓ)

/-- The input rows. -/
def aX (c : Dev nD) (i : Fin 8192) (j : Fin 2048) : EReal := m ((c.tc : Thread nD τ).loc main_arg0) (ix2 i j)
/-- The gain before the network. -/
def aG (c : Dev nD) (j : Fin 2048) : EReal := m ((c.tc : Thread nD τ).loc main_arg1) (ix2 0 j)
/-- The gain after it. -/
def aG' (c : Dev nD) (j : Fin 2048) : EReal := m ((c.tc : Thread nD τ).loc main_arg2) (ix2 0 j)
/-- The modulations. -/
def aM (c : Dev nD) (i : Fin 48) (j : Fin 2048) : EReal := m ((c.tc : Thread nD τ).loc main_arg3) (ix3 i 0 j)
/-- The last layer's first weights. -/
def aW (c : Dev nD) (i : Fin 2048) (j : Fin 8192) : EReal := m ((c.tc : Thread nD τ).loc main_arg4) (ix3 1 i j)
/-- Its second weights. -/
def aV (c : Dev nD) (i : Fin 8192) (j : Fin 2048) : EReal := m ((c.tc : Thread nD τ).loc main_arg5) (ix3 1 i j)

/-- The array after the grid, over the argument arrays. -/
def G (c : Dev nD) : S8192x2048.Idx → EReal := fun y =>
  out (aX m c) (aG m c) (aG' m c) (aM m c) (aW m c) (aV m c) (y 0) (y 1)

/-- The row of the array that row `r` of a grid point's block is. -/
def rowOf (n : ℕ) (hn : n < cfg0.N) (r : Fin 1024) : Fin 8192 := ⟨1024 * (n / 16) + r.val, by
  have : n < 128 := hn
  omega⟩

/-- The normalised rows a grid point's blocks give. -/
theorem rows_at (c : Dev nD) (t : Fin cfg0.N) (r : Fin 1024) (k : Fin 2048) :
    k0_pay7 (iblk m c 0 t) (iblk m c 1 t) (iblk m c 3 t) (iblk m c 2 t) (ix2 r k) = rowN (aX m c) (aG m c) (aM m c) (rowOf t.val t.isLt r) k := by
  rw [pay7_at]
  unfold rowN aX aG aM
  have ht : t.val < 128 := t.isLt
  refine congrFun (congr (congr (congrArg₂ normed ?_ ?_) ?_) ?_) k
  · funext k
    blk_ext [iblk, V, idx t, rowOf]
  · funext k
    blk_ext [iblk, V, idx t]
  · funext k
    blk_ext [iblk, V, idx t]
  · funext k
    blk_ext [iblk, V, idx t]

/-- What a grid point adds, over the arrays. -/
theorem added_at (c : Dev nD) (t : Fin cfg0.N) (n : Vec Ideal S1024x2048 .bf16) (r : Fin 1024) (j : Fin 2048) :
    added n (iblk m c 6 t) (iblk m c 7 t) (ix2 r j) = blockPart (fun k => n (ix2 r k)) (aW m c) (aV m c) j (t.val % 16) := by
  unfold added blockPart aW aV
  refine congrArg₂ (part _) ?_ ?_
  · funext l k
    blk_ext [iblk, V, idx t]
  · funext l
    blk_ext [iblk, V, idx t]

/-- Row `r` of a grid point's block holds the sum of the first `f` parts, and the normalised row. -/
def Holds (c : Dev nD) (f : ℕ) (n : ℕ) (hn : n < cfg0.N) (o : Vec Ideal S1024x2048 .f32 × Vec Ideal S1024x2048 .bf16) : Prop := ∀ r : Fin 1024,
  (∀ j, o.1 (ix2 r j) = ∑ g ∈ Finset.range f, blockPart (rowN (aX m c) (aG m c) (aM m c) (rowOf n hn r)) (aW m c) (aV m c) j g) ∧
    ∀ k, o.2 (ix2 r k) = rowN (aX m c) (aG m c) (aM m c) (rowOf n hn r) k

/-- The first point of a row block. -/
theorem holds_A (c : Dev nD) (t : Fin cfg0.N) (h0 : t.val % 16 = 0) : Holds m c 1 t.val t.isLt (outsAt0 m c t.val t.isLt) := by
  rw [outsAt0_A m c t h0 (by omega) (by omega)]
  intro r
  refine ⟨fun j => ?_, fun k => ?_⟩
  · dsimp only
    rw [out_A, added_at, h0, Finset.sum_range_one]
    refine congrArg (fun v => blockPart v (aW m c) (aV m c) j 0) (funext fun k => rows_at m c t r k)
  · dsimp only
    rw [kept_A]
    exact rows_at m c t r k

/-- The row of a point's block is that of the point before, within a row block. -/
theorem rowOf_prev (t : Fin cfg0.N) (h0 : ¬t.val % 16 = 0) (hp : t.val - 1 < cfg0.N) (r : Fin 1024) : rowOf (t.val - 1) hp r = rowOf t.val t.isLt r := by
  refine Fin.ext ?_
  show 1024 * ((t.val - 1) / 16) + r.val = 1024 * (t.val / 16) + r.val
  omega

/-- What a later point's block would be before any gating: the parts up to its own. -/
theorem sum_next (c : Dev nD) (t : Fin cfg0.N) (h0 : ¬t.val % 16 = 0) (hp : t.val - 1 < cfg0.N) (o : Vec Ideal S1024x2048 .f32 × Vec Ideal S1024x2048 .bf16)
    (h : Holds m c (t.val % 16) (t.val - 1) hp o) (r : Fin 1024) (j : Fin 2048) :
    o.1 (ix2 r j) + added o.2 (iblk m c 6 t) (iblk m c 7 t) (ix2 r j) =
      ∑ g ∈ Finset.range (t.val % 16 + 1), blockPart (rowN (aX m c) (aG m c) (aM m c) (rowOf t.val t.isLt r)) (aW m c) (aV m c) j g := by
  rw [added_at, (h r).1 j, Finset.sum_range_succ, rowOf_prev t h0 hp r]
  refine congrArg _ (congrArg (fun v => blockPart v (aW m c) (aV m c) j (t.val % 16)) (funext fun k => ?_))
  rw [(h r).2 k, rowOf_prev t h0 hp r]

/-- A middle point of a row block. -/
theorem holds_B (c : Dev nD) (t : Fin cfg0.N) (h0 : ¬t.val % 16 = 0) (h2 : ¬t.val % 16 = 15) (hp : t.val - 1 < cfg0.N)
    (h : Holds m c (t.val % 16) (t.val - 1) hp (outsAt0 m c (t.val - 1) hp)) :
    Holds m c (t.val % 16 + 1) t.val t.isLt (outsAt0 m c t.val t.isLt) := by
  rw [outsAt0_B m c t h0 (by omega) h2]
  intro r
  refine ⟨fun j => ?_, fun k => ?_⟩
  · dsimp only
    rw [out_B]
    exact sum_next m c t h0 hp _ h r j
  · rw [← rowOf_prev t h0 hp r]
    exact (h r).2 k

/-- What every point but the last of a row block holds. -/
theorem holds (c : Dev nD) : ∀ (n : ℕ) (hn : n < cfg0.N), ¬n % 16 = 15 → Holds m c (n % 16 + 1) n hn (outsAt0 m c n hn) := by
  intro n
  induction n with
  | zero => exact fun hn _ => holds_A m c ⟨0, hn⟩ rfl
  | succ n ih =>
    intro hn h2
    by_cases h0 : (n + 1) % 16 = 0
    · rw [h0]
      exact holds_A m c ⟨n + 1, hn⟩ h0
    · have hp : n < cfg0.N := Nat.lt_of_succ_lt hn
      have e : (n + 1) % 16 = n % 16 + 1 := by omega
      refine holds_B m c ⟨n + 1, hn⟩ h0 h2 hp ?_
      have hi := ih hp (by omega)
      rw [← e] at hi
      exact hi

/-- The last point of a row block leaves the network's rows. -/
theorem last (c : Dev nD) (t : Fin cfg0.N) (h2 : t.val % 16 = 15) (r : Fin 1024) (j : Fin 2048) :
    (outsAt0 m c t.val t.isLt).1 (ix2 r j) = out (aX m c) (aG m c) (aG' m c) (aM m c) (aW m c) (aV m c) (rowOf t.val t.isLt r) j := by
  have h0 : ¬t.val % 16 = 0 := by omega
  have ht : t.val < 128 := t.isLt
  have hp : t.val - 1 < cfg0.N := lt_of_le_of_lt (Nat.sub_le _ _) t.isLt
  have h := holds m c (t.val - 1) hp (by omega)
  rw [show (t.val - 1) % 16 + 1 = t.val % 16 by omega] at h
  rw [outsAt0_C m c t h0 (by omega) h2]
  dsimp only
  rw [out_C, pay6_at]
  unfold out
  refine congrFun (congr (congr (congrArg₂ gated ?_ ?_) ?_) ?_) j
  · unfold aX
    funext k
    blk_ext [iblk, V, idx t, rowOf]
  · funext k
    refine (sum_next m c t h0 hp _ h r k).trans ?_
    rw [h2]
    exact sum_blockPart _ _ _ _
  · unfold aG'
    funext k
    blk_ext [iblk, V, idx t]
  · unfold aM
    funext k
    blk_ext [iblk, V, idx t]

/-- The array after the grid. -/
theorem final (c : Dev nD) : (dats m 0 c).arrAt 8 cfg0.N = G m c := by
  refine (dats m 0 c).arrAt_eq_of_covers 8 _ (by decide +kernel) fun t hf y => ?_
  have h2 : t.val % 16 = 15 := (by decide +kernel : ∀ t : Fin cfg0.N, (cfg0.win 8).flush t = true → t.val % 16 = 15) t hf
  have ht : t.val < 128 := t.isLt
  blk_simp
  rw [after0_8]
  idx_vars y
  refine (last m c t h2 y0 y1).trans ?_
  have e0 : (((View.whole main_v0).slice (win0_8.rect t)).emb (ix2 y0 y1) 0 : ℕ) = 1024 * (t.val / 16) + y0.val := by
    blk_simp [idx t]
    omega
  have e1 : (((View.whole main_v0).slice (win0_8.rect t)).emb (ix2 y0 y1) 1 : ℕ) = y1.val := by
    blk_simp [idx t]
  unfold G
  exact congrArg₂ (out _ _ _ _ _ _) (Fin.ext e0.symm) (Fin.ext e1.symm)

end Cert.MlpPIdeal.Block

end
-- ==== Proof.MlpPRefValue.lean ====
/- The reference's array of the feed-forward network on the rows of the prompts, stage by stage and element by element. -/
module

public import proofs.«01_k».proof.Proof.Gen.MlpPRefIdeal.Run
public import proofs.«01_k».proof.Proof.MlpPSpec
public import Idealize.ShloMosaic.Lib.Pipeline.ValueKit

@[expose] public section

set_option maxRecDepth 16384

noncomputable section

namespace Cert.MlpPRefIdeal.Staged

open Cert.MlpPRefIdeal Cert.MlpPRefIdeal.Gen Idealize.ShloMosaic Idealize.ShloMosaic.TcCoe Idealize.SL.Sem Idealize.ShloMosaic.Tactic
open Cert.MlpSpec hiding rowN out
open Cert.MlpPSpec

/-- The rows, by page. -/
def xs (X : FVec Ideal S8192x2048 .f32) : FVec Ideal S32x256x2048 .f32 := shapeCast _ X shapeCasts_S8192x2048_S32x256x2048

/-- The reciprocal root mean squares of rows. -/
def rs (v : FVec Ideal S32x256x2048 .f32) : FVec Ideal S32x256x1 .f32 :=
  Host.rsqrt (addf (Host.divf (broadcastInDim S32x256x1 ![0, 1] bcast_S32x256_S32x256x1_0_1 (Host.reduceAdd (mulf v v) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))

/-- Rows normalised and scaled by a gain. -/
def scaled (v : FVec Ideal S32x256x2048 .f32) (g : FVec Ideal S1x2048 .f32) : FVec Ideal S32x256x2048 .f32 :=
  mulf (mulf v (broadcastInDim S32x256x2048 ![0, 1, 2] bcast_S32x256x1_S32x256x2048_0_1_2 (rs v))) (broadcastInDim S32x256x2048 ![0, 1, 2] bcast_S1x1x2048_S32x256x2048_0_1_2 (broadcastInDim S1x1x2048 ![2] bcast_S2048_S1x1x2048_2 (shapeCast _ g shapeCasts_S1x2048_S2048)))

/-- The factor the scale makes. -/
def scale (M : FVec Ideal S48x1x2048 .f32) : FVec Ideal S1x1x2048 .f32 :=
  broadcastInDim S1x1x2048 ![1, 2] bcast_S1x2048_S1x1x2048_1_2 (addf (broadcastInDim S1x2048 ![] bcast_S_S1x2048 (constant S_ .f32 0x3F800000#32)) (shapeCast _ (extractStridedSlice S1x1x2048 ![4, 0, 0] M slices_S48x1x2048_S1x1x2048_4_0_0) shapeCasts_S1x1x2048_S1x2048))

/-- The shift. -/
def shift (M : FVec Ideal S48x1x2048 .f32) : FVec Ideal S1x1x2048 .f32 :=
  broadcastInDim S1x1x2048 ![1, 2] bcast_S1x2048_S1x1x2048_1_2 (shapeCast _ (extractStridedSlice S1x1x2048 ![3, 0, 0] M slices_S48x1x2048_S1x1x2048_3_0_0) shapeCasts_S1x1x2048_S1x2048)

/-- The modulated rows. -/
def modulated (a : FVec Ideal S32x256x2048 .f32) (sc sh : FVec Ideal S1x1x2048 .f32) : FVec Ideal S32x256x2048 .f32 :=
  addf (mulf a (broadcastInDim S32x256x2048 ![0, 1, 2] bcast_S1x1x2048_S32x256x2048_0_1_2 sc)) (broadcastInDim S32x256x2048 ![0, 1, 2] bcast_S1x1x2048_S32x256x2048_0_1_2 sh)

/-- The gate. -/
def gate (M : FVec Ideal S48x1x2048 .f32) : FVec Ideal S1x1x2048 .f32 :=
  broadcastInDim S1x1x2048 ![1, 2] bcast_S1x2048_S1x1x2048_1_2 (shapeCast _ (extractStridedSlice S1x1x2048 ![5, 0, 0] M slices_S48x1x2048_S1x1x2048_5_0_0) shapeCasts_S1x1x2048_S1x2048)

/-- The positive parts of the first product. -/
def positive (n : FVec Ideal S32x256x2048 .f32) (W : FVec Ideal S2x2048x8192 .bf16) : FVec Ideal S32x256x8192 .f32 :=
  maximumf (Host.dotGeneral dot_S32x256x2048_S2048x8192_S32x256x8192_2_0_01_1_n_n none n (extf .f32 (shapeCast _ (extractStridedSlice S1x2048x8192 ![1, 0, 0] W slices_S2x2048x8192_S1x2048x8192_1_0_0) shapeCasts_S1x2048x8192_S2048x8192) bitsLt_bf16_f32)) (broadcastInDim S32x256x8192 ![] bcast_S_S32x256x8192 (constant S_ .f32 0x00000000#32))

/-- The second product. -/
def second (h : FVec Ideal S32x256x8192 .f32) (W : FVec Ideal S2x8192x2048 .bf16) : FVec Ideal S32x256x2048 .f32 :=
  Host.dotGeneral dot_S32x256x8192_S8192x2048_S32x256x2048_2_0_01_1_n_n none (mulf h h) (extf .f32 (shapeCast _ (extractStridedSlice S1x8192x2048 ![1, 0, 0] W slices_S2x8192x2048_S1x8192x2048_1_0_0) shapeCasts_S1x8192x2048_S8192x2048) bitsLt_bf16_f32)

/-- The rows plus their gated update. -/
def result (x a : FVec Ideal S32x256x2048 .f32) (gt : FVec Ideal S1x1x2048 .f32) : FVec Ideal S8192x2048 .f32 :=
  shapeCast _ (addf x (mulf (broadcastInDim S32x256x2048 ![0, 1, 2] bcast_S1x1x2048_S32x256x2048_0_1_2 gt) a)) shapeCasts_S32x256x2048_S8192x2048

/-- The whole, from the argument arrays. -/
def whole (X : FVec Ideal S8192x2048 .f32) (g g' : FVec Ideal S1x2048 .f32) (M : FVec Ideal S48x1x2048 .f32) (W1 : FVec Ideal S2x2048x8192 .bf16)
    (W2 : FVec Ideal S2x8192x2048 .bf16) : FVec Ideal S8192x2048 .f32 :=
  result (xs X) (scaled (second (positive (modulated (scaled (xs X) g) (scale M) (shift M)) W1) W2) g') (gate M)

/-- A row by page. -/
theorem xs_at (X : FVec Ideal S8192x2048 .f32) (b : Fin 32) (s : Fin 256) (k : Fin 2048) : xs X (ix3 b s k) = X (ix2 ⟨256 * b.val + s.val, by omega⟩ k) := by
  pointwise [xs]
  exact congrArg (fun a => X (ix2 a k)) (Fin.ext (by dsimp only; omega))

/-- The reciprocal root mean square of a row. -/
theorem rs_at (v : FVec Ideal S32x256x2048 .f32) (b : Fin 32) (s : Fin 256) : rs v (ix3 b s 0) = rms fun k => v (ix3 b s k) := by
  pointwise [rs]
  rfl

/-- A row normalised and scaled, at an element. -/
theorem scaled_at (v : FVec Ideal S32x256x2048 .f32) (g : FVec Ideal S1x2048 .f32) (b : Fin 32) (s : Fin 256) (k : Fin 2048) :
    scaled v g (ix3 b s k) = v (ix3 b s k) * rms (fun k => v (ix3 b s k)) * g (ix2 0 k) := by
  pointwise [scaled]
  rw [rs_at]

/-- The scale's factor. -/
theorem scale_at (M : FVec Ideal S48x1x2048 .f32) (k : Fin 2048) : scale M (ix3 0 0 k) = 1 + M (ix3 4 0 k) := by
  pointwise [scale]

/-- The shift. -/
theorem shift_at (M : FVec Ideal S48x1x2048 .f32) (k : Fin 2048) : shift M (ix3 0 0 k) = M (ix3 3 0 k) := by
  pointwise [shift]

/-- The gate at an element. -/
theorem gate_at (M : FVec Ideal S48x1x2048 .f32) (k : Fin 2048) : gate M (ix3 0 0 k) = M (ix3 5 0 k) := by
  pointwise [gate]

/-- A modulated row at an element. -/
theorem modulated_at (a : FVec Ideal S32x256x2048 .f32) (sc sh : FVec Ideal S1x1x2048 .f32) (b : Fin 32) (s : Fin 256) (k : Fin 2048) :
    modulated a sc sh (ix3 b s k) = a (ix3 b s k) * sc (ix3 0 0 k) + sh (ix3 0 0 k) := by
  pointwise [modulated]

/-- A positive part. -/
theorem positive_at (n : FVec Ideal S32x256x2048 .f32) (W : FVec Ideal S2x2048x8192 .bf16) (b : Fin 32) (s : Fin 256) (l : Fin 8192) :
    positive n W (ix3 b s l) = max (∑ k, n (ix3 b s k) * W (ix3 1 k l)) 0 := by
  pointwise [positive]

/-- The second product at an element. -/
theorem second_at (h : FVec Ideal S32x256x8192 .f32) (W : FVec Ideal S2x8192x2048 .bf16) (b : Fin 32) (s : Fin 256) (j : Fin 2048) :
    second h W (ix3 b s j) = ∑ l, h (ix3 b s l) * h (ix3 b s l) * W (ix3 1 l j) := by
  pointwise [second]

/-- The result at an element. -/
theorem result_at (x a : FVec Ideal S32x256x2048 .f32) (gt : FVec Ideal S1x1x2048 .f32) (i : Fin 8192) (j : Fin 2048) :
    result x a gt (ix2 i j) = x (ix3 ⟨i.val / 256, by omega⟩ ⟨i.val % 256, by omega⟩ j) + gt (ix3 0 0 j) * a (ix3 ⟨i.val / 256, by omega⟩ ⟨i.val % 256, by omega⟩ j) := by
  pointwise [result]

/-- The reference's array, row by row. -/
theorem whole_at (X : FVec Ideal S8192x2048 .f32) (g g' : FVec Ideal S1x2048 .f32) (M : FVec Ideal S48x1x2048 .f32) (W1 : FVec Ideal S2x2048x8192 .bf16)
    (W2 : FVec Ideal S2x8192x2048 .bf16) (i : Fin 8192) (j : Fin 2048) :
    whole X g g' M W1 W2 (ix2 i j) = out (fun i j => X (ix2 i j)) (fun j => g (ix2 0 j)) (fun j => g' (ix2 0 j)) (fun a j => M (ix3 a 0 j))
      (fun k l => W1 (ix3 1 k l)) (fun l j => W2 (ix3 1 l j)) i j := by
  have hx : ∀ k, xs X (ix3 ⟨i.val / 256, by omega⟩ ⟨i.val % 256, by omega⟩ k) = X (ix2 i k) := fun k => by
    rw [xs_at]
    exact congrArg (fun a => X (ix2 a k)) (Fin.ext (by dsimp only; omega))
  have hn : ∀ k, modulated (scaled (xs X) g) (scale M) (shift M) (ix3 ⟨i.val / 256, by omega⟩ ⟨i.val % 256, by omega⟩ k)
      = rowN (fun i j => X (ix2 i j)) (fun j => g (ix2 0 j)) (fun a j => M (ix3 a 0 j)) i k := fun k => by
    rw [modulated_at, scaled_at, scale_at, shift_at]
    simp only [hx]
    rw [mul_assoc (X (ix2 i k) * _)]
    rfl
  have hy : ∀ k, second (positive (modulated (scaled (xs X) g) (scale M) (shift M)) W1) W2 (ix3 ⟨i.val / 256, by omega⟩ ⟨i.val % 256, by omega⟩ k)
      = product (rowN (fun i j => X (ix2 i j)) (fun j => g (ix2 0 j)) (fun a j => M (ix3 a 0 j)) i) (fun k l => W1 (ix3 1 k l)) (fun l j => W2 (ix3 1 l j)) k := fun k => by
    rw [second_at]
    simp only [positive_at, hn]
    rfl
  unfold whole
  rw [result_at, hx, gate_at, scaled_at]
  simp only [hy]
  unfold out gated
  refine congrArg _ ?_
  rw [mul_comm, mul_assoc (_ * _)]

end Cert.MlpPRefIdeal.Staged

end
-- ==== Proof.MlpPEquation.lean ====
/- The kernel's and the reference's arrays of the feed-forward network on the rows of the prompts are one array. -/
module

public import proofs.«01_k».proof.Proof.MlpPValue
public import proofs.«01_k».proof.Proof.MlpPRefValue

@[expose] public section

noncomputable section

namespace Cert.MlpPEquation

open Idealize.ShloMosaic Idealize.ShloMosaic.TcCoe Idealize.SL.Sem Idealize.ShloMosaic.Tactic

/-- The reference's result, on arguments that are the kernel's, is the kernel's array. -/
theorem equation (m : (ℓ : Loc Cert.MlpPIdeal.nD Cert.MlpPIdeal.τ Cert.MlpPIdeal.sig) → Buf (Elt Ideal) ℓ)
    (m' : (ℓ : Loc Cert.MlpPRefIdeal.nD Cert.MlpPRefIdeal.τ Cert.MlpPRefIdeal.sig) → Buf (Elt Ideal) ℓ) (c : Dev Cert.MlpPIdeal.nD)
    (h0 : m' ((c.tc : Thread Cert.MlpPRefIdeal.nD Cert.MlpPRefIdeal.τ).loc Cert.MlpPRefIdeal.main_arg0) = m ((c.tc : Thread Cert.MlpPIdeal.nD Cert.MlpPIdeal.τ).loc Cert.MlpPIdeal.main_arg0))
    (h1 : m' ((c.tc : Thread Cert.MlpPRefIdeal.nD Cert.MlpPRefIdeal.τ).loc Cert.MlpPRefIdeal.main_arg1) = m ((c.tc : Thread Cert.MlpPIdeal.nD Cert.MlpPIdeal.τ).loc Cert.MlpPIdeal.main_arg1))
    (h2 : m' ((c.tc : Thread Cert.MlpPRefIdeal.nD Cert.MlpPRefIdeal.τ).loc Cert.MlpPRefIdeal.main_arg2) = m ((c.tc : Thread Cert.MlpPIdeal.nD Cert.MlpPIdeal.τ).loc Cert.MlpPIdeal.main_arg2))
    (h3 : m' ((c.tc : Thread Cert.MlpPRefIdeal.nD Cert.MlpPRefIdeal.τ).loc Cert.MlpPRefIdeal.main_arg3) = m ((c.tc : Thread Cert.MlpPIdeal.nD Cert.MlpPIdeal.τ).loc Cert.MlpPIdeal.main_arg3))
    (h4 : m' ((c.tc : Thread Cert.MlpPRefIdeal.nD Cert.MlpPRefIdeal.τ).loc Cert.MlpPRefIdeal.main_arg4) = m ((c.tc : Thread Cert.MlpPIdeal.nD Cert.MlpPIdeal.τ).loc Cert.MlpPIdeal.main_arg4))
    (h5 : m' ((c.tc : Thread Cert.MlpPRefIdeal.nD Cert.MlpPRefIdeal.τ).loc Cert.MlpPRefIdeal.main_arg5) = m ((c.tc : Thread Cert.MlpPIdeal.nD Cert.MlpPIdeal.τ).loc Cert.MlpPIdeal.main_arg5)) :
    Cert.MlpPRefIdeal.Staged.whole (m' ((c.tc : Thread Cert.MlpPRefIdeal.nD Cert.MlpPRefIdeal.τ).loc Cert.MlpPRefIdeal.main_arg0)) (m' ((c.tc : Thread Cert.MlpPRefIdeal.nD Cert.MlpPRefIdeal.τ).loc Cert.MlpPRefIdeal.main_arg1)) (m' ((c.tc : Thread Cert.MlpPRefIdeal.nD Cert.MlpPRefIdeal.τ).loc Cert.MlpPRefIdeal.main_arg2)) (m' ((c.tc : Thread Cert.MlpPRefIdeal.nD Cert.MlpPRefIdeal.τ).loc Cert.MlpPRefIdeal.main_arg3)) (m' ((c.tc : Thread Cert.MlpPRefIdeal.nD Cert.MlpPRefIdeal.τ).loc Cert.MlpPRefIdeal.main_arg4)) (m' ((c.tc : Thread Cert.MlpPRefIdeal.nD Cert.MlpPRefIdeal.τ).loc Cert.MlpPRefIdeal.main_arg5)) = Cert.MlpPIdeal.Block.G m c := by
  rw [h0, h1, h2, h3, h4, h5]
  funext y
  rw [show y = ix2 (y 0) (y 1) from eq_ix2 y]
  exact Cert.MlpPRefIdeal.Staged.whole_at _ _ _ _ _ _ (y 0) (y 1)

end Cert.MlpPEquation

end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Pre_finite_qk
public import proofs.«01_k».proof.Proof.Gen.GqaIdeal.Value
public import proofs.«01_k».proof.Proof.Gen.MlpIdeal.Value
public import proofs.«01_k».proof.Proof.Gen.GqaRefIdeal.Run
public import proofs.«01_k».proof.Proof.Gen.MlpRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInIdeal.Value
public import proofs.«01_k».proof.Proof.Gen.SsmInRefIdeal
public import proofs.«01_k».proof.Proof.Gen.SsmInRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.OutC
public import proofs.«01_k».proof.Proof.Gen.OutC.Skeleton
public import proofs.«01_k».proof.Proof.Gen.OutC.Launch
public import proofs.«01_k».proof.Proof.Gen.OutC.Points
public import proofs.«01_k».proof.Proof.Gen.OutC.Frame
public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import proofs.«01_k».proof.Proof.Gen.OutCIdeal.Value
public import proofs.«01_k».proof.Proof.Gen.OutCRefIdeal
public import proofs.«01_k».proof.Proof.Gen.OutCRefIdeal.Run
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal
public import proofs.«01_k».proof.Proof.Gen.OutARefIdeal.Run
public import proofs.«01_k».proof.Proof.Gen.MlpP
public import proofs.«01_k».proof.Proof.Gen.MlpP.Skeleton
public import proofs.«01_k».proof.Proof.Gen.MlpP.Launch
public import proofs.«01_k».proof.Proof.Gen.MlpP.Points
public import proofs.«01_k».proof.Proof.Gen.MlpP.Frame
public import proofs.«01_k».proof.Proof.Gen.MlpPIdeal
public import proofs.«01_k».proof.Proof.Gen.MlpPIdeal.Skeleton
public import proofs.«01_k».proof.Proof.Gen.MlpPIdeal.Launch
public import proofs.«01_k».proof.Proof.Gen.MlpPIdeal.Points
public import proofs.«01_k».proof.Proof.Gen.MlpPIdeal.Frame
public import proofs.«01_k».proof.Proof.Gen.MlpPIdeal.Value
public import proofs.«01_k».proof.Proof.Gen.MlpPRefIdeal
public import proofs.«01_k».proof.Proof.Gen.MlpPRefIdeal.Run
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.Pre_finite_b
public import proofs.«01_k».proof.Proof.GqaEquation
public import proofs.«01_k».proof.Proof.DiffEquation
public import proofs.«01_k».proof.Proof.MlpEquation
public import proofs.«01_k».proof.Proof.QkvEquation
public import proofs.«01_k».proof.Proof.SsmInEquation
public import proofs.«01_k».proof.Proof.GluEquation
public import proofs.«01_k».proof.Proof.OutCEquation
public import proofs.«01_k».proof.Proof.OutAEquation
public import proofs.«01_k».proof.Proof.MlpPEquation
public import Idealize.ShloMosaic.Adequacy
public import Idealize.ShloMosaic.Init

@[expose] public section

noncomputable section

namespace Cert.Proof

open Idealize.ShloMosaic Idealize.SL.Sem Cert.Gqa

/-- The attention's reference ends with its arguments as they were and every counter at zero. -/
theorem gqaRef {p : ((ℓ : Loc Cert.GqaRefIdeal.nD Cert.GqaRefIdeal.τ Cert.GqaRefIdeal.sig) → Buf (Elt Ideal) ℓ) → Prop} : ∀ m g, p m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0) := fun m g _ =>
  (θ_run _ _ _).mono (fun r h => ⟨fun c => (h c).2, sem_eq_zero_of_no_sems (by decide) r.2⟩) (Cert.GqaRefIdeal.Value.run m g)

/-- The attention call: the kernel's array after its grid and the reference's result are one array. -/
theorem gqa [Cert.Pre_finite_qk.Facts] : Cert.algebraic_GqaIdeal_GqaRefIdeal_pre_finite_qk := fun m g m' g' hp hag =>
  ⟨fun c => Cert.GqaIdeal.Block.G m c,
    (θ_run _ _ _).mono (fun r h c => ⟨(h c).1.trans (Cert.GqaIdeal.Block.final m c), (h c).2⟩) (Cert.GqaIdeal.Value.run_blocks m g),
    (θ_run _ _ _).mono (fun r h c => ⟨(h c).1.trans (Cert.GqaEquation.equation m m' hp c (hag c).1 (hag c).2.1 (hag c).2.2), (h c).2⟩)
      (Cert.GqaRefIdeal.Value.run m' g')⟩

/-- The feed-forward network's reference ends with its arguments as they were and every counter at zero. -/
theorem mlpRef : Cert.quiescent_MlpRefIdeal := fun m g _ =>
  (θ_run _ _ _).mono (fun r h => ⟨fun c => (h c).2, sem_eq_zero_of_no_sems (by decide) r.2⟩) (Cert.MlpRefIdeal.Value.run m g)

/-- The feed-forward call: the kernel's array after its grid and the reference's result are one array. -/
theorem mlp : Cert.algebraic_MlpIdeal_MlpRefIdeal := fun m g m' g' _ hag =>
  ⟨fun c => Cert.MlpIdeal.Block.G m c,
    (θ_run _ _ _).mono (fun r h c => ⟨(h c).1.trans (Cert.MlpIdeal.Block.final m c), (h c).2⟩) (Cert.MlpIdeal.Value.run_blocks m g),
    (θ_run _ _ _).mono (fun r h c => ⟨(h c).1.trans (Cert.MlpEquation.equation m m' c (hag c).1 (hag c).2.1 (hag c).2.2.1 (hag c).2.2.2.1 (hag c).2.2.2.2.1 (hag c).2.2.2.2.2), (h c).2⟩)
      (Cert.MlpRefIdeal.Value.run m' g')⟩

/-- The reference of the query, key and value projection runs to its end and leaves its arguments and the semaphores as they were. -/
theorem qkvRef : Cert.quiescent_QkvRefIdeal := fun m g _ =>
  (θ_run _ _ _).mono (fun r h => ⟨fun c => (h c).2.2.2.2.2, sem_eq_zero_of_no_sems (by decide) r.2⟩) (Cert.QkvRefIdeal.Value.run m g)

/-- On the same arguments the projection and its reference end with the same five arrays. -/
theorem qkv : Cert.algebraic_QkvIdeal_QkvRefIdeal := fun m g m' g' _ hag =>
  ⟨fun c => Cert.QkvIdeal.Block.G6 m c, fun c => Cert.QkvIdeal.Block.G7 m c, fun c => Cert.QkvIdeal.Block.G8 m c, fun c => Cert.QkvIdeal.Block.G9 m c, fun c => Cert.QkvIdeal.Block.G10 m c,
    Cert.QkvIdeal.Block.run_arrays m g,
    (θ_run _ _ _).mono (fun r h c => ⟨(h c).1.trans (Cert.QkvEquation.equation6 m m' c (hag c).1 (hag c).2.1 (hag c).2.2.1 (hag c).2.2.2.1 (hag c).2.2.2.2),
      (h c).2.1.trans (Cert.QkvEquation.equation7 m m' c (hag c).1 (hag c).2.1 (hag c).2.2.1 (hag c).2.2.2.1 (hag c).2.2.2.2),
      (h c).2.2.1.trans (Cert.QkvEquation.equation8 m m' c (hag c).1 (hag c).2.1 (hag c).2.2.1 (hag c).2.2.2.1 (hag c).2.2.2.2),
      (h c).2.2.2.1.trans (Cert.QkvEquation.equation9 m m' c (hag c).1 (hag c).2.1 (hag c).2.2.1 (hag c).2.2.2.1 (hag c).2.2.2.2),
      (h c).2.2.2.2.1.trans (Cert.QkvEquation.equation10 m m' c (hag c).1 (hag c).2.1 (hag c).2.2.1 (hag c).2.2.2.1 (hag c).2.2.2.2), (h c).2.2.2.2.2⟩)
      (Cert.QkvRefIdeal.Value.run m' g')⟩

/-- The reference of the recurrence's input projection runs to its end and leaves its arguments as they were. -/
theorem ssmInRef : Cert.quiescent_SsmInRefIdeal := fun m g _ =>
  (θ_run _ _ _).mono (fun r h => ⟨fun c => (h c).2, sem_eq_zero_of_no_sems (by decide) r.2⟩) (Cert.SsmInRefIdeal.Value.run m g)

/-- The recurrence's input projection: kernel and reference leave one array. -/
theorem ssmIn : Cert.algebraic_SsmInIdeal_SsmInRefIdeal := fun m g m' g' _ hag =>
  ⟨fun c => Cert.SsmInIdeal.Block.G m c,
    (θ_run _ _ _).mono (fun r h c => ⟨(h c).1.trans (Cert.SsmInIdeal.Block.final m c), (h c).2⟩) (Cert.SsmInIdeal.Value.run_blocks m g),
    (θ_run _ _ _).mono (fun r h c => ⟨(h c).1.trans (Cert.SsmInEquation.equation m m' c (hag c).1 (hag c).2.1 (hag c).2.2.1 (hag c).2.2.2), (h c).2⟩)
      (Cert.SsmInRefIdeal.Value.run m' g')⟩

/-- The reference of the recurrence's gate runs to its end and leaves its arguments as they were. -/
theorem gluRef : Cert.quiescent_GluRefIdeal := fun m g _ =>
  (θ_run _ _ _).mono (fun r h => ⟨fun c => (h c).2, sem_eq_zero_of_no_sems (by decide) r.2⟩) (Cert.GluRefIdeal.Value.run m g)

/-- The recurrence's gate: kernel and reference leave one array. -/
theorem glu : Cert.algebraic_GluIdeal_GluRefIdeal := fun m g m' g' _ hag =>
  ⟨fun c => Cert.GluIdeal.Block.G m c,
    (θ_run _ _ _).mono (fun r h c => ⟨(h c).1.trans (Cert.GluIdeal.Block.final m c), (h c).2⟩) (Cert.GluIdeal.Value.run_blocks m g),
    (θ_run _ _ _).mono (fun r h c => ⟨(h c).1.trans (Cert.GluEquation.equation m m' c (hag c).1 (hag c).2.1 (hag c).2.2.1 (hag c).2.2.2), (h c).2⟩)
      (Cert.GluRefIdeal.Value.run m' g')⟩

/-- The reference of the recurrence's output projection runs to its end and leaves its arguments as they were. -/
theorem outCRef : Cert.quiescent_OutCRefIdeal := fun m g _ =>
  (θ_run _ _ _).mono (fun r h => ⟨fun c => (h c).2, sem_eq_zero_of_no_sems (by decide) r.2⟩) (Cert.OutCRefIdeal.Value.run m g)

/-- The recurrence's output projection: kernel and reference leave one array. -/
theorem outC : Cert.algebraic_OutCIdeal_OutCRefIdeal := fun m g m' g' _ hag =>
  ⟨fun c => Cert.OutCIdeal.Block.G m c,
    (θ_run _ _ _).mono (fun r h c => ⟨(h c).1.trans (Cert.OutCIdeal.Block.final m c), (h c).2⟩) (Cert.OutCIdeal.Value.run_blocks m g),
    (θ_run _ _ _).mono (fun r h c => ⟨(h c).1.trans (Cert.OutCEquation.equation m m' c (hag c).1 (hag c).2.1 (hag c).2.2.1 (hag c).2.2.2.1 (hag c).2.2.2.2), (h c).2⟩)
      (Cert.OutCRefIdeal.Value.run m' g')⟩

/-- The reference of the attention's output projection runs to its end and leaves its arguments as they were. -/
theorem outARef : Cert.quiescent_OutARefIdeal := fun m g _ =>
  (θ_run _ _ _).mono (fun r h => ⟨fun c => (h c).2, sem_eq_zero_of_no_sems (by decide) r.2⟩) (Cert.OutARefIdeal.Value.run m g)

/-- The attention's output projection: kernel and reference leave one array. -/
theorem outA : Cert.algebraic_OutAIdeal_OutARefIdeal := fun m g m' g' _ hag =>
  ⟨fun c => Cert.OutAIdeal.Block.G m c,
    (θ_run _ _ _).mono (fun r h c => ⟨(h c).1.trans (Cert.OutAIdeal.Block.final m c), (h c).2⟩) (Cert.OutAIdeal.Value.run_blocks m g),
    (θ_run _ _ _).mono (fun r h c => ⟨(h c).1.trans (Cert.OutAEquation.equation m m' c (hag c).1 (hag c).2.1 (hag c).2.2.1 (hag c).2.2.2.1 (hag c).2.2.2.2.1 (hag c).2.2.2.2.2), (h c).2⟩)
      (Cert.OutARefIdeal.Value.run m' g')⟩

/-- The reference of the prompt tokens' feed-forward network runs to its end and leaves its arguments as they were. -/
theorem mlpPRef : Cert.quiescent_MlpPRefIdeal := fun m g _ =>
  (θ_run _ _ _).mono (fun r h => ⟨fun c => (h c).2, sem_eq_zero_of_no_sems (by decide) r.2⟩) (Cert.MlpPRefIdeal.Value.run m g)

/-- The prompt tokens' feed-forward network: kernel and reference leave one array. -/
theorem mlpP : Cert.algebraic_MlpPIdeal_MlpPRefIdeal := fun m g m' g' _ hag =>
  ⟨fun c => Cert.MlpPIdeal.Block.G m c,
    (θ_run _ _ _).mono (fun r h c => ⟨(h c).1.trans (Cert.MlpPIdeal.Block.final m c), (h c).2⟩) (Cert.MlpPIdeal.Value.run_blocks m g),
    (θ_run _ _ _).mono (fun r h c => ⟨(h c).1.trans (Cert.MlpPEquation.equation m m' c (hag c).1 (hag c).2.1 (hag c).2.2.1 (hag c).2.2.2.1 (hag c).2.2.2.2.1 (hag c).2.2.2.2.2), (h c).2⟩)
      (Cert.MlpPRefIdeal.Value.run m' g')⟩

/-- The differential attention's reference ends with its arguments as they were and every counter at zero. -/
theorem diffRef {p : ((ℓ : Loc Cert.DiffRefIdeal.nD Cert.DiffRefIdeal.τ Cert.DiffRefIdeal.sig) → Buf (Elt Ideal) ℓ) → Prop} : ∀ m g, p m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0) := fun m g _ =>
  (θ_run _ _ _).mono (fun r h => ⟨fun c => (h c).2, sem_eq_zero_of_no_sems (by decide) r.2⟩) (Cert.DiffRefIdeal.Value.run m g)

/-- The differential attention call: the kernel's array after its grid and the reference's result are one array. -/
theorem diff [Cert.Pre_finite_b.Facts] : Cert.algebraic_DiffIdeal_DiffRefIdeal_pre_finite_b := fun m g m' g' hp hag =>
  ⟨fun c => Cert.DiffIdeal.Block.G m c,
    (θ_run _ _ _).mono (fun r h c => ⟨(h c).1.trans (Cert.DiffIdeal.Block.final m c), (h c).2⟩) (Cert.DiffIdeal.Value.run_blocks m g),
    (θ_run _ _ _).mono (fun r h c => ⟨(h c).1.trans (Cert.DiffEquation.equation m m' hp c (hag c).1 (hag c).2.1 (hag c).2.2.1 (hag c).2.2.2.1 (hag c).2.2.2.2), (h c).2⟩)
      (Cert.DiffRefIdeal.Value.run m' g')⟩

theorem claim : Cert.Claim := ⟨Cert.Gqa.Gen.facts, Cert.GqaIdeal.Gen.facts, Cert.GqaRefIdeal.Gen.facts, Cert.Mlp.Gen.facts, Cert.MlpIdeal.Gen.facts, Cert.MlpRefIdeal.Gen.facts, Cert.Qkv.Gen.facts, Cert.QkvIdeal.Gen.facts, Cert.QkvRefIdeal.Gen.facts, Cert.SsmIn.Gen.facts, Cert.SsmInIdeal.Gen.facts, Cert.SsmInRefIdeal.Gen.facts, Cert.Glu.Gen.facts, Cert.GluIdeal.Gen.facts, Cert.GluRefIdeal.Gen.facts, Cert.OutC.Gen.facts, Cert.OutCIdeal.Gen.facts, Cert.OutCRefIdeal.Gen.facts, Cert.OutA.Gen.facts, Cert.OutAIdeal.Gen.facts, Cert.OutARefIdeal.Gen.facts, Cert.MlpP.Gen.facts, Cert.MlpPIdeal.Gen.facts, Cert.MlpPRefIdeal.Gen.facts, Cert.Diff.Gen.facts, Cert.DiffIdeal.Gen.facts, Cert.DiffRefIdeal.Gen.facts, Cert.Pre_finite_qk.Gen.facts, Cert.Pre_finite_b.Gen.facts, by
  exact ⟨fun m ρ _ => Cert.Gqa.Gen.frame m ρ, fun m ρ _ => Cert.GqaIdeal.Gen.frame m ρ, fun m ρ _ => Cert.GqaIdeal.Gen.frame m ρ,
    gqaRef, gqaRef, fun m ρ _ => Cert.Mlp.Gen.frame m ρ, fun m ρ _ => Cert.MlpIdeal.Gen.frame m ρ, mlpRef,
    fun m ρ _ => Cert.Qkv.Gen.frame m ρ, fun m ρ _ => Cert.QkvIdeal.Gen.frame m ρ, qkvRef,
    fun m ρ _ => Cert.SsmIn.Gen.frame m ρ, fun m ρ _ => Cert.SsmInIdeal.Gen.frame m ρ, ssmInRef,
    fun m ρ _ => Cert.Glu.Gen.frame m ρ, fun m ρ _ => Cert.GluIdeal.Gen.frame m ρ, gluRef,
    fun m ρ _ => Cert.OutC.Gen.frame m ρ, fun m ρ _ => Cert.OutCIdeal.Gen.frame m ρ, outCRef,
    fun m ρ _ => Cert.OutA.Gen.frame m ρ, fun m ρ _ => Cert.OutAIdeal.Gen.frame m ρ, outARef,
    fun m ρ _ => Cert.MlpP.Gen.frame m ρ, fun m ρ _ => Cert.MlpPIdeal.Gen.frame m ρ, mlpPRef,
    fun m ρ _ => Cert.Diff.Gen.frame m ρ, fun m ρ _ => Cert.DiffIdeal.Gen.frame m ρ, fun m ρ _ => Cert.DiffIdeal.Gen.frame m ρ,
    diffRef, diffRef,
    trivial, gqa, trivial, mlp, trivial, qkv, trivial, ssmIn, trivial, glu, trivial, outC, trivial, outA, trivial, mlpP, trivial, diff⟩⟩

end Cert.Proof

end
